-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  IdealRules.named_const.Statement Cert.KernelIdeal.κ "d" .f32 0x3AAAAAAB#32 ((768⁻¹ : ℝ) : EReal)
  ∧ IdealRules.named_const.Statement Cert.KernelIdeal.κ "s" .f32 0x3D13CD3A#32 (((Real.sqrt 768)⁻¹ : ℝ) : EReal)
  ∧ IdealRules.named_const.Statement Cert.KernelIdeal.κ "mask" .f32 0xF149F2CA#32 ⊥

def algebraic_KernelIdeal_ReferenceIdeal_on_distinct [hKernelIdeal : Cert.KernelIdeal.Facts] [hReferenceIdeal : Cert.ReferenceIdeal.Facts] [hOn_distinct : Cert.On_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![4, 2048, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.KernelIdeal.nD Cert.KernelIdeal.τ).loc Cert.KernelIdeal.main_v0_0) i = v0 c i)
          ∧ (∀ i : (⟨4, ![4, 32, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.KernelIdeal.nD Cert.KernelIdeal.τ).loc Cert.KernelIdeal.main_v0_1) i = v1 c i)
          ∧ (∀ i : (⟨4, ![4, 32, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.KernelIdeal.nD Cert.KernelIdeal.τ).loc Cert.KernelIdeal.main_v0_2) i = v2 c i)
          ∧ (∀ i : (⟨2, ![4, 32]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 i = 1#1 → r.2.mem ((c.tc : Thread Cert.KernelIdeal.nD Cert.KernelIdeal.τ).loc Cert.KernelIdeal.main_v0_3) i = v3 c i)
          ∧ (∀ i : (⟨2, ![4, 2048]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 i = 1#1 → r.2.mem ((c.tc : Thread Cert.KernelIdeal.nD Cert.KernelIdeal.τ).loc Cert.KernelIdeal.main_v0_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![4, 2048, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 i = 1#1 → r.2.mem ((c.tc : Thread Cert.ReferenceIdeal.nD Cert.ReferenceIdeal.τ).loc Cert.ReferenceIdeal.main_v375) i = v0 c i)
          ∧ (∀ i : (⟨4, ![4, 32, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 i = 1#1 → r.2.mem ((c.tc : Thread Cert.ReferenceIdeal.nD Cert.ReferenceIdeal.τ).loc Cert.ReferenceIdeal.main_v295) i = v1 c i)
          ∧ (∀ i : (⟨4, ![4, 32, 768, 2]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 i = 1#1 → r.2.mem ((c.tc : Thread Cert.ReferenceIdeal.nD Cert.ReferenceIdeal.τ).loc Cert.ReferenceIdeal.main_v302) i = v2 c i)
          ∧ (∀ i : (⟨2, ![4, 32]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 i = 1#1 → r.2.mem ((c.tc : Thread Cert.ReferenceIdeal.nD Cert.ReferenceIdeal.τ).loc Cert.ReferenceIdeal.main_v305) i = v3 c i)
          ∧ (∀ i : (⟨2, ![4, 2048]⟩ : Shape).Idx, (Cert.On_distinct.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2 i = 1#1 → r.2.mem ((c.tc : Thread Cert.ReferenceIdeal.nD Cert.ReferenceIdeal.τ).loc Cert.ReferenceIdeal.main_v79) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hOn_distinct : Cert.On_distinct.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_distinct (hKernelIdeal := hKernelIdeal) (hReferenceIdeal := hReferenceIdeal) (hOn_distinct := hOn_distinct)
-- ==== On_distinct.lean ====
abbrev S4x2048x768x2 : Shape := ⟨4, ![4, 2048, 768, 2]⟩
abbrev S4x32x768x2 : Shape := ⟨4, ![4, 32, 768, 2]⟩
abbrev S4x32 : Shape := ⟨2, ![4, 32]⟩
abbrev S768x1 : Shape := ⟨2, ![768, 1]⟩
abbrev S_ : Shape := ⟨0, ![]⟩
abbrev S768x768 : Shape := ⟨2, ![768, 768]⟩
abbrev S768 : Shape := ⟨1, ![768]⟩
abbrev S4x2048x768x1 : Shape := ⟨4, ![4, 2048, 768, 1]⟩
abbrev S4x2048x768 : Shape := ⟨3, ![4, 2048, 768]⟩
abbrev S4x2048x1 : Shape := ⟨3, ![4, 2048, 1]⟩
abbrev S4x2048x1x1 : Shape := ⟨4, ![4, 2048, 1, 1]⟩
abbrev S4x2048x1x2 : Shape := ⟨4, ![4, 2048, 1, 2]⟩
abbrev S4x2048 : Shape := ⟨2, ![4, 2048]⟩
abbrev S5 : Shape := ⟨1, ![5]⟩
abbrev S4x2052 : Shape := ⟨2, ![4, 2052]⟩
abbrev S1 : Shape := ⟨1, ![1]⟩
abbrev S1x2048x768x2 : Shape := ⟨4, ![1, 2048, 768, 2]⟩
abbrev S2048x768x2 : Shape := ⟨3, ![2048, 768, 2]⟩
abbrev S1x2048 : Shape := ⟨2, ![1, 2048]⟩
abbrev S2048 : Shape := ⟨1, ![2048]⟩
abbrev S2047 : Shape := ⟨1, ![2047]⟩
abbrev S2048x1x1 : Shape := ⟨3, ![2048, 1, 1]⟩
abbrev S33x768x2 : Shape := ⟨3, ![33, 768, 2]⟩
abbrev S2048x1 : Shape := ⟨2, ![2048, 1]⟩
abbrev S32x768x2 : Shape := ⟨3, ![32, 768, 2]⟩
abbrev S33 : Shape := ⟨1, ![33]⟩
abbrev S32 : Shape := ⟨1, ![32]⟩
abbrev S32x1x1 : Shape := ⟨3, ![32, 1, 1]⟩
abbrev S1x32x768x2 : Shape := ⟨4, ![1, 32, 768, 2]⟩
abbrev S1x32 : Shape := ⟨2, ![1, 32]⟩
abbrev S4x32x768x1 : Shape := ⟨4, ![4, 32, 768, 1]⟩
abbrev S4x32x768 : Shape := ⟨3, ![4, 32, 768]⟩
abbrev S4x32x1x1 : Shape := ⟨4, ![4, 32, 1, 1]⟩
abbrev S1x1x768x1 : Shape := ⟨4, ![1, 1, 768, 1]⟩
abbrev S4x2048x32 : Shape := ⟨3, ![4, 2048, 32]⟩
abbrev S4x1x32 : Shape := ⟨3, ![4, 1, 32]⟩
abbrev S4x2048x32x1 : Shape := ⟨4, ![4, 2048, 32, 1]⟩
abbrev S4x2048x1x32 : Shape := ⟨4, ![4, 2048, 1, 32]⟩
abbrev S4x2048x32x32 : Shape := ⟨4, ![4, 2048, 32, 32]⟩
abbrev S32x1 : Shape := ⟨2, ![32, 1]⟩
abbrev S32x32 : Shape := ⟨2, ![32, 32]⟩
abbrev S1x1x32x32 : Shape := ⟨4, ![1, 1, 32, 32]⟩

class Facts : Prop where
  slices_S4x2048x768x2_S4x2048x768x1_0_0_0_0 : S4x2048x768x2.Slices ![0, 0, 0, 0] S4x2048x768x1
  shapeCasts_S4x2048x768x1_S4x2048x768 : S4x2048x768x1.ShapeCasts S4x2048x768
  slices_S4x2048x768x2_S4x2048x768x1_0_0_0_1 : S4x2048x768x2.Slices ![0, 0, 0, 1] S4x2048x768x1
  bcast_S4x2048x1_S4x2048x1x1_0_1_2 : S4x2048x1.BroadcastsInDim S4x2048x1x1 (![0, 1, 2] : Fin 3 → Fin S4x2048x1x1.rank)
  concatenates_S4x2048x1x1_S4x2048x1x1_S4x2048x1x2_d3 : Shape.Concatenates [S4x2048x1x1, S4x2048x1x1] S4x2048x1x2 3
  slices_S4x2048x1x2_S4x2048x1x1_0_0_0_0 : S4x2048x1x2.Slices ![0, 0, 0, 0] S4x2048x1x1
  shapeCasts_S4x2048x1x1_S4x2048x1 : S4x2048x1x1.ShapeCasts S4x2048x1
  slices_S4x2048x1x2_S4x2048x1x1_0_0_0_1 : S4x2048x1x2.Slices ![0, 0, 0, 1] S4x2048x1x1
  shapeCasts_S4x2048x1_S4x2048 : S4x2048x1.ShapeCasts S4x2048
  reducesTo_S4x2048x768_S4x2048_d2 : S4x2048x768.ReducesTo [2] S4x2048
  h_S_ : 0 < S_.numel
  bcast_S_S4x2048 : S_.BroadcastsInDim S4x2048 (![] : Fin 0 → Fin S4x2048.rank)
  bcast_S_S5 : S_.BroadcastsInDim S5 (![] : Fin 0 → Fin S5.rank)
  pads_S4x2048_S4x2052_000_220 : S4x2048.Pads (![0, 2] : Fin 2 → Nat) ![0, 2] ![0, 0] S4x2052
  slices_S4x2052_S4x2048_0_0 : S4x2052.Slices ![0, 0] S4x2048
  slices_S5_S1_4 : S5.Slices ![4] S1
  shapeCasts_S1_S_ : S1.ShapeCasts S_
  slices_S4x2052_S4x2048_0_1 : S4x2052.Slices ![0, 1] S4x2048
  slices_S5_S1_3 : S5.Slices ![3] S1
  slices_S4x2052_S4x2048_0_2 : S4x2052.Slices ![0, 2] S4x2048
  slices_S5_S1_2 : S5.Slices ![2] S1
  slices_S4x2052_S4x2048_0_3 : S4x2052.Slices ![0, 3] S4x2048
  slices_S5_S1_1 : S5.Slices ![1] S1
  slices_S4x2052_S4x2048_0_4 : S4x2052.Slices ![0, 4] S4x2048
  slices_S5_S1_0 : S5.Slices ![0] S1
  slices_S4x2048x768x2_S1x2048x768x2_0_0_0_0 : S4x2048x768x2.Slices ![0, 0, 0, 0] S1x2048x768x2
  shapeCasts_S1x2048x768x2_S2048x768x2 : S1x2048x768x2.ShapeCasts S2048x768x2
  slices_S4x2048_S1x2048_0_0 : S4x2048.Slices ![0, 0] S1x2048
  shapeCasts_S1x2048_S2048 : S1x2048.ShapeCasts S2048
  bcast_S_S2048 : S_.BroadcastsInDim S2048 (![] : Fin 0 → Fin S2048.rank)
  bcast_S_S1 : S_.BroadcastsInDim S1 (![] : Fin 0 → Fin S1.rank)
  slices_S2048_S2047_0 : S2048.Slices ![0] S2047
  concatenates_S1_S2047_S2048_d0 : Shape.Concatenates [S1, S2047] S2048 0
  natLt_1_32 : 1 < 32
  bcast_S_S_ : S_.BroadcastsInDim S_ (![] : Fin 0 → Fin S_.rank)
  reduceWindows_S2048_S2048_w2048s1p2047_0 : S2048.ReduceWindows (![2048] : Fin 1 → Nat) ![1] ![2047] ![0] S2048
  bcast_S2048_S2048x1x1_0 : S2048.BroadcastsInDim S2048x1x1 (![0] : Fin 1 → Fin S2048x1x1.rank)
  bcast_S2048x1x1_S2048x768x2_0_1_2 : S2048x1x1.BroadcastsInDim S2048x768x2 (![0, 1, 2] : Fin 3 → Fin S2048x768x2.rank)
  bcast_S_S33x768x2 : S_.BroadcastsInDim S33x768x2 (![] : Fin 0 → Fin S33x768x2.rank)
  bcast_S2048_S2048x1_0 : S2048.BroadcastsInDim S2048x1 (![0] : Fin 1 → Fin S2048x1.rank)
  slices_S33x768x2_S32x768x2_0_0_0 : S33x768x2.Slices ![0, 0, 0] S32x768x2
  bcast_S_S33 : S_.BroadcastsInDim S33 (![] : Fin 0 → Fin S33.rank)
  slices_S33_S32_0 : S33.Slices ![0] S32
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x768x2_0_1_2 : S32x1x1.BroadcastsInDim S32x768x2 (![0, 1, 2] : Fin 3 → Fin S32x768x2.rank)
  slices_S4x2048x768x2_S1x2048x768x2_1_0_0_0 : S4x2048x768x2.Slices ![1, 0, 0, 0] S1x2048x768x2
  slices_S4x2048_S1x2048_1_0 : S4x2048.Slices ![1, 0] S1x2048
  slices_S4x2048x768x2_S1x2048x768x2_2_0_0_0 : S4x2048x768x2.Slices ![2, 0, 0, 0] S1x2048x768x2
  slices_S4x2048_S1x2048_2_0 : S4x2048.Slices ![2, 0] S1x2048
  slices_S4x2048x768x2_S1x2048x768x2_3_0_0_0 : S4x2048x768x2.Slices ![3, 0, 0, 0] S1x2048x768x2
  slices_S4x2048_S1x2048_3_0 : S4x2048.Slices ![3, 0] S1x2048
  bcast_S32x768x2_S1x32x768x2_1_2_3 : S32x768x2.BroadcastsInDim S1x32x768x2 (![1, 2, 3] : Fin 3 → Fin S1x32x768x2.rank)
  concatenates_S1x32x768x2_S1x32x768x2_S1x32x768x2_S1x32x768x2_S4x32x768x2_d0 : Shape.Concatenates [S1x32x768x2, S1x32x768x2, S1x32x768x2, S1x32x768x2] S4x32x768x2 0
  bcast_S32_S1x32_1 : S32.BroadcastsInDim S1x32 (![1] : Fin 1 → Fin S1x32.rank)
  concatenates_S1x32_S1x32_S1x32_S1x32_S4x32_d0 : Shape.Concatenates [S1x32, S1x32, S1x32, S1x32] S4x32 0
  slices_S4x32x768x2_S4x32x768x1_0_0_0_0 : S4x32x768x2.Slices ![0, 0, 0, 0] S4x32x768x1
  shapeCasts_S4x32x768x1_S4x32x768 : S4x32x768x1.ShapeCasts S4x32x768
  slices_S4x32x768x2_S4x32x768x1_0_0_0_1 : S4x32x768x2.Slices ![0, 0, 0, 1] S4x32x768x1
  bcast_S4x32x768_S4x32x768x1_0_1_2 : S4x32x768.BroadcastsInDim S4x32x768x1 (![0, 1, 2] : Fin 3 → Fin S4x32x768x1.rank)
  concatenates_S4x32x768x1_S4x32x768x1_S4x32x768x2_d3 : Shape.Concatenates [S4x32x768x1, S4x32x768x1] S4x32x768x2 3
  bcast_S4x32_S4x32x1x1_0_1 : S4x32.BroadcastsInDim S4x32x1x1 (![0, 1] : Fin 2 → Fin S4x32x1x1.rank)
  bcast_S4x32x1x1_S4x32x768x2_0_1_2_3 : S4x32x1x1.BroadcastsInDim S4x32x768x2 (![0, 1, 2, 3] : Fin 4 → Fin S4x32x768x2.rank)
  bcast_S_S4x32x1x1 : S_.BroadcastsInDim S4x32x1x1 (![] : Fin 0 → Fin S4x32x1x1.rank)
  bcast_S_S4x32 : S_.BroadcastsInDim S4x32 (![] : Fin 0 → Fin S4x32.rank)
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1x1_S4x2048x768x2_0_1_2_3 : S4x2048x1x1.BroadcastsInDim S4x2048x768x2 (![0, 1, 2, 3] : Fin 4 → Fin S4x2048x768x2.rank)
  bcast_S768_S1x1x768x1_2 : S768.BroadcastsInDim S1x1x768x1 (![2] : Fin 1 → Fin S1x1x768x1.rank)
  bcast_S1x1x768x1_S4x2048x768x2_0_1_2_3 : S1x1x768x1.BroadcastsInDim S4x2048x768x2 (![0, 1, 2, 3] : Fin 4 → Fin S4x2048x768x2.rank)
  bcast_S4x2048x768_S4x2048x768x1_0_1_2 : S4x2048x768.BroadcastsInDim S4x2048x768x1 (![0, 1, 2] : Fin 3 → Fin S4x2048x768x1.rank)
  concatenates_S4x2048x768x1_S4x2048x768x1_S4x2048x768x2_d3 : Shape.Concatenates [S4x2048x768x1, S4x2048x768x1] S4x2048x768x2 3
  bcast_S_S4x2048x32 : S_.BroadcastsInDim S4x2048x32 (![] : Fin 0 → Fin S4x2048x32.rank)
  bcast_S4x32_S4x1x32_0_2 : S4x32.BroadcastsInDim S4x1x32 (![0, 2] : Fin 2 → Fin S4x1x32.rank)
  bcast_S_S4x1x32 : S_.BroadcastsInDim S4x1x32 (![] : Fin 0 → Fin S4x1x32.rank)
  bcast_S4x1x32_S4x2048x32_0_1_2 : S4x1x32.BroadcastsInDim S4x2048x32 (![0, 1, 2] : Fin 3 → Fin S4x2048x32.rank)
  bcast_S4x2048x32_S4x2048x32x1_0_1_2 : S4x2048x32.BroadcastsInDim S4x2048x32x1 (![0, 1, 2] : Fin 3 → Fin S4x2048x32x1.rank)
  bcast_S4x2048x32_S4x2048x1x32_0_1_3 : S4x2048x32.BroadcastsInDim S4x2048x1x32 (![0, 1, 3] : Fin 3 → Fin S4x2048x1x32.rank)
  bcast_S4x2048x32x1_S4x2048x32x32_0_1_2_3 : S4x2048x32x1.BroadcastsInDim S4x2048x32x32 (![0, 1, 2, 3] : Fin 4 → Fin S4x2048x32x32.rank)
  bcast_S4x2048x1x32_S4x2048x32x32_0_1_2_3 : S4x2048x1x32.BroadcastsInDim S4x2048x32x32 (![0, 1, 2, 3] : Fin 4 → Fin S4x2048x32x32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  bcast_S32x32_S1x1x32x32_2_3 : S32x32.BroadcastsInDim S1x1x32x32 (![2, 3] : Fin 2 → Fin S1x1x32x32.rank)
  bcast_S1x1x32x32_S4x2048x32x32_0_1_2_3 : S1x1x32x32.BroadcastsInDim S4x2048x32x32 (![0, 1, 2, 3] : Fin 4 → Fin S4x2048x32x32.rank)
  reducesTo_S4x2048x32x32_S4x2048_d2_3 : S4x2048x32x32.ReducesTo [2, 3] S4x2048
  bcast_S_S4x32x768x2 : S_.BroadcastsInDim S4x32x768x2 (![] : Fin 0 → Fin S4x32x768x2.rank)
  bcast_S4x2048_S4x2048x1x1_0_1 : S4x2048.BroadcastsInDim S4x2048x1x1 (![0, 1] : Fin 2 → Fin S4x2048x1x1.rank)
  dot_S4x2048x768_S768x1_S4x2048x1_2_0_01_1_n_n_wf : DotDims.WF S4x2048x768 S768x1 S4x2048x1 [2] [0] [0, 1] [1] [] []
  scatter_S33x768x2_S2048x1_S2048x768x2_12_0_0_1_wf : ScatterDims.WF S33x768x2 S2048x1 S2048x768x2 [1, 2] [0] [0] 1
  scatter_S33_S2048x1_S2048_n_0_0_1_wf : ScatterDims.WF S33 S2048x1 S2048 [] [0] [0] 1
  dot_S4x32x768_S768x768_S4x32x768_2_0_01_1_n_n_wf : DotDims.WF S4x32x768 S768x768 S4x32x768 [2] [0] [0, 1] [1] [] []
  dot_S4x2048x768_S768x768_S4x2048x768_2_0_01_1_n_n_wf : DotDims.WF S4x2048x768 S768x768 S4x2048x768 [2] [0] [0, 1] [1] [] []
  dot_S4x2048x768_S4x32x768_S4x2048x32_2_2_1_1_0_0_wf : DotDims.WF S4x2048x768 S4x32x768 S4x2048x32 [2] [2] [1] [1] [0] [0]

variable [Facts]

def dot_S4x2048x768_S768x1_S4x2048x1_2_0_01_1_n_n : DotDims S4x2048x768 S768x1 S4x2048x1 where
  lhsContracting := [2]
  rhsContracting := [0]
  lhsNonContracting := [0, 1]
  rhsNonContracting := [1]
  lhsBatch := []
  rhsBatch := []
  wf := dot_S4x2048x768_S768x1_S4x2048x1_2_0_01_1_n_n_wf
def scatter_S33x768x2_S2048x1_S2048x768x2_12_0_0_1 : ScatterDims S33x768x2 S2048x1 S2048x768x2 where
  updateWindowDims := [1, 2]
  insertedWindowDims := [0]
  scatterDimsToOperandDims := [0]
  indexVectorDim := 1
  wf := scatter_S33x768x2_S2048x1_S2048x768x2_12_0_0_1_wf
def scatter_S33_S2048x1_S2048_n_0_0_1 : ScatterDims S33 S2048x1 S2048 where
  updateWindowDims := []
  insertedWindowDims := [0]
  scatterDimsToOperandDims := [0]
  indexVectorDim := 1
  wf := scatter_S33_S2048x1_S2048_n_0_0_1_wf
def dot_S4x32x768_S768x768_S4x32x768_2_0_01_1_n_n : DotDims S4x32x768 S768x768 S4x32x768 where
  lhsContracting := [2]
  rhsContracting := [0]
  lhsNonContracting := [0, 1]
  rhsNonContracting := [1]
  lhsBatch := []
  rhsBatch := []
  wf := dot_S4x32x768_S768x768_S4x32x768_2_0_01_1_n_n_wf
def dot_S4x2048x768_S768x768_S4x2048x768_2_0_01_1_n_n : DotDims S4x2048x768 S768x768 S4x2048x768 where
  lhsContracting := [2]
  rhsContracting := [0]
  lhsNonContracting := [0, 1]
  rhsNonContracting := [1]
  lhsBatch := []
  rhsBatch := []
  wf := dot_S4x2048x768_S768x768_S4x2048x768_2_0_01_1_n_n_wf
def dot_S4x2048x768_S4x32x768_S4x2048x32_2_2_1_1_0_0 : DotDims S4x2048x768 S4x32x768 S4x2048x32 where
  lhsContracting := [2]
  rhsContracting := [2]
  lhsNonContracting := [1]
  rhsNonContracting := [1]
  lhsBatch := [0]
  rhsBatch := [0]
  wf := dot_S4x2048x768_S4x32x768_S4x2048x32_2_2_1_1_0_0_wf
def fn_pad {F : FTy → Type} [FloatOps F] (arg0 : FVec F S4x2048 .f32) (arg1 : IVec S_ 32) : FVec F S4x2052 .f32 :=
  let v0 : FVec F S_ .f32 := sitofp .f32 arg1
  let v1 : FVec F S4x2052 .f32 := (fun x v => pad S4x2052 ![0, 2] ![0, 2] ![0, 0] x v pads_S4x2048_S4x2052_000_220 h_S_) arg0 v0
  v1

def fn_cumsum_0 {F : FTy → Type} [FloatOps F] (arg0 : IVec S2048 32) : IVec S2048 32 :=
  let c : IVec S_ 32 := constantI S_ 32 0#32
  let v0 : IVec S_ 32 := broadcastInDim S_ ![] bcast_S_S_ c
  let v1 : IVec S2048 32 := (fun x v => Host.reduceWindow IntOp.addi ![2048] ![1] ![2047] ![0] x v reduceWindows_S2048_S2048_w2048s1p2047_0 h_S_) arg0 v0
  v1

def fn_cumsum {F : FTy → Type} [FloatOps F] (arg0 : IVec S2048 32) : IVec S2048 32 :=
  let v0 : IVec S2048 32 := fn_cumsum_0 (F := F) arg0
  v0

def fn_where {F : FTy → Type} [FloatOps F] (arg0 : IVec S2048 1) (arg1 : IVec S2048 32) (arg2 : IVec S_ 32) : IVec S2048 32 :=
  let v0 : IVec S_ 32 := id arg2
  let v1 : IVec S2048 32 := broadcastInDim S2048 ![] bcast_S_S2048 v0
  let v2 : IVec S2048 32 := select arg0 arg1 v1
  v2

def fn_where_1 {F : FTy → Type} [FloatOps F] (arg0 : IVec S2048 1) (arg1 : FVec F S2048 .f32) (arg2 : FVec F S_ .f32) : FVec F S2048 .f32 :=
  let v0 : FVec F S_ .f32 := id arg2
  let v1 : FVec F S2048 .f32 := broadcastInDim S2048 ![] bcast_S_S2048 v0
  let v2 : FVec F S2048 .f32 := select arg0 arg1 v1
  v2

def fn_part18 {F : FTy → Type} [FloatOps F] (main_v361 : FVec F S4x2048x32 .f32) (main_v367 : IVec S4x2048x32x32 1) (main_v369 : IVec S1x32 32) (main_v370 : IVec S32x32 32) : IVec S4x2048x768x2 1 × IVec S4x32x768x2 1 × IVec S4x32x768x2 1 × IVec S4x32 1 × IVec S4x2048 1 :=
  let main_v371 : IVec S32x32 32 := broadcastInDim S32x32 ![0, 1] bcast_S1x32_S32x32_0_1 main_v369
  let main_v372 : IVec S32x32 1 := cmpi .eq main_v370 main_v371
  let main_v373 : IVec S1x1x32x32 1 := broadcastInDim S1x1x32x32 ![2, 3] bcast_S32x32_S1x1x32x32_2_3 main_v372
  let main_v374 : IVec S4x2048x32x32 1 := broadcastInDim S4x2048x32x32 ![0, 1, 2, 3] bcast_S1x1x32x32_S4x2048x32x32_0_1_2_3 main_v373
  let main_v375 : IVec S4x2048x32x32 1 := ori main_v367 main_v374
  let main_cst_59 : FVec F S_ .f32 := constant S_ .f32 0x7F800000#32
  let main_v376 : FVec F S4x2048x32 .f32 := broadcastInDim S4x2048x32 ![] bcast_S_S4x2048x32 main_cst_59
  let main_v377 : IVec S4x2048x32 1 := cmpf .olt main_v361 main_v376
  let main_v378 : IVec S4x2048x32x1 1 := broadcastInDim S4x2048x32x1 ![0, 1, 2] bcast_S4x2048x32_S4x2048x32x1_0_1_2 main_v377
  let main_v379 : IVec S4x2048x32x32 1 := broadcastInDim S4x2048x32x32 ![0, 1, 2, 3] bcast_S4x2048x32x1_S4x2048x32x32_0_1_2_3 main_v378
  let main_v380 : IVec S4x2048x32x32 1 := andi main_v375 main_v379
  let main_c_60 : IVec S_ 1 := constantI S_ 1 1#1
  let main_v381 : IVec S4x2048 1 := (fun x v => Host.reduce IntOp.andi x v reducesTo_S4x2048x32x32_S4x2048_d2_3 h_S_) main_v380 main_c_60
  let main_c_61 : IVec S_ 1 := constantI S_ 1 1#1
  let main_v382 : IVec S4x32x768x2 1 := broadcastInDim S4x32x768x2 ![] bcast_S_S4x32x768x2 main_c_61
  let main_v383 : IVec S4x2048x1x1 1 := broadcastInDim S4x2048x1x1 ![0, 1] bcast_S4x2048_S4x2048x1x1_0_1 main_v381
  let main_v384 : IVec S4x2048x768x2 1 := broadcastInDim S4x2048x768x2 ![0, 1, 2, 3] bcast_S4x2048x1x1_S4x2048x768x2_0_1_2_3 main_v383
  let main_c_62 : IVec S_ 1 := constantI S_ 1 1#1
  let main_v385 : IVec S4x32 1 := broadcastInDim S4x32 ![] bcast_S_S4x32 main_c_62
  let main_c_63 : IVec S_ 1 := constantI S_ 1 1#1
  let main_v386 : IVec S4x2048 1 := broadcastInDim S4x2048 ![] bcast_S_S4x2048 main_c_63
  (main_v384, main_v382, main_v382, main_v385, main_v386)

def fn_part17 {F : FTy → Type} [FloatOps F] (main_v305 : FVec F S4x32 .f32) (main_v345 : FVec F S4x2048x32 .f32) (main_v347 : FVec F S4x2048x768 .f32) (main_v349 : FVec F S4x32x768 .f32) : IVec S4x2048x768x2 1 × IVec S4x32x768x2 1 × IVec S4x32x768x2 1 × IVec S4x32 1 × IVec S4x2048 1 :=
  let main_v350 : FVec F S4x2048x32 .f32 := (fun l r => Host.dotGeneral dot_S4x2048x768_S4x32x768_S4x2048x32_2_2_1_1_0_0 none l r) main_v347 main_v349
  let main_v351 : FVec F S4x2048x32 .f32 := addf main_v345 main_v350
  let main_cst_56 : FVec F S_ .f32 := constant S_ .f32 0x44400000#32
  let main_v352 : FVec F S_ .f32 := Host.sqrt main_cst_56
  let main_v353 : FVec F S4x2048x32 .f32 := broadcastInDim S4x2048x32 ![] bcast_S_S4x2048x32 main_v352
  let main_v354 : FVec F S4x2048x32 .f32 := Host.divf main_v351 main_v353
  let main_v355 : FVec F S4x1x32 .f32 := broadcastInDim S4x1x32 ![0, 2] bcast_S4x32_S4x1x32_0_2 main_v305
  let main_cst_57 : FVec F S_ .f32 := constant S_ .f32 0x3F800000#32
  let main_v356 : FVec F S4x1x32 .f32 := broadcastInDim S4x1x32 ![] bcast_S_S4x1x32 main_cst_57
  let main_v357 : FVec F S4x1x32 .f32 := subf main_v355 main_v356
  let main_cst_58 : FVec F S_ .f32 := constant S_ .f32 0x4E6E6B28#32
  let main_v358 : FVec F S4x1x32 .f32 := broadcastInDim S4x1x32 ![] bcast_S_S4x1x32 main_cst_58
  let main_v359 : FVec F S4x1x32 .f32 := mulf main_v357 main_v358
  let main_v360 : FVec F S4x2048x32 .f32 := broadcastInDim S4x2048x32 ![0, 1, 2] bcast_S4x1x32_S4x2048x32_0_1_2 main_v359
  let main_v361 : FVec F S4x2048x32 .f32 := addf main_v354 main_v360
  let main_v362 : IVec S32 32 := iotaInDim S32 32 0
  let main_v363 : FVec F S4x2048x32x1 .f32 := broadcastInDim S4x2048x32x1 ![0, 1, 2] bcast_S4x2048x32_S4x2048x32x1_0_1_2 main_v361
  let main_v364 : FVec F S4x2048x1x32 .f32 := broadcastInDim S4x2048x1x32 ![0, 1, 3] bcast_S4x2048x32_S4x2048x1x32_0_1_3 main_v361
  let main_v365 : FVec F S4x2048x32x32 .f32 := broadcastInDim S4x2048x32x32 ![0, 1, 2, 3] bcast_S4x2048x32x1_S4x2048x32x32_0_1_2_3 main_v363
  let main_v366 : FVec F S4x2048x32x32 .f32 := broadcastInDim S4x2048x32x32 ![0, 1, 2, 3] bcast_S4x2048x1x32_S4x2048x32x32_0_1_2_3 main_v364
  let main_v367 : IVec S4x2048x32x32 1 := cmpf .une main_v365 main_v366
  let main_v368 : IVec S32x1 32 := broadcastInDim S32x1 ![0] bcast_S32_S32x1_0 main_v362
  let main_v369 : IVec S1x32 32 := broadcastInDim S1x32 ![1] bcast_S32_S1x32_1 main_v362
  let main_v370 : IVec S32x32 32 := broadcastInDim S32x32 ![0, 1] bcast_S32x1_S32x32_0_1 main_v368
  fn_part18 (F := F) main_v361 main_v367 main_v369 main_v370

def fn_part16 {F : FTy → Type} [FloatOps F] (main_arg12 : FVec F S768x768 .f32) (main_arg13 : FVec F S768x768 .f32) (main_v295 : FVec F S4x32x768x2 .f32) (main_v305 : FVec F S4x32 .f32) (main_v324 : FVec F S4x2048x768x2 .f32) (main_v325 : FVec F S1x1x768x1 .f32) : IVec S4x2048x768x2 1 × IVec S4x32x768x2 1 × IVec S4x32x768x2 1 × IVec S4x32 1 × IVec S4x2048 1 :=
  let main_v326 : FVec F S4x2048x768x2 .f32 := broadcastInDim S4x2048x768x2 ![0, 1, 2, 3] bcast_S1x1x768x1_S4x2048x768x2_0_1_2_3 main_v325
  let main_v327 : FVec F S4x2048x768x2 .f32 := mulf main_v324 main_v326
  let main_v328 : FVec F S4x2048x768x1 .f32 := (extractStridedSlice S4x2048x768x1 ![0, 0, 0, 0] · slices_S4x2048x768x2_S4x2048x768x1_0_0_0_0) main_v327
  let main_v329 : FVec F S4x2048x768 .f32 := shapeCast S4x2048x768 main_v328 shapeCasts_S4x2048x768x1_S4x2048x768
  let main_v330 : FVec F S4x2048x768x1 .f32 := (extractStridedSlice S4x2048x768x1 ![0, 0, 0, 1] · slices_S4x2048x768x2_S4x2048x768x1_0_0_0_1) main_v327
  let main_v331 : FVec F S4x2048x768 .f32 := shapeCast S4x2048x768 main_v330 shapeCasts_S4x2048x768x1_S4x2048x768
  let main_v332 : FVec F S4x2048x768 .f32 := (fun l r => Host.dotGeneral dot_S4x2048x768_S768x768_S4x2048x768_2_0_01_1_n_n none l r) main_v329 main_arg12
  let main_v333 : FVec F S4x2048x768 .f32 := (fun l r => Host.dotGeneral dot_S4x2048x768_S768x768_S4x2048x768_2_0_01_1_n_n none l r) main_v331 main_arg13
  let main_v334 : FVec F S4x2048x768 .f32 := subf main_v332 main_v333
  let main_v335 : FVec F S4x2048x768 .f32 := (fun l r => Host.dotGeneral dot_S4x2048x768_S768x768_S4x2048x768_2_0_01_1_n_n none l r) main_v329 main_arg13
  let main_v336 : FVec F S4x2048x768 .f32 := (fun l r => Host.dotGeneral dot_S4x2048x768_S768x768_S4x2048x768_2_0_01_1_n_n none l r) main_v331 main_arg12
  let main_v337 : FVec F S4x2048x768 .f32 := addf main_v335 main_v336
  let main_v338 : FVec F S4x2048x768x1 .f32 := broadcastInDim S4x2048x768x1 ![0, 1, 2] bcast_S4x2048x768_S4x2048x768x1_0_1_2 main_v334
  let main_v339 : FVec F S4x2048x768x1 .f32 := broadcastInDim S4x2048x768x1 ![0, 1, 2] bcast_S4x2048x768_S4x2048x768x1_0_1_2 main_v337
  let main_v340 : FVec F S4x2048x768x2 .f32 := (fun a b => concatenate S4x2048x768x2 3 [⟨S4x2048x768x1, a⟩, ⟨S4x2048x768x1, b⟩] concatenates_S4x2048x768x1_S4x2048x768x1_S4x2048x768x2_d3) main_v338 main_v339
  let main_v341 : FVec F S4x2048x768x1 .f32 := (extractStridedSlice S4x2048x768x1 ![0, 0, 0, 0] · slices_S4x2048x768x2_S4x2048x768x1_0_0_0_0) main_v340
  let main_v342 : FVec F S4x2048x768 .f32 := shapeCast S4x2048x768 main_v341 shapeCasts_S4x2048x768x1_S4x2048x768
  let main_v343 : FVec F S4x32x768x1 .f32 := (extractStridedSlice S4x32x768x1 ![0, 0, 0, 0] · slices_S4x32x768x2_S4x32x768x1_0_0_0_0) main_v295
  let main_v344 : FVec F S4x32x768 .f32 := shapeCast S4x32x768 main_v343 shapeCasts_S4x32x768x1_S4x32x768
  let main_v345 : FVec F S4x2048x32 .f32 := (fun l r => Host.dotGeneral dot_S4x2048x768_S4x32x768_S4x2048x32_2_2_1_1_0_0 none l r) main_v342 main_v344
  let main_v346 : FVec F S4x2048x768x1 .f32 := (extractStridedSlice S4x2048x768x1 ![0, 0, 0, 1] · slices_S4x2048x768x2_S4x2048x768x1_0_0_0_1) main_v340
  let main_v347 : FVec F S4x2048x768 .f32 := shapeCast S4x2048x768 main_v346 shapeCasts_S4x2048x768x1_S4x2048x768
  let main_v348 : FVec F S4x32x768x1 .f32 := (extractStridedSlice S4x32x768x1 ![0, 0, 0, 1] · slices_S4x32x768x2_S4x32x768x1_0_0_0_1) main_v295
  let main_v349 : FVec F S4x32x768 .f32 := shapeCast S4x32x768 main_v348 shapeCasts_S4x32x768x1_S4x32x768
  fn_part17 (F := F) main_v305 main_v345 main_v347 main_v349

def fn_part15 {F : FTy → Type} [FloatOps F] (main_arg0 : FVec F S4x2048x768x2 .f32) (main_arg12 : FVec F S768x768 .f32) (main_arg13 : FVec F S768x768 .f32) (main_arg14 : FVec F S768 .f32) (main_v295 : FVec F S4x32x768x2 .f32) (main_v303 : FVec F S4x32 .f32) (main_v304 : FVec F S4x32 .f32) : IVec S4x2048x768x2 1 × IVec S4x32x768x2 1 × IVec S4x32x768x2 1 × IVec S4x32 1 × IVec S4x2048 1 :=
  let main_v305 : FVec F S4x32 .f32 := minimumf main_v303 main_v304
  let main_v306 : FVec F S4x2048x768x1 .f32 := (extractStridedSlice S4x2048x768x1 ![0, 0, 0, 0] · slices_S4x2048x768x2_S4x2048x768x1_0_0_0_0) main_arg0
  let main_v307 : FVec F S4x2048x768 .f32 := shapeCast S4x2048x768 main_v306 shapeCasts_S4x2048x768x1_S4x2048x768
  let main_v308 : FVec F S4x2048x768 .f32 := mulf main_v307 main_v307
  let main_v309 : FVec F S4x2048x768x1 .f32 := (extractStridedSlice S4x2048x768x1 ![0, 0, 0, 1] · slices_S4x2048x768x2_S4x2048x768x1_0_0_0_1) main_arg0
  let main_v310 : FVec F S4x2048x768 .f32 := shapeCast S4x2048x768 main_v309 shapeCasts_S4x2048x768x1_S4x2048x768
  let main_v311 : FVec F S4x2048x768 .f32 := mulf main_v310 main_v310
  let main_v312 : FVec F S4x2048x768 .f32 := addf main_v308 main_v311
  let main_v313 : FVec F S4x2048x768 .f32 := Host.sqrt main_v312
  let main_v314 : FVec F S4x2048x768 .f32 := mulf main_v313 main_v313
  let main_cst_53 : FVec F S_ .f32 := constant S_ .f32 0x00000000#32
  let main_v315 : FVec F S4x2048 .f32 := (fun x v => Host.reduceAdd x v reducesTo_S4x2048x768_S4x2048_d2 h_S_) main_v314 main_cst_53
  let main_v316 : FVec F S4x2048x1 .f32 := broadcastInDim S4x2048x1 ![0, 1] bcast_S4x2048_S4x2048x1_0_1 main_v315
  let main_cst_54 : FVec F S_ .f32 := constant S_ .f32 0x44400000#32
  let main_v317 : FVec F S4x2048x1 .f32 := broadcastInDim S4x2048x1 ![] bcast_S_S4x2048x1 main_cst_54
  let main_v318 : FVec F S4x2048x1 .f32 := Host.divf main_v316 main_v317
  let main_cst_55 : FVec F S_ .f32 := constant S_ .f32 0x322BCC77#32
  let main_v319 : FVec F S4x2048x1 .f32 := broadcastInDim S4x2048x1 ![] bcast_S_S4x2048x1 main_cst_55
  let main_v320 : FVec F S4x2048x1 .f32 := addf main_v318 main_v319
  let main_v321 : FVec F S4x2048x1 .f32 := Host.sqrt main_v320
  let main_v322 : FVec F S4x2048x1x1 .f32 := broadcastInDim S4x2048x1x1 ![0, 1, 2] bcast_S4x2048x1_S4x2048x1x1_0_1_2 main_v321
  let main_v323 : FVec F S4x2048x768x2 .f32 := broadcastInDim S4x2048x768x2 ![0, 1, 2, 3] bcast_S4x2048x1x1_S4x2048x768x2_0_1_2_3 main_v322
  let main_v324 : FVec F S4x2048x768x2 .f32 := Host.divf main_arg0 main_v323
  let main_v325 : FVec F S1x1x768x1 .f32 := broadcastInDim S1x1x768x1 ![2] bcast_S768_S1x1x768x1_2 main_arg14
  fn_part16 (F := F) main_arg12 main_arg13 main_v295 main_v305 main_v324 main_v325

def fn_part14 {F : FTy → Type} [FloatOps F] (main_arg0 : FVec F S4x2048x768x2 .f32) (main_arg1 : FVec F S4x32x768x2 .f32) (main_arg2 : FVec F S4x32x768x2 .f32) (main_arg3 : FVec F S4x32 .f32) (main_arg12 : FVec F S768x768 .f32) (main_arg13 : FVec F S768x768 .f32) (main_arg14 : FVec F S768 .f32) (main_v261 : FVec F S4x32 .f32) (main_v274 : FVec F S4x32x768x2 .f32) (main_v281 : FVec F S4x32x768 .f32) (main_v282 : FVec F S4x32x768 .f32) (main_v283 : FVec F S4x32x768 .f32) : IVec S4x2048x768x2 1 × IVec S4x32x768x2 1 × IVec S4x32x768x2 1 × IVec S4x32 1 × IVec S4x2048 1 :=
  let main_v284 : FVec F S4x32x768 .f32 := addf main_v282 main_v283
  let main_v285 : FVec F S4x32x768x1 .f32 := broadcastInDim S4x32x768x1 ![0, 1, 2] bcast_S4x32x768_S4x32x768x1_0_1_2 main_v281
  let main_v286 : FVec F S4x32x768x1 .f32 := broadcastInDim S4x32x768x1 ![0, 1, 2] bcast_S4x32x768_S4x32x768x1_0_1_2 main_v284
  let main_v287 : FVec F S4x32x768x2 .f32 := (fun a b => concatenate S4x32x768x2 3 [⟨S4x32x768x1, a⟩, ⟨S4x32x768x1, b⟩] concatenates_S4x32x768x1_S4x32x768x1_S4x32x768x2_d3) main_v285 main_v286
  let main_v288 : FVec F S4x32x1x1 .f32 := broadcastInDim S4x32x1x1 ![0, 1] bcast_S4x32_S4x32x1x1_0_1 main_v261
  let main_v289 : FVec F S4x32x768x2 .f32 := broadcastInDim S4x32x768x2 ![0, 1, 2, 3] bcast_S4x32x1x1_S4x32x768x2_0_1_2_3 main_v288
  let main_v290 : FVec F S4x32x768x2 .f32 := mulf main_v289 main_v287
  let main_cst_50 : FVec F S_ .f32 := constant S_ .f32 0x3F800000#32
  let main_v291 : FVec F S4x32x1x1 .f32 := broadcastInDim S4x32x1x1 ![] bcast_S_S4x32x1x1 main_cst_50
  let main_v292 : FVec F S4x32x1x1 .f32 := subf main_v291 main_v288
  let main_v293 : FVec F S4x32x768x2 .f32 := broadcastInDim S4x32x768x2 ![0, 1, 2, 3] bcast_S4x32x1x1_S4x32x768x2_0_1_2_3 main_v292
  let main_v294 : FVec F S4x32x768x2 .f32 := mulf main_v293 main_arg1
  let main_v295 : FVec F S4x32x768x2 .f32 := addf main_v290 main_v294
  let main_v296 : FVec F S4x32x768x2 .f32 := broadcastInDim S4x32x768x2 ![0, 1, 2, 3] bcast_S4x32x1x1_S4x32x768x2_0_1_2_3 main_v288
  let main_v297 : FVec F S4x32x768x2 .f32 := mulf main_v296 main_v274
  let main_cst_51 : FVec F S_ .f32 := constant S_ .f32 0x3F800000#32
  let main_v298 : FVec F S4x32x1x1 .f32 := broadcastInDim S4x32x1x1 ![] bcast_S_S4x32x1x1 main_cst_51
  let main_v299 : FVec F S4x32x1x1 .f32 := subf main_v298 main_v288
  let main_v300 : FVec F S4x32x768x2 .f32 := broadcastInDim S4x32x768x2 ![0, 1, 2, 3] bcast_S4x32x1x1_S4x32x768x2_0_1_2_3 main_v299
  let main_v301 : FVec F S4x32x768x2 .f32 := mulf main_v300 main_arg2
  let main_v302 : FVec F S4x32x768x2 .f32 := addf main_v297 main_v301
  let main_v303 : FVec F S4x32 .f32 := addf main_arg3 main_v261
  let main_cst_52 : FVec F S_ .f32 := constant S_ .f32 0x3F800000#32
  let main_v304 : FVec F S4x32 .f32 := broadcastInDim S4x32 ![] bcast_S_S4x32 main_cst_52
  fn_part15 (F := F) main_arg0 main_arg12 main_arg13 main_arg14 main_v295 main_v303 main_v304

def fn_part13 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v251 : FVec F S32 .f32) (main_v256 : FVec F S4x32x768x2 .f32) (main_v257 : FVec F S1x32 .f32) (main_v258 : FVec F S1x32 .f32) (main_v259 : FVec F S1x32 .f32) : IVec S4x2048x768x2 1 × IVec S4x32x768x2 1 × IVec S4x32x768x2 1 × IVec S4x32 1 × IVec S4x2048 1 :=
  let main_v260 : FVec F S1x32 .f32 := broadcastInDim S1x32 ![1] bcast_S32_S1x32_1 main_v251
  let main_v261 : FVec F S4x32 .f32 := concatenate S4x32 0 [⟨S1x32, main_v257⟩, ⟨S1x32, main_v258⟩, ⟨S1x32, main_v259⟩, ⟨S1x32, main_v260⟩] concatenates_S1x32_S1x32_S1x32_S1x32_S4x32_d0
  let main_v262 : FVec F S4x32x768x1 .f32 := (extractStridedSlice S4x32x768x1 ![0, 0, 0, 0] · slices_S4x32x768x2_S4x32x768x1_0_0_0_0) main_v256
  let main_v263 : FVec F S4x32x768 .f32 := shapeCast S4x32x768 main_v262 shapeCasts_S4x32x768x1_S4x32x768
  let main_v264 : FVec F S4x32x768x1 .f32 := (extractStridedSlice S4x32x768x1 ![0, 0, 0, 1] · slices_S4x32x768x2_S4x32x768x1_0_0_0_1) main_v256
  let main_v265 : FVec F S4x32x768 .f32 := shapeCast S4x32x768 main_v264 shapeCasts_S4x32x768x1_S4x32x768
  let main_v266 : FVec F S4x32x768 .f32 := (fun l r => Host.dotGeneral dot_S4x32x768_S768x768_S4x32x768_2_0_01_1_n_n none l r) main_v263 main_arg10
  let main_v267 : FVec F S4x32x768 .f32 := (fun l r => Host.dotGeneral dot_S4x32x768_S768x768_S4x32x768_2_0_01_1_n_n none l r) main_v265 main_arg11
  let main_v268 : FVec F S4x32x768 .f32 := subf main_v266 main_v267
  let main_v269 : FVec F S4x32x768 .f32 := (fun l r => Host.dotGeneral dot_S4x32x768_S768x768_S4x32x768_2_0_01_1_n_n none l r) main_v263 main_arg11
  let main_v270 : FVec F S4x32x768 .f32 := (fun l r => Host.dotGeneral dot_S4x32x768_S768x768_S4x32x768_2_0_01_1_n_n none l r) main_v265 main_arg10
  let main_v271 : FVec F S4x32x768 .f32 := addf main_v269 main_v270
  let main_v272 : FVec F S4x32x768x1 .f32 := broadcastInDim S4x32x768x1 ![0, 1, 2] bcast_S4x32x768_S4x32x768x1_0_1_2 main_v268
  let main_v273 : FVec F S4x32x768x1 .f32 := broadcastInDim S4x32x768x1 ![0, 1, 2] bcast_S4x32x768_S4x32x768x1_0_1_2 main_v271
  let main_v274 : FVec F S4x32x768x2 .f32 := (fun a b => concatenate S4x32x768x2 3 [⟨S4x32x768x1, a⟩, ⟨S4x32x768x1, b⟩] concatenates_S4x32x768x1_S4x32x768x1_S4x32x768x2_d3) main_v272 main_v273
  let main_v275 : FVec F S4x32x768x1 .f32 := (extractStridedSlice S4x32x768x1 ![0, 0, 0, 0] · slices_S4x32x768x2_S4x32x768x1_0_0_0_0) main_v256
  let main_v276 : FVec F S4x32x768 .f32 := shapeCast S4x32x768 main_v275 shapeCasts_S4x32x768x1_S4x32x768
  let main_v277 : FVec F S4x32x768x1 .f32 := (extractStridedSlice S4x32x768x1 ![0, 0, 0, 1] · slices_S4x32x768x2_S4x32x768x1_0_0_0_1) main_v256
  let main_v278 : FVec F S4x32x768 .f32 := shapeCast S4x32x768 main_v277 shapeCasts_S4x32x768x1_S4x32x768
  let main_v279 : FVec F S4x32x768 .f32 := (fun l r => Host.dotGeneral dot_S4x32x768_S768x768_S4x32x768_2_0_01_1_n_n none l r) main_v276 main_arg8
  let main_v280 : FVec F S4x32x768 .f32 := (fun l r => Host.dotGeneral dot_S4x32x768_S768x768_S4x32x768_2_0_01_1_n_n none l r) main_v278 main_arg9
  let main_v281 : FVec F S4x32x768 .f32 := subf main_v279 main_v280
  let main_v282 : FVec F S4x32x768 .f32 := (fun l r => Host.dotGeneral dot_S4x32x768_S768x768_S4x32x768_2_0_01_1_n_n none l r) main_v276 main_arg9
  let main_v283 : FVec F S4x32x768 .f32 := (fun l r => Host.dotGeneral dot_S4x32x768_S768x768_S4x32x768_2_0_01_1_n_n none l r) main_v278 main_arg8
  fn_part14 (F := F) main_arg0 main_arg1 main_arg2 main_arg3 main_arg12 main_arg13 main_arg14 main_v261 main_v274 main_v281 main_v282 main_v283

def fn_part12 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v119 : FVec F S32x768x2 .f32) (main_v122 : FVec F S32 .f32) (main_v162 : FVec F S32x768x2 .f32) (main_v165 : FVec F S32 .f32) (main_v205 : FVec F S32x768x2 .f32) (main_v208 : FVec F S32 .f32) (main_v214 : IVec S2048 1) (main_v226 : IVec S2048 32) (main_v234 : FVec F S32x768x2 .f32) (main_v238 : FVec F S32 .f32) : IVec S4x2048x768x2 1 × IVec S4x32x768x2 1 × IVec S4x32x768x2 1 × IVec S4x32 1 × IVec S4x2048 1 :=
  let main_v239 : FVec F S2048 .f32 := uitofp .f32 main_v214
  let main_cst_47 : FVec F S_ .f32 := constant S_ .f32 0x00000000#32
  let main_v240 : FVec F S33 .f32 := broadcastInDim S33 ![] bcast_S_S33 main_cst_47
  let main_v241 : IVec S2048x1 32 := broadcastInDim S2048x1 ![0] bcast_S2048_S2048x1_0 main_v226
  let main_v242 : FVec F S33 .f32 := (fun x i u => Host.scatterAdd scatter_S33_S2048x1_S2048_n_0_0_1 x i u) main_v240 main_v241 main_v239
  let main_v243 : FVec F S32 .f32 := (extractStridedSlice S32 ![0] · slices_S33_S32_0) main_v242
  let main_cst_48 : FVec F S_ .f32 := constant S_ .f32 0x322BCC77#32
  let main_v244 : FVec F S32 .f32 := broadcastInDim S32 ![] bcast_S_S32 main_cst_48
  let main_v245 : FVec F S32 .f32 := maximumf main_v238 main_v244
  let main_v246 : FVec F S32x1x1 .f32 := broadcastInDim S32x1x1 ![0] bcast_S32_S32x1x1_0 main_v245
  let main_v247 : FVec F S32x768x2 .f32 := broadcastInDim S32x768x2 ![0, 1, 2] bcast_S32x1x1_S32x768x2_0_1_2 main_v246
  let main_v248 : FVec F S32x768x2 .f32 := Host.divf main_v234 main_v247
  let main_cst_49 : FVec F S_ .f32 := constant S_ .f32 0x00000000#32
  let main_v249 : FVec F S32 .f32 := broadcastInDim S32 ![] bcast_S_S32 main_cst_49
  let main_v250 : IVec S32 1 := cmpf .ogt main_v243 main_v249
  let main_v251 : FVec F S32 .f32 := uitofp .f32 main_v250
  let main_v252 : FVec F S1x32x768x2 .f32 := broadcastInDim S1x32x768x2 ![1, 2, 3] bcast_S32x768x2_S1x32x768x2_1_2_3 main_v119
  let main_v253 : FVec F S1x32x768x2 .f32 := broadcastInDim S1x32x768x2 ![1, 2, 3] bcast_S32x768x2_S1x32x768x2_1_2_3 main_v162
  let main_v254 : FVec F S1x32x768x2 .f32 := broadcastInDim S1x32x768x2 ![1, 2, 3] bcast_S32x768x2_S1x32x768x2_1_2_3 main_v205
  let main_v255 : FVec F S1x32x768x2 .f32 := broadcastInDim S1x32x768x2 ![1, 2, 3] bcast_S32x768x2_S1x32x768x2_1_2_3 main_v248
  let main_v256 : FVec F S4x32x768x2 .f32 := concatenate S4x32x768x2 0 [⟨S1x32x768x2, main_v252⟩, ⟨S1x32x768x2, main_v253⟩, ⟨S1x32x768x2, main_v254⟩, ⟨S1x32x768x2, main_v255⟩] concatenates_S1x32x768x2_S1x32x768x2_S1x32x768x2_S1x32x768x2_S4x32x768x2_d0
  let main_v257 : FVec F S1x32 .f32 := broadcastInDim S1x32 ![1] bcast_S32_S1x32_1 main_v122
  let main_v258 : FVec F S1x32 .f32 := broadcastInDim S1x32 ![1] bcast_S32_S1x32_1 main_v165
  let main_v259 : FVec F S1x32 .f32 := broadcastInDim S1x32 ![1] bcast_S32_S1x32_1 main_v208
  fn_part13 (F := F) main_arg0 main_arg1 main_arg2 main_arg3 main_arg8 main_arg9 main_arg10 main_arg11 main_arg12 main_arg13 main_arg14 main_v251 main_v256 main_v257 main_v258 main_v259

def fn_part11 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v119 : FVec F S32x768x2 .f32) (main_v122 : FVec F S32 .f32) (main_v162 : FVec F S32x768x2 .f32) (main_v165 : FVec F S32 .f32) (main_v205 : FVec F S32x768x2 .f32) (main_v208 : FVec F S32 .f32) (main_v210 : FVec F S2048x768x2 .f32) (main_v212 : FVec F S2048 .f32) (main_v214 : IVec S2048 1) (main_v220 : IVec S2048 32) : IVec S4x2048x768x2 1 × IVec S4x32x768x2 1 × IVec S4x32x768x2 1 × IVec S4x32 1 × IVec S4x2048 1 :=
  let main_v221 : IVec S2048 32 := fn_cumsum (F := F) main_v220
  let main_c_41 : IVec S_ 32 := constantI S_ 32 1#32
  let main_v222 : IVec S2048 32 := broadcastInDim S2048 ![] bcast_S_S2048 main_c_41
  let main_v223 : IVec S2048 32 := subi main_v221 main_v222
  let main_c_42 : IVec S_ 32 := constantI S_ 32 32#32
  let main_v224 : IVec S2048 32 := broadcastInDim S2048 ![] bcast_S_S2048 main_c_42
  let main_v225 : IVec S2048 32 := minsi main_v223 main_v224
  let main_c_43 : IVec S_ 32 := constantI S_ 32 32#32
  let main_v226 : IVec S2048 32 := fn_where (F := F) main_v214 main_v225 main_c_43
  let main_cst_44 : FVec F S_ .f32 := constant S_ .f32 0x00000000#32
  let main_v227 : FVec F S2048 .f32 := fn_where_1 (F := F) main_v214 main_v212 main_cst_44
  let main_v228 : FVec F S2048x1x1 .f32 := broadcastInDim S2048x1x1 ![0] bcast_S2048_S2048x1x1_0 main_v227
  let main_v229 : FVec F S2048x768x2 .f32 := broadcastInDim S2048x768x2 ![0, 1, 2] bcast_S2048x1x1_S2048x768x2_0_1_2 main_v228
  let main_v230 : FVec F S2048x768x2 .f32 := mulf main_v210 main_v229
  let main_cst_45 : FVec F S_ .f32 := constant S_ .f32 0x00000000#32
  let main_v231 : FVec F S33x768x2 .f32 := broadcastInDim S33x768x2 ![] bcast_S_S33x768x2 main_cst_45
  let main_v232 : IVec S2048x1 32 := broadcastInDim S2048x1 ![0] bcast_S2048_S2048x1_0 main_v226
  let main_v233 : FVec F S33x768x2 .f32 := (fun x i u => Host.scatterAdd scatter_S33x768x2_S2048x1_S2048x768x2_12_0_0_1 x i u) main_v231 main_v232 main_v230
  let main_v234 : FVec F S32x768x2 .f32 := (extractStridedSlice S32x768x2 ![0, 0, 0] · slices_S33x768x2_S32x768x2_0_0_0) main_v233
  let main_cst_46 : FVec F S_ .f32 := constant S_ .f32 0x00000000#32
  let main_v235 : FVec F S33 .f32 := broadcastInDim S33 ![] bcast_S_S33 main_cst_46
  let main_v236 : IVec S2048x1 32 := broadcastInDim S2048x1 ![0] bcast_S2048_S2048x1_0 main_v226
  let main_v237 : FVec F S33 .f32 := (fun x i u => Host.scatterAdd scatter_S33_S2048x1_S2048_n_0_0_1 x i u) main_v235 main_v236 main_v227
  let main_v238 : FVec F S32 .f32 := (extractStridedSlice S32 ![0] · slices_S33_S32_0) main_v237
  fn_part12 (F := F) main_arg0 main_arg1 main_arg2 main_arg3 main_arg8 main_arg9 main_arg10 main_arg11 main_arg12 main_arg13 main_arg14 main_v119 main_v122 main_v162 main_v165 main_v205 main_v208 main_v214 main_v226 main_v234 main_v238

def fn_part10 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v119 : FVec F S32x768x2 .f32) (main_v122 : FVec F S32 .f32) (main_v162 : FVec F S32x768x2 .f32) (main_v165 : FVec F S32 .f32) (main_v191 : FVec F S32x768x2 .f32) (main_v195 : FVec F S32 .f32) (main_v200 : FVec F S32 .f32) : IVec S4x2048x768x2 1 × IVec S4x32x768x2 1 × IVec S4x32x768x2 1 × IVec S4x32 1 × IVec S4x2048 1 :=
  let main_cst_37 : FVec F S_ .f32 := constant S_ .f32 0x322BCC77#32
  let main_v201 : FVec F S32 .f32 := broadcastInDim S32 ![] bcast_S_S32 main_cst_37
  let main_v202 : FVec F S32 .f32 := maximumf main_v195 main_v201
  let main_v203 : FVec F S32x1x1 .f32 := broadcastInDim S32x1x1 ![0] bcast_S32_S32x1x1_0 main_v202
  let main_v204 : FVec F S32x768x2 .f32 := broadcastInDim S32x768x2 ![0, 1, 2] bcast_S32x1x1_S32x768x2_0_1_2 main_v203
  let main_v205 : FVec F S32x768x2 .f32 := Host.divf main_v191 main_v204
  let main_cst_38 : FVec F S_ .f32 := constant S_ .f32 0x00000000#32
  let main_v206 : FVec F S32 .f32 := broadcastInDim S32 ![] bcast_S_S32 main_cst_38
  let main_v207 : IVec S32 1 := cmpf .ogt main_v200 main_v206
  let main_v208 : FVec F S32 .f32 := uitofp .f32 main_v207
  let main_v209 : FVec F S1x2048x768x2 .f32 := (extractStridedSlice S1x2048x768x2 ![3, 0, 0, 0] · slices_S4x2048x768x2_S1x2048x768x2_3_0_0_0) main_arg0
  let main_v210 : FVec F S2048x768x2 .f32 := shapeCast S2048x768x2 main_v209 shapeCasts_S1x2048x768x2_S2048x768x2
  let main_v211 : FVec F S1x2048 .f32 := (extractStridedSlice S1x2048 ![3, 0] · slices_S4x2048_S1x2048_3_0) main_v79
  let main_v212 : FVec F S2048 .f32 := shapeCast S2048 main_v211 shapeCasts_S1x2048_S2048
  let main_cst_39 : FVec F S_ .f32 := constant S_ .f32 0x3F000000#32
  let main_v213 : FVec F S2048 .f32 := broadcastInDim S2048 ![] bcast_S_S2048 main_cst_39
  let main_v214 : IVec S2048 1 := cmpf .ogt main_v212 main_v213
  let main_c_40 : IVec S_ 1 := constantI S_ 1 0#1
  let main_v215 : IVec S1 1 := broadcastInDim S1 ![] bcast_S_S1 main_c_40
  let main_v216 : IVec S2047 1 := (extractStridedSlice S2047 ![0] · slices_S2048_S2047_0) main_v214
  let main_v217 : IVec S2048 1 := (fun a b => concatenate S2048 0 [⟨S1, a⟩, ⟨S2047, b⟩] concatenates_S1_S2047_S2048_d0) main_v215 main_v216
  let main_v218 : IVec S2048 1 := noti main_v217
  let main_v219 : IVec S2048 1 := andi main_v214 main_v218
  let main_v220 : IVec S2048 32 := (extui 32 · natLt_1_32) main_v219
  fn_part11 (F := F) main_arg0 main_arg1 main_arg2 main_arg3 main_arg8 main_arg9 main_arg10 main_arg11 main_arg12 main_arg13 main_arg14 main_v119 main_v122 main_v162 main_v165 main_v205 main_v208 main_v210 main_v212 main_v214 main_v220

def fn_part9 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v119 : FVec F S32x768x2 .f32) (main_v122 : FVec F S32 .f32) (main_v162 : FVec F S32x768x2 .f32) (main_v165 : FVec F S32 .f32) (main_v167 : FVec F S2048x768x2 .f32) (main_v169 : FVec F S2048 .f32) (main_v171 : IVec S2048 1) (main_v180 : IVec S2048 32) (main_v181 : IVec S2048 32) : IVec S4x2048x768x2 1 × IVec S4x32x768x2 1 × IVec S4x32x768x2 1 × IVec S4x32 1 × IVec S4x2048 1 :=
  let main_v182 : IVec S2048 32 := minsi main_v180 main_v181
  let main_c_32 : IVec S_ 32 := constantI S_ 32 32#32
  let main_v183 : IVec S2048 32 := fn_where (F := F) main_v171 main_v182 main_c_32
  let main_cst_33 : FVec F S_ .f32 := constant S_ .f32 0x00000000#32
  let main_v184 : FVec F S2048 .f32 := fn_where_1 (F := F) main_v171 main_v169 main_cst_33
  let main_v185 : FVec F S2048x1x1 .f32 := broadcastInDim S2048x1x1 ![0] bcast_S2048_S2048x1x1_0 main_v184
  let main_v186 : FVec F S2048x768x2 .f32 := broadcastInDim S2048x768x2 ![0, 1, 2] bcast_S2048x1x1_S2048x768x2_0_1_2 main_v185
  let main_v187 : FVec F S2048x768x2 .f32 := mulf main_v167 main_v186
  let main_cst_34 : FVec F S_ .f32 := constant S_ .f32 0x00000000#32
  let main_v188 : FVec F S33x768x2 .f32 := broadcastInDim S33x768x2 ![] bcast_S_S33x768x2 main_cst_34
  let main_v189 : IVec S2048x1 32 := broadcastInDim S2048x1 ![0] bcast_S2048_S2048x1_0 main_v183
  let main_v190 : FVec F S33x768x2 .f32 := (fun x i u => Host.scatterAdd scatter_S33x768x2_S2048x1_S2048x768x2_12_0_0_1 x i u) main_v188 main_v189 main_v187
  let main_v191 : FVec F S32x768x2 .f32 := (extractStridedSlice S32x768x2 ![0, 0, 0] · slices_S33x768x2_S32x768x2_0_0_0) main_v190
  let main_cst_35 : FVec F S_ .f32 := constant S_ .f32 0x00000000#32
  let main_v192 : FVec F S33 .f32 := broadcastInDim S33 ![] bcast_S_S33 main_cst_35
  let main_v193 : IVec S2048x1 32 := broadcastInDim S2048x1 ![0] bcast_S2048_S2048x1_0 main_v183
  let main_v194 : FVec F S33 .f32 := (fun x i u => Host.scatterAdd scatter_S33_S2048x1_S2048_n_0_0_1 x i u) main_v192 main_v193 main_v184
  let main_v195 : FVec F S32 .f32 := (extractStridedSlice S32 ![0] · slices_S33_S32_0) main_v194
  let main_v196 : FVec F S2048 .f32 := uitofp .f32 main_v171
  let main_cst_36 : FVec F S_ .f32 := constant S_ .f32 0x00000000#32
  let main_v197 : FVec F S33 .f32 := broadcastInDim S33 ![] bcast_S_S33 main_cst_36
  let main_v198 : IVec S2048x1 32 := broadcastInDim S2048x1 ![0] bcast_S2048_S2048x1_0 main_v183
  let main_v199 : FVec F S33 .f32 := (fun x i u => Host.scatterAdd scatter_S33_S2048x1_S2048_n_0_0_1 x i u) main_v197 main_v198 main_v196
  let main_v200 : FVec F S32 .f32 := (extractStridedSlice S32 ![0] · slices_S33_S32_0) main_v199
  fn_part10 (F := F) main_arg0 main_arg1 main_arg2 main_arg3 main_arg8 main_arg9 main_arg10 main_arg11 main_arg12 main_arg13 main_arg14 main_v79 main_v119 main_v122 main_v162 main_v165 main_v191 main_v195 main_v200

def fn_part8 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v119 : FVec F S32x768x2 .f32) (main_v122 : FVec F S32 .f32) (main_v157 : FVec F S32 .f32) (main_v162 : FVec F S32x768x2 .f32) : IVec S4x2048x768x2 1 × IVec S4x32x768x2 1 × IVec S4x32x768x2 1 × IVec S4x32 1 × IVec S4x2048 1 :=
  let main_cst_27 : FVec F S_ .f32 := constant S_ .f32 0x00000000#32
  let main_v163 : FVec F S32 .f32 := broadcastInDim S32 ![] bcast_S_S32 main_cst_27
  let main_v164 : IVec S32 1 := cmpf .ogt main_v157 main_v163
  let main_v165 : FVec F S32 .f32 := uitofp .f32 main_v164
  let main_v166 : FVec F S1x2048x768x2 .f32 := (extractStridedSlice S1x2048x768x2 ![2, 0, 0, 0] · slices_S4x2048x768x2_S1x2048x768x2_2_0_0_0) main_arg0
  let main_v167 : FVec F S2048x768x2 .f32 := shapeCast S2048x768x2 main_v166 shapeCasts_S1x2048x768x2_S2048x768x2
  let main_v168 : FVec F S1x2048 .f32 := (extractStridedSlice S1x2048 ![2, 0] · slices_S4x2048_S1x2048_2_0) main_v79
  let main_v169 : FVec F S2048 .f32 := shapeCast S2048 main_v168 shapeCasts_S1x2048_S2048
  let main_cst_28 : FVec F S_ .f32 := constant S_ .f32 0x3F000000#32
  let main_v170 : FVec F S2048 .f32 := broadcastInDim S2048 ![] bcast_S_S2048 main_cst_28
  let main_v171 : IVec S2048 1 := cmpf .ogt main_v169 main_v170
  let main_c_29 : IVec S_ 1 := constantI S_ 1 0#1
  let main_v172 : IVec S1 1 := broadcastInDim S1 ![] bcast_S_S1 main_c_29
  let main_v173 : IVec S2047 1 := (extractStridedSlice S2047 ![0] · slices_S2048_S2047_0) main_v171
  let main_v174 : IVec S2048 1 := (fun a b => concatenate S2048 0 [⟨S1, a⟩, ⟨S2047, b⟩] concatenates_S1_S2047_S2048_d0) main_v172 main_v173
  let main_v175 : IVec S2048 1 := noti main_v174
  let main_v176 : IVec S2048 1 := andi main_v171 main_v175
  let main_v177 : IVec S2048 32 := (extui 32 · natLt_1_32) main_v176
  let main_v178 : IVec S2048 32 := fn_cumsum (F := F) main_v177
  let main_c_30 : IVec S_ 32 := constantI S_ 32 1#32
  let main_v179 : IVec S2048 32 := broadcastInDim S2048 ![] bcast_S_S2048 main_c_30
  let main_v180 : IVec S2048 32 := subi main_v178 main_v179
  let main_c_31 : IVec S_ 32 := constantI S_ 32 32#32
  let main_v181 : IVec S2048 32 := broadcastInDim S2048 ![] bcast_S_S2048 main_c_31
  fn_part9 (F := F) main_arg0 main_arg1 main_arg2 main_arg3 main_arg8 main_arg9 main_arg10 main_arg11 main_arg12 main_arg13 main_arg14 main_v79 main_v119 main_v122 main_v162 main_v165 main_v167 main_v169 main_v171 main_v180 main_v181

def fn_part7 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v119 : FVec F S32x768x2 .f32) (main_v122 : FVec F S32 .f32) (main_v124 : FVec F S2048x768x2 .f32) (main_v128 : IVec S2048 1) (main_v140 : IVec S2048 32) (main_v141 : FVec F S2048 .f32) (main_v142 : FVec F S2048x1x1 .f32) : IVec S4x2048x768x2 1 × IVec S4x32x768x2 1 × IVec S4x32x768x2 1 × IVec S4x32 1 × IVec S4x2048 1 :=
  let main_v143 : FVec F S2048x768x2 .f32 := broadcastInDim S2048x768x2 ![0, 1, 2] bcast_S2048x1x1_S2048x768x2_0_1_2 main_v142
  let main_v144 : FVec F S2048x768x2 .f32 := mulf main_v124 main_v143
  let main_cst_23 : FVec F S_ .f32 := constant S_ .f32 0x00000000#32
  let main_v145 : FVec F S33x768x2 .f32 := broadcastInDim S33x768x2 ![] bcast_S_S33x768x2 main_cst_23
  let main_v146 : IVec S2048x1 32 := broadcastInDim S2048x1 ![0] bcast_S2048_S2048x1_0 main_v140
  let main_v147 : FVec F S33x768x2 .f32 := (fun x i u => Host.scatterAdd scatter_S33x768x2_S2048x1_S2048x768x2_12_0_0_1 x i u) main_v145 main_v146 main_v144
  let main_v148 : FVec F S32x768x2 .f32 := (extractStridedSlice S32x768x2 ![0, 0, 0] · slices_S33x768x2_S32x768x2_0_0_0) main_v147
  let main_cst_24 : FVec F S_ .f32 := constant S_ .f32 0x00000000#32
  let main_v149 : FVec F S33 .f32 := broadcastInDim S33 ![] bcast_S_S33 main_cst_24
  let main_v150 : IVec S2048x1 32 := broadcastInDim S2048x1 ![0] bcast_S2048_S2048x1_0 main_v140
  let main_v151 : FVec F S33 .f32 := (fun x i u => Host.scatterAdd scatter_S33_S2048x1_S2048_n_0_0_1 x i u) main_v149 main_v150 main_v141
  let main_v152 : FVec F S32 .f32 := (extractStridedSlice S32 ![0] · slices_S33_S32_0) main_v151
  let main_v153 : FVec F S2048 .f32 := uitofp .f32 main_v128
  let main_cst_25 : FVec F S_ .f32 := constant S_ .f32 0x00000000#32
  let main_v154 : FVec F S33 .f32 := broadcastInDim S33 ![] bcast_S_S33 main_cst_25
  let main_v155 : IVec S2048x1 32 := broadcastInDim S2048x1 ![0] bcast_S2048_S2048x1_0 main_v140
  let main_v156 : FVec F S33 .f32 := (fun x i u => Host.scatterAdd scatter_S33_S2048x1_S2048_n_0_0_1 x i u) main_v154 main_v155 main_v153
  let main_v157 : FVec F S32 .f32 := (extractStridedSlice S32 ![0] · slices_S33_S32_0) main_v156
  let main_cst_26 : FVec F S_ .f32 := constant S_ .f32 0x322BCC77#32
  let main_v158 : FVec F S32 .f32 := broadcastInDim S32 ![] bcast_S_S32 main_cst_26
  let main_v159 : FVec F S32 .f32 := maximumf main_v152 main_v158
  let main_v160 : FVec F S32x1x1 .f32 := broadcastInDim S32x1x1 ![0] bcast_S32_S32x1x1_0 main_v159
  let main_v161 : FVec F S32x768x2 .f32 := broadcastInDim S32x768x2 ![0, 1, 2] bcast_S32x1x1_S32x768x2_0_1_2 main_v160
  let main_v162 : FVec F S32x768x2 .f32 := Host.divf main_v148 main_v161
  fn_part8 (F := F) main_arg0 main_arg1 main_arg2 main_arg3 main_arg8 main_arg9 main_arg10 main_arg11 main_arg12 main_arg13 main_arg14 main_v79 main_v119 main_v122 main_v157 main_v162

def fn_part6 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v119 : FVec F S32x768x2 .f32) (main_v122 : FVec F S32 .f32) (main_v124 : FVec F S2048x768x2 .f32) : IVec S4x2048x768x2 1 × IVec S4x32x768x2 1 × IVec S4x32x768x2 1 × IVec S4x32 1 × IVec S4x2048 1 :=
  let main_v125 : FVec F S1x2048 .f32 := (extractStridedSlice S1x2048 ![1, 0] · slices_S4x2048_S1x2048_1_0) main_v79
  let main_v126 : FVec F S2048 .f32 := shapeCast S2048 main_v125 shapeCasts_S1x2048_S2048
  let main_cst_17 : FVec F S_ .f32 := constant S_ .f32 0x3F000000#32
  let main_v127 : FVec F S2048 .f32 := broadcastInDim S2048 ![] bcast_S_S2048 main_cst_17
  let main_v128 : IVec S2048 1 := cmpf .ogt main_v126 main_v127
  let main_c_18 : IVec S_ 1 := constantI S_ 1 0#1
  let main_v129 : IVec S1 1 := broadcastInDim S1 ![] bcast_S_S1 main_c_18
  let main_v130 : IVec S2047 1 := (extractStridedSlice S2047 ![0] · slices_S2048_S2047_0) main_v128
  let main_v131 : IVec S2048 1 := (fun a b => concatenate S2048 0 [⟨S1, a⟩, ⟨S2047, b⟩] concatenates_S1_S2047_S2048_d0) main_v129 main_v130
  let main_v132 : IVec S2048 1 := noti main_v131
  let main_v133 : IVec S2048 1 := andi main_v128 main_v132
  let main_v134 : IVec S2048 32 := (extui 32 · natLt_1_32) main_v133
  let main_v135 : IVec S2048 32 := fn_cumsum (F := F) main_v134
  let main_c_19 : IVec S_ 32 := constantI S_ 32 1#32
  let main_v136 : IVec S2048 32 := broadcastInDim S2048 ![] bcast_S_S2048 main_c_19
  let main_v137 : IVec S2048 32 := subi main_v135 main_v136
  let main_c_20 : IVec S_ 32 := constantI S_ 32 32#32
  let main_v138 : IVec S2048 32 := broadcastInDim S2048 ![] bcast_S_S2048 main_c_20
  let main_v139 : IVec S2048 32 := minsi main_v137 main_v138
  let main_c_21 : IVec S_ 32 := constantI S_ 32 32#32
  let main_v140 : IVec S2048 32 := fn_where (F := F) main_v128 main_v139 main_c_21
  let main_cst_22 : FVec F S_ .f32 := constant S_ .f32 0x00000000#32
  let main_v141 : FVec F S2048 .f32 := fn_where_1 (F := F) main_v128 main_v126 main_cst_22
  let main_v142 : FVec F S2048x1x1 .f32 := broadcastInDim S2048x1x1 ![0] bcast_S2048_S2048x1x1_0 main_v141
  fn_part7 (F := F) main_arg0 main_arg1 main_arg2 main_arg3 main_arg8 main_arg9 main_arg10 main_arg11 main_arg12 main_arg13 main_arg14 main_v79 main_v119 main_v122 main_v124 main_v128 main_v140 main_v141 main_v142

def fn_part5 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v85 : IVec S2048 1) (main_v97 : IVec S2048 32) (main_v98 : FVec F S2048 .f32) (main_v104 : FVec F S33x768x2 .f32) : IVec S4x2048x768x2 1 × IVec S4x32x768x2 1 × IVec S4x32x768x2 1 × IVec S4x32 1 × IVec S4x2048 1 :=
  let main_v105 : FVec F S32x768x2 .f32 := (extractStridedSlice S32x768x2 ![0, 0, 0] · slices_S33x768x2_S32x768x2_0_0_0) main_v104
  let main_cst_13 : FVec F S_ .f32 := constant S_ .f32 0x00000000#32
  let main_v106 : FVec F S33 .f32 := broadcastInDim S33 ![] bcast_S_S33 main_cst_13
  let main_v107 : IVec S2048x1 32 := broadcastInDim S2048x1 ![0] bcast_S2048_S2048x1_0 main_v97
  let main_v108 : FVec F S33 .f32 := (fun x i u => Host.scatterAdd scatter_S33_S2048x1_S2048_n_0_0_1 x i u) main_v106 main_v107 main_v98
  let main_v109 : FVec F S32 .f32 := (extractStridedSlice S32 ![0] · slices_S33_S32_0) main_v108
  let main_v110 : FVec F S2048 .f32 := uitofp .f32 main_v85
  let main_cst_14 : FVec F S_ .f32 := constant S_ .f32 0x00000000#32
  let main_v111 : FVec F S33 .f32 := broadcastInDim S33 ![] bcast_S_S33 main_cst_14
  let main_v112 : IVec S2048x1 32 := broadcastInDim S2048x1 ![0] bcast_S2048_S2048x1_0 main_v97
  let main_v113 : FVec F S33 .f32 := (fun x i u => Host.scatterAdd scatter_S33_S2048x1_S2048_n_0_0_1 x i u) main_v111 main_v112 main_v110
  let main_v114 : FVec F S32 .f32 := (extractStridedSlice S32 ![0] · slices_S33_S32_0) main_v113
  let main_cst_15 : FVec F S_ .f32 := constant S_ .f32 0x322BCC77#32
  let main_v115 : FVec F S32 .f32 := broadcastInDim S32 ![] bcast_S_S32 main_cst_15
  let main_v116 : FVec F S32 .f32 := maximumf main_v109 main_v115
  let main_v117 : FVec F S32x1x1 .f32 := broadcastInDim S32x1x1 ![0] bcast_S32_S32x1x1_0 main_v116
  let main_v118 : FVec F S32x768x2 .f32 := broadcastInDim S32x768x2 ![0, 1, 2] bcast_S32x1x1_S32x768x2_0_1_2 main_v117
  let main_v119 : FVec F S32x768x2 .f32 := Host.divf main_v105 main_v118
  let main_cst_16 : FVec F S_ .f32 := constant S_ .f32 0x00000000#32
  let main_v120 : FVec F S32 .f32 := broadcastInDim S32 ![] bcast_S_S32 main_cst_16
  let main_v121 : IVec S32 1 := cmpf .ogt main_v114 main_v120
  let main_v122 : FVec F S32 .f32 := uitofp .f32 main_v121
  let main_v123 : FVec F S1x2048x768x2 .f32 := (extractStridedSlice S1x2048x768x2 ![1, 0, 0, 0] · slices_S4x2048x768x2_S1x2048x768x2_1_0_0_0) main_arg0
  let main_v124 : FVec F S2048x768x2 .f32 := shapeCast S2048x768x2 main_v123 shapeCasts_S1x2048x768x2_S2048x768x2
  fn_part6 (F := F) main_arg0 main_arg1 main_arg2 main_arg3 main_arg8 main_arg9 main_arg10 main_arg11 main_arg12 main_arg13 main_arg14 main_v79 main_v119 main_v122 main_v124

def fn_part4 {F : FTy → Type} [FloatOps F] (main_arg0 : FVec F S4x2048x768x2 .f32) (main_arg1 : FVec F S4x32x768x2 .f32) (main_arg2 : FVec F S4x32x768x2 .f32) (main_arg3 : FVec F S4x32 .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v79 : FVec F S4x2048 .f32) (main_v81 : FVec F S2048x768x2 .f32) (main_v83 : FVec F S2048 .f32) (main_v85 : IVec S2048 1) (main_c_7 : IVec S_ 1) : IVec S4x2048x768x2 1 × IVec S4x32x768x2 1 × IVec S4x32x768x2 1 × IVec S4x32 1 × IVec S4x2048 1 :=
  let main_v86 : IVec S1 1 := broadcastInDim S1 ![] bcast_S_S1 main_c_7
  let main_v87 : IVec S2047 1 := (extractStridedSlice S2047 ![0] · slices_S2048_S2047_0) main_v85
  let main_v88 : IVec S2048 1 := (fun a b => concatenate S2048 0 [⟨S1, a⟩, ⟨S2047, b⟩] concatenates_S1_S2047_S2048_d0) main_v86 main_v87
  let main_v89 : IVec S2048 1 := noti main_v88
  let main_v90 : IVec S2048 1 := andi main_v85 main_v89
  let main_v91 : IVec S2048 32 := (extui 32 · natLt_1_32) main_v90
  let main_v92 : IVec S2048 32 := fn_cumsum (F := F) main_v91
  let main_c_8 : IVec S_ 32 := constantI S_ 32 1#32
  let main_v93 : IVec S2048 32 := broadcastInDim S2048 ![] bcast_S_S2048 main_c_8
  let main_v94 : IVec S2048 32 := subi main_v92 main_v93
  let main_c_9 : IVec S_ 32 := constantI S_ 32 32#32
  let main_v95 : IVec S2048 32 := broadcastInDim S2048 ![] bcast_S_S2048 main_c_9
  let main_v96 : IVec S2048 32 := minsi main_v94 main_v95
  let main_c_10 : IVec S_ 32 := constantI S_ 32 32#32
  let main_v97 : IVec S2048 32 := fn_where (F := F) main_v85 main_v96 main_c_10
  let main_cst_11 : FVec F S_ .f32 := constant S_ .f32 0x00000000#32
  let main_v98 : FVec F S2048 .f32 := fn_where_1 (F := F) main_v85 main_v83 main_cst_11
  let main_v99 : FVec F S2048x1x1 .f32 := broadcastInDim S2048x1x1 ![0] bcast_S2048_S2048x1x1_0 main_v98
  let main_v100 : FVec F S2048x768x2 .f32 := broadcastInDim S2048x768x2 ![0, 1, 2] bcast_S2048x1x1_S2048x768x2_0_1_2 main_v99
  let main_v101 : FVec F S2048x768x2 .f32 := mulf main_v81 main_v100
  let main_cst_12 : FVec F S_ .f32 := constant S_ .f32 0x00000000#32
  let main_v102 : FVec F S33x768x2 .f32 := broadcastInDim S33x768x2 ![] bcast_S_S33x768x2 main_cst_12
  let main_v103 : IVec S2048x1 32 := broadcastInDim S2048x1 ![0] bcast_S2048_S2048x1_0 main_v97
  let main_v104 : FVec F S33x768x2 .f32 := (fun x i u => Host.scatterAdd scatter_S33x768x2_S2048x1_S2048x768x2_12_0_0_1 x i u) main_v102 main_v103 main_v101
  fn_part5 (F := F) main_arg0 main_arg1 main_arg2 main_arg3 main_arg8 main_arg9 main_arg10 main_arg11 main_arg12 main_arg13 main_arg14 main_v79 main_v85 main_v97 main_v98 main_v104

def fn_part3 {F : FTy → Type} [FloatOps F] (main_arg0 : FVec F S4x2048x768x2 .f32) (main_arg1 : FVec F S4x32x768x2 .f32) (main_arg2 : FVec F S4x32x768x2 .f32) (main_arg3 : FVec F S4x32 .f32) (main_arg6 : FVec F S_ .f32) (main_arg7 : FVec F S_ .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v21 : FVec F S4x2048 .f32) (main_v32 : FVec F S4x2048 .f32) (main_v61 : FVec F S4x2048 .f32) (main_v62 : FVec F S4x2048 .f32) (main_v65 : FVec F S4x2048 .f32) : IVec S4x2048x768x2 1 × IVec S4x32x768x2 1 × IVec S4x32x768x2 1 × IVec S4x32 1 × IVec S4x2048 1 :=
  let main_v66 : FVec F S4x2048 .f32 := mulf main_v62 main_v65
  let main_v67 : FVec F S4x2048 .f32 := addf main_v61 main_v66
  let main_v68 : FVec F S4x2048 .f32 := subf main_v32 main_v67
  let main_v69 : FVec F S4x2048 .f32 := broadcastInDim S4x2048 ![] bcast_S_S4x2048 main_arg7
  let main_v70 : FVec F S4x2048 .f32 := mulf main_v68 main_v69
  let main_v71 : FVec F S4x2048 .f32 := addf main_v21 main_v70
  let main_v72 : FVec F S4x2048 .f32 := broadcastInDim S4x2048 ![] bcast_S_S4x2048 main_arg6
  let main_v73 : FVec F S4x2048 .f32 := addf main_v71 main_v72
  let main_v74 : FVec F S4x2048 .f32 := Host.negf main_v73
  let main_v75 : FVec F S4x2048 .f32 := Host.exp main_v74
  let main_cst_4 : FVec F S_ .f32 := constant S_ .f32 0x3F800000#32
  let main_v76 : FVec F S4x2048 .f32 := broadcastInDim S4x2048 ![] bcast_S_S4x2048 main_cst_4
  let main_v77 : FVec F S4x2048 .f32 := addf main_v76 main_v75
  let main_cst_5 : FVec F S_ .f32 := constant S_ .f32 0x3F800000#32
  let main_v78 : FVec F S4x2048 .f32 := broadcastInDim S4x2048 ![] bcast_S_S4x2048 main_cst_5
  let main_v79 : FVec F S4x2048 .f32 := Host.divf main_v78 main_v77
  let main_v80 : FVec F S1x2048x768x2 .f32 := (extractStridedSlice S1x2048x768x2 ![0, 0, 0, 0] · slices_S4x2048x768x2_S1x2048x768x2_0_0_0_0) main_arg0
  let main_v81 : FVec F S2048x768x2 .f32 := shapeCast S2048x768x2 main_v80 shapeCasts_S1x2048x768x2_S2048x768x2
  let main_v82 : FVec F S1x2048 .f32 := (extractStridedSlice S1x2048 ![0, 0] · slices_S4x2048_S1x2048_0_0) main_v79
  let main_v83 : FVec F S2048 .f32 := shapeCast S2048 main_v82 shapeCasts_S1x2048_S2048
  let main_cst_6 : FVec F S_ .f32 := constant S_ .f32 0x3F000000#32
  let main_v84 : FVec F S2048 .f32 := broadcastInDim S2048 ![] bcast_S_S2048 main_cst_6
  let main_v85 : IVec S2048 1 := cmpf .ogt main_v83 main_v84
  let main_c_7 : IVec S_ 1 := constantI S_ 1 0#1
  fn_part4 (F := F) main_arg0 main_arg1 main_arg2 main_arg3 main_arg8 main_arg9 main_arg10 main_arg11 main_arg12 main_arg13 main_arg14 main_v79 main_v81 main_v83 main_v85 main_c_7

def fn_part2 {F : FTy → Type} [FloatOps F] (main_arg0 : FVec F S4x2048x768x2 .f32) (main_arg1 : FVec F S4x32x768x2 .f32) (main_arg2 : FVec F S4x32x768x2 .f32) (main_arg3 : FVec F S4x32 .f32) (main_arg6 : FVec F S_ .f32) (main_arg7 : FVec F S_ .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v21 : FVec F S4x2048 .f32) (main_v32 : FVec F S4x2048 .f32) (main_v35 : FVec F S5 .f32) (main_v36 : FVec F S4x2052 .f32) (main_v41 : FVec F S4x2048 .f32) (main_cst_3 : FVec F S_ .f32) : IVec S4x2048x768x2 1 × IVec S4x32x768x2 1 × IVec S4x32x768x2 1 × IVec S4x32 1 × IVec S4x2048 1 :=
  let main_v42 : FVec F S4x2048 .f32 := broadcastInDim S4x2048 ![] bcast_S_S4x2048 main_cst_3
  let main_v43 : FVec F S4x2048 .f32 := addf main_v42 main_v41
  let main_v44 : FVec F S4x2048 .f32 := (extractStridedSlice S4x2048 ![0, 1] · slices_S4x2052_S4x2048_0_1) main_v36
  let main_v45 : FVec F S1 .f32 := (extractStridedSlice S1 ![3] · slices_S5_S1_3) main_v35
  let main_v46 : FVec F S_ .f32 := shapeCast S_ main_v45 shapeCasts_S1_S_
  let main_v47 : FVec F S4x2048 .f32 := broadcastInDim S4x2048 ![] bcast_S_S4x2048 main_v46
  let main_v48 : FVec F S4x2048 .f32 := mulf main_v44 main_v47
  let main_v49 : FVec F S4x2048 .f32 := addf main_v43 main_v48
  let main_v50 : FVec F S4x2048 .f32 := (extractStridedSlice S4x2048 ![0, 2] · slices_S4x2052_S4x2048_0_2) main_v36
  let main_v51 : FVec F S1 .f32 := (extractStridedSlice S1 ![2] · slices_S5_S1_2) main_v35
  let main_v52 : FVec F S_ .f32 := shapeCast S_ main_v51 shapeCasts_S1_S_
  let main_v53 : FVec F S4x2048 .f32 := broadcastInDim S4x2048 ![] bcast_S_S4x2048 main_v52
  let main_v54 : FVec F S4x2048 .f32 := mulf main_v50 main_v53
  let main_v55 : FVec F S4x2048 .f32 := addf main_v49 main_v54
  let main_v56 : FVec F S4x2048 .f32 := (extractStridedSlice S4x2048 ![0, 3] · slices_S4x2052_S4x2048_0_3) main_v36
  let main_v57 : FVec F S1 .f32 := (extractStridedSlice S1 ![1] · slices_S5_S1_1) main_v35
  let main_v58 : FVec F S_ .f32 := shapeCast S_ main_v57 shapeCasts_S1_S_
  let main_v59 : FVec F S4x2048 .f32 := broadcastInDim S4x2048 ![] bcast_S_S4x2048 main_v58
  let main_v60 : FVec F S4x2048 .f32 := mulf main_v56 main_v59
  let main_v61 : FVec F S4x2048 .f32 := addf main_v55 main_v60
  let main_v62 : FVec F S4x2048 .f32 := (extractStridedSlice S4x2048 ![0, 4] · slices_S4x2052_S4x2048_0_4) main_v36
  let main_v63 : FVec F S1 .f32 := (extractStridedSlice S1 ![0] · slices_S5_S1_0) main_v35
  let main_v64 : FVec F S_ .f32 := shapeCast S_ main_v63 shapeCasts_S1_S_
  let main_v65 : FVec F S4x2048 .f32 := broadcastInDim S4x2048 ![] bcast_S_S4x2048 main_v64
  fn_part3 (F := F) main_arg0 main_arg1 main_arg2 main_arg3 main_arg6 main_arg7 main_arg8 main_arg9 main_arg10 main_arg11 main_arg12 main_arg13 main_arg14 main_v21 main_v32 main_v61 main_v62 main_v65

def fn_part1 {F : FTy → Type} [FloatOps F] (main_arg0 : FVec F S4x2048x768x2 .f32) (main_arg1 : FVec F S4x32x768x2 .f32) (main_arg2 : FVec F S4x32x768x2 .f32) (main_arg3 : FVec F S4x32 .f32) (main_arg6 : FVec F S_ .f32) (main_arg7 : FVec F S_ .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) (main_v21 : FVec F S4x2048 .f32) (main_v23 : FVec F S4x2048x768 .f32) : IVec S4x2048x768x2 1 × IVec S4x32x768x2 1 × IVec S4x32x768x2 1 × IVec S4x32 1 × IVec S4x2048 1 :=
  let main_v24 : FVec F S4x2048x768 .f32 := mulf main_v23 main_v23
  let main_v25 : FVec F S4x2048x768x1 .f32 := (extractStridedSlice S4x2048x768x1 ![0, 0, 0, 1] · slices_S4x2048x768x2_S4x2048x768x1_0_0_0_1) main_arg0
  let main_v26 : FVec F S4x2048x768 .f32 := shapeCast S4x2048x768 main_v25 shapeCasts_S4x2048x768x1_S4x2048x768
  let main_v27 : FVec F S4x2048x768 .f32 := mulf main_v26 main_v26
  let main_v28 : FVec F S4x2048x768 .f32 := addf main_v24 main_v27
  let main_v29 : FVec F S4x2048x768 .f32 := Host.sqrt main_v28
  let main_cst : FVec F S_ .f32 := constant S_ .f32 0x00000000#32
  let main_v30 : FVec F S4x2048 .f32 := (fun x v => Host.reduceAdd x v reducesTo_S4x2048x768_S4x2048_d2 h_S_) main_v29 main_cst
  let main_cst_0 : FVec F S_ .f32 := constant S_ .f32 0x44400000#32
  let main_v31 : FVec F S4x2048 .f32 := broadcastInDim S4x2048 ![] bcast_S_S4x2048 main_cst_0
  let main_v32 : FVec F S4x2048 .f32 := Host.divf main_v30 main_v31
  let main_cst_1 : FVec F S_ .f32 := constant S_ .f32 0x3F800000#32
  let main_v33 : FVec F S5 .f32 := broadcastInDim S5 ![] bcast_S_S5 main_cst_1
  let main_cst_2 : FVec F S_ .f32 := constant S_ .f32 0x40A00000#32
  let main_v34 : FVec F S5 .f32 := broadcastInDim S5 ![] bcast_S_S5 main_cst_2
  let main_v35 : FVec F S5 .f32 := Host.divf main_v33 main_v34
  let main_c : IVec S_ 32 := constantI S_ 32 0#32
  let main_v36 : FVec F S4x2052 .f32 := fn_pad (F := F) main_v32 main_c
  let main_v37 : FVec F S4x2048 .f32 := (extractStridedSlice S4x2048 ![0, 0] · slices_S4x2052_S4x2048_0_0) main_v36
  let main_v38 : FVec F S1 .f32 := (extractStridedSlice S1 ![4] · slices_S5_S1_4) main_v35
  let main_v39 : FVec F S_ .f32 := shapeCast S_ main_v38 shapeCasts_S1_S_
  let main_v40 : FVec F S4x2048 .f32 := broadcastInDim S4x2048 ![] bcast_S_S4x2048 main_v39
  let main_v41 : FVec F S4x2048 .f32 := mulf main_v37 main_v40
  let main_cst_3 : FVec F S_ .f32 := constant S_ .f32 0x00000000#32
  fn_part2 (F := F) main_arg0 main_arg1 main_arg2 main_arg3 main_arg6 main_arg7 main_arg8 main_arg9 main_arg10 main_arg11 main_arg12 main_arg13 main_arg14 main_v21 main_v32 main_v35 main_v36 main_v41 main_cst_3

def fn {F : FTy → Type} [FloatOps F] (main_arg0 : FVec F S4x2048x768x2 .f32) (main_arg1 : FVec F S4x32x768x2 .f32) (main_arg2 : FVec F S4x32x768x2 .f32) (main_arg3 : FVec F S4x32 .f32) (main_arg4 : FVec F S768x1 .f32) (main_arg5 : FVec F S768x1 .f32) (main_arg6 : FVec F S_ .f32) (main_arg7 : FVec F S_ .f32) (main_arg8 : FVec F S768x768 .f32) (main_arg9 : FVec F S768x768 .f32) (main_arg10 : FVec F S768x768 .f32) (main_arg11 : FVec F S768x768 .f32) (main_arg12 : FVec F S768x768 .f32) (main_arg13 : FVec F S768x768 .f32) (main_arg14 : FVec F S768 .f32) : IVec S4x2048x768x2 1 × IVec S4x32x768x2 1 × IVec S4x32x768x2 1 × IVec S4x32 1 × IVec S4x2048 1 :=
  let main_v0 : FVec F S4x2048x768x1 .f32 := (extractStridedSlice S4x2048x768x1 ![0, 0, 0, 0] · slices_S4x2048x768x2_S4x2048x768x1_0_0_0_0) main_arg0
  let main_v1 : FVec F S4x2048x768 .f32 := shapeCast S4x2048x768 main_v0 shapeCasts_S4x2048x768x1_S4x2048x768
  let main_v2 : FVec F S4x2048x768x1 .f32 := (extractStridedSlice S4x2048x768x1 ![0, 0, 0, 1] · slices_S4x2048x768x2_S4x2048x768x1_0_0_0_1) main_arg0
  let main_v3 : FVec F S4x2048x768 .f32 := shapeCast S4x2048x768 main_v2 shapeCasts_S4x2048x768x1_S4x2048x768
  let main_v4 : FVec F S4x2048x1 .f32 := (fun l r => Host.dotGeneral dot_S4x2048x768_S768x1_S4x2048x1_2_0_01_1_n_n none l r) main_v1 main_arg4
  let main_v5 : FVec F S4x2048x1 .f32 := (fun l r => Host.dotGeneral dot_S4x2048x768_S768x1_S4x2048x1_2_0_01_1_n_n none l r) main_v3 main_arg5
  let main_v6 : FVec F S4x2048x1 .f32 := subf main_v4 main_v5
  let main_v7 : FVec F S4x2048x1 .f32 := (fun l r => Host.dotGeneral dot_S4x2048x768_S768x1_S4x2048x1_2_0_01_1_n_n none l r) main_v1 main_arg5
  let main_v8 : FVec F S4x2048x1 .f32 := (fun l r => Host.dotGeneral dot_S4x2048x768_S768x1_S4x2048x1_2_0_01_1_n_n none l r) main_v3 main_arg4
  let main_v9 : FVec F S4x2048x1 .f32 := addf main_v7 main_v8
  let main_v10 : FVec F S4x2048x1x1 .f32 := broadcastInDim S4x2048x1x1 ![0, 1, 2] bcast_S4x2048x1_S4x2048x1x1_0_1_2 main_v6
  let main_v11 : FVec F S4x2048x1x1 .f32 := broadcastInDim S4x2048x1x1 ![0, 1, 2] bcast_S4x2048x1_S4x2048x1x1_0_1_2 main_v9
  let main_v12 : FVec F S4x2048x1x2 .f32 := (fun a b => concatenate S4x2048x1x2 3 [⟨S4x2048x1x1, a⟩, ⟨S4x2048x1x1, b⟩] concatenates_S4x2048x1x1_S4x2048x1x1_S4x2048x1x2_d3) main_v10 main_v11
  let main_v13 : FVec F S4x2048x1x1 .f32 := (extractStridedSlice S4x2048x1x1 ![0, 0, 0, 0] · slices_S4x2048x1x2_S4x2048x1x1_0_0_0_0) main_v12
  let main_v14 : FVec F S4x2048x1 .f32 := shapeCast S4x2048x1 main_v13 shapeCasts_S4x2048x1x1_S4x2048x1
  let main_v15 : FVec F S4x2048x1 .f32 := mulf main_v14 main_v14
  let main_v16 : FVec F S4x2048x1x1 .f32 := (extractStridedSlice S4x2048x1x1 ![0, 0, 0, 1] · slices_S4x2048x1x2_S4x2048x1x1_0_0_0_1) main_v12
  let main_v17 : FVec F S4x2048x1 .f32 := shapeCast S4x2048x1 main_v16 shapeCasts_S4x2048x1x1_S4x2048x1
  let main_v18 : FVec F S4x2048x1 .f32 := mulf main_v17 main_v17
  let main_v19 : FVec F S4x2048x1 .f32 := addf main_v15 main_v18
  let main_v20 : FVec F S4x2048x1 .f32 := Host.sqrt main_v19
  let main_v21 : FVec F S4x2048 .f32 := shapeCast S4x2048 main_v20 shapeCasts_S4x2048x1_S4x2048
  let main_v22 : FVec F S4x2048x768x1 .f32 := (extractStridedSlice S4x2048x768x1 ![0, 0, 0, 0] · slices_S4x2048x768x2_S4x2048x768x1_0_0_0_0) main_arg0
  let main_v23 : FVec F S4x2048x768 .f32 := shapeCast S4x2048x768 main_v22 shapeCasts_S4x2048x768x1_S4x2048x768
  fn_part1 (F := F) main_arg0 main_arg1 main_arg2 main_arg3 main_arg6 main_arg7 main_arg8 main_arg9 main_arg10 main_arg11 main_arg12 main_arg13 main_arg14 main_v21 main_v23
-- ==== Kernel.lean ====
abbrev S4x2048x768x2 : Shape := ⟨4, ![4, 2048, 768, 2]⟩
abbrev S4x32x768x2 : Shape := ⟨4, ![4, 32, 768, 2]⟩
abbrev S4x32 : Shape := ⟨2, ![4, 32]⟩
abbrev S768x1 : Shape := ⟨2, ![768, 1]⟩
abbrev S_ : Shape := ⟨0, ![]⟩
abbrev S768x768 : Shape := ⟨2, ![768, 768]⟩
abbrev S768 : Shape := ⟨1, ![768]⟩
abbrev S4x2048x768x1 : Shape := ⟨4, ![4, 2048, 768, 1]⟩
abbrev S4x2048x768 : Shape := ⟨3, ![4, 2048, 768]⟩
abbrev S4x32x768x1 : Shape := ⟨4, ![4, 32, 768, 1]⟩
abbrev S4x32x768 : Shape := ⟨3, ![4, 32, 768]⟩
abbrev S4x1x32 : Shape := ⟨3, ![4, 1, 32]⟩
abbrev S1x768 : Shape := ⟨2, ![1, 768]⟩
abbrev S1x1 : Shape := ⟨2, ![1, 1]⟩
abbrev S4x2048x1 : Shape := ⟨3, ![4, 2048, 1]⟩
abbrev S5 : Shape := ⟨1, ![5]⟩
abbrev S4x2048 : Shape := ⟨2, ![4, 2048]⟩
abbrev S4x2052 : Shape := ⟨2, ![4, 2052]⟩
abbrev S1 : Shape := ⟨1, ![1]⟩
abbrev S4x1x2048 : Shape := ⟨3, ![4, 1, 2048]⟩
abbrev S4x32x1 : Shape := ⟨3, ![4, 32, 1]⟩
abbrev S1x512x768 : Shape := ⟨3, ![1, 512, 768]⟩
abbrev S1x512x1 : Shape := ⟨3, ![1, 512, 1]⟩
abbrev S512x768 : Shape := ⟨2, ![512, 768]⟩
abbrev S512x1 : Shape := ⟨2, ![512, 1]⟩
abbrev S512 : Shape := ⟨1, ![512]⟩
abbrev S1x2048x1 : Shape := ⟨3, ![1, 2048, 1]⟩
abbrev S1x1x2048 : Shape := ⟨3, ![1, 1, 2048]⟩
abbrev S1x2048 : Shape := ⟨2, ![1, 2048]⟩
abbrev S2048x1 : Shape := ⟨2, ![2048, 1]⟩
abbrev S1x2047 : Shape := ⟨2, ![1, 2047]⟩
abbrev S1x2 : Shape := ⟨2, ![1, 2]⟩
abbrev S1x2046 : Shape := ⟨2, ![1, 2046]⟩
abbrev S1x4 : Shape := ⟨2, ![1, 4]⟩
abbrev S1x2044 : Shape := ⟨2, ![1, 2044]⟩
abbrev S1x8 : Shape := ⟨2, ![1, 8]⟩
abbrev S1x2040 : Shape := ⟨2, ![1, 2040]⟩
abbrev S1x16 : Shape := ⟨2, ![1, 16]⟩
abbrev S1x2032 : Shape := ⟨2, ![1, 2032]⟩
abbrev S1x32 : Shape := ⟨2, ![1, 32]⟩
abbrev S1x2016 : Shape := ⟨2, ![1, 2016]⟩
abbrev S1x64 : Shape := ⟨2, ![1, 64]⟩
abbrev S1x1984 : Shape := ⟨2, ![1, 1984]⟩
abbrev S1x128 : Shape := ⟨2, ![1, 128]⟩
abbrev S1x1920 : Shape := ⟨2, ![1, 1920]⟩
abbrev S1x256 : Shape := ⟨2, ![1, 256]⟩
abbrev S1x1792 : Shape := ⟨2, ![1, 1792]⟩
abbrev S1x512 : Shape := ⟨2, ![1, 512]⟩
abbrev S1x1536 : Shape := ⟨2, ![1, 1536]⟩
abbrev S1x1024 : Shape := ⟨2, ![1, 1024]⟩
abbrev S1x1x512 : Shape := ⟨3, ![1, 1, 512]⟩
abbrev S1x32x768 : Shape := ⟨3, ![1, 32, 768]⟩
abbrev S1x32x1 : Shape := ⟨3, ![1, 32, 1]⟩
abbrev S33x768 : Shape := ⟨2, ![33, 768]⟩
abbrev S33x2 : Shape := ⟨2, ![33, 2]⟩
abbrev S33x1 : Shape := ⟨2, ![33, 1]⟩
abbrev S33x512 : Shape := ⟨2, ![33, 512]⟩
abbrev S33 : Shape := ⟨1, ![33]⟩
abbrev S32x1 : Shape := ⟨2, ![32, 1]⟩
abbrev S32x768 : Shape := ⟨2, ![32, 768]⟩
abbrev S1x1x32 : Shape := ⟨3, ![1, 1, 32]⟩
abbrev S512x32 : Shape := ⟨2, ![512, 32]⟩

abbrev nBuf : Space → Nat
  | .hbm => 100
  | .vmem => 96
  | .smem => 0
  | _ => 0

abbrev bufTy : (tb : Table) → Fin (tcTables nBuf tb) → BufTy
  | .hbm, ⟨0, _⟩ => ⟨S4x2048x768x2, .f32⟩
  | .hbm, ⟨1, _⟩ => ⟨S4x32x768x2, .f32⟩
  | .hbm, ⟨2, _⟩ => ⟨S4x32x768x2, .f32⟩
  | .hbm, ⟨3, _⟩ => ⟨S4x32, .f32⟩
  | .hbm, ⟨4, _⟩ => ⟨S768x1, .f32⟩
  | .hbm, ⟨5, _⟩ => ⟨S768x1, .f32⟩
  | .hbm, ⟨6, _⟩ => ⟨S_, .f32⟩
  | .hbm, ⟨7, _⟩ => ⟨S_, .f32⟩
  | .hbm, ⟨8, _⟩ => ⟨S768x768, .f32⟩
  | .hbm, ⟨9, _⟩ => ⟨S768x768, .f32⟩
  | .hbm, ⟨10, _⟩ => ⟨S768x768, .f32⟩
  | .hbm, ⟨11, _⟩ => ⟨S768x768, .f32⟩
  | .hbm, ⟨12, _⟩ => ⟨S768x768, .f32⟩
  | .hbm, ⟨13, _⟩ => ⟨S768x768, .f32⟩
  | .hbm, ⟨14, _⟩ => ⟨S768, .f32⟩
  | .hbm, ⟨15, _⟩ => ⟨S4x2048x768x1, .f32⟩
  | .hbm, ⟨16, _⟩ => ⟨S4x2048x768, .f32⟩
  | .hbm, ⟨17, _⟩ => ⟨S4x2048x768x1, .f32⟩
  | .hbm, ⟨18, _⟩ => ⟨S4x2048x768, .f32⟩
  | .hbm, ⟨19, _⟩ => ⟨S4x32x768x1, .f32⟩
  | .hbm, ⟨20, _⟩ => ⟨S4x32x768, .f32⟩
  | .hbm, ⟨21, _⟩ => ⟨S4x32x768x1, .f32⟩
  | .hbm, ⟨22, _⟩ => ⟨S4x32x768, .f32⟩
  | .hbm, ⟨23, _⟩ => ⟨S4x32x768x1, .f32⟩
  | .hbm, ⟨24, _⟩ => ⟨S4x32x768, .f32⟩
  | .hbm, ⟨25, _⟩ => ⟨S4x32x768x1, .f32⟩
  | .hbm, ⟨26, _⟩ => ⟨S4x32x768, .f32⟩
  | .hbm, ⟨27, _⟩ => ⟨S4x1x32, .f32⟩
  | .hbm, ⟨28, _⟩ => ⟨S1x768, .f32⟩
  | .hbm, ⟨29, _⟩ => ⟨S1x1, .f32⟩
  | .hbm, ⟨30, _⟩ => ⟨S1x1, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S5, .f32⟩
  | .hbm, ⟨36, _⟩ => ⟨S_, .f32⟩
  | .hbm, ⟨37, _⟩ => ⟨S5, .f32⟩
  | .hbm, ⟨38, _⟩ => ⟨S5, .f32⟩
  | .hbm, ⟨39, _⟩ => ⟨S4x2048, .f32⟩
  | .hbm, ⟨40, _⟩ => ⟨S_, .i32⟩
  | .hbm, ⟨41, _⟩ => ⟨S_, .f32⟩
  | .hbm, ⟨42, _⟩ => ⟨S4x2052, .f32⟩
  | .hbm, ⟨43, _⟩ => ⟨S4x2048, .f32⟩
  | .hbm, ⟨44, _⟩ => ⟨S1, .f32⟩
  | .hbm, ⟨45, _⟩ => ⟨S_, .f32⟩
  | .hbm, ⟨46, _⟩ => ⟨S4x2048, .f32⟩
  | .hbm, ⟨47, _⟩ => ⟨S4x2048, .f32⟩
  | .hbm, ⟨48, _⟩ => ⟨S_, .f32⟩
  | .hbm, ⟨49, _⟩ => ⟨S4x2048, .f32⟩
  | .hbm, ⟨50, _⟩ => ⟨S4x2048, .f32⟩
  | .hbm, ⟨51, _⟩ => ⟨S4x2048, .f32⟩
  | .hbm, ⟨52, _⟩ => ⟨S1, .f32⟩
  | .hbm, ⟨53, _⟩ => ⟨S_, .f32⟩
  | .hbm, ⟨54, _⟩ => ⟨S4x2048, .f32⟩
  | .hbm, ⟨55, _⟩ => ⟨S4x2048, .f32⟩
  | .hbm, ⟨56, _⟩ => ⟨S4x2048, .f32⟩
  | .hbm, ⟨57, _⟩ => ⟨S4x2048, .f32⟩
  | .hbm, ⟨58, _⟩ => ⟨S1, .f32⟩
  | .hbm, ⟨59, _⟩ => ⟨S_, .f32⟩
  | .hbm, ⟨60, _⟩ => ⟨S4x2048, .f32⟩
  | .hbm, ⟨61, _⟩ => ⟨S4x2048, .f32⟩
  | .hbm, ⟨62, _⟩ => ⟨S4x2048, .f32⟩
  | .hbm, ⟨63, _⟩ => ⟨S4x2048, .f32⟩
  | .hbm, ⟨64, _⟩ => ⟨S1, .f32⟩
  | .hbm, ⟨65, _⟩ => ⟨S_, .f32⟩
  | .hbm, ⟨66, _⟩ => ⟨S4x2048, .f32⟩
  | .hbm, ⟨67, _⟩ => ⟨S4x2048, .f32⟩
  | .hbm, ⟨68, _⟩ => ⟨S4x2048, .f32⟩
  | .hbm, ⟨69, _⟩ => ⟨S4x2048, .f32⟩
  | .hbm, ⟨70, _⟩ => ⟨S1, .f32⟩
  | .hbm, ⟨71, _⟩ => ⟨S_, .f32⟩
  | .hbm, ⟨72, _⟩ => ⟨S4x2048, .f32⟩
  | .hbm, ⟨73, _⟩ => ⟨S4x2048, .f32⟩
  | .hbm, ⟨74, _⟩ => ⟨S4x2048, .f32⟩
  | .hbm, ⟨75, _⟩ => ⟨S4x2048x1, .f32⟩
  | .hbm, ⟨76, _⟩ => ⟨S4x1x2048, .f32⟩
  | .hbm, ⟨77, _⟩ => ⟨S4x1x2048, .f32⟩
  | .hbm, ⟨78, _⟩ => ⟨S4x1x2048, .f32⟩
  | .hbm, ⟨79, _⟩ => ⟨S4x32x768, .f32⟩
  | .hbm, ⟨80, _⟩ => ⟨S4x32x768, .f32⟩
  | .hbm, ⟨81, _⟩ => ⟨S4x32x1, .f32⟩
  | .hbm, ⟨82, _⟩ => ⟨S4x32x768, .f32⟩
  | .hbm, ⟨83, _⟩ => ⟨S4x32x768, .f32⟩
  | .hbm, ⟨84, _⟩ => ⟨S4x32x768, .f32⟩
  | .hbm, ⟨85, _⟩ => ⟨S4x32x768, .f32⟩
  | .hbm, ⟨86, _⟩ => ⟨S4x1x32, .f32⟩
  | .hbm, ⟨87, _⟩ => ⟨S4x2048x768, .f32⟩
  | .hbm, ⟨88, _⟩ => ⟨S4x2048x768, .f32⟩
  | .hbm, ⟨89, _⟩ => ⟨S4x2048x768x1, .f32⟩
  | .hbm, ⟨90, _⟩ => ⟨S4x2048x768x1, .f32⟩
  | .hbm, ⟨91, _⟩ => ⟨S4x2048x768x2, .f32⟩
  | .hbm, ⟨92, _⟩ => ⟨S4x32x768x1, .f32⟩
  | .hbm, ⟨93, _⟩ => ⟨S4x32x768x1, .f32⟩
  | .hbm, ⟨94, _⟩ => ⟨S4x32x768x2, .f32⟩
  | .hbm, ⟨95, _⟩ => ⟨S4x32x768x1, .f32⟩
  | .hbm, ⟨96, _⟩ => ⟨S4x32x768x1, .f32⟩
  | .hbm, ⟨97, _⟩ => ⟨S4x32x768x2, .f32⟩
  | .hbm, ⟨98, _⟩ => ⟨S4x32, .f32⟩
  | .hbm, ⟨99, _⟩ => ⟨S4x2048, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S768x1, .f32⟩
  | .local _ .vmem, ⟨5, _⟩ => ⟨S768x1, .f32⟩
  | .local _ .vmem, ⟨6, _⟩ => ⟨S1x512x1, .f32⟩
  | .local _ .vmem, ⟨7, _⟩ => ⟨S1x512x1, .f32⟩
  | .local _ .vmem, ⟨8, _⟩ => ⟨S1x512x1, .f32⟩
  | .local _ .vmem, ⟨9, _⟩ => ⟨S1x512x1, .f32⟩
  | .local _ .vmem, ⟨10, _⟩ => ⟨S1x512x1, .f32⟩
  | .local _ .vmem, ⟨11, _⟩ => ⟨S1x512x1, .f32⟩
  | .local _ .vmem, ⟨12, _⟩ => ⟨S1x2048x1, .f32⟩
  | .local _ .vmem, ⟨13, _⟩ => ⟨S1x2048x1, .f32⟩
  | .local _ .vmem, ⟨14, _⟩ => ⟨S1x2048x1, .f32⟩
  | .local _ .vmem, ⟨15, _⟩ => ⟨S1x2048x1, .f32⟩
  | .local _ .vmem, ⟨16, _⟩ => ⟨S1x2048x1, .f32⟩
  | .local _ .vmem, ⟨17, _⟩ => ⟨S1x2048x1, .f32⟩
  | .local _ .vmem, ⟨18, _⟩ => ⟨S1x1, .f32⟩
  | .local _ .vmem, ⟨19, _⟩ => ⟨S1x1, .f32⟩
  | .local _ .vmem, ⟨20, _⟩ => ⟨S1x1x2048, .f32⟩
  | .local _ .vmem, ⟨21, _⟩ => ⟨S1x1x2048, .f32⟩
  | .local _ .vmem, ⟨22, _⟩ => ⟨S1x1x2048, .f32⟩
  | .local _ .vmem, ⟨23, _⟩ => ⟨S1x1x2048, .f32⟩
  | .local _ .vmem, ⟨24, _⟩ => ⟨S1x1x2048, .f32⟩
  | .local _ .vmem, ⟨25, _⟩ => ⟨S1x1x2048, .f32⟩
  | .local _ .vmem, ⟨26, _⟩ => ⟨S1x512x768, .f32⟩
  | .local _ .vmem, ⟨27, _⟩ => ⟨S1x512x768, .f32⟩
  | .local _ .vmem, ⟨28, _⟩ => ⟨S1x512x768, .f32⟩
  | .local _ .vmem, ⟨29, _⟩ => ⟨S1x512x768, .f32⟩
  | .local _ .vmem, ⟨30, _⟩ => ⟨S1x1x512, .f32⟩
  | .local _ .vmem, ⟨31, _⟩ => ⟨S1x1x512, .f32⟩
  | .local _ .vmem, ⟨32, _⟩ => ⟨S1x1x512, .f32⟩
  | .local _ .vmem, ⟨33, _⟩ => ⟨S1x1x512, .f32⟩
  | .local _ .vmem, ⟨34, _⟩ => ⟨S1x32x768, .f32⟩
  | .local _ .vmem, ⟨35, _⟩ => ⟨S1x32x768, .f32⟩
  | .local _ .vmem, ⟨36, _⟩ => ⟨S1x32x768, .f32⟩
  | .local _ .vmem, ⟨37, _⟩ => ⟨S1x32x768, .f32⟩
  | .local _ .vmem, ⟨38, _⟩ => ⟨S1x32x1, .f32⟩
  | .local _ .vmem, ⟨39, _⟩ => ⟨S1x32x1, .f32⟩
  | .local _ .vmem, ⟨40, _⟩ => ⟨S33x768, .f32⟩
  | .local _ .vmem, ⟨41, _⟩ => ⟨S33x768, .f32⟩
  | .local _ .vmem, ⟨42, _⟩ => ⟨S33x2, .f32⟩
  | .local _ .vmem, ⟨43, _⟩ => ⟨S1x32x768, .f32⟩
  | .local _ .vmem, ⟨44, _⟩ => ⟨S1x32x768, .f32⟩
  | .local _ .vmem, ⟨45, _⟩ => ⟨S1x32x768, .f32⟩
  | .local _ .vmem, ⟨46, _⟩ => ⟨S1x32x768, .f32⟩
  | .local _ .vmem, ⟨47, _⟩ => ⟨S1x32x1, .f32⟩
  | .local _ .vmem, ⟨48, _⟩ => ⟨S1x32x1, .f32⟩
  | .local _ .vmem, ⟨49, _⟩ => ⟨S1x32x768, .f32⟩
  | .local _ .vmem, ⟨50, _⟩ => ⟨S1x32x768, .f32⟩
  | .local _ .vmem, ⟨51, _⟩ => ⟨S1x32x768, .f32⟩
  | .local _ .vmem, ⟨52, _⟩ => ⟨S1x32x768, .f32⟩
  | .local _ .vmem, ⟨53, _⟩ => ⟨S1x32x768, .f32⟩
  | .local _ .vmem, ⟨54, _⟩ => ⟨S1x32x768, .f32⟩
  | .local _ .vmem, ⟨55, _⟩ => ⟨S1x32x768, .f32⟩
  | .local _ .vmem, ⟨56, _⟩ => ⟨S1x32x768, .f32⟩
  | .local _ .vmem, ⟨57, _⟩ => ⟨S1x1x32, .f32⟩
  | .local _ .vmem, ⟨58, _⟩ => ⟨S1x1x32, .f32⟩
  | .local _ .vmem, ⟨59, _⟩ => ⟨S768x768, .f32⟩
  | .local _ .vmem, ⟨60, _⟩ => ⟨S768x768, .f32⟩
  | .local _ .vmem, ⟨61, _⟩ => ⟨S768x768, .f32⟩
  | .local _ .vmem, ⟨62, _⟩ => ⟨S768x768, .f32⟩
  | .local _ .vmem, ⟨63, _⟩ => ⟨S1x32x768, .f32⟩
  | .local _ .vmem, ⟨64, _⟩ => ⟨S1x32x768, .f32⟩
  | .local _ .vmem, ⟨65, _⟩ => ⟨S1x32x768, .f32⟩
  | .local _ .vmem, ⟨66, _⟩ => ⟨S1x32x768, .f32⟩
  | .local _ .vmem, ⟨67, _⟩ => ⟨S1x32x768, .f32⟩
  | .local _ .vmem, ⟨68, _⟩ => ⟨S1x32x768, .f32⟩
  | .local _ .vmem, ⟨69, _⟩ => ⟨S1x32x768, .f32⟩
  | .local _ .vmem, ⟨70, _⟩ => ⟨S1x32x768, .f32⟩
  | .local _ .vmem, ⟨71, _⟩ => ⟨S1x1x32, .f32⟩
  | .local _ .vmem, ⟨72, _⟩ => ⟨S1x1x32, .f32⟩
  | .local _ .vmem, ⟨73, _⟩ => ⟨S1x512x768, .f32⟩
  | .local _ .vmem, ⟨74, _⟩ => ⟨S1x512x768, .f32⟩
  | .local _ .vmem, ⟨75, _⟩ => ⟨S1x512x768, .f32⟩
  | .local _ .vmem, ⟨76, _⟩ => ⟨S1x512x768, .f32⟩
  | .local _ .vmem, ⟨77, _⟩ => ⟨S1x512x1, .f32⟩
  | .local _ .vmem, ⟨78, _⟩ => ⟨S1x512x1, .f32⟩
  | .local _ .vmem, ⟨79, _⟩ => ⟨S1x768, .f32⟩
  | .local _ .vmem, ⟨80, _⟩ => ⟨S768x768, .f32⟩
  | .local _ .vmem, ⟨81, _⟩ => ⟨S768x768, .f32⟩
  | .local _ .vmem, ⟨82, _⟩ => ⟨S1x32x768, .f32⟩
  | .local _ .vmem, ⟨83, _⟩ => ⟨S1x32x768, .f32⟩
  | .local _ .vmem, ⟨84, _⟩ => ⟨S1x32x768, .f32⟩
  | .local _ .vmem, ⟨85, _⟩ => ⟨S1x32x768, .f32⟩
  | .local _ .vmem, ⟨86, _⟩ => ⟨S1x32x768, .f32⟩
  | .local _ .vmem, ⟨87, _⟩ => ⟨S1x32x768, .f32⟩
  | .local _ .vmem, ⟨88, _⟩ => ⟨S1x32x768, .f32⟩
  | .local _ .vmem, ⟨89, _⟩ => ⟨S1x32x768, .f32⟩
  | .local _ .vmem, ⟨90, _⟩ => ⟨S1x1x32, .f32⟩
  | .local _ .vmem, ⟨91, _⟩ => ⟨S1x1x32, .f32⟩
  | .local _ .vmem, ⟨92, _⟩ => ⟨S1x512x768, .f32⟩
  | .local _ .vmem, ⟨93, _⟩ => ⟨S1x512x768, .f32⟩
  | .local _ .vmem, ⟨94, _⟩ => ⟨S1x512x768, .f32⟩
  | .local _ .vmem, ⟨95, _⟩ => ⟨S1x512x768, .f32⟩
  | _, _ => ⟨S4x2048x768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  ofTc nBuf bufTy 0 93 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_v15 : Ref sig .tc := ⟨.hbm, 30, rfl⟩
abbrev main_call0_v16_0 : Ref sig .tc := ⟨.hbm, 31, rfl⟩
abbrev main_call0_v16_1 : Ref sig .tc := ⟨.hbm, 32, rfl⟩
abbrev main_call0_v16_2 : Ref sig .tc := ⟨.hbm, 33, rfl⟩
abbrev main_call0_cst : Ref sig .tc := ⟨.hbm, 34, rfl⟩
abbrev main_call0_v17 : Ref sig .tc := ⟨.hbm, 35, rfl⟩
abbrev main_call0_cst_0 : Ref sig .tc := ⟨.hbm, 36, rfl⟩
abbrev main_call0_v18 : Ref sig .tc := ⟨.hbm, 37, rfl⟩
abbrev main_call0_v19 : Ref sig .tc := ⟨.hbm, 38, rfl⟩
abbrev main_call0_v20 : Ref sig .tc := ⟨.hbm, 39, rfl⟩
abbrev main_call0_c : Ref sig .tc := ⟨.hbm, 40, rfl⟩
abbrev main_call0_call0_v0 : Ref sig .tc := ⟨.hbm, 41, rfl⟩
abbrev main_call0_v21 : Ref sig .tc := ⟨.hbm, 42, rfl⟩
abbrev main_call0_v22 : Ref sig .tc := ⟨.hbm, 43, rfl⟩
abbrev main_call0_v23 : Ref sig .tc := ⟨.hbm, 44, rfl⟩
abbrev main_call0_v24 : Ref sig .tc := ⟨.hbm, 45, rfl⟩
abbrev main_call0_v25 : Ref sig .tc := ⟨.hbm, 46, rfl⟩
abbrev main_call0_v26 : Ref sig .tc := ⟨.hbm, 47, rfl⟩
abbrev main_call0_cst_1 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_v54_0 : Ref sig .tc := ⟨.hbm, 76, rfl⟩
abbrev main_call0_v54_1 : Ref sig .tc := ⟨.hbm, 77, rfl⟩
abbrev main_call0_v54_2 : Ref sig .tc := ⟨.hbm, 78, rfl⟩
abbrev main_call0_v55_0 : Ref sig .tc := ⟨.hbm, 79, rfl⟩
abbrev main_call0_v55_1 : Ref sig .tc := ⟨.hbm, 80, rfl⟩
abbrev main_call0_v55_2 : Ref sig .tc := ⟨.hbm, 81, rfl⟩
abbrev main_call0_v56_0 : Ref sig .tc := ⟨.hbm, 82, rfl⟩
abbrev main_call0_v56_1 : Ref sig .tc := ⟨.hbm, 83, rfl⟩
abbrev main_call0_v56_2 : Ref sig .tc := ⟨.hbm, 84, rfl⟩
abbrev main_call0_v56_3 : Ref sig .tc := ⟨.hbm, 85, rfl⟩
abbrev main_call0_v56_4 : Ref sig .tc := ⟨.hbm, 86, rfl⟩
abbrev main_call0_v57_0 : Ref sig .tc := ⟨.hbm, 87, rfl⟩
abbrev main_call0_v57_1 : Ref sig .tc := ⟨.hbm, 88, rfl⟩
abbrev main_call0_v58 : Ref sig .tc := ⟨.hbm, 89, rfl⟩
abbrev main_call0_v59 : Ref sig .tc := ⟨.hbm, 90, rfl⟩
abbrev main_v0_0 : Ref sig .tc := ⟨.hbm, 91, rfl⟩
abbrev main_call0_v61 : Ref sig .tc := ⟨.hbm, 92, rfl⟩
abbrev main_call0_v62 : Ref sig .tc := ⟨.hbm, 93, rfl⟩
abbrev main_v0_1 : Ref sig .tc := ⟨.hbm, 94, rfl⟩
abbrev main_call0_v64 : Ref sig .tc := ⟨.hbm, 95, rfl⟩
abbrev main_call0_v65 : Ref sig .tc := ⟨.hbm, 96, rfl⟩
abbrev main_v0_2 : Ref sig .tc := ⟨.hbm, 97, rfl⟩
abbrev main_v0_3 : Ref sig .tc := ⟨.hbm, 98, rfl⟩
abbrev main_v0_4 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg3_1 : Ref sig .tc := ⟨.vmem, 33, rfl⟩
abbrev cc2_stg4_0 : Ref sig .tc := ⟨.vmem, 34, rfl⟩
abbrev cc2_stg4_1 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc2_scratch0 : Ref sig .tc := ⟨.vmem, 40, rfl⟩
abbrev cc2_scratch1 : Ref sig .tc := ⟨.vmem, 41, rfl⟩
abbrev cc2_scratch2 : Ref sig .tc := ⟨.vmem, 42, rfl⟩
abbrev cc3_stg0_0 : Ref sig .tc := ⟨.vmem, 43, rfl⟩
abbrev cc3_stg0_1 : Ref sig .tc := ⟨.vmem, 44, rfl⟩
abbrev cc3_stg1_0 : Ref sig .tc := ⟨.vmem, 45, rfl⟩
abbrev cc3_stg1_1 : Ref sig .tc := ⟨.vmem, 46, rfl⟩
abbrev cc3_stg2_0 : Ref sig .tc := ⟨.vmem, 47, rfl⟩
abbrev cc3_stg2_1 : Ref sig .tc := ⟨.vmem, 48, rfl⟩
abbrev cc3_stg3_0 : Ref sig .tc := ⟨.vmem, 49, rfl⟩
abbrev cc3_stg3_1 : Ref sig .tc := ⟨.vmem, 50, rfl⟩
abbrev cc3_stg4_0 : Ref sig .tc := ⟨.vmem, 51, rfl⟩
abbrev cc3_stg4_1 : Ref sig .tc := ⟨.vmem, 52, rfl⟩
abbrev cc3_stg5_0 : Ref sig .tc := ⟨.vmem, 53, rfl⟩
abbrev cc3_stg5_1 : Ref sig .tc := ⟨.vmem, 54, rfl⟩
abbrev cc3_stg6_0 : Ref sig .tc := ⟨.vmem, 55, rfl⟩
abbrev cc3_stg6_1 : Ref sig .tc := ⟨.vmem, 56, rfl⟩
abbrev cc3_stg7_0 : Ref sig .tc := ⟨.vmem, 57, rfl⟩
abbrev cc3_stg7_1 : Ref sig .tc := ⟨.vmem, 58, rfl⟩
abbrev cc3_stg8_0 : Ref sig .tc := ⟨.vmem, 59, rfl⟩
abbrev cc3_stg9_0 : Ref sig .tc := ⟨.vmem, 60, rfl⟩
abbrev cc3_stg10_0 : Ref sig .tc := ⟨.vmem, 61, rfl⟩
abbrev cc3_stg11_0 : Ref sig .tc := ⟨.vmem, 62, rfl⟩
abbrev cc3_stg12_0 : Ref sig .tc := ⟨.vmem, 63, rfl⟩
abbrev cc3_stg12_1 : Ref sig .tc := ⟨.vmem, 64, rfl⟩
abbrev cc3_stg13_0 : Ref sig .tc := ⟨.vmem, 65, rfl⟩
abbrev cc3_stg13_1 : Ref sig .tc := ⟨.vmem, 66, rfl⟩
abbrev cc3_stg14_0 : Ref sig .tc := ⟨.vmem, 67, rfl⟩
abbrev cc3_stg14_1 : Ref sig .tc := ⟨.vmem, 68, rfl⟩
abbrev cc3_stg15_0 : Ref sig .tc := ⟨.vmem, 69, rfl⟩
abbrev cc3_stg15_1 : Ref sig .tc := ⟨.vmem, 70, rfl⟩
abbrev cc3_stg16_0 : Ref sig .tc := ⟨.vmem, 71, rfl⟩
abbrev cc3_stg16_1 : Ref sig .tc := ⟨.vmem, 72, rfl⟩
abbrev cc4_stg0_0 : Ref sig .tc := ⟨.vmem, 73, rfl⟩
abbrev cc4_stg0_1 : Ref sig .tc := ⟨.vmem, 74, rfl⟩
abbrev cc4_stg1_0 : Ref sig .tc := ⟨.vmem, 75, rfl⟩
abbrev cc4_stg1_1 : Ref sig .tc := ⟨.vmem, 76, rfl⟩
abbrev cc4_stg2_0 : Ref sig .tc := ⟨.vmem, 77, rfl⟩
abbrev cc4_stg2_1 : Ref sig .tc := ⟨.vmem, 78, rfl⟩
abbrev cc4_stg3_0 : Ref sig .tc := ⟨.vmem, 79, rfl⟩
abbrev cc4_stg4_0 : Ref sig .tc := ⟨.vmem, 80, rfl⟩
abbrev cc4_stg5_0 : Ref sig .tc := ⟨.vmem, 81, rfl⟩
abbrev cc4_stg6_0 : Ref sig .tc := ⟨.vmem, 82, rfl⟩
abbrev cc4_stg6_1 : Ref sig .tc := ⟨.vmem, 83, rfl⟩
abbrev cc4_stg7_0 : Ref sig .tc := ⟨.vmem, 84, rfl⟩
abbrev cc4_stg7_1 : Ref sig .tc := ⟨.vmem, 85, rfl⟩
abbrev cc4_stg8_0 : Ref sig .tc := ⟨.vmem, 86, rfl⟩
abbrev cc4_stg8_1 : Ref sig .tc := ⟨.vmem, 87, rfl⟩
abbrev cc4_stg9_0 : Ref sig .tc := ⟨.vmem, 88, rfl⟩
abbrev cc4_stg9_1 : Ref sig .tc := ⟨.vmem, 89, rfl⟩
abbrev cc4_stg10_0 : Ref sig .tc := ⟨.vmem, 90, rfl⟩
abbrev cc4_stg10_1 : Ref sig .tc := ⟨.vmem, 91, rfl⟩
abbrev cc4_stg11_0 : Ref sig .tc := ⟨.vmem, 92, rfl⟩
abbrev cc4_stg11_1 : Ref sig .tc := ⟨.vmem, 93, rfl⟩
abbrev cc4_stg12_0 : Ref sig .tc := ⟨.vmem, 94, rfl⟩
abbrev cc4_stg12_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem3_1 : DmaSem sig := 33
abbrev cc2_sem4_0 : DmaSem sig := 34
abbrev cc2_sem4_1 : DmaSem sig := 35
abbrev cc2_sem5_0 : DmaSem sig := 36
abbrev cc2_sem5_1 : DmaSem sig := 37
abbrev cc2_sem6_0 : DmaSem sig := 38
abbrev cc2_sem6_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem2_1 : DmaSem sig := 45
abbrev cc3_sem3_0 : DmaSem sig := 46
abbrev cc3_sem3_1 : DmaSem sig := 47
abbrev cc3_sem4_0 : DmaSem sig := 48
abbrev cc3_sem4_1 : DmaSem sig := 49
abbrev cc3_sem5_0 : DmaSem sig := 50
abbrev cc3_sem5_1 : DmaSem sig := 51
abbrev cc3_sem6_0 : DmaSem sig := 52
abbrev cc3_sem6_1 : DmaSem sig := 53
abbrev cc3_sem7_0 : DmaSem sig := 54
abbrev cc3_sem7_1 : DmaSem sig := 55
abbrev cc3_sem8_0 : DmaSem sig := 56
abbrev cc3_sem9_0 : DmaSem sig := 57
abbrev cc3_sem10_0 : DmaSem sig := 58
abbrev cc3_sem11_0 : DmaSem sig := 59
abbrev cc3_sem12_0 : DmaSem sig := 60
abbrev cc3_sem12_1 : DmaSem sig := 61
abbrev cc3_sem13_0 : DmaSem sig := 62
abbrev cc3_sem13_1 : DmaSem sig := 63
abbrev cc3_sem14_0 : DmaSem sig := 64
abbrev cc3_sem14_1 : DmaSem sig := 65
abbrev cc3_sem15_0 : DmaSem sig := 66
abbrev cc3_sem15_1 : DmaSem sig := 67
abbrev cc3_sem16_0 : DmaSem sig := 68
abbrev cc3_sem16_1 : DmaSem sig := 69
abbrev cc4_sem0_0 : DmaSem sig := 70
abbrev cc4_sem0_1 : DmaSem sig := 71
abbrev cc4_sem1_0 : DmaSem sig := 72
abbrev cc4_sem1_1 : DmaSem sig := 73
abbrev cc4_sem2_0 : DmaSem sig := 74
abbrev cc4_sem2_1 : DmaSem sig := 75
abbrev cc4_sem3_0 : DmaSem sig := 76
abbrev cc4_sem4_0 : DmaSem sig := 77
abbrev cc4_sem5_0 : DmaSem sig := 78
abbrev cc4_sem6_0 : DmaSem sig := 79
abbrev cc4_sem6_1 : DmaSem sig := 80
abbrev cc4_sem7_0 : DmaSem sig := 81
abbrev cc4_sem7_1 : DmaSem sig := 82
abbrev cc4_sem8_0 : DmaSem sig := 83
abbrev cc4_sem8_1 : DmaSem sig := 84
abbrev cc4_sem9_0 : DmaSem sig := 85
abbrev cc4_sem9_1 : DmaSem sig := 86
abbrev cc4_sem10_0 : DmaSem sig := 87
abbrev cc4_sem10_1 : DmaSem sig := 88
abbrev cc4_sem11_0 : DmaSem sig := 89
abbrev cc4_sem11_1 : DmaSem sig := 90
abbrev cc4_sem12_0 : DmaSem sig := 91
abbrev cc4_sem12_1 : DmaSem sig := 92

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x1x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32_28 : BitVec 32 := 0#32
  let v50 : BitVec 1 := Scalar.cmpi .ne v49 c0_i32_28
  v50

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x768 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x768 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x32x768 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1x32x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x32x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_13 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_14 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_15 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_16 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x32x768 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x32x768 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x32x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x32x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x32x768 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x32x768 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x32x768 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x32 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S768x768 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S768x768 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S768x768 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S768x768 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S1x32x768 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S1x32x768 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S1x32x768 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S1x32x768 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

abbrev stage3_16 : Fin 2 → Memref sig .tc .vmem S1x1x32 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true]

abbrev grid4 : Pipeline.Grid := ⟨2, ![4, 4], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_10 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_11 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_12 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x768 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x768 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S1x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S768x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S768x768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x32x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, false]

abbrev stage4_7 : Fin 2 → Memref sig .tc .vmem S1x32x768 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, false]

abbrev stage4_8 : Fin 2 → Memref sig .tc .vmem S1x32x768 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, false]

abbrev stage4_9 : Fin 2 → Memref sig .tc .vmem S1x32x768 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, false]

abbrev stage4_10 : Fin 2 → Memref sig .tc .vmem S1x1x32 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, false]

abbrev stage4_11 : Fin 2 → Memref sig .tc .vmem S1x512x768 .f32 := fun | 0 => Memref.whole cc4_stg11_0 | 1 => Memref.whole cc4_stg11_1 | ⟨_ + 2, h⟩ => absurd h (Nat.not_lt.2 (Nat.le_add_left _ _))
abbrev sem4_11 : Fin 2 → DmaSem sig := fun | 0 => cc4_sem11_0 | 1 => cc4_sem11_1 | ⟨_ + 2, h⟩ => absurd h (Nat.not_lt.2 (Nat.le_add_left _ _))
abbrev reads4_11 : Fin grid4.rank → Bool := ![true, true]

abbrev stage4_12 : Fin 2 → Memref sig .tc .vmem S1x512x768 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true, true]
-- ==== KernelIdeal.lean ====
variable {F : FTy → Type} [FloatOps F] [Named F]
def κ : String → Option EReal := fun
  | "d" => some ((768⁻¹ : ℝ) : EReal)
  | "mask" => some ⊥
  | "s" => some (((Real.sqrt 768)⁻¹ : ℝ) : EReal)
  | _ => none
-- ==== ReferenceIdeal.lean ====
abbrev S4x2048x768x2 : Shape := ⟨4, ![4, 2048, 768, 2]⟩
abbrev S4x32x768x2 : Shape := ⟨4, ![4, 32, 768, 2]⟩
abbrev S4x32 : Shape := ⟨2, ![4, 32]⟩
abbrev S768x1 : Shape := ⟨2, ![768, 1]⟩
abbrev S_ : Shape := ⟨0, ![]⟩
abbrev S768x768 : Shape := ⟨2, ![768, 768]⟩
abbrev S768 : Shape := ⟨1, ![768]⟩
abbrev S4x2048x768x1 : Shape := ⟨4, ![4, 2048, 768, 1]⟩
abbrev S4x2048x768 : Shape := ⟨3, ![4, 2048, 768]⟩
abbrev S4x2048x1 : Shape := ⟨3, ![4, 2048, 1]⟩
abbrev S4x2048x1x1 : Shape := ⟨4, ![4, 2048, 1, 1]⟩
abbrev S4x2048x1x2 : Shape := ⟨4, ![4, 2048, 1, 2]⟩
abbrev S4x2048 : Shape := ⟨2, ![4, 2048]⟩
abbrev S5 : Shape := ⟨1, ![5]⟩
abbrev S4x2052 : Shape := ⟨2, ![4, 2052]⟩
abbrev S1 : Shape := ⟨1, ![1]⟩
abbrev S1x2048x768x2 : Shape := ⟨4, ![1, 2048, 768, 2]⟩
abbrev S2048x768x2 : Shape := ⟨3, ![2048, 768, 2]⟩
abbrev S1x2048 : Shape := ⟨2, ![1, 2048]⟩
abbrev S2048 : Shape := ⟨1, ![2048]⟩
abbrev S2047 : Shape := ⟨1, ![2047]⟩
abbrev S2048x1x1 : Shape := ⟨3, ![2048, 1, 1]⟩
abbrev S33x768x2 : Shape := ⟨3, ![33, 768, 2]⟩
abbrev S2048x1 : Shape := ⟨2, ![2048, 1]⟩
abbrev S32x768x2 : Shape := ⟨3, ![32, 768, 2]⟩
abbrev S33 : Shape := ⟨1, ![33]⟩
abbrev S32 : Shape := ⟨1, ![32]⟩
abbrev S32x1x1 : Shape := ⟨3, ![32, 1, 1]⟩
abbrev S1x32x768x2 : Shape := ⟨4, ![1, 32, 768, 2]⟩
abbrev S1x32 : Shape := ⟨2, ![1, 32]⟩
abbrev S4x32x768x1 : Shape := ⟨4, ![4, 32, 768, 1]⟩
abbrev S4x32x768 : Shape := ⟨3, ![4, 32, 768]⟩
abbrev S4x32x1x1 : Shape := ⟨4, ![4, 32, 1, 1]⟩
abbrev S1x1x768x1 : Shape := ⟨4, ![1, 1, 768, 1]⟩
abbrev S4x2048x32 : Shape := ⟨3, ![4, 2048, 32]⟩
abbrev S4x1x32 : Shape := ⟨3, ![4, 1, 32]⟩
abbrev S4x2048x8 : Shape := ⟨3, ![4, 2048, 8]⟩
abbrev S4x2048x8x1 : Shape := ⟨4, ![4, 2048, 8, 1]⟩
abbrev S1x1x1x32 : Shape := ⟨4, ![1, 1, 1, 32]⟩
abbrev S4x2048x8x32 : Shape := ⟨4, ![4, 2048, 8, 32]⟩

abbrev nBuf : Space → Nat
  | .hbm => 487
  | .vmem => 0
  | .smem => 0
  | _ => 0

abbrev hbmTy0_0 (i : Nat) : BufTy := match i % 128 with
  | 0 => ⟨S4x2048x768x2, .f32⟩
  | 1 => ⟨S4x32x768x2, .f32⟩
  | 2 => ⟨S4x32x768x2, .f32⟩
  | 3 => ⟨S4x32, .f32⟩
  | 4 => ⟨S768x1, .f32⟩
  | 5 => ⟨S768x1, .f32⟩
  | 6 => ⟨S_, .f32⟩
  | 7 => ⟨S_, .f32⟩
  | 8 => ⟨S768x768, .f32⟩
  | 9 => ⟨S768x768, .f32⟩
  | 10 => ⟨S768x768, .f32⟩
  | 11 => ⟨S768x768, .f32⟩
  | 12 => ⟨S768x768, .f32⟩
  | 13 => ⟨S768x768, .f32⟩
  | 14 => ⟨S768, .f32⟩
  | 15 => ⟨S4x2048x768x1, .f32⟩
  | 16 => ⟨S4x2048x768, .f32⟩
  | 17 => ⟨S4x2048x768x1, .f32⟩
  | 18 => ⟨S4x2048x768, .f32⟩
  | 19 => ⟨S4x2048x1, .f32⟩
  | 20 => ⟨S4x2048x1, .f32⟩
  | 21 => ⟨S4x2048x1, .f32⟩
  | 22 => ⟨S4x2048x1, .f32⟩
  | 23 => ⟨S4x2048x1, .f32⟩
  | 24 => ⟨S4x2048x1, .f32⟩
  | 25 => ⟨S4x2048x1x1, .f32⟩
  | 26 => ⟨S4x2048x1x1, .f32⟩
  | 27 => ⟨S4x2048x1x2, .f32⟩
  | 28 => ⟨S4x2048x1x1, .f32⟩
  | 29 => ⟨S4x2048x1, .f32⟩
  | 30 => ⟨S4x2048x1, .f32⟩
  | 31 => ⟨S4x2048x1x1, .f32⟩
  | 32 => ⟨S4x2048x1, .f32⟩
  | 33 => ⟨S4x2048x1, .f32⟩
  | 34 => ⟨S4x2048x1, .f32⟩
  | 35 => ⟨S4x2048x1, .f32⟩
  | 36 => ⟨S4x2048, .f32⟩
  | 37 => ⟨S4x2048x768x1, .f32⟩
  | 38 => ⟨S4x2048x768, .f32⟩
  | 39 => ⟨S4x2048x768, .f32⟩
  | 40 => ⟨S4x2048x768x1, .f32⟩
  | 41 => ⟨S4x2048x768, .f32⟩
  | 42 => ⟨S4x2048x768, .f32⟩
  | 43 => ⟨S4x2048x768, .f32⟩
  | 44 => ⟨S4x2048x768, .f32⟩
  | 45 => ⟨S_, .f32⟩
  | 46 => ⟨S4x2048, .f32⟩
  | 47 => ⟨S_, .f32⟩
  | 48 => ⟨S4x2048, .f32⟩
  | 49 => ⟨S4x2048, .f32⟩
  | 50 => ⟨S_, .f32⟩
  | 51 => ⟨S5, .f32⟩
  | 52 => ⟨S_, .f32⟩
  | 53 => ⟨S5, .f32⟩
  | 54 => ⟨S5, .f32⟩
  | 55 => ⟨S_, .i32⟩
  | 56 => ⟨S_, .f32⟩
  | 57 => ⟨S4x2052, .f32⟩
  | 58 => ⟨S4x2048, .f32⟩
  | 59 => ⟨S1, .f32⟩
  | 60 => ⟨S_, .f32⟩
  | 61 => ⟨S4x2048, .f32⟩
  | 62 => ⟨S4x2048, .f32⟩
  | 63 => ⟨S_, .f32⟩
  | 64 => ⟨S4x2048, .f32⟩
  | 65 => ⟨S4x2048, .f32⟩
  | 66 => ⟨S4x2048, .f32⟩
  | 67 => ⟨S1, .f32⟩
  | 68 => ⟨S_, .f32⟩
  | 69 => ⟨S4x2048, .f32⟩
  | 70 => ⟨S4x2048, .f32⟩
  | 71 => ⟨S4x2048, .f32⟩
  | 72 => ⟨S4x2048, .f32⟩
  | 73 => ⟨S1, .f32⟩
  | 74 => ⟨S_, .f32⟩
  | 75 => ⟨S4x2048, .f32⟩
  | 76 => ⟨S4x2048, .f32⟩
  | 77 => ⟨S4x2048, .f32⟩
  | 78 => ⟨S4x2048, .f32⟩
  | 79 => ⟨S1, .f32⟩
  | 80 => ⟨S_, .f32⟩
  | 81 => ⟨S4x2048, .f32⟩
  | 82 => ⟨S4x2048, .f32⟩
  | 83 => ⟨S4x2048, .f32⟩
  | 84 => ⟨S4x2048, .f32⟩
  | 85 => ⟨S1, .f32⟩
  | 86 => ⟨S_, .f32⟩
  | 87 => ⟨S4x2048, .f32⟩
  | 88 => ⟨S4x2048, .f32⟩
  | 89 => ⟨S4x2048, .f32⟩
  | 90 => ⟨S4x2048, .f32⟩
  | 91 => ⟨S4x2048, .f32⟩
  | 92 => ⟨S4x2048, .f32⟩
  | 93 => ⟨S4x2048, .f32⟩
  | 94 => ⟨S4x2048, .f32⟩
  | 95 => ⟨S4x2048, .f32⟩
  | 96 => ⟨S4x2048, .f32⟩
  | 97 => ⟨S4x2048, .f32⟩
  | 98 => ⟨S_, .f32⟩
  | 99 => ⟨S4x2048, .f32⟩
  | 100 => ⟨S4x2048, .f32⟩
  | 101 => ⟨S_, .f32⟩
  | 102 => ⟨S4x2048, .f32⟩
  | 103 => ⟨S4x2048, .f32⟩
  | 104 => ⟨S1x2048x768x2, .f32⟩
  | 105 => ⟨S2048x768x2, .f32⟩
  | 106 => ⟨S1x2048, .f32⟩
  | 107 => ⟨S2048, .f32⟩
  | 108 => ⟨S_, .f32⟩
  | 109 => ⟨S2048, .f32⟩
  | 110 => ⟨S2048, .i1⟩
  | 111 => ⟨S_, .i1⟩
  | 112 => ⟨S1, .i1⟩
  | 113 => ⟨S2047, .i1⟩
  | 114 => ⟨S2048, .i1⟩
  | 115 => ⟨S2048, .i1⟩
  | 116 => ⟨S2048, .i1⟩
  | 117 => ⟨S2048, .i32⟩
  | 118 => ⟨S_, .i32⟩
  | 119 => ⟨S_, .i32⟩
  | 120 => ⟨S2048, .i32⟩
  | 121 => ⟨S_, .i32⟩
  | 122 => ⟨S2048, .i32⟩
  | 123 => ⟨S2048, .i32⟩
  | 124 => ⟨S_, .i32⟩
  | 125 => ⟨S2048, .i32⟩
  | 126 => ⟨S2048, .i32⟩
  | 127 => ⟨S_, .i32⟩
  | _ => ⟨S4x2048x768x2, .f32⟩

abbrev hbmTy0_1 (i : Nat) : BufTy := match i % 128 with
  | 0 => ⟨S_, .i32⟩
  | 1 => ⟨S2048, .i32⟩
  | 2 => ⟨S2048, .i32⟩
  | 3 => ⟨S_, .f32⟩
  | 4 => ⟨S_, .f32⟩
  | 5 => ⟨S2048, .f32⟩
  | 6 => ⟨S2048, .f32⟩
  | 7 => ⟨S2048x1x1, .f32⟩
  | 8 => ⟨S2048x768x2, .f32⟩
  | 9 => ⟨S2048x768x2, .f32⟩
  | 10 => ⟨S_, .f32⟩
  | 11 => ⟨S33x768x2, .f32⟩
  | 12 => ⟨S2048x1, .i32⟩
  | 13 => ⟨S33x768x2, .f32⟩
  | 14 => ⟨S32x768x2, .f32⟩
  | 15 => ⟨S_, .f32⟩
  | 16 => ⟨S33, .f32⟩
  | 17 => ⟨S2048x1, .i32⟩
  | 18 => ⟨S33, .f32⟩
  | 19 => ⟨S32, .f32⟩
  | 20 => ⟨S2048, .f32⟩
  | 21 => ⟨S_, .f32⟩
  | 22 => ⟨S33, .f32⟩
  | 23 => ⟨S2048x1, .i32⟩
  | 24 => ⟨S33, .f32⟩
  | 25 => ⟨S32, .f32⟩
  | 26 => ⟨S_, .f32⟩
  | 27 => ⟨S32, .f32⟩
  | 28 => ⟨S32, .f32⟩
  | 29 => ⟨S32x1x1, .f32⟩
  | 30 => ⟨S32x768x2, .f32⟩
  | 31 => ⟨S32x768x2, .f32⟩
  | 32 => ⟨S_, .f32⟩
  | 33 => ⟨S32, .f32⟩
  | 34 => ⟨S32, .i1⟩
  | 35 => ⟨S32, .f32⟩
  | 36 => ⟨S1x2048x768x2, .f32⟩
  | 37 => ⟨S2048x768x2, .f32⟩
  | 38 => ⟨S1x2048, .f32⟩
  | 39 => ⟨S2048, .f32⟩
  | 40 => ⟨S_, .f32⟩
  | 41 => ⟨S2048, .f32⟩
  | 42 => ⟨S2048, .i1⟩
  | 43 => ⟨S_, .i1⟩
  | 44 => ⟨S1, .i1⟩
  | 45 => ⟨S2047, .i1⟩
  | 46 => ⟨S2048, .i1⟩
  | 47 => ⟨S2048, .i1⟩
  | 48 => ⟨S2048, .i1⟩
  | 49 => ⟨S2048, .i32⟩
  | 50 => ⟨S_, .i32⟩
  | 51 => ⟨S_, .i32⟩
  | 52 => ⟨S2048, .i32⟩
  | 53 => ⟨S_, .i32⟩
  | 54 => ⟨S2048, .i32⟩
  | 55 => ⟨S2048, .i32⟩
  | 56 => ⟨S_, .i32⟩
  | 57 => ⟨S2048, .i32⟩
  | 58 => ⟨S2048, .i32⟩
  | 59 => ⟨S_, .i32⟩
  | 60 => ⟨S_, .i32⟩
  | 61 => ⟨S2048, .i32⟩
  | 62 => ⟨S2048, .i32⟩
  | 63 => ⟨S_, .f32⟩
  | 64 => ⟨S_, .f32⟩
  | 65 => ⟨S2048, .f32⟩
  | 66 => ⟨S2048, .f32⟩
  | 67 => ⟨S2048x1x1, .f32⟩
  | 68 => ⟨S2048x768x2, .f32⟩
  | 69 => ⟨S2048x768x2, .f32⟩
  | 70 => ⟨S_, .f32⟩
  | 71 => ⟨S33x768x2, .f32⟩
  | 72 => ⟨S2048x1, .i32⟩
  | 73 => ⟨S33x768x2, .f32⟩
  | 74 => ⟨S32x768x2, .f32⟩
  | 75 => ⟨S_, .f32⟩
  | 76 => ⟨S33, .f32⟩
  | 77 => ⟨S2048x1, .i32⟩
  | 78 => ⟨S33, .f32⟩
  | 79 => ⟨S32, .f32⟩
  | 80 => ⟨S2048, .f32⟩
  | 81 => ⟨S_, .f32⟩
  | 82 => ⟨S33, .f32⟩
  | 83 => ⟨S2048x1, .i32⟩
  | 84 => ⟨S33, .f32⟩
  | 85 => ⟨S32, .f32⟩
  | 86 => ⟨S_, .f32⟩
  | 87 => ⟨S32, .f32⟩
  | 88 => ⟨S32, .f32⟩
  | 89 => ⟨S32x1x1, .f32⟩
  | 90 => ⟨S32x768x2, .f32⟩
  | 91 => ⟨S32x768x2, .f32⟩
  | 92 => ⟨S_, .f32⟩
  | 93 => ⟨S32, .f32⟩
  | 94 => ⟨S32, .i1⟩
  | 95 => ⟨S32, .f32⟩
  | 96 => ⟨S1x2048x768x2, .f32⟩
  | 97 => ⟨S2048x768x2, .f32⟩
  | 98 => ⟨S1x2048, .f32⟩
  | 99 => ⟨S2048, .f32⟩
  | 100 => ⟨S_, .f32⟩
  | 101 => ⟨S2048, .f32⟩
  | 102 => ⟨S2048, .i1⟩
  | 103 => ⟨S_, .i1⟩
  | 104 => ⟨S1, .i1⟩
  | 105 => ⟨S2047, .i1⟩
  | 106 => ⟨S2048, .i1⟩
  | 107 => ⟨S2048, .i1⟩
  | 108 => ⟨S2048, .i1⟩
  | 109 => ⟨S2048, .i32⟩
  | 110 => ⟨S_, .i32⟩
  | 111 => ⟨S_, .i32⟩
  | 112 => ⟨S2048, .i32⟩
  | 113 => ⟨S_, .i32⟩
  | 114 => ⟨S2048, .i32⟩
  | 115 => ⟨S2048, .i32⟩
  | 116 => ⟨S_, .i32⟩
  | 117 => ⟨S2048, .i32⟩
  | 118 => ⟨S2048, .i32⟩
  | 119 => ⟨S_, .i32⟩
  | 120 => ⟨S_, .i32⟩
  | 121 => ⟨S2048, .i32⟩
  | 122 => ⟨S2048, .i32⟩
  | 123 => ⟨S_, .f32⟩
  | 124 => ⟨S_, .f32⟩
  | 125 => ⟨S2048, .f32⟩
  | 126 => ⟨S2048, .f32⟩
  | 127 => ⟨S2048x1x1, .f32⟩
  | _ => ⟨S4x2048x768x2, .f32⟩

abbrev hbmTy0_2 (i : Nat) : BufTy := match i % 128 with
  | 0 => ⟨S2048x768x2, .f32⟩
  | 1 => ⟨S2048x768x2, .f32⟩
  | 2 => ⟨S_, .f32⟩
  | 3 => ⟨S33x768x2, .f32⟩
  | 4 => ⟨S2048x1, .i32⟩
  | 5 => ⟨S33x768x2, .f32⟩
  | 6 => ⟨S32x768x2, .f32⟩
  | 7 => ⟨S_, .f32⟩
  | 8 => ⟨S33, .f32⟩
  | 9 => ⟨S2048x1, .i32⟩
  | 10 => ⟨S33, .f32⟩
  | 11 => ⟨S32, .f32⟩
  | 12 => ⟨S2048, .f32⟩
  | 13 => ⟨S_, .f32⟩
  | 14 => ⟨S33, .f32⟩
  | 15 => ⟨S2048x1, .i32⟩
  | 16 => ⟨S33, .f32⟩
  | 17 => ⟨S32, .f32⟩
  | 18 => ⟨S_, .f32⟩
  | 19 => ⟨S32, .f32⟩
  | 20 => ⟨S32, .f32⟩
  | 21 => ⟨S32x1x1, .f32⟩
  | 22 => ⟨S32x768x2, .f32⟩
  | 23 => ⟨S32x768x2, .f32⟩
  | 24 => ⟨S_, .f32⟩
  | 25 => ⟨S32, .f32⟩
  | 26 => ⟨S32, .i1⟩
  | 27 => ⟨S32, .f32⟩
  | 28 => ⟨S1x2048x768x2, .f32⟩
  | 29 => ⟨S2048x768x2, .f32⟩
  | 30 => ⟨S1x2048, .f32⟩
  | 31 => ⟨S2048, .f32⟩
  | 32 => ⟨S_, .f32⟩
  | 33 => ⟨S2048, .f32⟩
  | 34 => ⟨S2048, .i1⟩
  | 35 => ⟨S_, .i1⟩
  | 36 => ⟨S1, .i1⟩
  | 37 => ⟨S2047, .i1⟩
  | 38 => ⟨S2048, .i1⟩
  | 39 => ⟨S2048, .i1⟩
  | 40 => ⟨S2048, .i1⟩
  | 41 => ⟨S2048, .i32⟩
  | 42 => ⟨S_, .i32⟩
  | 43 => ⟨S_, .i32⟩
  | 44 => ⟨S2048, .i32⟩
  | 45 => ⟨S_, .i32⟩
  | 46 => ⟨S2048, .i32⟩
  | 47 => ⟨S2048, .i32⟩
  | 48 => ⟨S_, .i32⟩
  | 49 => ⟨S2048, .i32⟩
  | 50 => ⟨S2048, .i32⟩
  | 51 => ⟨S_, .i32⟩
  | 52 => ⟨S_, .i32⟩
  | 53 => ⟨S2048, .i32⟩
  | 54 => ⟨S2048, .i32⟩
  | 55 => ⟨S_, .f32⟩
  | 56 => ⟨S_, .f32⟩
  | 57 => ⟨S2048, .f32⟩
  | 58 => ⟨S2048, .f32⟩
  | 59 => ⟨S2048x1x1, .f32⟩
  | 60 => ⟨S2048x768x2, .f32⟩
  | 61 => ⟨S2048x768x2, .f32⟩
  | 62 => ⟨S_, .f32⟩
  | 63 => ⟨S33x768x2, .f32⟩
  | 64 => ⟨S2048x1, .i32⟩
  | 65 => ⟨S33x768x2, .f32⟩
  | 66 => ⟨S32x768x2, .f32⟩
  | 67 => ⟨S_, .f32⟩
  | 68 => ⟨S33, .f32⟩
  | 69 => ⟨S2048x1, .i32⟩
  | 70 => ⟨S33, .f32⟩
  | 71 => ⟨S32, .f32⟩
  | 72 => ⟨S2048, .f32⟩
  | 73 => ⟨S_, .f32⟩
  | 74 => ⟨S33, .f32⟩
  | 75 => ⟨S2048x1, .i32⟩
  | 76 => ⟨S33, .f32⟩
  | 77 => ⟨S32, .f32⟩
  | 78 => ⟨S_, .f32⟩
  | 79 => ⟨S32, .f32⟩
  | 80 => ⟨S32, .f32⟩
  | 81 => ⟨S32x1x1, .f32⟩
  | 82 => ⟨S32x768x2, .f32⟩
  | 83 => ⟨S32x768x2, .f32⟩
  | 84 => ⟨S_, .f32⟩
  | 85 => ⟨S32, .f32⟩
  | 86 => ⟨S32, .i1⟩
  | 87 => ⟨S32, .f32⟩
  | 88 => ⟨S1x32x768x2, .f32⟩
  | 89 => ⟨S1x32x768x2, .f32⟩
  | 90 => ⟨S1x32x768x2, .f32⟩
  | 91 => ⟨S1x32x768x2, .f32⟩
  | 92 => ⟨S4x32x768x2, .f32⟩
  | 93 => ⟨S1x32, .f32⟩
  | 94 => ⟨S1x32, .f32⟩
  | 95 => ⟨S1x32, .f32⟩
  | 96 => ⟨S1x32, .f32⟩
  | 97 => ⟨S4x32, .f32⟩
  | 98 => ⟨S4x32x768x1, .f32⟩
  | 99 => ⟨S4x32x768, .f32⟩
  | 100 => ⟨S4x32x768x1, .f32⟩
  | 101 => ⟨S4x32x768, .f32⟩
  | 102 => ⟨S4x32x768, .f32⟩
  | 103 => ⟨S4x32x768, .f32⟩
  | 104 => ⟨S4x32x768, .f32⟩
  | 105 => ⟨S4x32x768, .f32⟩
  | 106 => ⟨S4x32x768, .f32⟩
  | 107 => ⟨S4x32x768, .f32⟩
  | 108 => ⟨S4x32x768x1, .f32⟩
  | 109 => ⟨S4x32x768x1, .f32⟩
  | 110 => ⟨S4x32x768x2, .f32⟩
  | 111 => ⟨S4x32x768x1, .f32⟩
  | 112 => ⟨S4x32x768, .f32⟩
  | 113 => ⟨S4x32x768x1, .f32⟩
  | 114 => ⟨S4x32x768, .f32⟩
  | 115 => ⟨S4x32x768, .f32⟩
  | 116 => ⟨S4x32x768, .f32⟩
  | 117 => ⟨S4x32x768, .f32⟩
  | 118 => ⟨S4x32x768, .f32⟩
  | 119 => ⟨S4x32x768, .f32⟩
  | 120 => ⟨S4x32x768, .f32⟩
  | 121 => ⟨S4x32x768x1, .f32⟩
  | 122 => ⟨S4x32x768x1, .f32⟩
  | 123 => ⟨S4x32x768x2, .f32⟩
  | 124 => ⟨S4x32x1x1, .f32⟩
  | 125 => ⟨S4x32x768x2, .f32⟩
  | 126 => ⟨S4x32x768x2, .f32⟩
  | 127 => ⟨S_, .f32⟩
  | _ => ⟨S4x2048x768x2, .f32⟩

abbrev hbmTy0_3 (i : Nat) : BufTy := match i % 128 with
  | 0 => ⟨S4x32x1x1, .f32⟩
  | 1 => ⟨S4x32x1x1, .f32⟩
  | 2 => ⟨S4x32x768x2, .f32⟩
  | 3 => ⟨S4x32x768x2, .f32⟩
  | 4 => ⟨S4x32x768x2, .f32⟩
  | 5 => ⟨S4x32x768x2, .f32⟩
  | 6 => ⟨S4x32x768x2, .f32⟩
  | 7 => ⟨S_, .f32⟩
  | 8 => ⟨S4x32x1x1, .f32⟩
  | 9 => ⟨S4x32x1x1, .f32⟩
  | 10 => ⟨S4x32x768x2, .f32⟩
  | 11 => ⟨S4x32x768x2, .f32⟩
  | 12 => ⟨S4x32x768x2, .f32⟩
  | 13 => ⟨S4x32, .f32⟩
  | 14 => ⟨S_, .f32⟩
  | 15 => ⟨S4x32, .f32⟩
  | 16 => ⟨S4x32, .f32⟩
  | 17 => ⟨S4x2048x768x1, .f32⟩
  | 18 => ⟨S4x2048x768, .f32⟩
  | 19 => ⟨S4x2048x768, .f32⟩
  | 20 => ⟨S4x2048x768x1, .f32⟩
  | 21 => ⟨S4x2048x768, .f32⟩
  | 22 => ⟨S4x2048x768, .f32⟩
  | 23 => ⟨S4x2048x768, .f32⟩
  | 24 => ⟨S4x2048x768, .f32⟩
  | 25 => ⟨S4x2048x768, .f32⟩
  | 26 => ⟨S_, .f32⟩
  | 27 => ⟨S4x2048, .f32⟩
  | 28 => ⟨S4x2048x1, .f32⟩
  | 29 => ⟨S_, .f32⟩
  | 30 => ⟨S4x2048x1, .f32⟩
  | 31 => ⟨S4x2048x1, .f32⟩
  | 32 => ⟨S_, .f32⟩
  | 33 => ⟨S4x2048x1, .f32⟩
  | 34 => ⟨S4x2048x1, .f32⟩
  | 35 => ⟨S4x2048x1, .f32⟩
  | 36 => ⟨S4x2048x1x1, .f32⟩
  | 37 => ⟨S4x2048x768x2, .f32⟩
  | 38 => ⟨S4x2048x768x2, .f32⟩
  | 39 => ⟨S1x1x768x1, .f32⟩
  | 40 => ⟨S4x2048x768x2, .f32⟩
  | 41 => ⟨S4x2048x768x2, .f32⟩
  | 42 => ⟨S4x2048x768x1, .f32⟩
  | 43 => ⟨S4x2048x768, .f32⟩
  | 44 => ⟨S4x2048x768x1, .f32⟩
  | 45 => ⟨S4x2048x768, .f32⟩
  | 46 => ⟨S4x2048x768, .f32⟩
  | 47 => ⟨S4x2048x768, .f32⟩
  | 48 => ⟨S4x2048x768, .f32⟩
  | 49 => ⟨S4x2048x768, .f32⟩
  | 50 => ⟨S4x2048x768, .f32⟩
  | 51 => ⟨S4x2048x768, .f32⟩
  | 52 => ⟨S4x2048x768x1, .f32⟩
  | 53 => ⟨S4x2048x768x1, .f32⟩
  | 54 => ⟨S4x2048x768x2, .f32⟩
  | 55 => ⟨S4x2048x768x1, .f32⟩
  | 56 => ⟨S4x2048x768, .f32⟩
  | 57 => ⟨S4x32x768x1, .f32⟩
  | 58 => ⟨S4x32x768, .f32⟩
  | 59 => ⟨S4x2048x32, .f32⟩
  | 60 => ⟨S4x2048x768x1, .f32⟩
  | 61 => ⟨S4x2048x768, .f32⟩
  | 62 => ⟨S4x32x768x1, .f32⟩
  | 63 => ⟨S4x32x768, .f32⟩
  | 64 => ⟨S4x2048x32, .f32⟩
  | 65 => ⟨S4x2048x32, .f32⟩
  | 66 => ⟨S_, .f32⟩
  | 67 => ⟨S_, .f32⟩
  | 68 => ⟨S4x2048x32, .f32⟩
  | 69 => ⟨S4x2048x32, .f32⟩
  | 70 => ⟨S4x1x32, .f32⟩
  | 71 => ⟨S_, .f32⟩
  | 72 => ⟨S4x1x32, .f32⟩
  | 73 => ⟨S4x1x32, .f32⟩
  | 74 => ⟨S_, .f32⟩
  | 75 => ⟨S4x1x32, .f32⟩
  | 76 => ⟨S4x1x32, .f32⟩
  | 77 => ⟨S4x2048x32, .f32⟩
  | 78 => ⟨S4x2048x32, .f32⟩
  | 79 => ⟨S4x2048x8, .f32⟩
  | 80 => ⟨S4x2048x8, .i32⟩
  | 81 => ⟨S_, .f32⟩
  | 82 => ⟨S4x2048, .f32⟩
  | 83 => ⟨S_, .f32⟩
  | 84 => ⟨S4x2048, .f32⟩
  | 85 => ⟨S4x2048, .f32⟩
  | 86 => ⟨S4x2048x1, .f32⟩
  | 87 => ⟨S4x2048x8, .f32⟩
  | 88 => ⟨S4x2048x8, .f32⟩
  | 89 => ⟨S4x2048x8, .f32⟩
  | 90 => ⟨S_, .f32⟩
  | 91 => ⟨S4x2048, .f32⟩
  | 92 => ⟨S4x2048x1, .f32⟩
  | 93 => ⟨S4x2048x8, .f32⟩
  | 94 => ⟨S4x2048x8, .f32⟩
  | 95 => ⟨S4x2048x8x1, .i32⟩
  | 96 => ⟨S1x1x1x32, .i32⟩
  | 97 => ⟨S4x2048x8x32, .i32⟩
  | 98 => ⟨S4x2048x8x32, .i32⟩
  | 99 => ⟨S4x2048x8x32, .i1⟩
  | 100 => ⟨S4x2048x8x32, .f32⟩
  | 101 => ⟨S4x2048x32, .f32⟩
  | 102 => ⟨S4x2048x768x2, .f32⟩
  | _ => ⟨S4x2048x768x2, .f32⟩

abbrev hbmTy (i : Nat) : BufTy := match i / 128 with
  | 0 => hbmTy0_0 i
  | 1 => hbmTy0_1 i
  | 2 => hbmTy0_2 i
  | 3 => hbmTy0_3 i
  | _ => ⟨S4x2048x768x2, .f32⟩

abbrev bufTy : (tb : Table) → Fin (tcTables nBuf tb) → BufTy
  | .hbm, ⟨i, _⟩ => hbmTy i
  | _, _ => ⟨S4x2048x768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_cst_0 : Ref sig .tc := ⟨.hbm, 47, rfl⟩
abbrev main_v31 : Ref sig .tc := ⟨.hbm, 48, rfl⟩
abbrev main_v32 : Ref sig .tc := ⟨.hbm, 49, rfl⟩
abbrev main_cst_1 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_c : Ref sig .tc := ⟨.hbm, 55, rfl⟩
abbrev main_call0_v0 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_4 : Ref sig .tc := ⟨.hbm, 98, rfl⟩
abbrev main_v76 : Ref sig .tc := ⟨.hbm, 99, rfl⟩
abbrev main_v77 : Ref sig .tc := ⟨.hbm, 100, rfl⟩
abbrev main_cst_5 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_6 : Ref sig .tc := ⟨.hbm, 108, rfl⟩
abbrev main_v84 : Ref sig .tc := ⟨.hbm, 109, rfl⟩
abbrev main_v85 : Ref sig .tc := ⟨.hbm, 110, rfl⟩
abbrev main_c_7 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_call1_call0_c : Ref sig .tc := ⟨.hbm, 118, rfl⟩
abbrev main_call1_call0_v0 : Ref sig .tc := ⟨.hbm, 119, rfl⟩
abbrev main_v92 : Ref sig .tc := ⟨.hbm, 120, rfl⟩
abbrev main_c_8 : Ref sig .tc := ⟨.hbm, 121, rfl⟩
abbrev main_v93 : Ref sig .tc := ⟨.hbm, 122, rfl⟩
abbrev main_v94 : Ref sig .tc := ⟨.hbm, 123, rfl⟩
abbrev main_c_9 : Ref sig .tc := ⟨.hbm, 124, rfl⟩
abbrev main_v95 : Ref sig .tc := ⟨.hbm, 125, rfl⟩
abbrev main_v96 : Ref sig .tc := ⟨.hbm, 126, rfl⟩
abbrev main_c_10 : Ref sig .tc := ⟨.hbm, 127, rfl⟩
abbrev main_call2_v0 : Ref sig .tc := ⟨.hbm, 128, rfl⟩
abbrev main_call2_v1 : Ref sig .tc := ⟨.hbm, 129, rfl⟩
abbrev main_v97 : Ref sig .tc := ⟨.hbm, 130, rfl⟩
abbrev main_cst_11 : Ref sig .tc := ⟨.hbm, 131, rfl⟩
abbrev main_call3_v0 : Ref sig .tc := ⟨.hbm, 132, rfl⟩
abbrev main_call3_v1 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_cst_12 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_cst_13 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_14 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_15 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_cst_16 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_17 : Ref sig .tc := ⟨.hbm, 168, rfl⟩
abbrev main_v127 : Ref sig .tc := ⟨.hbm, 169, rfl⟩
abbrev main_v128 : Ref sig .tc := ⟨.hbm, 170, rfl⟩
abbrev main_c_18 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_call4_call0_c : Ref sig .tc := ⟨.hbm, 178, rfl⟩
abbrev main_call4_call0_v0 : Ref sig .tc := ⟨.hbm, 179, rfl⟩
abbrev main_v135 : Ref sig .tc := ⟨.hbm, 180, rfl⟩
abbrev main_c_19 : Ref sig .tc := ⟨.hbm, 181, rfl⟩
abbrev main_v136 : Ref sig .tc := ⟨.hbm, 182, rfl⟩
abbrev main_v137 : Ref sig .tc := ⟨.hbm, 183, rfl⟩
abbrev main_c_20 : Ref sig .tc := ⟨.hbm, 184, rfl⟩
abbrev main_v138 : Ref sig .tc := ⟨.hbm, 185, rfl⟩
abbrev main_v139 : Ref sig .tc := ⟨.hbm, 186, rfl⟩
abbrev main_c_21 : Ref sig .tc := ⟨.hbm, 187, rfl⟩
abbrev main_call5_v0 : Ref sig .tc := ⟨.hbm, 188, rfl⟩
abbrev main_call5_v1 : Ref sig .tc := ⟨.hbm, 189, rfl⟩
abbrev main_v140 : Ref sig .tc := ⟨.hbm, 190, rfl⟩
abbrev main_cst_22 : Ref sig .tc := ⟨.hbm, 191, rfl⟩
abbrev main_call6_v0 : Ref sig .tc := ⟨.hbm, 192, rfl⟩
abbrev main_call6_v1 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_cst_23 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_v148 : Ref sig .tc := ⟨.hbm, 202, rfl⟩
abbrev main_cst_24 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_cst_25 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_cst_26 : Ref sig .tc := ⟨.hbm, 214, rfl⟩
abbrev main_v158 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_27 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_cst_28 : Ref sig .tc := ⟨.hbm, 228, rfl⟩
abbrev main_v170 : Ref sig .tc := ⟨.hbm, 229, rfl⟩
abbrev main_v171 : Ref sig .tc := ⟨.hbm, 230, rfl⟩
abbrev main_c_29 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_call7_call0_c : Ref sig .tc := ⟨.hbm, 238, rfl⟩
abbrev main_call7_call0_v0 : Ref sig .tc := ⟨.hbm, 239, rfl⟩
abbrev main_v178 : Ref sig .tc := ⟨.hbm, 240, rfl⟩
abbrev main_c_30 : Ref sig .tc := ⟨.hbm, 241, rfl⟩
abbrev main_v179 : Ref sig .tc := ⟨.hbm, 242, rfl⟩
abbrev main_v180 : Ref sig .tc := ⟨.hbm, 243, rfl⟩
abbrev main_c_31 : Ref sig .tc := ⟨.hbm, 244, rfl⟩
abbrev main_v181 : Ref sig .tc := ⟨.hbm, 245, rfl⟩
abbrev main_v182 : Ref sig .tc := ⟨.hbm, 246, rfl⟩
abbrev main_c_32 : Ref sig .tc := ⟨.hbm, 247, rfl⟩
abbrev main_call8_v0 : Ref sig .tc := ⟨.hbm, 248, rfl⟩
abbrev main_call8_v1 : Ref sig .tc := ⟨.hbm, 249, rfl⟩
abbrev main_v183 : Ref sig .tc := ⟨.hbm, 250, rfl⟩
abbrev main_cst_33 : Ref sig .tc := ⟨.hbm, 251, rfl⟩
abbrev main_call9_v0 : Ref sig .tc := ⟨.hbm, 252, rfl⟩
abbrev main_call9_v1 : Ref sig .tc := ⟨.hbm, 253, rfl⟩
abbrev main_v184 : Ref sig .tc := ⟨.hbm, 254, rfl⟩
abbrev main_v185 : Ref sig .tc := ⟨.hbm, 255, rfl⟩
abbrev main_v186 : Ref sig .tc := ⟨.hbm, 256, rfl⟩
abbrev main_v187 : Ref sig .tc := ⟨.hbm, 257, rfl⟩
abbrev main_cst_34 : Ref sig .tc := ⟨.hbm, 258, rfl⟩
abbrev main_v188 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_cst_35 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_cst_36 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_cst_37 : Ref sig .tc := ⟨.hbm, 274, rfl⟩
abbrev main_v201 : Ref sig .tc := ⟨.hbm, 275, rfl⟩
abbrev main_v202 : Ref sig .tc := ⟨.hbm, 276, rfl⟩
abbrev main_v203 : Ref sig .tc := ⟨.hbm, 277, rfl⟩
abbrev main_v204 : Ref sig .tc := ⟨.hbm, 278, rfl⟩
abbrev main_v205 : Ref sig .tc := ⟨.hbm, 279, rfl⟩
abbrev main_cst_38 : Ref sig .tc := ⟨.hbm, 280, rfl⟩
abbrev main_v206 : Ref sig .tc := ⟨.hbm, 281, rfl⟩
abbrev main_v207 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_v212 : Ref sig .tc := ⟨.hbm, 287, rfl⟩
abbrev main_cst_39 : Ref sig .tc := ⟨.hbm, 288, rfl⟩
abbrev main_v213 : Ref sig .tc := ⟨.hbm, 289, rfl⟩
abbrev main_v214 : Ref sig .tc := ⟨.hbm, 290, rfl⟩
abbrev main_c_40 : Ref sig .tc := ⟨.hbm, 291, rfl⟩
abbrev main_v215 : Ref sig .tc := ⟨.hbm, 292, rfl⟩
abbrev main_v216 : Ref sig .tc := ⟨.hbm, 293, rfl⟩
abbrev main_v217 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_call10_call0_c : Ref sig .tc := ⟨.hbm, 298, rfl⟩
abbrev main_call10_call0_v0 : Ref sig .tc := ⟨.hbm, 299, rfl⟩
abbrev main_v221 : Ref sig .tc := ⟨.hbm, 300, rfl⟩
abbrev main_c_41 : Ref sig .tc := ⟨.hbm, 301, rfl⟩
abbrev main_v222 : Ref sig .tc := ⟨.hbm, 302, rfl⟩
abbrev main_v223 : Ref sig .tc := ⟨.hbm, 303, rfl⟩
abbrev main_c_42 : Ref sig .tc := ⟨.hbm, 304, rfl⟩
abbrev main_v224 : Ref sig .tc := ⟨.hbm, 305, rfl⟩
abbrev main_v225 : Ref sig .tc := ⟨.hbm, 306, rfl⟩
abbrev main_c_43 : Ref sig .tc := ⟨.hbm, 307, rfl⟩
abbrev main_call11_v0 : Ref sig .tc := ⟨.hbm, 308, rfl⟩
abbrev main_call11_v1 : Ref sig .tc := ⟨.hbm, 309, rfl⟩
abbrev main_v226 : Ref sig .tc := ⟨.hbm, 310, rfl⟩
abbrev main_cst_44 : Ref sig .tc := ⟨.hbm, 311, rfl⟩
abbrev main_call12_v0 : Ref sig .tc := ⟨.hbm, 312, rfl⟩
abbrev main_call12_v1 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_cst_45 : Ref sig .tc := ⟨.hbm, 318, rfl⟩
abbrev main_v231 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_cst_46 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_cst_47 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_v243 : Ref sig .tc := ⟨.hbm, 333, rfl⟩
abbrev main_cst_48 : Ref sig .tc := ⟨.hbm, 334, rfl⟩
abbrev main_v244 : Ref sig .tc := ⟨.hbm, 335, rfl⟩
abbrev main_v245 : Ref sig .tc := ⟨.hbm, 336, rfl⟩
abbrev main_v246 : Ref sig .tc := ⟨.hbm, 337, rfl⟩
abbrev main_v247 : Ref sig .tc := ⟨.hbm, 338, rfl⟩
abbrev main_v248 : Ref sig .tc := ⟨.hbm, 339, rfl⟩
abbrev main_cst_49 : Ref sig .tc := ⟨.hbm, 340, rfl⟩
abbrev main_v249 : Ref sig .tc := ⟨.hbm, 341, rfl⟩
abbrev main_v250 : Ref sig .tc := ⟨.hbm, 342, rfl⟩
abbrev main_v251 : Ref sig .tc := ⟨.hbm, 343, rfl⟩
abbrev main_v252 : Ref sig .tc := ⟨.hbm, 344, rfl⟩
abbrev main_v253 : Ref sig .tc := ⟨.hbm, 345, rfl⟩
abbrev main_v254 : Ref sig .tc := ⟨.hbm, 346, rfl⟩
abbrev main_v255 : Ref sig .tc := ⟨.hbm, 347, rfl⟩
abbrev main_v256 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_v260 : Ref sig .tc := ⟨.hbm, 352, rfl⟩
abbrev main_v261 : Ref sig .tc := ⟨.hbm, 353, rfl⟩
abbrev main_v262 : Ref sig .tc := ⟨.hbm, 354, rfl⟩
abbrev main_v263 : Ref sig .tc := ⟨.hbm, 355, rfl⟩
abbrev main_v264 : Ref sig .tc := ⟨.hbm, 356, rfl⟩
abbrev main_v265 : Ref sig .tc := ⟨.hbm, 357, rfl⟩
abbrev main_v266 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_v270 : Ref sig .tc := ⟨.hbm, 362, rfl⟩
abbrev main_v271 : Ref sig .tc := ⟨.hbm, 363, rfl⟩
abbrev main_v272 : Ref sig .tc := ⟨.hbm, 364, rfl⟩
abbrev main_v273 : Ref sig .tc := ⟨.hbm, 365, rfl⟩
abbrev main_v274 : Ref sig .tc := ⟨.hbm, 366, rfl⟩
abbrev main_v275 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_v287 : Ref sig .tc := ⟨.hbm, 379, rfl⟩
abbrev main_v288 : Ref sig .tc := ⟨.hbm, 380, rfl⟩
abbrev main_v289 : Ref sig .tc := ⟨.hbm, 381, rfl⟩
abbrev main_v290 : Ref sig .tc := ⟨.hbm, 382, rfl⟩
abbrev main_cst_50 : Ref sig .tc := ⟨.hbm, 383, rfl⟩
abbrev main_v291 : Ref sig .tc := ⟨.hbm, 384, rfl⟩
abbrev main_v292 : Ref sig .tc := ⟨.hbm, 385, rfl⟩
abbrev main_v293 : Ref sig .tc := ⟨.hbm, 386, rfl⟩
abbrev main_v294 : Ref sig .tc := ⟨.hbm, 387, rfl⟩
abbrev main_v295 : Ref sig .tc := ⟨.hbm, 388, rfl⟩
abbrev main_v296 : Ref sig .tc := ⟨.hbm, 389, rfl⟩
abbrev main_v297 : Ref sig .tc := ⟨.hbm, 390, rfl⟩
abbrev main_cst_51 : Ref sig .tc := ⟨.hbm, 391, rfl⟩
abbrev main_v298 : Ref sig .tc := ⟨.hbm, 392, rfl⟩
abbrev main_v299 : Ref sig .tc := ⟨.hbm, 393, rfl⟩
abbrev main_v300 : Ref sig .tc := ⟨.hbm, 394, rfl⟩
abbrev main_v301 : Ref sig .tc := ⟨.hbm, 395, rfl⟩
abbrev main_v302 : Ref sig .tc := ⟨.hbm, 396, rfl⟩
abbrev main_v303 : Ref sig .tc := ⟨.hbm, 397, rfl⟩
abbrev main_cst_52 : Ref sig .tc := ⟨.hbm, 398, rfl⟩
abbrev main_v304 : Ref sig .tc := ⟨.hbm, 399, rfl⟩
abbrev main_v305 : Ref sig .tc := ⟨.hbm, 400, rfl⟩
abbrev main_v306 : Ref sig .tc := ⟨.hbm, 401, rfl⟩
abbrev main_v307 : Ref sig .tc := ⟨.hbm, 402, rfl⟩
abbrev main_v308 : Ref sig .tc := ⟨.hbm, 403, rfl⟩
abbrev main_v309 : Ref sig .tc := ⟨.hbm, 404, rfl⟩
abbrev main_v310 : Ref sig .tc := ⟨.hbm, 405, rfl⟩
abbrev main_v311 : Ref sig .tc := ⟨.hbm, 406, rfl⟩
abbrev main_v312 : Ref sig .tc := ⟨.hbm, 407, rfl⟩
abbrev main_v313 : Ref sig .tc := ⟨.hbm, 408, rfl⟩
abbrev main_v314 : Ref sig .tc := ⟨.hbm, 409, rfl⟩
abbrev main_cst_53 : Ref sig .tc := ⟨.hbm, 410, rfl⟩
abbrev main_v315 : Ref sig .tc := ⟨.hbm, 411, rfl⟩
abbrev main_v316 : Ref sig .tc := ⟨.hbm, 412, rfl⟩
abbrev main_cst_54 : Ref sig .tc := ⟨.hbm, 413, rfl⟩
abbrev main_v317 : Ref sig .tc := ⟨.hbm, 414, rfl⟩
abbrev main_v318 : Ref sig .tc := ⟨.hbm, 415, rfl⟩
abbrev main_cst_55 : Ref sig .tc := ⟨.hbm, 416, rfl⟩
abbrev main_v319 : Ref sig .tc := ⟨.hbm, 417, rfl⟩
abbrev main_v320 : Ref sig .tc := ⟨.hbm, 418, rfl⟩
abbrev main_v321 : Ref sig .tc := ⟨.hbm, 419, rfl⟩
abbrev main_v322 : Ref sig .tc := ⟨.hbm, 420, rfl⟩
abbrev main_v323 : Ref sig .tc := ⟨.hbm, 421, rfl⟩
abbrev main_v324 : Ref sig .tc := ⟨.hbm, 422, rfl⟩
abbrev main_v325 : Ref sig .tc := ⟨.hbm, 423, rfl⟩
abbrev main_v326 : Ref sig .tc := ⟨.hbm, 424, rfl⟩
abbrev main_v327 : Ref sig .tc := ⟨.hbm, 425, rfl⟩
abbrev main_v328 : Ref sig .tc := ⟨.hbm, 426, rfl⟩
abbrev main_v329 : Ref sig .tc := ⟨.hbm, 427, rfl⟩
abbrev main_v330 : Ref sig .tc := ⟨.hbm, 428, rfl⟩
abbrev main_v331 : Ref sig .tc := ⟨.hbm, 429, rfl⟩
abbrev main_v332 : Ref sig .tc := ⟨.hbm, 430, rfl⟩
abbrev main_v333 : Ref sig .tc := ⟨.hbm, 431, rfl⟩
abbrev main_v334 : Ref sig .tc := ⟨.hbm, 432, rfl⟩
abbrev main_v335 : Ref sig .tc := ⟨.hbm, 433, rfl⟩
abbrev main_v336 : Ref sig .tc := ⟨.hbm, 434, rfl⟩
abbrev main_v337 : Ref sig .tc := ⟨.hbm, 435, rfl⟩
abbrev main_v338 : Ref sig .tc := ⟨.hbm, 436, rfl⟩
abbrev main_v339 : Ref sig .tc := ⟨.hbm, 437, rfl⟩
abbrev main_v340 : Ref sig .tc := ⟨.hbm, 438, rfl⟩
abbrev main_v341 : Ref sig .tc := ⟨.hbm, 439, rfl⟩
abbrev main_v342 : Ref sig .tc := ⟨.hbm, 440, rfl⟩
abbrev main_v343 : Ref sig .tc := ⟨.hbm, 441, rfl⟩
abbrev main_v344 : Ref sig .tc := ⟨.hbm, 442, rfl⟩
abbrev main_v345 : Ref sig .tc := ⟨.hbm, 443, rfl⟩
abbrev main_v346 : Ref sig .tc := ⟨.hbm, 444, rfl⟩
abbrev main_v347 : Ref sig .tc := ⟨.hbm, 445, rfl⟩
abbrev main_v348 : Ref sig .tc := ⟨.hbm, 446, rfl⟩
abbrev main_v349 : Ref sig .tc := ⟨.hbm, 447, rfl⟩
abbrev main_v350 : Ref sig .tc := ⟨.hbm, 448, rfl⟩
abbrev main_v351 : Ref sig .tc := ⟨.hbm, 449, rfl⟩
abbrev main_cst_56 : Ref sig .tc := ⟨.hbm, 450, rfl⟩
abbrev main_v352 : Ref sig .tc := ⟨.hbm, 451, rfl⟩
abbrev main_v353 : Ref sig .tc := ⟨.hbm, 452, rfl⟩
abbrev main_v354 : Ref sig .tc := ⟨.hbm, 453, rfl⟩
abbrev main_v355 : Ref sig .tc := ⟨.hbm, 454, rfl⟩
abbrev main_cst_57 : Ref sig .tc := ⟨.hbm, 455, rfl⟩
abbrev main_v356 : Ref sig .tc := ⟨.hbm, 456, rfl⟩
abbrev main_v357 : Ref sig .tc := ⟨.hbm, 457, rfl⟩
abbrev main_cst_58 : Ref sig .tc := ⟨.hbm, 458, rfl⟩
abbrev main_v358 : Ref sig .tc := ⟨.hbm, 459, rfl⟩
abbrev main_v359 : Ref sig .tc := ⟨.hbm, 460, rfl⟩
abbrev main_v360 : Ref sig .tc := ⟨.hbm, 461, rfl⟩
abbrev main_v361 : Ref sig .tc := ⟨.hbm, 462, rfl⟩
abbrev main_values : Ref sig .tc := ⟨.hbm, 463, rfl⟩
abbrev main_indices : Ref sig .tc := ⟨.hbm, 464, rfl⟩
abbrev main_cst_59 : Ref sig .tc := ⟨.hbm, 465, rfl⟩
abbrev main_v362 : Ref sig .tc := ⟨.hbm, 466, rfl⟩
abbrev main_cst_60 : Ref sig .tc := ⟨.hbm, 467, rfl⟩
abbrev main_v363 : Ref sig .tc := ⟨.hbm, 468, rfl⟩
abbrev main_v364 : Ref sig .tc := ⟨.hbm, 469, rfl⟩
abbrev main_v365 : Ref sig .tc := ⟨.hbm, 470, rfl⟩
abbrev main_v366 : Ref sig .tc := ⟨.hbm, 471, rfl⟩
abbrev main_v367 : Ref sig .tc := ⟨.hbm, 472, rfl⟩
abbrev main_v368 : Ref sig .tc := ⟨.hbm, 473, rfl⟩
abbrev main_cst_61 : Ref sig .tc := ⟨.hbm, 474, rfl⟩
abbrev main_v369 : Ref sig .tc := ⟨.hbm, 475, rfl⟩
abbrev main_v370 : Ref sig .tc := ⟨.hbm, 476, rfl⟩
abbrev main_v371 : Ref sig .tc := ⟨.hbm, 477, rfl⟩
abbrev main_v372 : Ref sig .tc := ⟨.hbm, 478, rfl⟩
abbrev main_call13_v0 : Ref sig .tc := ⟨.hbm, 479, rfl⟩
abbrev main_call13_v1 : Ref sig .tc := ⟨.hbm, 480, rfl⟩
abbrev main_call13_v2 : Ref sig .tc := ⟨.hbm, 481, rfl⟩
abbrev main_call13_v3 : Ref sig .tc := ⟨.hbm, 482, rfl⟩
abbrev main_call13_v4 : Ref sig .tc := ⟨.hbm, 483, rfl⟩
abbrev main_v373 : Ref sig .tc := ⟨.hbm, 484, rfl⟩
abbrev main_v374 : Ref sig .tc := ⟨.hbm, 485, rfl⟩
abbrev main_v375 : Ref sig .tc := ⟨.hbm, 486, rfl⟩

abbrev nD : Nat := 1
abbrev τ : Topo := Topo.v7x

variable {F : FTy → Type} [FloatOps F]
-- ==== Proof.KernelIdealRun.Stats.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The first call: period, amplitude and root mean square of each row -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` of the grid works on. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1x512x768 := Rect.unit (s := S1x512x768) ![0, 0, 0] S1x512x768.size inb_S1x512x768_S1x512x768_0_0_0
abbrev r0_1 : Rect S768x1 := Rect.unit (s := S768x1) ![0, 0] S768x1.size inb_S768x1_S768x1_0_0
abbrev r0_2 : Rect S1x512x1 := Rect.unit (s := S1x512x1) ![0, 0, 0] S1x512x1.size inb_S1x512x1_S1x512x1_0_0_0

/-- What the body leaves in an output's staging buffer, from the blocks of the inputs. -/
def out0_4 (x0 : Vec F S1x512x768 .f32) (x1 : Vec F S1x512x768 .f32) (x2 : Vec F S768x1 .f32) (x3 : Vec F S768x1 .f32) : Vec F S1x512x1 .f32 :=
  View.canon [⟨r0_2, k0_pay5 (View.ld x0 r0_0) (View.ld x1 r0_0) (View.ld x2 r0_1) (View.ld x3 r0_1) (View.ld x3 r0_1) (View.ld x2 r0_1)⟩]

/-- The stores of the body fill that buffer. -/
theorem cover0_4 (p0 : Vec F S1x512x1 .f32) (y : S1x512x1.Idx) :
    ∃ pc ∈ ([⟨r0_2, p0⟩] : List (View.Piece (Elt F) S1x512x1 .f32)), y ∈ pc.1.set :=
  View.cover_of_tiled [⟨r0_2, p0⟩] S1x512x1.size (by rfl) y

/-- What the body leaves in an output's staging buffer, from the blocks of the inputs. -/
def out0_5 (x0 : Vec F S1x512x768 .f32) (x1 : Vec F S1x512x768 .f32) (x2 : Vec F S768x1 .f32) (x3 : Vec F S768x1 .f32) : Vec F S1x512x1 .f32 :=
  View.canon [⟨r0_2, k0_pay1 (k0_pay7 (View.ld x0 r0_0) (View.ld x1 r0_0))⟩]

/-- The stores of the body fill that buffer. -/
theorem cover0_5 (p0 : Vec F S1x512x1 .f32) (y : S1x512x1.Idx) :
    ∃ pc ∈ ([⟨r0_2, p0⟩] : List (View.Piece (Elt F) S1x512x1 .f32)), y ∈ pc.1.set :=
  View.cover_of_tiled [⟨r0_2, p0⟩] S1x512x1.size (by rfl) y

/-- What the body leaves in an output's staging buffer, from the blocks of the inputs. -/
def out0_6 (x0 : Vec F S1x512x768 .f32) (x1 : Vec F S1x512x768 .f32) (x2 : Vec F S768x1 .f32) (x3 : Vec F S768x1 .f32) : Vec F S1x512x1 .f32 :=
  View.canon [⟨r0_2, k0_pay2 (k0_pay6 (View.ld x0 r0_0) (View.ld x1 r0_0))⟩]

/-- The stores of the body fill that buffer. -/
theorem cover0_6 (p0 : Vec F S1x512x1 .f32) (y : S1x512x1.Idx) :
    ∃ pc ∈ ([⟨r0_2, p0⟩] : List (View.Piece (Elt F) S1x512x1 .f32)), y ∈ pc.1.set :=
  View.cover_of_tiled [⟨r0_2, p0⟩] S1x512x1.size (by rfl) y

set_option maxHeartbeats 1000000 in
/-- The body, run on its staging buffers: the inputs stay, the outputs hold the values stated. -/
theorem sound_kernel0 (c : Dev nD) (E : Set ℕ) (i : grid0.Coords) (arg2 : Memref sig .tc .vmem S1x512x768 .f32) (harg2 : arg2.IsWhole) (arg3 : Memref sig .tc .vmem S1x512x768 .f32) (harg3 : arg3.IsWhole) (arg4 : Memref sig .tc .vmem S768x1 .f32) (harg4 : arg4.IsWhole) (arg5 : Memref sig .tc .vmem S768x1 .f32) (harg5 : arg5.IsWhole) (arg6 : Memref sig .tc .vmem S1x512x1 .f32) (harg6 : arg6.IsWhole) (arg7 : Memref sig .tc .vmem S1x512x1 .f32) (harg7 : arg7.IsWhole) (arg8 : Memref sig .tc .vmem S1x512x1 .f32) (harg8 : arg8.IsWhole)
    (x0 : Vec F S1x512x768 .f32) (x1 : Vec F S1x512x768 .f32) (x2 : Vec F S768x1 .f32) (x3 : Vec F S768x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (out0_4 x0 x1 x2 x3) ∗ owns (c : Thread nD τ) arg7 fullShare (out0_5 x0 x1 x2 x3) ∗ owns (c : Thread nD τ) arg8 fullShare (out0_6 x0 x1 x2 x3)) -∗ K ⟨⟩))
      ⊢ wp frame (wpE (defs₀ (F := F)) Variants.none c none) E (cc0__k1_stats i arg2 harg2 arg3 harg3 arg4 harg4 arg5 harg5 arg6 harg6 arg7 harg7 arg8 harg8) K := by
  simp only [cc0__k1_stats_eq_skeleton]; unfold cc0__k1_stats_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_4 _)
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The proof data of this call: arrays as found on entry, what each buffer holds after a point. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t) (iblk0 V c 1 t) (iblk0 V c 2 t) (iblk0 V c 3 t)
    | ⟨6, _⟩ => out0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) (iblk0 V c 1 t) (iblk0 V c 2 t) (iblk0 V c 3 t) := by dsimp only [dat0]
theorem after0_6 (c : Dev nD) (t : Fin cfg0.N) : (dat0 V c).after 6 t = out0_6 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is handed at a point. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body hands back at a point. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point of the grid. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row0 (t : Fin cfg0.N) :
    defs₀ (F := F) .tc cfg0.body (cfg0.bodyArgs t (cfg0.slots t)) = bodyAt0 t := by
  unfold defs₀; rw [Defs.onTc_tc]

/-- The obligation of the pipeline, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdealRun.Segment.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The second call: salience, segment numbers and weights -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` of the grid works on. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S1x2048x1 := Rect.unit (s := S1x2048x1) ![0, 0, 0] S1x2048x1.size inb_S1x2048x1_S1x2048x1_0_0_0
abbrev r1_1 : Rect S1x1 := Rect.unit (s := S1x1) ![0, 0] S1x1.size inb_S1x1_S1x1_0_0
abbrev r1_2 : Rect S1x1x2048 := Rect.unit (s := S1x1x2048) ![0, 0, 0] S1x1x2048.size inb_S1x1x2048_S1x1x2048_0_0_0

def k1_pay13 (x0 : Vec F S1x2048x1 .f32) (x1 : Vec F S1x2048x1 .f32) (x2 : Vec F S1x2048x1 .f32) (x3 : Vec F S1x1 .f32) (x4 : Vec F S1x1 .f32) : IVec S1x2048 32 :=
  iota .tc S1x2048 32 [1] iota_S1x2048_d1_w32 -- `v0`
def k1_pay14 (x0 : Vec F S1x2048x1 .f32) (x1 : Vec F S1x2048x1 .f32) (x2 : Vec F S1x2048x1 .f32) (x3 : Vec F S1x1 .f32) (x4 : Vec F S1x1 .f32) : IVec S1x2048 1 :=
  k1_pay5 (View.ld x1 r1_0) (View.ld x2 r1_0) (View.ld x4 r1_1) (View.ld x0 r1_0) (View.ld x3 r1_1) -- `v28`
def k1_pay15 (x0 : Vec F S1x2048x1 .f32) (x1 : Vec F S1x2048x1 .f32) (x2 : Vec F S1x2048x1 .f32) (x3 : Vec F S1x1 .f32) (x4 : Vec F S1x1 .f32) : FVec F S1x2048 .f32 :=
  k1_pay6 (View.ld x1 r1_0) (View.ld x2 r1_0) (View.ld x4 r1_1) (View.ld x0 r1_0) (View.ld x3 r1_1) -- `v30`
def k1_pay16 (x0 : Vec F S1x2048x1 .f32) (x1 : Vec F S1x2048x1 .f32) (x2 : Vec F S1x2048x1 .f32) (x3 : Vec F S1x1 .f32) (x4 : Vec F S1x1 .f32) : IVec S1x2048 1 :=
  k1_pay7 -- `v32`
def k1_pay17 (x0 : Vec F S1x2048x1 .f32) (x1 : Vec F S1x2048x1 .f32) (x2 : Vec F S1x2048x1 .f32) (x3 : Vec F S1x1 .f32) (x4 : Vec F S1x1 .f32) : FVec F S1x1 .f32 :=
  k1_pay8 (View.ld x1 r1_0) (View.ld x2 r1_0) (View.ld x4 r1_1) (View.ld x0 r1_0) (View.ld x3 r1_1) -- `v33`
def k1_pay18 (x0 : Vec F S1x2048x1 .f32) (x1 : Vec F S1x2048x1 .f32) (x2 : Vec F S1x2048x1 .f32) (x3 : Vec F S1x1 .f32) (x4 : Vec F S1x1 .f32) : FVec F S1x2048 .f32 :=
  k1_pay9 (k1_pay13 x0 x1 x2 x3 x4) (k1_pay14 x0 x1 x2 x3 x4) (k1_pay15 x0 x1 x2 x3 x4) (k1_pay16 x0 x1 x2 x3 x4) (k1_pay17 x0 x1 x2 x3 x4) -- `v73`
def k1_pay19 (x0 : Vec F S1x2048x1 .f32) (x1 : Vec F S1x2048x1 .f32) (x2 : Vec F S1x2048x1 .f32) (x3 : Vec F S1x1 .f32) (x4 : Vec F S1x1 .f32) : FVec F S1x2048 .f32 :=
  k1_pay10 (k1_pay13 x0 x1 x2 x3 x4) (k1_pay14 x0 x1 x2 x3 x4) (k1_pay15 x0 x1 x2 x3 x4) (k1_pay16 x0 x1 x2 x3 x4) (k1_pay17 x0 x1 x2 x3 x4) -- `v80`

/-- What the body leaves in an output's staging buffer, from the blocks of the inputs. -/
def out1_5 (x0 : Vec F S1x2048x1 .f32) (x1 : Vec F S1x2048x1 .f32) (x2 : Vec F S1x2048x1 .f32) (x3 : Vec F S1x1 .f32) (x4 : Vec F S1x1 .f32) : Vec F S1x1x2048 .f32 :=
  View.canon [⟨r1_2, k1_pay4 (View.ld x1 r1_0) (View.ld x2 r1_0) (View.ld x4 r1_1) (View.ld x0 r1_0) (View.ld x3 r1_1)⟩]

/-- The stores of the body fill that buffer. -/
theorem cover1_5 (p0 : Vec F S1x1x2048 .f32) (y : S1x1x2048.Idx) :
    ∃ pc ∈ ([⟨r1_2, p0⟩] : List (View.Piece (Elt F) S1x1x2048 .f32)), y ∈ pc.1.set :=
  View.cover_of_tiled [⟨r1_2, p0⟩] S1x1x2048.size (by rfl) y

/-- What the body leaves in an output's staging buffer, from the blocks of the inputs. -/
def out1_6 (x0 : Vec F S1x2048x1 .f32) (x1 : Vec F S1x2048x1 .f32) (x2 : Vec F S1x2048x1 .f32) (x3 : Vec F S1x1 .f32) (x4 : Vec F S1x1 .f32) : Vec F S1x1x2048 .f32 :=
  View.canon [⟨r1_2, k1_pay1 (k1_pay14 x0 x1 x2 x3 x4) (k1_pay11 (k1_pay13 x0 x1 x2 x3 x4) (k1_pay18 x0 x1 x2 x3 x4) (k1_pay19 x0 x1 x2 x3 x4)) (k1_pay12 (k1_pay13 x0 x1 x2 x3 x4) (k1_pay18 x0 x1 x2 x3 x4) (k1_pay19 x0 x1 x2 x3 x4))⟩]

/-- The stores of the body fill that buffer. -/
theorem cover1_6 (p0 : Vec F S1x1x2048 .f32) (y : S1x1x2048.Idx) :
    ∃ pc ∈ ([⟨r1_2, p0⟩] : List (View.Piece (Elt F) S1x1x2048 .f32)), y ∈ pc.1.set :=
  View.cover_of_tiled [⟨r1_2, p0⟩] S1x1x2048.size (by rfl) y

/-- What the body leaves in an output's staging buffer, from the blocks of the inputs. -/
def out1_7 (x0 : Vec F S1x2048x1 .f32) (x1 : Vec F S1x2048x1 .f32) (x2 : Vec F S1x2048x1 .f32) (x3 : Vec F S1x1 .f32) (x4 : Vec F S1x1 .f32) : Vec F S1x1x2048 .f32 :=
  View.canon [⟨r1_2, k1_pay2 (k1_pay3 (View.ld x1 r1_0) (View.ld x2 r1_0) (View.ld x4 r1_1) (View.ld x0 r1_0) (View.ld x3 r1_1)) (k1_pay14 x0 x1 x2 x3 x4)⟩]

/-- The stores of the body fill that buffer. -/
theorem cover1_7 (p0 : Vec F S1x1x2048 .f32) (y : S1x1x2048.Idx) :
    ∃ pc ∈ ([⟨r1_2, p0⟩] : List (View.Piece (Elt F) S1x1x2048 .f32)), y ∈ pc.1.set :=
  View.cover_of_tiled [⟨r1_2, p0⟩] S1x1x2048.size (by rfl) y

set_option maxHeartbeats 1000000 in
/-- The body, run on its staging buffers: the inputs stay, the outputs hold the values stated. -/
theorem sound_kernel1 (c : Dev nD) (E : Set ℕ) (i : grid1.Coords) (arg1 : Memref sig .tc .vmem S1x2048x1 .f32) (harg1 : arg1.IsWhole) (arg2 : Memref sig .tc .vmem S1x2048x1 .f32) (harg2 : arg2.IsWhole) (arg3 : Memref sig .tc .vmem S1x2048x1 .f32) (harg3 : arg3.IsWhole) (arg4 : Memref sig .tc .vmem S1x1 .f32) (harg4 : arg4.IsWhole) (arg5 : Memref sig .tc .vmem S1x1 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole)
    (x0 : Vec F S1x2048x1 .f32) (x1 : Vec F S1x2048x1 .f32) (x2 : Vec F S1x2048x1 .f32) (x3 : Vec F S1x1 .f32) (x4 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4) ∗ owns (c : Thread nD τ) arg7 fullShare (out1_6 x0 x1 x2 x3 x4) ∗ owns (c : Thread nD τ) arg8 fullShare (out1_7 x0 x1 x2 x3 x4)) -∗ K ⟨⟩))
      ⊢ wp frame (wpE (defs₀ (F := F)) Variants.none c none) E (cc1__k2_segment i arg1 harg1 arg2 harg2 arg3 harg3 arg4 harg4 arg5 harg5 arg6 harg6 arg7 harg7 arg8 harg8) K := by
  simp only [cc1__k2_segment_eq_skeleton]; unfold cc1__k2_segment_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover1_5 _)).trans ?_
    rfl
  isplitl [H6]
  · iexists _; isplitr
    swap; · iexact H6
    ipureintro
    refine (View.read_writes_eq_canon _ _ _ (cover1_6 _)).trans ?_
    rfl
  iexists _; isplitr
  swap; · iexact H7
  ipureintro
  refine (View.read_writes_eq_canon _ _ _ (cover1_7 _)).trans ?_
  rfl

/-- The proof data of this call: arrays as found on entry, what each buffer holds after a point. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
    | ⟨7, _⟩ => out1_7 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is handed at a point. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- What the body hands back at a point. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point of the grid. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row1 (t : Fin cfg1.N) :
    defs₀ (F := F) .tc cfg1.body (cfg1.bodyArgs t (cfg1.slots t)) = bodyAt1 t := by
  unfold defs₀; rw [Defs.onTc_tc]

/-- The obligation of the pipeline, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdealRun.Pool.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp

/-! # The third call: the pooled events -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` of the grid works on. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The condition of the branch that clears the accumulators: the first block of a row. -/
abbrev first2 (i : grid2.Coords) : Prop := (Scalar.cmpi .ne (Scalar.extui (Scalar.cmpi .eq (BitVec.ofNat 32 (i 1).val) 0#32)) 0#32) = 1#1
/-- The condition of the branch that writes the results: the last block of a row. -/
abbrev last2 (i : grid2.Coords) : Prop := k2_cond2 i = 1#1

theorem first2_iff : ∀ t : Fin cfg2.N, first2 (grid2.coords t) ↔ t.val % 4 = 0 := by decide +kernel
theorem last2_iff : ∀ t : Fin cfg2.N, last2 (grid2.coords t) ↔ t.val % 4 = 3 := by decide +kernel

/-- The new accumulator of the first component after a block. -/
def upd0 (x2 : Vec F S1x1x512 .f32) (x3 : Vec F S1x1x512 .f32) (a : Vec F S33x768 .f32) (x : Vec F S1x512x768 .f32) : Vec F S33x768 .f32 := k2_pay12 x2 x3 a x
/-- The new accumulator of the second component after a block. -/
def upd1 (x2 : Vec F S1x1x512 .f32) (x3 : Vec F S1x1x512 .f32) (a : Vec F S33x768 .f32) (x : Vec F S1x512x768 .f32) : Vec F S33x768 .f32 := k2_pay13 x2 x3 a x
/-- The new accumulator of weights and counts after a block. -/
def upd2 (x2 : Vec F S1x1x512 .f32) (x3 : Vec F S1x1x512 .f32) (a : Vec F S33x2 .f32) : Vec F S33x2 .f32 := k2_pay1 (k2_pay9 x3) (k2_pay10 x2) (k2_pay11 x2 x3) a
/-- The pooled events, first component, from the weights and the sums. -/
def res4 (a : Vec F S33x2 .f32) (b : Vec F S33x768 .f32) : Vec F S1x32x768 .f32 :=
  k2_pay3 (View.ld a (Rect.unit (s := S33x2) ![0, 0] S32x1.size inb_S33x2_S32x1_0_0)) (View.ld b (Rect.unit (s := S33x768) ![0, 0] S32x768.size inb_S33x768_S32x768_0_0))
/-- The pooled events, second component. -/
def res5 (a : Vec F S33x2 .f32) (b : Vec F S33x768 .f32) : Vec F S1x32x768 .f32 :=
  k2_pay4 (View.ld a (Rect.unit (s := S33x2) ![0, 0] S32x1.size inb_S33x2_S32x1_0_0)) (View.ld b (Rect.unit (s := S33x768) ![0, 0] S32x768.size inb_S33x768_S32x768_0_0))
/-- Which events are there at all, from the counts. -/
def res6 (a : Vec F S33x2 .f32) : Vec F S1x32x1 .f32 :=
  k2_pay5 (View.ld a (Rect.unit (s := S33x2) ![0, 1] S32x1.size inb_S33x2_S32x1_0_1))

theorem pay12_congr {p p' : Vec F S1x1x512 .f32} {q q' : Vec F S1x1x512 .f32} {a a' : Vec F S33x768 .f32} {x x' : Vec F S1x512x768 .f32}
    (h1 : p = p') (h2 : q = q') (h3 : a = a') (h4 : x = x') : k2_pay12 p q a x = upd0 p' q' a' x' := by subst h1 h2 h3 h4; rfl
theorem pay13_congr {p p' : Vec F S1x1x512 .f32} {q q' : Vec F S1x1x512 .f32} {a a' : Vec F S33x768 .f32} {x x' : Vec F S1x512x768 .f32}
    (h1 : p = p') (h2 : q = q') (h3 : a = a') (h4 : x = x') : k2_pay13 p q a x = upd1 p' q' a' x' := by subst h1 h2 h3 h4; rfl
theorem pay1_congr {p p' : Vec F S1x1x512 .f32} {q q' : Vec F S1x1x512 .f32} {a a' : Vec F S33x2 .f32}
    (h1 : p = p') (h2 : q = q') (h3 : a = a') : k2_pay1 (k2_pay9 q) (k2_pay10 p) (k2_pay11 p q) a = upd2 p' q' a' := by subst h1 h2 h3; rfl
theorem pay3_congr {a : Vec F S33x2 .f32} {b : Vec F S33x768 .f32} {p : Vec F S32x1 .f32} {q : Vec F S32x768 .f32}
    (h1 : p = View.ld a (Rect.unit (s := S33x2) ![0, 0] S32x1.size inb_S33x2_S32x1_0_0)) (h2 : q = View.ld b (Rect.unit (s := S33x768) ![0, 0] S32x768.size inb_S33x768_S32x768_0_0)) :
    k2_pay3 p q = res4 a b := by subst h1 h2; rfl
theorem pay4_congr {a : Vec F S33x2 .f32} {b : Vec F S33x768 .f32} {p : Vec F S32x1 .f32} {q : Vec F S32x768 .f32}
    (h1 : p = View.ld a (Rect.unit (s := S33x2) ![0, 0] S32x1.size inb_S33x2_S32x1_0_0)) (h2 : q = View.ld b (Rect.unit (s := S33x768) ![0, 0] S32x768.size inb_S33x768_S32x768_0_0)) :
    k2_pay4 p q = res5 a b := by subst h1 h2; rfl
theorem pay5_congr {a : Vec F S33x2 .f32} {p : Vec F S32x1 .f32}
    (h1 : p = View.ld a (Rect.unit (s := S33x2) ![0, 1] S32x1.size inb_S33x2_S32x1_0_1)) : k2_pay5 p = res6 a := by subst h1; rfl

/-- Loading a part of a buffer that was just stored whole reads that part of what was stored. -/
theorem readCov_ld {sp : Space} {s : Shape} {e : EltTy} (v : View sig .tc sp s e) {off : Fin s.rank → ℕ} (inb : ∀ a, off a + s.size a ≤ s.size a)
    {w w' : s.Idx → Elt F e} (L : List (View.Piece (Elt F) s e)) (r : Rect s) (h : w = w') :
    v.readCov ((⟨Rect.unit off s.size inb, w⟩ : View.Piece (Elt F) s e) :: L) r.toLoadRect = View.ld w' r := by
  subst h
  have h0 : off = fun _ => 0 := funext fun a => by have := inb a; omega
  rw [View.readCov_eq_canon', View.canon_cons_unit_zero h0]

set_option maxHeartbeats 1600000 in
/-- The body at the first block of a row: the accumulators are cleared, then updated. -/
theorem sound_kernel2_A (c : Dev nD) (i : grid2.Coords) (arg2 : Memref sig .tc .vmem S1x512x768 .f32) (harg2 : arg2.IsWhole) (arg3 : Memref sig .tc .vmem S1x512x768 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x32x768 .f32) (harg6 : arg6.IsWhole) (arg7 : Memref sig .tc .vmem S1x32x768 .f32) (harg7 : arg7.IsWhole) (arg8 : Memref sig .tc .vmem S1x32x1 .f32) (harg8 : arg8.IsWhole) (arg9 : Memref sig .tc .vmem S33x768 .f32) (harg9 : arg9.IsWhole) (arg10 : Memref sig .tc .vmem S33x768 .f32) (harg10 : arg10.IsWhole) (arg11 : Memref sig .tc .vmem S33x2 .f32) (harg11 : arg11.IsWhole) (hc0 : first2 i) (hc1 : ¬last2 i)
    (x0 : Vec F S1x512x768 .f32) (x1 : Vec F S1x512x768 .f32) (x2 : Vec F S1x1x512 .f32) (x3 : Vec F S1x1x512 .f32)  (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (upd0 x2 x3 k2_pay6 x0) ∗ owns (c : Thread nD τ) arg10 fullShare (upd1 x2 x3 k2_pay7 x1) ∗ owns (c : Thread nD τ) arg11 fullShare (upd2 x2 x3 k2_pay8)) -∗ K ⟨⟩))
      ⊢ wp frame (wpE (defs₀ (F := F)) Variants.none c none) E (cc2__k3_pool i arg2 harg2 arg3 harg3 arg4 harg4 arg5 harg5 arg6 harg6 arg7 harg7 arg8 harg8 arg9 harg9 arg10 harg10 arg11 harg11) K := by
  simp only [cc2__k3_pool_eq_skeleton]; unfold cc2__k3_pool_skel
  simp only [k2_part1_eq_skeleton]
  unfold owns
  iintro ⟨⟨%f0, %hf0, H0⟩, ⟨%f1, %hf1, H1⟩, ⟨%f2, %hf2, H2⟩, ⟨%f3, %hf3, H3⟩, ⟨%es0, %fs0, -, HS0⟩, ⟨%es1, %fs1, -, HS1⟩, ⟨%es2, %fs2, -, HS2⟩, Hk⟩
  subst hf0 hf1 hf2 hf3
  sl_exec (disch := first | sl_exact hc0 | sl_exact hc1)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [HS0]
  · iexists _; isplitr
    swap; · iexact HS0
    ipureintro
    exact (View.read_writes_full _ _ _ _ _).trans (pay12_congr (View.readAt_full _ _ _) (View.readAt_full _ _ _) (View.readCov_full _ _ _ _ _) (View.readAt_full _ _ _))
  isplitl [HS1]
  · iexists _; isplitr
    swap; · iexact HS1
    ipureintro
    exact (View.read_writes_full _ _ _ _ _).trans (pay13_congr (View.readAt_full _ _ _) (View.readAt_full _ _ _) (View.readCov_full _ _ _ _ _) (View.readAt_full _ _ _))
  iexists _; isplitr
  swap; · iexact HS2
  ipureintro
  exact (View.read_writes_full _ _ _ _ _).trans (pay1_congr (View.readAt_full _ _ _) (View.readAt_full _ _ _) (View.readCov_full _ _ _ _ _))

set_option maxHeartbeats 1600000 in
/-- The body at an inner block: the accumulators are updated. -/
theorem sound_kernel2_B (c : Dev nD) (i : grid2.Coords) (arg2 : Memref sig .tc .vmem S1x512x768 .f32) (harg2 : arg2.IsWhole) (arg3 : Memref sig .tc .vmem S1x512x768 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x32x768 .f32) (harg6 : arg6.IsWhole) (arg7 : Memref sig .tc .vmem S1x32x768 .f32) (harg7 : arg7.IsWhole) (arg8 : Memref sig .tc .vmem S1x32x1 .f32) (harg8 : arg8.IsWhole) (arg9 : Memref sig .tc .vmem S33x768 .f32) (harg9 : arg9.IsWhole) (arg10 : Memref sig .tc .vmem S33x768 .f32) (harg10 : arg10.IsWhole) (arg11 : Memref sig .tc .vmem S33x2 .f32) (harg11 : arg11.IsWhole) (hc0 : ¬first2 i) (hc1 : ¬last2 i)
    (x0 : Vec F S1x512x768 .f32) (x1 : Vec F S1x512x768 .f32) (x2 : Vec F S1x1x512 .f32) (x3 : Vec F S1x1x512 .f32) (a0 : Vec F S33x768 .f32) (a1 : Vec F S33x768 .f32) (a2 : Vec F S33x2 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare a0 ∗ owns (c : Thread nD τ) arg10 fullShare a1 ∗ owns (c : Thread nD τ) arg11 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg9 fullShare (upd0 x2 x3 a0 x0) ∗ owns (c : Thread nD τ) arg10 fullShare (upd1 x2 x3 a1 x1) ∗ owns (c : Thread nD τ) arg11 fullShare (upd2 x2 x3 a2)) -∗ K ⟨⟩))
      ⊢ wp frame (wpE (defs₀ (F := F)) Variants.none c none) E (cc2__k3_pool i arg2 harg2 arg3 harg3 arg4 harg4 arg5 harg5 arg6 harg6 arg7 harg7 arg8 harg8 arg9 harg9 arg10 harg10 arg11 harg11) K := by
  simp only [cc2__k3_pool_eq_skeleton]; unfold cc2__k3_pool_skel
  simp only [k2_part1_eq_skeleton]
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
  subst hf0 hf1 hf2 hf3 hfs0 hfs1 hfs2
  sl_exec (disch := first | sl_exact hc0 | sl_exact hc1)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [HS0]
  · iexists _; isplitr
    swap; · iexact HS0
    ipureintro
    exact (View.read_writes_full _ _ _ _ _).trans (pay12_congr (View.readAt_full _ _ _) (View.readAt_full _ _ _) (View.readAt_full _ _ _) (View.readAt_full _ _ _))
  isplitl [HS1]
  · iexists _; isplitr
    swap; · iexact HS1
    ipureintro
    exact (View.read_writes_full _ _ _ _ _).trans (pay13_congr (View.readAt_full _ _ _) (View.readAt_full _ _ _) (View.readAt_full _ _ _) (View.readAt_full _ _ _))
  iexists _; isplitr
  swap; · iexact HS2
  ipureintro
  exact (View.read_writes_full _ _ _ _ _).trans (pay1_congr (View.readAt_full _ _ _) (View.readAt_full _ _ _) (View.readAt_full _ _ _))

set_option maxHeartbeats 1600000 in
/-- The body at the last block of a row: the accumulators are updated and the results written. -/
theorem sound_kernel2_C (c : Dev nD) (i : grid2.Coords) (arg2 : Memref sig .tc .vmem S1x512x768 .f32) (harg2 : arg2.IsWhole) (arg3 : Memref sig .tc .vmem S1x512x768 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x32x768 .f32) (harg6 : arg6.IsWhole) (arg7 : Memref sig .tc .vmem S1x32x768 .f32) (harg7 : arg7.IsWhole) (arg8 : Memref sig .tc .vmem S1x32x1 .f32) (harg8 : arg8.IsWhole) (arg9 : Memref sig .tc .vmem S33x768 .f32) (harg9 : arg9.IsWhole) (arg10 : Memref sig .tc .vmem S33x768 .f32) (harg10 : arg10.IsWhole) (arg11 : Memref sig .tc .vmem S33x2 .f32) (harg11 : arg11.IsWhole) (hc0 : ¬first2 i) (hc1 : last2 i)
    (x0 : Vec F S1x512x768 .f32) (x1 : Vec F S1x512x768 .f32) (x2 : Vec F S1x1x512 .f32) (x3 : Vec F S1x1x512 .f32) (a0 : Vec F S33x768 .f32) (a1 : Vec F S33x768 .f32) (a2 : Vec F S33x2 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare a0 ∗ owns (c : Thread nD τ) arg10 fullShare a1 ∗ owns (c : Thread nD τ) arg11 fullShare a2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (res4 (upd2 x2 x3 a2) (upd0 x2 x3 a0 x0)) ∗ owns (c : Thread nD τ) arg7 fullShare (res5 (upd2 x2 x3 a2) (upd1 x2 x3 a1 x1)) ∗ owns (c : Thread nD τ) arg8 fullShare (res6 (upd2 x2 x3 a2)) ∗ owns (c : Thread nD τ) arg9 fullShare (upd0 x2 x3 a0 x0) ∗ owns (c : Thread nD τ) arg10 fullShare (upd1 x2 x3 a1 x1) ∗ owns (c : Thread nD τ) arg11 fullShare (upd2 x2 x3 a2)) -∗ K ⟨⟩))
      ⊢ wp frame (wpE (defs₀ (F := F)) Variants.none c none) E (cc2__k3_pool i arg2 harg2 arg3 harg3 arg4 harg4 arg5 harg5 arg6 harg6 arg7 harg7 arg8 harg8 arg9 harg9 arg10 harg10 arg11 harg11) K := by
  simp only [cc2__k3_pool_eq_skeleton]; unfold cc2__k3_pool_skel
  simp only [k2_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%fs0, %hfs0, HS0⟩, ⟨%fs1, %hfs1, HS1⟩, ⟨%fs2, %hfs2, HS2⟩, Hk⟩
  subst hf0 hf1 hf2 hf3 hfs0 hfs1 hfs2
  sl_exec (disch := first | sl_exact hc0 | sl_exact hc1)
  sl_step
  iapply Hk
  isplitl [H0]
  · iexists _; isplitr
    swap; · iexact H0
    ipureintro; rfl
  isplitl [H1]
  · iexists _; isplitr
    swap; · iexact H1
    ipureintro; rfl
  isplitl [H2]
  · iexists _; isplitr
    swap; · iexact H2
    ipureintro; rfl
  isplitl [H3]
  · iexists _; isplitr
    swap; · iexact H3
    ipureintro; rfl
  isplitl [H4]
  · iexists _; isplitr
    swap; · iexact H4
    ipureintro
    exact (View.read_writes_full _ _ _ _ _).trans (pay3_congr (readCov_ld _ _ _ _ (pay1_congr (View.readAt_full _ _ _) (View.readAt_full _ _ _) (View.readAt_full _ _ _))) (readCov_ld _ _ _ _ (pay12_congr (View.readAt_full _ _ _) (View.readAt_full _ _ _) (View.readAt_full _ _ _) (View.readAt_full _ _ _))))
  isplitl [H5]
  · iexists _; isplitr
    swap; · iexact H5
    ipureintro
    exact (View.read_writes_full _ _ _ _ _).trans (pay4_congr (readCov_ld _ _ _ _ (pay1_congr (View.readAt_full _ _ _) (View.readAt_full _ _ _) (View.readAt_full _ _ _))) (readCov_ld _ _ _ _ (pay13_congr (View.readAt_full _ _ _) (View.readAt_full _ _ _) (View.readAt_full _ _ _) (View.readAt_full _ _ _))))
  isplitl [H6]
  · iexists _; isplitr
    swap; · iexact H6
    ipureintro
    exact (View.read_writes_full _ _ _ _ _).trans (pay5_congr (readCov_ld _ _ _ _ (pay1_congr (View.readAt_full _ _ _) (View.readAt_full _ _ _) (View.readAt_full _ _ _))))
  isplitl [HS0]
  · iexists _; isplitr
    swap; · iexact HS0
    ipureintro
    exact (View.read_writes_full _ _ _ _ _).trans (pay12_congr (View.readAt_full _ _ _) (View.readAt_full _ _ _) (View.readAt_full _ _ _) (View.readAt_full _ _ _))
  isplitl [HS1]
  · iexists _; isplitr
    swap; · iexact HS1
    ipureintro
    exact (View.read_writes_full _ _ _ _ _).trans (pay13_congr (View.readAt_full _ _ _) (View.readAt_full _ _ _) (View.readAt_full _ _ _) (View.readAt_full _ _ _))
  iexists _; isplitr
  swap; · iexact HS2
  ipureintro
  exact (View.read_writes_full _ _ _ _ _).trans (pay1_congr (View.readAt_full _ _ _) (View.readAt_full _ _ _) (View.readAt_full _ _ _))

/-- Point number `n` of the grid. -/
def pt2 (n : ℕ) : Fin cfg2.N := ⟨n % 16, Nat.lt_of_lt_of_eq (Nat.mod_lt _ (by decide)) N_2.symm⟩
theorem pt2_val (t : Fin cfg2.N) : pt2 t.val = t := Fin.ext (Nat.mod_eq_of_lt (Nat.lt_of_lt_of_eq t.isLt N_2))

/-- The first accumulator after point `n`; it starts afresh with every row. -/
def acc0 (c : Dev nD) : ℕ → Vec F S33x768 .f32
  | 0 => upd0 (iblk2 V c 2 (pt2 0)) (iblk2 V c 3 (pt2 0)) k2_pay6 (iblk2 V c 0 (pt2 0))
  | n + 1 => upd0 (iblk2 V c 2 (pt2 (n + 1))) (iblk2 V c 3 (pt2 (n + 1))) (if (n + 1) % 4 = 0 then k2_pay6 else acc0 c n) (iblk2 V c 0 (pt2 (n + 1)))
/-- The second accumulator after point `n`. -/
def acc1 (c : Dev nD) : ℕ → Vec F S33x768 .f32
  | 0 => upd1 (iblk2 V c 2 (pt2 0)) (iblk2 V c 3 (pt2 0)) k2_pay7 (iblk2 V c 1 (pt2 0))
  | n + 1 => upd1 (iblk2 V c 2 (pt2 (n + 1))) (iblk2 V c 3 (pt2 (n + 1))) (if (n + 1) % 4 = 0 then k2_pay7 else acc1 c n) (iblk2 V c 1 (pt2 (n + 1)))
/-- The accumulator of weights and counts after point `n`. -/
def acc2 (c : Dev nD) : ℕ → Vec F S33x2 .f32
  | 0 => upd2 (iblk2 V c 2 (pt2 0)) (iblk2 V c 3 (pt2 0)) k2_pay8
  | n + 1 => upd2 (iblk2 V c 2 (pt2 (n + 1))) (iblk2 V c 3 (pt2 (n + 1))) (if (n + 1) % 4 = 0 then k2_pay8 else acc2 c n)

/-- The accumulators after the first block of a row. -/
theorem acc_first_pt (c : Dev nD) (n : ℕ) (h : n % 4 = 0) :
    acc0 V c n = upd0 (iblk2 V c 2 (pt2 n)) (iblk2 V c 3 (pt2 n)) k2_pay6 (iblk2 V c 0 (pt2 n))
    ∧ acc1 V c n = upd1 (iblk2 V c 2 (pt2 n)) (iblk2 V c 3 (pt2 n)) k2_pay7 (iblk2 V c 1 (pt2 n))
    ∧ acc2 V c n = upd2 (iblk2 V c 2 (pt2 n)) (iblk2 V c 3 (pt2 n)) k2_pay8 := by
  cases n with
  | zero => exact ⟨rfl, rfl, rfl⟩
  | succ n => simp only [acc0, acc1, acc2, h, if_true]; exact ⟨trivial, trivial, trivial⟩
/-- The accumulators after a further block of a row. -/
theorem acc_next_pt (c : Dev nD) (n : ℕ) (h : ¬n % 4 = 0) :
    acc0 V c n = upd0 (iblk2 V c 2 (pt2 n)) (iblk2 V c 3 (pt2 n)) (acc0 V c (n - 1)) (iblk2 V c 0 (pt2 n))
    ∧ acc1 V c n = upd1 (iblk2 V c 2 (pt2 n)) (iblk2 V c 3 (pt2 n)) (acc1 V c (n - 1)) (iblk2 V c 1 (pt2 n))
    ∧ acc2 V c n = upd2 (iblk2 V c 2 (pt2 n)) (iblk2 V c 3 (pt2 n)) (acc2 V c (n - 1)) := by
  cases n with
  | zero => exact absurd rfl h
  | succ n => simp only [acc0, acc1, acc2, h, if_false, Nat.add_sub_cancel]; exact ⟨trivial, trivial, trivial⟩
theorem acc_first (c : Dev nD) (t : Fin cfg2.N) (h : t.val % 4 = 0) :
    acc0 V c t.val = upd0 (iblk2 V c 2 t) (iblk2 V c 3 t) k2_pay6 (iblk2 V c 0 t)
    ∧ acc1 V c t.val = upd1 (iblk2 V c 2 t) (iblk2 V c 3 t) k2_pay7 (iblk2 V c 1 t)
    ∧ acc2 V c t.val = upd2 (iblk2 V c 2 t) (iblk2 V c 3 t) k2_pay8 := by
  have e := acc_first_pt V c t.val h
  rwa [pt2_val] at e
theorem acc_next (c : Dev nD) (t : Fin cfg2.N) (h : ¬t.val % 4 = 0) :
    acc0 V c t.val = upd0 (iblk2 V c 2 t) (iblk2 V c 3 t) (acc0 V c (t.val - 1)) (iblk2 V c 0 t)
    ∧ acc1 V c t.val = upd1 (iblk2 V c 2 t) (iblk2 V c 3 t) (acc1 V c (t.val - 1)) (iblk2 V c 1 t)
    ∧ acc2 V c t.val = upd2 (iblk2 V c 2 t) (iblk2 V c 3 t) (acc2 V c (t.val - 1)) := by
  have e := acc_next_pt V c t.val h
  rwa [pt2_val] at e

abbrev scM2_0 : Memref sig .tc .vmem S33x768 .f32 := Memref.whole cc2_scratch0
abbrev scM2_1 : Memref sig .tc .vmem S33x768 .f32 := Memref.whole cc2_scratch1
abbrev scM2_2 : Memref sig .tc .vmem S33x2 .f32 := Memref.whole cc2_scratch2

/-- The scratch buffers at anything, the other buffers of the core, the generator. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d))
          ∗ Pipeline.scopedRestBut spec2 c [cc2_scratch0, cc2_scratch1, cc2_scratch2]) ∗ (∃ r, prngReg c r)) := by
  unfold Pipeline.ΦA; rw [scopedRest2_split]; simp only [scM2_0, scM2_1, scM2_2, owns_whole]; try rfl

/-- What is known before point `n`: inside a row, the accumulators after the point before. -/
def inv2 (c : Dev nD) (n : ℕ) : sProp 𝕄 :=
  if n % 4 = 0 then Pipeline.ΦA spec2 c else
    iprop(iprop(iprop(owns (c : Thread nD τ) scM2_0 fullShare (acc0 V c (n - 1)) ∗ owns (c : Thread nD τ) scM2_1 fullShare (acc1 V c (n - 1)) ∗ owns (c : Thread nD τ) scM2_2 fullShare (acc2 V c (n - 1)))
      ∗ Pipeline.scopedRestBut spec2 c [cc2_scratch0, cc2_scratch1, cc2_scratch2]) ∗ (∃ r, prngReg c r))
theorem inv2_row (c : Dev nD) (n : ℕ) (h : n % 4 = 0) : inv2 V c n = Pipeline.ΦA spec2 c := if_pos h
theorem inv2_in (c : Dev nD) (n : ℕ) (h : ¬n % 4 = 0) : inv2 V c n = iprop(iprop(iprop(owns (c : Thread nD τ) scM2_0 fullShare (acc0 V c (n - 1)) ∗ owns (c : Thread nD τ) scM2_1 fullShare (acc1 V c (n - 1)) ∗ owns (c : Thread nD τ) scM2_2 fullShare (acc2 V c (n - 1)))
      ∗ Pipeline.scopedRestBut spec2 c [cc2_scratch0, cc2_scratch1, cc2_scratch2]) ∗ (∃ r, prngReg c r)) := if_neg h

/-- The proof data of this call: arrays as found on entry, what each buffer holds after a point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => res4 (acc2 V c t.val) (acc0 V c t.val)
    | ⟨5, _⟩ => res5 (acc2 V c t.val) (acc1 V c t.val)
    | ⟨6, _⟩ => res6 (acc2 V c t.val)
  Φ t := inv2 V c t.val
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = res4 (acc2 V c t.val) (acc0 V c t.val) := by dsimp only [dat2]
theorem after2_5 (c : Dev nD) (t : Fin cfg2.N) : (dat2 V c).after 5 t = res5 (acc2 V c t.val) (acc1 V c t.val) := by dsimp only [dat2]
theorem after2_6 (c : Dev nD) (t : Fin cfg2.N) : (dat2 V c).after 6 t = res6 (acc2 V c t.val) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem idle2_4 : ∀ t : Fin cfg2.N, ¬t.val % 4 = 3 → cfg2.idle 4 (grid2.coords t) = true ∧ (cfg2.win 4).flush t = false := by decide +kernel
theorem live2_4 : ∀ t : Fin cfg2.N, t.val % 4 = 3 → cfg2.idle 4 (grid2.coords t) = false := by decide +kernel
theorem idle2_5 : ∀ t : Fin cfg2.N, ¬t.val % 4 = 3 → cfg2.idle 5 (grid2.coords t) = true ∧ (cfg2.win 5).flush t = false := by decide +kernel
theorem live2_5 : ∀ t : Fin cfg2.N, t.val % 4 = 3 → cfg2.idle 5 (grid2.coords t) = false := by decide +kernel
theorem idle2_6 : ∀ t : Fin cfg2.N, ¬t.val % 4 = 3 → cfg2.idle 6 (grid2.coords t) = true ∧ (cfg2.win 6).flush t = false := by decide +kernel
theorem live2_6 : ∀ t : Fin cfg2.N, t.val % 4 = 3 → cfg2.idle 6 (grid2.coords t) = false := by decide +kernel

/-- What the body is handed at a point. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What the body hands back at a point. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 9600000 in
/-- The body at any point of the grid: first, inner or last block of its row. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = inv2 V c (t.val + 1) from rfl, show (dat2 V c).Φ t.castSucc = inv2 V c t.val from rfl]
  rw [show (dat2 V c).leavesExact 0 t = owns (c : Thread nD τ) (st2_0 t) fullShare ((dat2 V c).after 0 t) from rfl, after2_0]
  rw [show (dat2 V c).leavesExact 1 t = owns (c : Thread nD τ) (st2_1 t) fullShare ((dat2 V c).after 1 t) from rfl, after2_1]
  rw [show (dat2 V c).leavesExact 2 t = owns (c : Thread nD τ) (st2_2 t) fullShare ((dat2 V c).after 2 t) from rfl, after2_2]
  rw [show (dat2 V c).leavesExact 3 t = owns (c : Thread nD τ) (st2_3 t) fullShare ((dat2 V c).after 3 t) from rfl, after2_3]
  have hN : t.val < 16 := lt_of_lt_of_eq t.isLt (show cfg2.N = 16 from N_2)
  by_cases h1 : t.val % 4 = 3
  · have h0 : ¬t.val % 4 = 0 := by omega
    rw [show (dat2 V c).leavesExact 4 t = owns (c : Thread nD τ) (st2_4 t) fullShare ((dat2 V c).after 4 t) from by
      unfold Dat.leavesExact; rw [live2_4 t h1], after2_4]
    rw [show (dat2 V c).leavesExact 5 t = owns (c : Thread nD τ) (st2_5 t) fullShare ((dat2 V c).after 5 t) from by
      unfold Dat.leavesExact; rw [live2_5 t h1], after2_5]
    rw [show (dat2 V c).leavesExact 6 t = owns (c : Thread nD τ) (st2_6 t) fullShare ((dat2 V c).after 6 t) from by
      unfold Dat.leavesExact; rw [live2_6 t h1], after2_6]
    obtain ⟨e0, e1, e2⟩ := acc_next V c t h0
    rw [inv2_in V c t.val h0, inv2_row V c (t.val + 1) (by omega), PhiA2_eq, e0, e1, e2]
    iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel2_C c (grid2.coords t) _ _ _ _ _ _ _ _ _ _ _ _ _ _ _ _ _ _ _ _ (fun h => h0 ((first2_iff t).mp h)) ((last2_iff t).mpr h1) (iblk2 V c 0 t) (iblk2 V c 1 t) (iblk2 V c 2 t) (iblk2 V c 3 t) _ _ _ Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hb Hg]
    · isplitl [HS0 HS1 HS2 Hb]
      · isplitl [HS0 HS1 HS2]
        · isplitl [HS0]; · iexists _; iexact HS0
          isplitl [HS1]; · iexists _; iexact HS1
          iexists _; iexact HS2
        iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

  · rw [Dat.leavesExact_idle (dat2 V c) 4 t (idle2_4 t h1).1 (idle2_4 t h1).2]
    rw [Dat.leavesExact_idle (dat2 V c) 5 t (idle2_5 t h1).1 (idle2_5 t h1).2]
    rw [Dat.leavesExact_idle (dat2 V c) 6 t (idle2_6 t h1).1 (idle2_6 t h1).2]
    rw [inv2_in V c (t.val + 1) (by omega), Nat.add_sub_cancel]
    by_cases h0 : t.val % 4 = 0
    · obtain ⟨e0, e1, e2⟩ := acc_first V c t h0
      rw [inv2_row V c t.val h0, PhiA2_eq, e0, e1, e2]
      iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_A c (grid2.coords t) _ _ _ _ _ _ _ _ _ _ _ _ _ _ _ _ _ _ _ _ ((first2_iff t).mpr h0) (fun h => h1 ((last2_iff t).mp h)) (iblk2 V c 0 t) (iblk2 V c 1 t) (iblk2 V c 2 t) (iblk2 V c 3 t) Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hb Hg]
      · isplitl [HS0 HS1 HS2 Hb]
        · isplitl [HS0 HS1 HS2]
          · isplitl [HS0]; · iexact HS0
            isplitl [HS1]; · iexact HS1
            iexact HS2
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

    · obtain ⟨e0, e1, e2⟩ := acc_next V c t h0
      rw [inv2_in V c t.val h0, e0, e1, e2]
      iintro ⟨⟨⟨⟨HS0, HS1, HS2⟩, Hb⟩, Hg⟩, Ho, ⟨%d0, H0⟩, ⟨%d1, H1⟩, ⟨%d2, H2⟩, ⟨%d3, H3⟩, ⟨%d4, H4⟩, ⟨%d5, H5⟩, ⟨%d6, H6⟩⟩
      iapply (sound_kernel2_B c (grid2.coords t) _ _ _ _ _ _ _ _ _ _ _ _ _ _ _ _ _ _ _ _ (fun h => h0 ((first2_iff t).mp h)) (fun h => h1 ((last2_iff t).mp h)) (iblk2 V c 0 t) (iblk2 V c 1 t) (iblk2 V c 2 t) (iblk2 V c 3 t) _ _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [HS0 HS1 HS2 Hb Hg]
      · isplitl [HS0 HS1 HS2 Hb]
        · isplitl [HS0 HS1 HS2]
          · isplitl [HS0]; · iexact HS0
            isplitl [HS1]; · iexact HS1
            iexact HS2
          iexact Hb
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem defs₀_row2 (t : Fin cfg2.N) :
    defs₀ (F := F) .tc cfg2.body (cfg2.bodyArgs t (cfg2.slots t)) = bodyAt2 t := by
  unfold defs₀; rw [Defs.onTc_tc]

/-- The obligation of the pipeline, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- Before the first point and after the last nothing is claimed of the scratch. -/
theorem Phi2_ends (c : Dev nD) : (dat2 V c).Φ 0 = Pipeline.ΦA spec2 c ∧ (dat2 V c).Φ (Fin.last cfg2.N) = Pipeline.ΦA spec2 c :=
  ⟨inv2_row V c 0 rfl, inv2_row V c cfg2.N (by rw [show cfg2.N = 16 from N_2])⟩

end Cert.KernelIdeal.Gen

end
-- ==== Proof.KernelIdealRun.Project.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The fourth call: the projections of the pooled events -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` of the grid works on. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S1x32x768 := Rect.unit (s := S1x32x768) ![0, 0, 0] S1x32x768.size inb_S1x32x768_S1x32x768_0_0_0
abbrev r3_1 : Rect S1x32x1 := Rect.unit (s := S1x32x1) ![0, 0, 0] S1x32x1.size inb_S1x32x1_S1x32x1_0_0_0
abbrev r3_2 : Rect S768x768 := Rect.unit (s := S768x768) ![0, 0] S768x768.size inb_S768x768_S768x768_0_0
abbrev r3_3 : Rect S1x1x32 := Rect.unit (s := S1x1x32) ![0, 0, 0] S1x1x32.size inb_S1x1x32_S1x1x32_0_0_0

def k3_pay13 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : FVec F S32x1 .f32 :=
  k3_pay5 (View.ld x2 r3_1) -- `v5`

/-- What the body leaves in an output's staging buffer, from the blocks of the inputs. -/
def out3_12 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : Vec F S1x32x768 .f32 :=
  View.canon [⟨r3_0, k3_pay10 (k3_pay13 x0 x1 x2 x3 x4 x5 x6 x7 x8 x9 x10 x11) (k3_pay6 (View.ld x0 r3_0) (View.ld x1 r3_0) (View.ld x8 r3_2) (View.ld x9 r3_2)) (View.ld x3 r3_0)⟩]

/-- The stores of the body fill that buffer. -/
theorem cover3_12 (p0 : Vec F S1x32x768 .f32) (y : S1x32x768.Idx) :
    ∃ pc ∈ ([⟨r3_0, p0⟩] : List (View.Piece (Elt F) S1x32x768 .f32)), y ∈ pc.1.set :=
  View.cover_of_tiled [⟨r3_0, p0⟩] S1x32x768.size (by rfl) y

/-- What the body leaves in an output's staging buffer, from the blocks of the inputs. -/
def out3_13 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : Vec F S1x32x768 .f32 :=
  View.canon [⟨r3_0, k3_pay11 (k3_pay13 x0 x1 x2 x3 x4 x5 x6 x7 x8 x9 x10 x11) (k3_pay7 (View.ld x0 r3_0) (View.ld x1 r3_0) (View.ld x9 r3_2) (View.ld x8 r3_2)) (View.ld x4 r3_0)⟩]

/-- The stores of the body fill that buffer. -/
theorem cover3_13 (p0 : Vec F S1x32x768 .f32) (y : S1x32x768.Idx) :
    ∃ pc ∈ ([⟨r3_0, p0⟩] : List (View.Piece (Elt F) S1x32x768 .f32)), y ∈ pc.1.set :=
  View.cover_of_tiled [⟨r3_0, p0⟩] S1x32x768.size (by rfl) y

/-- What the body leaves in an output's staging buffer, from the blocks of the inputs. -/
def out3_14 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : Vec F S1x32x768 .f32 :=
  View.canon [⟨r3_0, k3_pay12 (k3_pay13 x0 x1 x2 x3 x4 x5 x6 x7 x8 x9 x10 x11) (k3_pay8 (View.ld x0 r3_0) (View.ld x1 r3_0) (View.ld x10 r3_2) (View.ld x11 r3_2)) (View.ld x5 r3_0)⟩]

/-- The stores of the body fill that buffer. -/
theorem cover3_14 (p0 : Vec F S1x32x768 .f32) (y : S1x32x768.Idx) :
    ∃ pc ∈ ([⟨r3_0, p0⟩] : List (View.Piece (Elt F) S1x32x768 .f32)), y ∈ pc.1.set :=
  View.cover_of_tiled [⟨r3_0, p0⟩] S1x32x768.size (by rfl) y

/-- What the body leaves in an output's staging buffer, from the blocks of the inputs. -/
def out3_15 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : Vec F S1x32x768 .f32 :=
  View.canon [⟨r3_0, k3_pay1 (k3_pay13 x0 x1 x2 x3 x4 x5 x6 x7 x8 x9 x10 x11) (k3_pay9 (View.ld x0 r3_0) (View.ld x1 r3_0) (View.ld x11 r3_2) (View.ld x10 r3_2)) (View.ld x6 r3_0)⟩]

/-- The stores of the body fill that buffer. -/
theorem cover3_15 (p0 : Vec F S1x32x768 .f32) (y : S1x32x768.Idx) :
    ∃ pc ∈ ([⟨r3_0, p0⟩] : List (View.Piece (Elt F) S1x32x768 .f32)), y ∈ pc.1.set :=
  View.cover_of_tiled [⟨r3_0, p0⟩] S1x32x768.size (by rfl) y

/-- What the body leaves in an output's staging buffer, from the blocks of the inputs. -/
def out3_16 (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) : Vec F S1x1x32 .f32 :=
  View.canon [⟨r3_3, k3_pay2 (k3_pay13 x0 x1 x2 x3 x4 x5 x6 x7 x8 x9 x10 x11) (View.ld x7 r3_3)⟩]

/-- The stores of the body fill that buffer. -/
theorem cover3_16 (p0 : Vec F S1x1x32 .f32) (y : S1x1x32.Idx) :
    ∃ pc ∈ ([⟨r3_3, p0⟩] : List (View.Piece (Elt F) S1x1x32 .f32)), y ∈ pc.1.set :=
  View.cover_of_tiled [⟨r3_3, p0⟩] S1x1x32.size (by rfl) y

set_option maxHeartbeats 1000000 in
/-- The body, run on its staging buffers: the inputs stay, the outputs hold the values stated. -/
theorem sound_kernel3 (c : Dev nD) (E : Set ℕ) (i : grid3.Coords) (arg1 : Memref sig .tc .vmem S1x32x768 .f32) (harg1 : arg1.IsWhole) (arg2 : Memref sig .tc .vmem S1x32x768 .f32) (harg2 : arg2.IsWhole) (arg3 : Memref sig .tc .vmem S1x32x1 .f32) (harg3 : arg3.IsWhole) (arg4 : Memref sig .tc .vmem S1x32x768 .f32) (harg4 : arg4.IsWhole) (arg5 : Memref sig .tc .vmem S1x32x768 .f32) (harg5 : arg5.IsWhole) (arg6 : Memref sig .tc .vmem S1x32x768 .f32) (harg6 : arg6.IsWhole) (arg7 : Memref sig .tc .vmem S1x32x768 .f32) (harg7 : arg7.IsWhole) (arg8 : Memref sig .tc .vmem S1x1x32 .f32) (harg8 : arg8.IsWhole) (arg9 : Memref sig .tc .vmem S768x768 .f32) (harg9 : arg9.IsWhole) (arg10 : Memref sig .tc .vmem S768x768 .f32) (harg10 : arg10.IsWhole) (arg11 : Memref sig .tc .vmem S768x768 .f32) (harg11 : arg11.IsWhole) (arg12 : Memref sig .tc .vmem S768x768 .f32) (harg12 : arg12.IsWhole) (arg13 : Memref sig .tc .vmem S1x32x768 .f32) (harg13 : arg13.IsWhole) (arg14 : Memref sig .tc .vmem S1x32x768 .f32) (harg14 : arg14.IsWhole) (arg15 : Memref sig .tc .vmem S1x32x768 .f32) (harg15 : arg15.IsWhole) (arg16 : Memref sig .tc .vmem S1x32x768 .f32) (harg16 : arg16.IsWhole) (arg17 : Memref sig .tc .vmem S1x1x32 .f32) (harg17 : arg17.IsWhole)
    (x0 : Vec F S1x32x768 .f32) (x1 : Vec F S1x32x768 .f32) (x2 : Vec F S1x32x1 .f32) (x3 : Vec F S1x32x768 .f32) (x4 : Vec F S1x32x768 .f32) (x5 : Vec F S1x32x768 .f32) (x6 : Vec F S1x32x768 .f32) (x7 : Vec F S1x1x32 .f32) (x8 : Vec F S768x768 .f32) (x9 : Vec F S768x768 .f32) (x10 : Vec F S768x768 .f32) (x11 : Vec F S768x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out3_12 x0 x1 x2 x3 x4 x5 x6 x7 x8 x9 x10 x11) ∗ owns (c : Thread nD τ) arg14 fullShare (out3_13 x0 x1 x2 x3 x4 x5 x6 x7 x8 x9 x10 x11) ∗ owns (c : Thread nD τ) arg15 fullShare (out3_14 x0 x1 x2 x3 x4 x5 x6 x7 x8 x9 x10 x11) ∗ owns (c : Thread nD τ) arg16 fullShare (out3_15 x0 x1 x2 x3 x4 x5 x6 x7 x8 x9 x10 x11) ∗ owns (c : Thread nD τ) arg17 fullShare (out3_16 x0 x1 x2 x3 x4 x5 x6 x7 x8 x9 x10 x11)) -∗ K ⟨⟩))
      ⊢ wp frame (wpE (defs₀ (F := F)) Variants.none c none) E (cc3__k4_project i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc3__k4_project_eq_skeleton]; unfold cc3__k4_project_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    refine (View.read_writes_eq_canon _ _ _ (cover3_12 _)).trans ?_
    rfl
  isplitl [H13]
  · iexists _; isplitr
    swap; · iexact H13
    ipureintro
    refine (View.read_writes_eq_canon _ _ _ (cover3_13 _)).trans ?_
    rfl
  isplitl [H14]
  · iexists _; isplitr
    swap; · iexact H14
    ipureintro
    refine (View.read_writes_eq_canon _ _ _ (cover3_14 _)).trans ?_
    rfl
  isplitl [H15]
  · iexists _; isplitr
    swap; · iexact H15
    ipureintro
    refine (View.read_writes_eq_canon _ _ _ (cover3_15 _)).trans ?_
    rfl
  iexists _; isplitr
  swap; · iexact H16
  ipureintro
  refine (View.read_writes_eq_canon _ _ _ (cover3_16 _)).trans ?_
  rfl

/-- The proof data of this call: arrays as found on entry, what each buffer holds after a point. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
    | ⟨13, _⟩ => out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
    | ⟨14, _⟩ => out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
    | ⟨15, _⟩ => out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
    | ⟨16, _⟩ => out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t)
    | ⟨_ + 17, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = out3_12 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]
theorem after3_13 (c : Dev nD) (t : Fin cfg3.N) : (dat3 V c).after 13 t = out3_13 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]
theorem after3_14 (c : Dev nD) (t : Fin cfg3.N) : (dat3 V c).after 14 t = out3_14 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]
theorem after3_15 (c : Dev nD) (t : Fin cfg3.N) : (dat3 V c).after 15 t = out3_15 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]
theorem after3_16 (c : Dev nD) (t : Fin cfg3.N) : (dat3 V c).after 16 t = out3_16 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d

/-- What the body is handed at a point. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d)))

/-- What the body hands back at a point. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t))

/-- The body at any point of the grid. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel3 c Set.univ (grid3.coords t) _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row3 (t : Fin cfg3.N) :
    defs₀ (F := F) .tc cfg3.body (cfg3.bodyArgs t (cfg3.slots t)) = bodyAt3 t := by
  unfold defs₀; rw [Defs.onTc_tc]

/-- The obligation of the pipeline, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.KernelIdeal.Gen

end
-- ==== Proof.KernelIdealRun.Retrieve.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

/-! # The fifth call: retrieval from the memory -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The block of window `w` that point `t` of the grid works on. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)
theorem before4_7_of {c : Dev nD} (dat : Dat τ (Elt F) Unit ℕ (UR sig nD τ) ℕ cfg4 c) (hA : dat.A 7 = V c (Pipeline.arrRef spec4 7))
    (hafter : ∀ t, dat.after 7 t = iblk4 V c 7 t) (t : Fin cfg4.N) (d) : dat.before 7 t d = iblk4 V c 7 t :=
  (dat.before_in_eq_fetched 7 rfl (fun _ => rfl) (fun _ _ _ => rfl) (fun t => by rw [hafter]; unfold Dat.blockOf iblk4; rw [hA]; try rfl) t d).trans
    (by unfold Dat.fetched Dat.blockOf iblk4; rw [hA]; try rfl)
theorem before4_8_of {c : Dev nD} (dat : Dat τ (Elt F) Unit ℕ (UR sig nD τ) ℕ cfg4 c) (hA : dat.A 8 = V c (Pipeline.arrRef spec4 8))
    (hafter : ∀ t, dat.after 8 t = iblk4 V c 8 t) (t : Fin cfg4.N) (d) : dat.before 8 t d = iblk4 V c 8 t :=
  (dat.before_in_eq_fetched 8 rfl (fun _ => rfl) (fun _ _ _ => rfl) (fun t => by rw [hafter]; unfold Dat.blockOf iblk4; rw [hA]; try rfl) t d).trans
    (by unfold Dat.fetched Dat.blockOf iblk4; rw [hA]; try rfl)
theorem before4_9_of {c : Dev nD} (dat : Dat τ (Elt F) Unit ℕ (UR sig nD τ) ℕ cfg4 c) (hA : dat.A 9 = V c (Pipeline.arrRef spec4 9))
    (hafter : ∀ t, dat.after 9 t = iblk4 V c 9 t) (t : Fin cfg4.N) (d) : dat.before 9 t d = iblk4 V c 9 t :=
  (dat.before_in_eq_fetched 9 rfl (fun _ => rfl) (fun _ _ _ => rfl) (fun t => by rw [hafter]; unfold Dat.blockOf iblk4; rw [hA]; try rfl) t d).trans
    (by unfold Dat.fetched Dat.blockOf iblk4; rw [hA]; try rfl)
theorem before4_10_of {c : Dev nD} (dat : Dat τ (Elt F) Unit ℕ (UR sig nD τ) ℕ cfg4 c) (hA : dat.A 10 = V c (Pipeline.arrRef spec4 10))
    (hafter : ∀ t, dat.after 10 t = iblk4 V c 10 t) (t : Fin cfg4.N) (d) : dat.before 10 t d = iblk4 V c 10 t :=
  (dat.before_in_eq_fetched 10 rfl (fun _ => rfl) (fun _ _ _ => rfl) (fun t => by rw [hafter]; unfold Dat.blockOf iblk4; rw [hA]; try rfl) t d).trans
    (by unfold Dat.fetched Dat.blockOf iblk4; rw [hA]; try rfl)

abbrev r4_0 : Rect S1x768 := Rect.unit (s := S1x768) ![0, 0] S1x768.size inb_S1x768_S1x768_0_0
abbrev r4_1 : Rect S1x512x1 := Rect.unit (s := S1x512x1) ![0, 0, 0] S1x512x1.size inb_S1x512x1_S1x512x1_0_0_0
abbrev r4_2 : Rect S1x512x768 := Rect.unit (s := S1x512x768) ![0, 0, 0] S1x512x768.size inb_S1x512x768_S1x512x768_0_0_0
abbrev r4_3 : Rect S768x768 := Rect.unit (s := S768x768) ![0, 0] S768x768.size inb_S768x768_S768x768_0_0
abbrev r4_4 : Rect S1x32x768 := Rect.unit (s := S1x32x768) ![0, 0, 0] S1x32x768.size inb_S1x32x768_S1x32x768_0_0_0
abbrev r4_5 : Rect S1x1x32 := Rect.unit (s := S1x1x32) ![0, 0, 0] S1x1x32.size inb_S1x1x32_S1x1x32_0_0_0

def k4_pay13 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S512x768 .f32 :=
  k4_pay4 (View.ld x3 r4_0) (View.ld x2 r4_1) (View.ld x0 r4_2) (View.ld x1 r4_2) (View.ld x5 r4_3) (View.ld x4 r4_3) -- `v22`
def k4_pay14 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S512x32 .f32 :=
  k4_pay5 (View.ld x3 r4_0) (View.ld x2 r4_1) (View.ld x0 r4_2) (View.ld x1 r4_2) (View.ld x4 r4_3) (View.ld x5 r4_3) (View.ld x6 r4_4) -- `v25`
def k4_pay15 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S32x768 .f32 :=
  k4_pay6 (View.ld x7 r4_4) -- `v27`
def k4_pay16 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S512x32 .f32 :=
  k4_pay7 (k4_pay13 x0 x1 x2 x3 x4 x5 x6 x7 x8 x9 x10) (k4_pay14 x0 x1 x2 x3 x4 x5 x6 x7 x8 x9 x10) (k4_pay15 x0 x1 x2 x3 x4 x5 x6 x7 x8 x9 x10) (View.ld x10 r4_5) -- `v39`
def k4_pay17 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S512x1 .f32 :=
  k4_pay8 (k4_pay13 x0 x1 x2 x3 x4 x5 x6 x7 x8 x9 x10) (k4_pay14 x0 x1 x2 x3 x4 x5 x6 x7 x8 x9 x10) (k4_pay15 x0 x1 x2 x3 x4 x5 x6 x7 x8 x9 x10) (View.ld x10 r4_5) -- `v41`
def k4_pay18 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : FVec F S512x32 .f32 :=
  k4_pay9 (k4_pay13 x0 x1 x2 x3 x4 x5 x6 x7 x8 x9 x10) (k4_pay14 x0 x1 x2 x3 x4 x5 x6 x7 x8 x9 x10) (k4_pay15 x0 x1 x2 x3 x4 x5 x6 x7 x8 x9 x10) (View.ld x10 r4_5) -- `v69`

/-- What the body leaves in an output's staging buffer, from the blocks of the inputs. -/
def out4_11 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : Vec F S1x512x768 .f32 :=
  View.canon [⟨r4_2, k4_pay11 (k4_pay16 x0 x1 x2 x3 x4 x5 x6 x7 x8 x9 x10) (k4_pay17 x0 x1 x2 x3 x4 x5 x6 x7 x8 x9 x10) (k4_pay18 x0 x1 x2 x3 x4 x5 x6 x7 x8 x9 x10) (View.ld x8 r4_4)⟩]

/-- The stores of the body fill that buffer. -/
theorem cover4_11 (p0 : Vec F S1x512x768 .f32) (y : S1x512x768.Idx) :
    ∃ pc ∈ ([⟨r4_2, p0⟩] : List (View.Piece (Elt F) S1x512x768 .f32)), y ∈ pc.1.set :=
  View.cover_of_tiled [⟨r4_2, p0⟩] S1x512x768.size (by rfl) y

/-- What the body leaves in an output's staging buffer, from the blocks of the inputs. -/
def out4_12 (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) : Vec F S1x512x768 .f32 :=
  View.canon [⟨r4_2, k4_pay12 (k4_pay16 x0 x1 x2 x3 x4 x5 x6 x7 x8 x9 x10) (k4_pay17 x0 x1 x2 x3 x4 x5 x6 x7 x8 x9 x10) (k4_pay18 x0 x1 x2 x3 x4 x5 x6 x7 x8 x9 x10) (View.ld x9 r4_4)⟩]

/-- The stores of the body fill that buffer. -/
theorem cover4_12 (p0 : Vec F S1x512x768 .f32) (y : S1x512x768.Idx) :
    ∃ pc ∈ ([⟨r4_2, p0⟩] : List (View.Piece (Elt F) S1x512x768 .f32)), y ∈ pc.1.set :=
  View.cover_of_tiled [⟨r4_2, p0⟩] S1x512x768.size (by rfl) y

set_option maxHeartbeats 1000000 in
/-- The body, run on its staging buffers: the inputs stay, the outputs hold the values stated. -/
theorem sound_kernel4 (c : Dev nD) (E : Set ℕ) (i : grid4.Coords) (arg2 : Memref sig .tc .vmem S1x512x768 .f32) (harg2 : arg2.IsWhole) (arg3 : Memref sig .tc .vmem S1x512x768 .f32) (harg3 : arg3.IsWhole) (arg4 : Memref sig .tc .vmem S1x512x1 .f32) (harg4 : arg4.IsWhole) (arg5 : Memref sig .tc .vmem S1x768 .f32) (harg5 : arg5.IsWhole) (arg6 : Memref sig .tc .vmem S768x768 .f32) (harg6 : arg6.IsWhole) (arg7 : Memref sig .tc .vmem S768x768 .f32) (harg7 : arg7.IsWhole) (arg8 : Memref sig .tc .vmem S1x32x768 .f32) (harg8 : arg8.IsWhole) (arg9 : Memref sig .tc .vmem S1x32x768 .f32) (harg9 : arg9.IsWhole) (arg10 : Memref sig .tc .vmem S1x32x768 .f32) (harg10 : arg10.IsWhole) (arg11 : Memref sig .tc .vmem S1x32x768 .f32) (harg11 : arg11.IsWhole) (arg12 : Memref sig .tc .vmem S1x1x32 .f32) (harg12 : arg12.IsWhole) (arg13 : Memref sig .tc .vmem S1x512x768 .f32) (harg13 : arg13.IsWhole) (arg14 : Memref sig .tc .vmem S1x512x768 .f32) (harg14 : arg14.IsWhole)
    (x0 : Vec F S1x512x768 .f32) (x1 : Vec F S1x512x768 .f32) (x2 : Vec F S1x512x1 .f32) (x3 : Vec F S1x768 .f32) (x4 : Vec F S768x768 .f32) (x5 : Vec F S768x768 .f32) (x6 : Vec F S1x32x768 .f32) (x7 : Vec F S1x32x768 .f32) (x8 : Vec F S1x32x768 .f32) (x9 : Vec F S1x32x768 .f32) (x10 : Vec F S1x1x32 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare (out4_11 x0 x1 x2 x3 x4 x5 x6 x7 x8 x9 x10) ∗ owns (c : Thread nD τ) arg14 fullShare (out4_12 x0 x1 x2 x3 x4 x5 x6 x7 x8 x9 x10)) -∗ K ⟨⟩))
      ⊢ wp frame (wpE (defs₀ (F := F)) Variants.none c none) E (cc4__k5_retrieve i arg2 harg2 arg3 harg3 arg4 harg4 arg5 harg5 arg6 harg6 arg7 harg7 arg8 harg8 arg9 harg9 arg10 harg10 arg11 harg11 arg12 harg12 arg13 harg13 arg14 harg14) K := by
  simp only [cc4__k5_retrieve_eq_skeleton]; unfold cc4__k5_retrieve_skel
  simp only [k4_part3_eq_skeleton, k4_part1_eq_skeleton, k4_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    refine (View.read_writes_eq_canon _ _ _ (cover4_11 _)).trans ?_
    rfl
  iexists _; isplitr
  swap; · iexact H12
  ipureintro
  refine (View.read_writes_eq_canon _ _ _ (cover4_12 _)).trans ?_
  rfl

/-- The proof data of this call: arrays as found on entry, what each buffer holds after a point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) : (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]
theorem after4_12 (c : Dev nD) (t : Fin cfg4.N) : (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d
theorem before4_7 (c : Dev nD) (t : Fin cfg4.N) (d) : (dat4 V c).before 7 t d = iblk4 V c 7 t :=
  before4_7_of V (dat4 V c) (A_eq4 V c 7) (after4_7 V c) t d
theorem before4_8 (c : Dev nD) (t : Fin cfg4.N) (d) : (dat4 V c).before 8 t d = iblk4 V c 8 t :=
  before4_8_of V (dat4 V c) (A_eq4 V c 8) (after4_8 V c) t d
theorem before4_9 (c : Dev nD) (t : Fin cfg4.N) (d) : (dat4 V c).before 9 t d = iblk4 V c 9 t :=
  before4_9_of V (dat4 V c) (A_eq4 V c 9) (after4_9 V c) t d
theorem before4_10 (c : Dev nD) (t : Fin cfg4.N) (d) : (dat4 V c).before 10 t d = iblk4 V c 10 t :=
  before4_10_of V (dat4 V c) (A_eq4 V c 10) (after4_10 V c) t d

/-- What the body is handed at a point. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d)))

/-- What the body hands back at a point. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t))

/-- The body at any point of the grid. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel4 c Set.univ (grid4.coords t) _ _ _ _ _ _ _ _ _ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row4 (t : Fin cfg4.N) :
    defs₀ (F := F) .tc cfg4.body (cfg4.bodyArgs t (cfg4.slots t)) = bodyAt4 t := by
  unfold defs₀; rw [Defs.onTc_tc]

/-- The obligation of the pipeline, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

end Cert.KernelIdeal.Gen

end
-- ==== Proof.KernelIdealRun.Run.lean ====
module

public import proofs.«01_k».proof.Proof.KernelIdealRun.Stats
public import proofs.«01_k».proof.Proof.KernelIdealRun.Segment
public import proofs.«01_k».proof.Proof.KernelIdealRun.Pool
public import proofs.«01_k».proof.Proof.KernelIdealRun.Project
public import proofs.«01_k».proof.Proof.KernelIdealRun.Retrieve
public import Idealize.ShloMosaic.Lib.Pipeline.Frame
public import Idealize.ShloMosaic.Lib.Pipeline.Regions

/-! # The five calls and the host operations between them, run in a row -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments of the program. -/
abbrev argRefs : List (Ref sig .tc) := [main_arg0, main_arg1, main_arg2, main_arg3, main_arg4, main_arg5, main_arg6, main_arg7, main_arg8, main_arg9, main_arg10, main_arg11, main_arg12, main_arg13, main_arg14]

theorem hostOps0_fresh : (hostOps0 : List (HloOp τ sig (Elt F))).Forall fun op => op.fresh = ∅ := by
  simp only [List.Forall]; repeat' constructor
abbrev hostOps0_W : List (Ref sig .tc) := [main_call0_v0, main_call0_v1, main_call0_v2, main_call0_v3, main_call0_v4, main_call0_v5, main_call0_v6, main_call0_v7, main_call0_v8, main_call0_v9, main_call0_v10, main_call0_v11, main_call0_v12, main_call0_v13, main_call0_v14, main_call0_v15]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_call0_cst, main_call0_v17, main_call0_cst_0, main_call0_v18, main_call0_v19, main_call0_v20, main_call0_c, main_call0_call0_v0, main_call0_v21, main_call0_v22, main_call0_v23, main_call0_v24, main_call0_v25, main_call0_v26, main_call0_cst_1, main_call0_v27, main_call0_v28, main_call0_v29, main_call0_v30, main_call0_v31, main_call0_v32, main_call0_v33, main_call0_v34, main_call0_v35, main_call0_v36, main_call0_v37, main_call0_v38, main_call0_v39, main_call0_v40, main_call0_v41, main_call0_v42, main_call0_v43, main_call0_v44, main_call0_v45, main_call0_v46, main_call0_v47, main_call0_v48, main_call0_v49, main_call0_v50, main_call0_v51, main_call0_v52, main_call0_v53]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps5_fresh : (hostOps5 : List (HloOp τ sig (Elt F))).Forall fun op => op.fresh = ∅ := by
  simp only [List.Forall]; repeat' constructor
abbrev hostOps5_W : List (Ref sig .tc) := [main_call0_v58, main_call0_v59, main_v0_0, main_call0_v61, main_call0_v62, main_v0_1, main_call0_v64, main_call0_v65, main_v0_2, main_v0_3, main_v0_4]
theorem hostOps5_writes : (hostOps5 : List (HloOp τ sig (Elt F))).Forall fun op => op.writes ⊆ (hostOps5_W.map (Proc.devRef (τ := τ) .tc)).toFinset :=
  StableHlo.forall_writes_sub_of_map rfl
theorem hostOps5_args : ∀ a ∈ argRefs, a ∉ hostOps5_W := ListAll.forall_mem_of_all_decide (by decide +kernel)

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffers after the first host operations. -/
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
/-- The buffers after the first call. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- The buffers after the host operations between the first two calls. -/
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
abbrev V3 : (c : Dev nD) → (b : Ref sig .tc) → Buf (Elt F) ((c : Thread nD τ).loc b) := fun c b => W3 m ρ c b
/-- The buffers after the second call. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- The buffers after the third call. -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
abbrev V5 : (c : Dev nD) → (b : Ref sig .tc) → Buf (Elt F) ((c : Thread nD τ).loc b) := fun c b => W5 m ρ c b
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- The buffers after the fourth call. -/
def W6 (c : Dev nD) : Valuation τ sig (Elt F) :=
  Pipeline.withArrays spec3 c (W5 m ρ c) fun w => (dat3 (V5 m ρ) c).arrAt w cfg3.N
theorem W6_arr (c : Dev nD) (w : Fin cfg3.W) :
    W6 m ρ c (Proc.devRef .tc (Pipeline.arrRef spec3 w)) = (dat3 (V5 m ρ) c).arrAt w cfg3.N := by
  unfold W6; exact Pipeline.withArrays_arr spec3 launch3.win.arr_inj c _ _ w
theorem W6_of_ne (c : Dev nD) (b : Ref sig .tc) (hb : ∀ w, Pipeline.arrRef spec3 w ≠ b) :
    W6 m ρ c (Proc.devRef .tc b) = W5 m ρ c (Proc.devRef .tc b) := by
  unfold W6; exact Pipeline.withArrays_of_ne spec3 c _ _ b hb
theorem W6_of (c : Dev nD) (r : Ref sig .tc) (h : ∀ w : Fin cfg3.W, Pipeline.arrRef spec3 w = r → (cfg3.win w).isOut = false) :
    W6 m ρ c (Proc.devRef .tc r) = W5 m ρ c (Proc.devRef .tc r) := by
  by_cases hw : ∃ w : Fin cfg3.W, Pipeline.arrRef spec3 w = r
  · obtain ⟨w, rfl⟩ := hw
    exact (W6_arr m ρ c w).trans (((dat3 (V5 m ρ) c).arrAt_in w (h w rfl) _).trans (A_eq3 (V5 m ρ) c w))
  · exact W6_of_ne m ρ c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn3 a ha)).trans (W5_args m ρ c a ha)
abbrev V6 : (c : Dev nD) → (b : Ref sig .tc) → Buf (Elt F) ((c : Thread nD τ).loc b) := fun c b => W6 m ρ c b
theorem hF3 (c : Dev nD) (w : Fin cfg3.W) : (dat3 (V5 m ρ) c).arrAt w cfg3.N = V6 m ρ c (Pipeline.arrRef spec3 w) :=
  (W6_arr m ρ c w).symm
theorem hrest3 (c : Dev nD) : ∀ b, b ∉ Finset.univ.image (Pipeline.arrRef spec3) → V6 m ρ c b = V5 m ρ c b :=
  fun b hb => W6_of_ne m ρ c b fun w e => hb (Finset.mem_image.mpr ⟨w, Finset.mem_univ _, e⟩)

/-- The buffers after the fifth call. -/
def W7 (c : Dev nD) : Valuation τ sig (Elt F) :=
  Pipeline.withArrays spec4 c (W6 m ρ c) fun w => (dat4 (V6 m ρ) c).arrAt w cfg4.N
theorem W7_arr (c : Dev nD) (w : Fin cfg4.W) :
    W7 m ρ c (Proc.devRef .tc (Pipeline.arrRef spec4 w)) = (dat4 (V6 m ρ) c).arrAt w cfg4.N := by
  unfold W7; exact Pipeline.withArrays_arr spec4 launch4.win.arr_inj c _ _ w
theorem W7_of_ne (c : Dev nD) (b : Ref sig .tc) (hb : ∀ w, Pipeline.arrRef spec4 w ≠ b) :
    W7 m ρ c (Proc.devRef .tc b) = W6 m ρ c (Proc.devRef .tc b) := by
  unfold W7; exact Pipeline.withArrays_of_ne spec4 c _ _ b hb
theorem W7_of (c : Dev nD) (r : Ref sig .tc) (h : ∀ w : Fin cfg4.W, Pipeline.arrRef spec4 w = r → (cfg4.win w).isOut = false) :
    W7 m ρ c (Proc.devRef .tc r) = W6 m ρ c (Proc.devRef .tc r) := by
  by_cases hw : ∃ w : Fin cfg4.W, Pipeline.arrRef spec4 w = r
  · obtain ⟨w, rfl⟩ := hw
    exact (W7_arr m ρ c w).trans (((dat4 (V6 m ρ) c).arrAt_in w (h w rfl) _).trans (A_eq4 (V6 m ρ) c w))
  · exact W7_of_ne m ρ c r fun w e => hw ⟨w, e⟩
theorem argsIn4 : ∀ a ∈ argRefs, ∀ w : Fin cfg4.W, Pipeline.arrRef spec4 w = a → (cfg4.win w).isOut = false :=
  ListAll.forall_mem_of_all_decide (by decide +kernel)
theorem W7_args (c : Dev nD) : ∀ a ∈ argRefs, W7 m ρ c (Proc.devRef .tc a) = m ((c : Thread nD τ).loc a) :=
  fun a ha => (W7_of m ρ c a (argsIn4 a ha)).trans (W6_args m ρ c a ha)
abbrev V7 : (c : Dev nD) → (b : Ref sig .tc) → Buf (Elt F) ((c : Thread nD τ).loc b) := fun c b => W7 m ρ c b
theorem hF4 (c : Dev nD) (w : Fin cfg4.W) : (dat4 (V6 m ρ) c).arrAt w cfg4.N = V7 m ρ c (Pipeline.arrRef spec4 w) :=
  (W7_arr m ρ c w).symm
theorem hrest4 (c : Dev nD) : ∀ b, b ∉ Finset.univ.image (Pipeline.arrRef spec4) → V7 m ρ c b = V6 m ρ c b :=
  fun b hb => W7_of_ne m ρ c b fun w e => hb (Finset.mem_image.mpr ⟨w, Finset.mem_univ _, e⟩)

/-- The buffers at the end. -/
abbrev W8 : Dev nD → Valuation τ sig (Elt F) := fun c => StableHlo.after hostOps5 (W7 m ρ c)
theorem W8_of (c : Dev nD) (r : Ref sig .tc) (h : r ∉ hostOps5_W) : W8 m ρ c (Proc.devRef .tc r) = W7 m ρ c (Proc.devRef .tc r) :=
  StableHlo.after_of_writes_sub hostOps5 _ hostOps5_writes h
theorem W8_args (c : Dev nD) : ∀ a ∈ argRefs, W8 m ρ c (Proc.devRef .tc a) = m ((c : Thread nD τ).loc a) :=
  fun a ha => (W8_of m ρ c a (hostOps5_args a ha)).trans (W7_args m ρ c a ha)

abbrev adm : (p : Fin 5) → (pcfgs (F := F) p).Adm := fun p => (cfgs p).toPCfg_adm
/-- The proof data of the five calls. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
  | ⟨3, _⟩ => fun c => dat3 (V5 m ρ) c
  | ⟨4, _⟩ => fun c => dat4 (V6 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W8 m ρ c) ∗ ∃ r, prngReg c r)
set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from (Phi2_ends (V4 m ρ) c).1]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from (Phi2_ends (V4 m ρ) c).2]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V5 m ρ) c).loose
  hwaits := Pipeline.hwaits_of_owed_zero _ _ _ _ L lv 3 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec3 c (V5 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V5 m ρ c) (A_eq3 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V5 m ρ c) (V6 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V6 m ρ) c).loose
  hwaits := Pipeline.hwaits_of_owed_zero _ _ _ _ L lv 4 fun _ _ => rfl
  pre c := iprop(StableHlo.held (c : Thread nD τ) (Pipeline.ucRefs τ sig) (W6 m ρ c) ∗ R c)
  post c := iprop(StableHlo.held (c : Thread nD τ) (Pipeline.ucRefs τ sig) (W7 m ρ c) ∗ R c)
  X c := iprop(∃ r, prngReg c r)
  Y c := iprop(∃ r, prngReg c r)
  Z c := Pipeline.unscopedRest (Ix := Unit) (Name := ℕ) (U := UR sig nD τ) (Lvl := ℕ) spec4 c (V6 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V6 m ρ c) (A_eq4 (V6 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V6 m ρ c) (V7 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program as a list of stages. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .region (reg3 m ρ),
    .region (reg4 m ρ),
    .host (hseg hostOps5 hostOps5_sub hostOps5_fresh (W7 m ρ)) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The whole program runs, and leaves every unscoped buffer as the chain of stages says. -/
theorem run_all : θ_run defs (onTc (τ := τ) (main (F := F))) ⟨m, fun _ => 0, ρ⟩ (fun r => (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- What is read of one buffer when the program has run. -/
theorem run_at (r : Ref sig .tc) (h : ¬ (Proc.devRef .tc r : DevRef τ sig).isScoped) {c : Dev nD} {μ : (ℓ : Loc nD τ sig) → Buf (Elt F) ℓ}
    (hs : ∀ b ∈ Pipeline.ucRefs τ sig, μ (((c : Thread nD τ)).1, b) = W8 m ρ c b) :
    μ ((c.tc : Thread nD τ).loc r) = W8 m ρ c (Proc.devRef .tc r) := hs _ (mem_uc r h)
theorem run_arg {c : Dev nD} {μ : (ℓ : Loc nD τ sig) → Buf (Elt F) ℓ} (hs : ∀ b ∈ Pipeline.ucRefs τ sig, μ (((c : Thread nD τ)).1, b) = W8 m ρ c b)
    (r : Ref sig .tc) (ha : r ∈ argRefs) (h : ¬ (Proc.devRef .tc r : DevRef τ sig).isScoped) :
    μ ((c.tc : Thread nD τ).loc r) = m ((c.tc : Thread nD τ).loc r) := (hs _ (mem_uc r h)).trans (W8_args m ρ c r ha)

/-- The arguments end as they began. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨run_arg m ρ (h.1 c) main_arg0 (by decide) (by decide), run_arg m ρ (h.1 c) main_arg1 (by decide) (by decide), run_arg m ρ (h.1 c) main_arg2 (by decide) (by decide), run_arg m ρ (h.1 c) main_arg3 (by decide) (by decide), run_arg m ρ (h.1 c) main_arg4 (by decide) (by decide), run_arg m ρ (h.1 c) main_arg5 (by decide) (by decide), run_arg m ρ (h.1 c) main_arg6 (by decide) (by decide), run_arg m ρ (h.1 c) main_arg7 (by decide) (by decide), run_arg m ρ (h.1 c) main_arg8 (by decide) (by decide), run_arg m ρ (h.1 c) main_arg9 (by decide) (by decide), run_arg m ρ (h.1 c) main_arg10 (by decide) (by decide), run_arg m ρ (h.1 c) main_arg11 (by decide) (by decide), run_arg m ρ (h.1 c) main_arg12 (by decide) (by decide), run_arg m ρ (h.1 c) main_arg13 (by decide) (by decide), run_arg m ρ (h.1 c) main_arg14 (by decide) (by decide)⟩, h.2⟩) (run_all m ρ)

end Cert.KernelIdeal.Gen

end
-- ==== Proof.Rounds.lean ====
/- The eight greatest of 32 pairwise different extended reals, found in two ways: by eight rounds which take the maximum and remove it,
   and by a sort. The weights which the two ways give, a softmax over the eight, are the same function of the place. No program occurs here. -/
module

public import proofs.«01_k».proof.Defs
public import Idealize.ShloMosaic.Lib.SortFacts

@[expose] public section

noncomputable section

namespace Cert.Rounds

open Idealize.ShloMosaic

/-- One round: the places which hold the maximum are lowered to −∞. -/
def remove (t : Fin 32 → EReal) : Fin 32 → EReal := fun i => if Finset.univ.sup t ≤ t i then ⊥ else t i

/-- The row after `n` rounds. -/
def after (s : Fin 32 → EReal) : Nat → Fin 32 → EReal
  | 0 => s
  | n + 1 => remove (after s n)

/-- The unnormalised weight of a place by rounds: the exponential where the entry is at least the maximum after seven rounds. -/
def roundE (s : Fin 32 → EReal) (i : Fin 32) : EReal :=
  if Finset.univ.sup (after s 7) ≤ s i then Ideal.exp (s i - Finset.univ.sup s) else 0

/-- The weight of a place by rounds. -/
def roundW (s : Fin 32 → EReal) (i : Fin 32) : EReal :=
  Ideal.div (roundE s i) (∑ j : Fin 32, roundE s j)

/-- The place of the `k`-th greatest. -/
def place (s : Fin 32 → EReal) (k : Fin 32) : Fin 32 := sortedFrom (fun a b : Fin 32 => decide (s b < s a)) k

/-- The place of the `k`-th of the eight greatest. -/
def place8 (s : Fin 32 → EReal) (k : Fin 8) : Fin 32 := place s ⟨k.val, by omega⟩

/-- The unnormalised weight of the `k`-th of the eight greatest. -/
def sortE (s : Fin 32 → EReal) (k : Fin 8) : EReal :=
  Ideal.exp (s (place8 s k) - Finset.univ.sup fun j : Fin 8 => s (place8 s j))

/-- The weight of a place by the sort: the softmax weights of the eight, each sent to its place. -/
def sortW (s : Fin 32 → EReal) (i : Fin 32) : EReal :=
  ∑ k : Fin 8, Ideal.div (sortE s k) (∑ j : Fin 8, sortE s j) * (if place8 s k = i then 1 else 0)

variable {s : Fin 32 → EReal}

theorem place_injective (s : Fin 32 → EReal) : Function.Injective (place s) := sortedFrom_injective _

theorem place_anti (hs : Function.Injective s) {i j : Fin 32} (h : i < j) : s (place s j) < s (place s i) := by
  have hn := sortedFrom_noInversion (fun a b : Fin 32 => decide (s b < s a)) (fun a b : Fin 32 => decide (s b < s a))
    (fun a b h => by simp only [decide_eq_true_eq, decide_eq_false_iff_not, not_lt] at h ⊢; exact h.le) (fun _ _ h => h)
    (fun a b c h h' => by simp only [decide_eq_false_iff_not, not_lt] at h h' ⊢; exact h.trans h') i j h
  simp only [decide_eq_false_iff_not, not_lt] at hn
  exact lt_of_le_of_ne hn fun e => absurd (place_injective s (hs e)) (ne_of_gt h)

theorem place_anti_le (hs : Function.Injective s) {i j : Fin 32} (h : i ≤ j) : s (place s j) ≤ s (place s i) := by
  rcases h.lt_or_eq with h | h
  · exact (place_anti hs h).le
  · rw [h]

theorem place_le_iff (hs : Function.Injective s) {i j : Fin 32} : s (place s j) ≤ s (place s i) ↔ i ≤ j := by
  refine ⟨fun h => ?_, place_anti_le hs⟩
  by_contra hn
  exact absurd (place_anti hs (not_le.mp hn)) (not_lt.mpr h)

/-- The rank of a place. -/
theorem exists_rank (s : Fin 32 → EReal) (i : Fin 32) : ∃ r, place s r = i := sortedFrom_surjective _ i

/-- The row after `n` rounds: the `n` greatest are removed, the others are kept. -/
theorem after_place (hs : Function.Injective s) (n : Nat) (hn : n ≤ 32) (r : Fin 32) :
    after s n (place s r) = if r.val < n then ⊥ else s (place s r) := by
  induction n generalizing r with
  | zero => simp [after]
  | succ n ih =>
    have hsup : Finset.univ.sup (after s n) = s (place s ⟨n, by omega⟩) := by
      apply le_antisymm
      · refine Finset.sup_le fun i _ => ?_
        obtain ⟨q, rfl⟩ := exists_rank s i
        rw [ih (by omega)]
        split
        · exact bot_le
        · exact place_anti_le hs (Fin.mk_le_of_le_val (by omega))
      · refine le_trans (le_of_eq ?_) (Finset.le_sup (Finset.mem_univ (place s ⟨n, by omega⟩)))
        rw [ih (by omega)]
        simp
    show (if Finset.univ.sup (after s n) ≤ after s n (place s r) then ⊥ else after s n (place s r)) = _
    rw [hsup, ih (by omega)]
    by_cases h1 : r.val < n
    · simp [h1, show r.val < n + 1 by omega]
    · rw [if_neg h1]
      by_cases h2 : r.val = n
      · rw [if_pos (by rw [place_le_iff hs, Fin.le_def]; exact h2.le), if_pos (by omega)]
      · rw [if_neg, if_neg (by omega)]
        rw [place_le_iff hs, Fin.le_def]
        show ¬ r.val ≤ n
        omega

theorem sup_after (hs : Function.Injective s) (n : Nat) (hn : n < 32) :
    Finset.univ.sup (after s n) = s (place s ⟨n, hn⟩) := by
  apply le_antisymm
  · refine Finset.sup_le fun i _ => ?_
    obtain ⟨q, rfl⟩ := exists_rank s i
    rw [after_place hs n hn.le]
    split
    · exact bot_le
    · exact place_anti_le hs (Fin.mk_le_of_le_val (by omega))
  · refine le_trans (le_of_eq ?_) (Finset.le_sup (Finset.mem_univ (place s ⟨n, hn⟩)))
    rw [after_place hs n hn.le]
    simp

theorem sup_row (hs : Function.Injective s) : Finset.univ.sup s = s (place s ⟨0, by omega⟩) := by
  have h := sup_after hs 0 (by omega)
  rwa [show after s 0 = s from after.eq_1 s] at h

theorem sup_row8 (hs : Function.Injective s) : (Finset.univ.sup fun j : Fin 8 => s (place8 s j)) = s (place s ⟨0, by omega⟩) := by
  apply le_antisymm
  · exact Finset.sup_le fun j _ => place_anti_le hs (Fin.mk_le_of_le_val (Nat.zero_le _))
  · have h := Finset.le_sup (f := fun j : Fin 8 => s (place8 s j)) (Finset.mem_univ (⟨0, by omega⟩ : Fin 8))
    unfold place8 at h
    unfold place8
    exact h

theorem roundE_place (hs : Function.Injective s) (r : Fin 32) :
    roundE s (place s r) = if r.val < 8 then Ideal.exp (s (place s r) - s (place s ⟨0, by omega⟩)) else 0 := by
  unfold roundE
  rw [sup_after hs 7 (by omega), sup_row hs]
  refine if_congr ((place_le_iff hs).trans ?_) rfl rfl
  rw [Fin.le_def]
  show r.val ≤ 7 ↔ _
  omega

theorem sortE_eq (hs : Function.Injective s) (k : Fin 8) :
    sortE s k = roundE s (place8 s k) := by
  unfold place8
  rw [roundE_place hs]
  unfold sortE
  rw [sup_row8 hs, if_pos (show k.val < 8 from k.isLt)]
  rfl

theorem place8_injective (s : Fin 32 → EReal) : Function.Injective (place8 s) := fun a b h => by
  have h' : (⟨a.val, by omega⟩ : Fin 32) = ⟨b.val, by omega⟩ := place_injective s h
  exact Fin.ext (Fin.mk.inj h')

/-- The two sums of unnormalised weights agree. -/
theorem sum_eq (hs : Function.Injective s) : ∑ k : Fin 8, sortE s k = ∑ i : Fin 32, roundE s i := by
  simp only [sortE_eq hs]
  refine Finset.sum_of_injOn (place8 s) (fun a _ b _ h => place8_injective s h) (fun _ _ => Finset.mem_univ _) ?_ (fun _ _ => rfl)
  intro i _ hi
  obtain ⟨r, rfl⟩ := exists_rank s i
  rw [roundE_place hs, if_neg]
  intro hr
  exact hi ⟨⟨r.val, hr⟩, Finset.mem_coe.mpr (Finset.mem_univ _), rfl⟩

theorem exp_nonneg (x : EReal) : 0 ≤ Ideal.exp x := by
  induction x with
  | bot => exact le_refl _
  | top => exact le_top
  | coe r => exact EReal.coe_nonneg.mpr (Real.exp_nonneg r)

theorem roundE_nonneg (s : Fin 32 → EReal) (i : Fin 32) : 0 ≤ roundE s i := by
  unfold roundE
  split
  · exact exp_nonneg _
  · exact le_refl _

/-- The weights' divisor is not zero: the greatest entry, which is finite, has the exponential of zero. -/
theorem sum_ne_zero (hs : Function.Injective s) (ht : ∀ i, s i ≠ ⊤) : ∑ i : Fin 32, roundE s i ≠ 0 := by
  have h1 : roundE s (place s ⟨0, by omega⟩) = 1 := by
    rw [roundE_place hs, if_pos (by show 0 < 8; omega), EReal.sub_self (ht _) (ne_of_gt (lt_of_le_of_lt bot_le
      (place_anti hs (show (⟨0, by omega⟩ : Fin 32) < ⟨1, by omega⟩ from Nat.zero_lt_one))))]
    show ((Real.exp 0 : ℝ) : EReal) = 1
    rw [Real.exp_zero]
    rfl
  have h2 : roundE s (place s ⟨0, by omega⟩) ≤ ∑ i : Fin 32, roundE s i :=
    Finset.single_le_sum (fun i _ => roundE_nonneg s i) (Finset.mem_univ _)
  rw [h1] at h2
  exact ne_of_gt (lt_of_lt_of_le zero_lt_one h2)

/-- THE TWO WAYS GIVE THE SAME WEIGHTS on a row whose entries are pairwise different and none of them +∞. -/
theorem sortW_eq (hs : Function.Injective s) (ht : ∀ i, s i ≠ ⊤) (i : Fin 32) : sortW s i = roundW s i := by
  unfold sortW roundW
  rw [sum_eq hs]
  obtain ⟨r, rfl⟩ := exists_rank s i
  by_cases hr : r.val < 8
  · rw [Finset.sum_eq_single (⟨r.val, hr⟩ : Fin 8)]
    · rw [if_pos (show place8 s ⟨r.val, hr⟩ = place s r from rfl), mul_one, sortE_eq hs]
      rfl
    · intro k _ hk
      rw [if_neg, mul_zero]
      intro h
      have h' : (⟨k.val, by omega⟩ : Fin 32) = r := place_injective s h
      exact hk (Fin.ext (congrArg (fun q : Fin 32 => q.val) h'))
    · intro h
      exact absurd (Finset.mem_univ _) h
  · rw [roundE_place hs, if_neg hr, Ideal.div, if_neg (sum_ne_zero hs ht), zero_mul]
    refine Finset.sum_eq_zero fun k _ => ?_
    rw [if_neg, mul_zero]
    intro h
    have h' : (⟨k.val, by omega⟩ : Fin 32) = r := place_injective s h
    have h2 : k.val = r.val := congrArg (fun q : Fin 32 => q.val) h'
    omega

end Cert.Rounds

end
-- ==== Proof.Spec.lean ====
/- The retrieval step as plain functions on extended reals: a query row against 32 keys, with the constants which both programs spell.
   No program's run occurs here. -/
module

public import proofs.«01_k».proof.Proof.Rounds
public import Idealize.ShloMosaic.Lib.Pointwise
public import Idealize.ShloMosaic.Lib.IdealHost

@[expose] public section

noncomputable section

namespace Cert.Spec

open Idealize.ShloMosaic

theorem ofBits_neg_inf : Ideal.ofBits .f32 0xFF800000#32 = ⊥ := by simp [Ideal.ofBits, Ideal.ieee]

theorem ofBits_inf : Ideal.ofBits .f32 0x7F800000#32 = ⊤ := by simp [Ideal.ofBits, Ideal.ieee]

theorem ofBits_768 : Ideal.ofBits .f32 0x44400000#32 = ((768 : ℝ) : EReal) := by
  simp [Ideal.ofBits, Ideal.ieee, -EReal.coe_mul]; norm_num

/-- The greatest of finitely many, as the fold of the maximum from −∞. -/
theorem fold_max_eq_sup {ι : Type} [Fintype ι] (f : ι → EReal) :
    Finset.fold max (⊥ : EReal) f Finset.univ = Finset.univ.sup f := rfl

/-- One normalised entry of a row: `z / rms · g`, the quotient taken first. -/
def normed (z rms g : EReal) : EReal := Ideal.div z rms * g

/-- The kernel takes the quotient of the gain instead: the same where `rms` is not zero. -/
theorem mul_div_eq (z rms g : EReal) (h : rms ≠ 0) : z * Ideal.div g rms = normed z rms g := by
  unfold normed Ideal.div
  rw [if_neg h, if_neg h]
  ac_rfl

/-- The bias which a key's mask gives. -/
def bias (nm : EReal) : EReal := (nm - 1) * Ideal.ofBits .f32 0x4E6E6B28#32

/-- The masked scores of one query row against the keys. -/
def scores (xr xi : Fin 768 → EReal) (wr wi : Fin 768 → Fin 768 → EReal) (kr ki : Fin 32 → Fin 768 → EReal) (nm : Fin 32 → EReal)
    (s : Fin 32) : EReal :=
  (∑ d, (∑ k, xr k * wr k d - ∑ k, xi k * wi k d) * kr s d + ∑ d, (∑ k, xr k * wi k d + ∑ k, xi k * wr k d) * ki s d)
      * (((Real.sqrt 768)⁻¹ : ℝ) : EReal)
    + bias (nm s)

theorem sqrt_coe : Ideal.sqrt ((768 : ℝ) : EReal) = ((Real.sqrt 768 : ℝ) : EReal) := by
  show (if (768 : ℝ) < 0 then (⊥ : EReal) else (Real.sqrt 768 : EReal)) = _
  rw [if_neg (by norm_num)]

/-- Division by the root of 768 is multiplication by its inverse. -/
theorem div_sqrt (x : EReal) : Ideal.div x ((Real.sqrt 768 : ℝ) : EReal) = x * (((Real.sqrt 768)⁻¹ : ℝ) : EReal) := by
  rw [Ideal.div_coe (show Real.sqrt 768 ≠ 0 from (Real.sqrt_pos.mpr (by norm_num)).ne'), one_div]

end Cert.Spec

end
-- ==== Proof.Flow.lean ====
/- What both programs compute, stage by stage, as plain functions on extended reals: salience, segments, pooled events, the new memory and the
   normalisation. No program's run occurs here. -/
module

public import proofs.«01_k».proof.Proof.Spec

@[expose] public section

noncomputable section

namespace Cert.Flow

open Idealize.ShloMosaic
open Classical

/-- The arguments, entry by entry. -/
structure Inp where
  z : Fin 4 → Fin 2048 → Fin 768 → Fin 2 → EReal
  sk : Fin 4 → Fin 32 → Fin 768 → Fin 2 → EReal
  sv : Fin 4 → Fin 32 → Fin 768 → Fin 2 → EReal
  sm : Fin 4 → Fin 32 → EReal
  ar : Fin 768 → EReal
  ai : Fin 768 → EReal
  bias : EReal
  nov : EReal
  kr : Fin 768 → Fin 768 → EReal
  ki : Fin 768 → Fin 768 → EReal
  vr : Fin 768 → Fin 768 → EReal
  vi : Fin 768 → Fin 768 → EReal
  qr : Fin 768 → Fin 768 → EReal
  qi : Fin 768 → Fin 768 → EReal
  g : Fin 768 → EReal

/-- The magnitude of a complex number. -/
def cabs (x y : EReal) : EReal := Ideal.sqrt (x * x + y * y)

theorem sq_nonneg (x : EReal) : 0 ≤ x * x := by
  rcases le_total 0 x with h | h
  · exact EReal.mul_nonneg h h
  · exact EReal.mul_nonneg_iff.mpr (.inr ⟨h, h⟩)

theorem sqrt_sq (a : EReal) (h : 0 ≤ a) : Ideal.sqrt a * Ideal.sqrt a = a := by
  induction a with
  | bot => exact absurd h (by simp)
  | top => exact EReal.top_mul_top
  | coe r =>
    have hr : 0 ≤ r := EReal.coe_nonneg.mp h
    have e : Ideal.sqrt (r : EReal) = ((Real.sqrt r : ℝ) : EReal) := by
      show (if r < 0 then (⊥ : EReal) else (Real.sqrt r : EReal)) = _
      rw [if_neg (not_lt.mpr hr)]
    rw [e, ← EReal.coe_mul, Real.mul_self_sqrt hr]

theorem cabs_sq (x y : EReal) : cabs x y * cabs x y = x * x + y * y :=
  sqrt_sq _ (add_nonneg (sq_nonneg x) (sq_nonneg y))

/-- The inverse of the width. -/
def inv768 : EReal := (((768 : ℝ)⁻¹ : ℝ) : EReal)

theorem div_768 (x : EReal) : Ideal.div x ((768 : ℝ) : EReal) = x * inv768 := by
  rw [Ideal.div_coe (by norm_num), one_div]; rfl

def eps : EReal := Ideal.ofBits .f32 0x322BCC77#32

theorem eps_pos : 0 < eps := by
  unfold eps
  simp [Ideal.ofBits, Ideal.ieee, -EReal.coe_mul]

theorem sqrt_pos (a : EReal) (h : 0 < a) : Ideal.sqrt a ≠ 0 := by
  intro e
  have := sqrt_sq a h.le
  rw [e, zero_mul] at this
  exact h.ne this

section
variable (I : Inp) (lm : Fin 4 → Fin 2048 → EReal)

/-- The magnitude of the salience projection of a row. -/
def score (b : Fin 4) (l : Fin 2048) : EReal :=
  cabs (∑ k, I.z b l k 0 * I.ar k - ∑ k, I.z b l k 1 * I.ai k) (∑ k, I.z b l k 0 * I.ai k + ∑ k, I.z b l k 1 * I.ar k)

/-- The mean magnitude of a row. -/
def avg (b : Fin 4) (l : Fin 2048) : EReal := (∑ k, cabs (I.z b l k 0) (I.z b l k 1)) * inv768

/-- The salience of a row, `lm` being the local means of the mean magnitudes. -/
def sal (b : Fin 4) (l : Fin 2048) : EReal := Ideal.logistic (score I b l + (avg I b l - lm b l) * I.nov + I.bias)

/-- The root mean square of a row. -/
def rms (b : Fin 4) (l : Fin 2048) : EReal :=
  Ideal.sqrt ((∑ k, (I.z b l k 0 * I.z b l k 0 + I.z b l k 1 * I.z b l k 1)) * inv768 + eps)

theorem rms_ne (b : Fin 4) (l : Fin 2048) : rms I b l ≠ 0 := by
  refine sqrt_pos _ (lt_of_lt_of_le eps_pos ?_)
  refine le_add_of_nonneg_left (EReal.mul_nonneg (Finset.sum_nonneg fun k _ => add_nonneg (sq_nonneg _) (sq_nonneg _)) ?_)
  exact EReal.coe_nonneg.mpr (by norm_num)

end

/-! ## Segments of one row of saliences -/

section
variable (s : Fin 2048 → EReal)

def half : EReal := Ideal.ofBits .f32 0x3F000000#32

theorem half_pos : 0 < half := by
  unfold half
  simp [Ideal.ofBits, Ideal.ieee, -EReal.coe_mul]

/-- The salience at a position exceeds one half. -/
def up (n : ℕ) : Prop := ∃ h : n < 2048, half < s ⟨n, h⟩

theorem up_iff (l : Fin 2048) : up s l.val ↔ half < s l := ⟨fun ⟨_, h⟩ => h, fun h => ⟨l.isLt, h⟩⟩

/-- One where a segment starts, zero elsewhere. -/
def start (n : ℕ) : ℕ := if up s n ∧ ¬(1 ≤ n ∧ up s (n - 1)) then 1 else 0

/-- How many segments have started up to a position. -/
def cum (n : ℕ) : ℕ := ∑ i ∈ Finset.range (n + 1), start s i

theorem cum_le (n : ℕ) : cum s n ≤ n + 1 := by
  unfold cum
  refine (Finset.sum_le_card_nsmul _ _ 1 fun i _ => ?_).trans (by simp)
  unfold start
  split <;> simp

/-- The number of a position's segment, 32 for a position in none and for all segments beyond the 32nd. -/
def seg (l : Fin 2048) : ℤ := if up s l.val then min ((cum s l.val : ℤ) - 1) 32 else 32

/-- A segment number as an extended real. -/
def int (n : ℤ) : EReal := ((n : ℝ) : EReal)

/-- A position's weight: its salience where this exceeds one half. -/
def wt (l : Fin 2048) : EReal := if up s l.val then s l else 0

theorem wt_pos_iff (l : Fin 2048) : 0 < wt s l ↔ up s l.val := by
  unfold wt
  by_cases h : up s l.val
  · rw [if_pos h]
    exact ⟨fun _ => h, fun _ => half_pos.trans ((up_iff s l).mp h)⟩
  · rw [if_neg h]
    exact ⟨fun q => absurd q (lt_irrefl _), fun q => absurd q h⟩

/-- The weighted sum of a column over one segment, and the segment's number of positions. -/
def num (z : Fin 2048 → EReal) (e : Fin 33) : EReal := ∑ l, if seg s l = e.val then wt s l * z l else 0
def den (e : Fin 33) : EReal := ∑ l, if seg s l = e.val then wt s l else 0
def cnt (e : Fin 33) : EReal := ∑ l : Fin 2048, if seg s l = e.val then (if up s l.val then 1 else 0) else 0

end

/-- Prefix sums by doubling the distance. -/
def dbl (f : ℕ → ℕ) : ℕ → ℕ → ℕ
  | 0, n => f n
  | j + 1, n => dbl f j n + if 2 ^ j ≤ n then dbl f j (n - 2 ^ j) else 0

theorem dbl_eq (f : ℕ → ℕ) (j n : ℕ) : dbl f j n = ∑ i ∈ Finset.range (2 ^ j), if i ≤ n then f (n - i) else 0 := by
  induction j generalizing n with
  | zero => simp [dbl]
  | succ j ih =>
    rw [dbl, ih, pow_succ, Nat.mul_two, Finset.sum_range_add]
    refine congrArg _ ?_
    by_cases h : 2 ^ j ≤ n
    · rw [if_pos h, ih]
      refine Finset.sum_congr rfl fun i _ => ?_
      by_cases hi : i ≤ n - 2 ^ j
      · rw [if_pos hi, if_pos (by omega), Nat.sub_sub]
      · rw [if_neg hi, if_neg (by omega)]
    · rw [if_neg h]
      exact (Finset.sum_eq_zero fun i _ => if_neg (by omega)).symm

theorem dbl_cum (s : Fin 2048 → EReal) (n : ℕ) (h : n < 2048) : dbl (start s) 11 n = cum s n := by
  rw [dbl_eq, cum]
  have e : (2 : ℕ) ^ 11 = (n + 1) + (2047 - n) := by omega
  rw [e, Finset.sum_range_add, Finset.sum_eq_zero (s := Finset.range (2047 - n)) fun i _ => if_neg (by omega), add_zero,
    ← Finset.sum_range_reflect (start s) (n + 1)]
  refine Finset.sum_congr rfl fun i hi => ?_
  have := Finset.mem_range.mp hi
  rw [if_pos (by omega)]
  rfl

/-! ## The new memory -/

/-- One entry of a complex row times a complex matrix: its real part (0) or its imaginary part (1). -/
def cl (x : Fin 768 → Fin 2 → EReal) (wr wi : Fin 768 → Fin 768 → EReal) (d : Fin 768) (p : Fin 2) : EReal :=
  if p = 0 then ∑ k, x k 0 * wr k d - ∑ k, x k 1 * wi k d else ∑ k, x k 0 * wi k d + ∑ k, x k 1 * wr k d

/-- The new value where the event exists, the old one elsewhere. -/
def mix (e new old : EReal) : EReal := e * new + (1 - e) * old

section
variable (I : Inp) (lm : Fin 4 → Fin 2048 → EReal)

def slot (e : Fin 32) : Fin 33 := ⟨e.val, by omega⟩

def event (b : Fin 4) (e : Fin 32) (k : Fin 768) (p : Fin 2) : EReal :=
  Ideal.div (num (sal I lm b) (fun l => I.z b l k p) (slot e)) (max (den (sal I lm b) (slot e)) eps)

def emask (b : Fin 4) (e : Fin 32) : EReal := if 0 < cnt (sal I lm b) (slot e) then 1 else 0

def nk (b : Fin 4) (e : Fin 32) (d : Fin 768) (p : Fin 2) : EReal :=
  mix (emask I lm b e) (cl (event I lm b e) I.kr I.ki d p) (I.sk b e d p)

def nv (b : Fin 4) (e : Fin 32) (d : Fin 768) (p : Fin 2) : EReal :=
  mix (emask I lm b e) (cl (event I lm b e) I.vr I.vi d p) (I.sv b e d p)

def nm (b : Fin 4) (e : Fin 32) : EReal := min (I.sm b e + emask I lm b e) 1

/-- The masked scores of a row against the new keys. -/
def scores (b : Fin 4) (l : Fin 2048) : Fin 32 → EReal :=
  Spec.scores (fun k => Spec.normed (I.z b l k 0) (rms I b l) (I.g k)) (fun k => Spec.normed (I.z b l k 1) (rms I b l) (I.g k)) I.qr I.qi
    (fun e d => nk I lm b e d 0) (fun e d => nk I lm b e d 1) (fun e => nm I lm b e)

end

end Cert.Flow

end
-- ==== Proof.Args.lean ====
/- The fifteen arguments as one record of plain functions. -/
module

public import proofs.«01_k».proof.Proof.Flow

@[expose] public section

noncomputable section

namespace Cert.Flow

open Idealize.ShloMosaic

/-- The record of the arguments' entries. -/
def inp (a0 : (⟨4, ![4, 2048, 768, 2]⟩ : Shape).Idx → EReal) (a1 a2 : (⟨4, ![4, 32, 768, 2]⟩ : Shape).Idx → EReal)
    (a3 : (⟨2, ![4, 32]⟩ : Shape).Idx → EReal) (a4 a5 : (⟨2, ![768, 1]⟩ : Shape).Idx → EReal) (a6 a7 : (⟨0, ![]⟩ : Shape).Idx → EReal)
    (a8 a9 a10 a11 a12 a13 : (⟨2, ![768, 768]⟩ : Shape).Idx → EReal) (a14 : (⟨1, ![768]⟩ : Shape).Idx → EReal) : Inp where
  z b l k p := a0 (ix4 b l k p)
  sk b e k p := a1 (ix4 b e k p)
  sv b e k p := a2 (ix4 b e k p)
  sm b e := a3 (ix2 b e)
  ar k := a4 (ix2 k 0)
  ai k := a5 (ix2 k 0)
  bias := a6 ix0
  nov := a7 ix0
  kr k d := a8 (ix2 k d)
  ki k d := a9 (ix2 k d)
  vr k d := a10 (ix2 k d)
  vi k d := a11 (ix2 k d)
  qr k d := a12 (ix2 k d)
  qi k d := a13 (ix2 k d)
  g k := a14 (ix1 k)

end Cert.Flow

end
-- ==== Proof.Host.lean ====
/- What the host operations before the first call and after it hand to the calls. -/
module

public import proofs.«01_k».proof.Proof.KernelIdealRun.Run
public import proofs.«01_k».proof.Proof.Args
public import Idealize.ShloMosaic.Lib.Pointwise

@[expose] public section

set_option maxRecDepth 16384

noncomputable section

namespace Cert.KernelIdeal.Host

open Cert.KernelIdeal Cert.KernelIdeal.Gen Idealize.ShloMosaic Idealize.ShloMosaic.TcCoe Idealize.ShloMosaic.StableHlo

variable (m : (ℓ : Loc nD τ sig) → Buf (Elt Ideal) ℓ) (ρ : Dev nD → PrngReg) (c : Dev nD)

/-- The arguments on a device. -/
def In : Flow.Inp := Flow.inp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem zr_read : W1 m ρ c main_call0_v1 = shapeCast S4x2048x768 (extractStridedSlice S4x2048x768x1 ![0, 0, 0, 0] (m ((c : Thread nD τ).loc main_arg0)) slices_S4x2048x768x2_S4x2048x768x1_0_0_0_0) shapeCasts_S4x2048x768x1_S4x2048x768 := by
  show StableHlo.after hostOps0 _ _ = _
  simp only [hostOps0, List.flatten_cons, List.flatten_nil, List.append_nil, List.cons_append, List.nil_append]
  after_results_simp <;> rfl

theorem zr (b : Fin 4) (l : Fin 2048) (k : Fin 768) : W1 m ρ c main_call0_v1 (ix3 b l k) = (In m c).z b l k 0 := by
  rw [zr_read]
  pointwise
  rfl

theorem zi_read : W1 m ρ c main_call0_v3 = shapeCast S4x2048x768 (extractStridedSlice S4x2048x768x1 ![0, 0, 0, 1] (m ((c : Thread nD τ).loc main_arg0)) slices_S4x2048x768x2_S4x2048x768x1_0_0_0_1) shapeCasts_S4x2048x768x1_S4x2048x768 := by
  show StableHlo.after hostOps0 _ _ = _
  simp only [hostOps0, List.flatten_cons, List.flatten_nil, List.append_nil, List.cons_append, List.nil_append]
  after_results_simp <;> rfl

theorem zi (b : Fin 4) (l : Fin 2048) (k : Fin 768) : W1 m ρ c main_call0_v3 (ix3 b l k) = (In m c).z b l k 1 := by
  rw [zi_read]
  pointwise
  rfl

theorem skr_read : W1 m ρ c main_call0_v5 = shapeCast S4x32x768 (extractStridedSlice S4x32x768x1 ![0, 0, 0, 0] (m ((c : Thread nD τ).loc main_arg1)) slices_S4x32x768x2_S4x32x768x1_0_0_0_0) shapeCasts_S4x32x768x1_S4x32x768 := by
  show StableHlo.after hostOps0 _ _ = _
  simp only [hostOps0, List.flatten_cons, List.flatten_nil, List.append_nil, List.cons_append, List.nil_append]
  after_results_simp <;> rfl

theorem skr (b : Fin 4) (l : Fin 32) (k : Fin 768) : W1 m ρ c main_call0_v5 (ix3 b l k) = (In m c).sk b l k 0 := by
  rw [skr_read]
  pointwise
  rfl

theorem ski_read : W1 m ρ c main_call0_v7 = shapeCast S4x32x768 (extractStridedSlice S4x32x768x1 ![0, 0, 0, 1] (m ((c : Thread nD τ).loc main_arg1)) slices_S4x32x768x2_S4x32x768x1_0_0_0_1) shapeCasts_S4x32x768x1_S4x32x768 := by
  show StableHlo.after hostOps0 _ _ = _
  simp only [hostOps0, List.flatten_cons, List.flatten_nil, List.append_nil, List.cons_append, List.nil_append]
  after_results_simp <;> rfl

theorem ski (b : Fin 4) (l : Fin 32) (k : Fin 768) : W1 m ρ c main_call0_v7 (ix3 b l k) = (In m c).sk b l k 1 := by
  rw [ski_read]
  pointwise
  rfl

theorem svr_read : W1 m ρ c main_call0_v9 = shapeCast S4x32x768 (extractStridedSlice S4x32x768x1 ![0, 0, 0, 0] (m ((c : Thread nD τ).loc main_arg2)) slices_S4x32x768x2_S4x32x768x1_0_0_0_0) shapeCasts_S4x32x768x1_S4x32x768 := by
  show StableHlo.after hostOps0 _ _ = _
  simp only [hostOps0, List.flatten_cons, List.flatten_nil, List.append_nil, List.cons_append, List.nil_append]
  after_results_simp <;> rfl

theorem svr (b : Fin 4) (l : Fin 32) (k : Fin 768) : W1 m ρ c main_call0_v9 (ix3 b l k) = (In m c).sv b l k 0 := by
  rw [svr_read]
  pointwise
  rfl

theorem svi_read : W1 m ρ c main_call0_v11 = shapeCast S4x32x768 (extractStridedSlice S4x32x768x1 ![0, 0, 0, 1] (m ((c : Thread nD τ).loc main_arg2)) slices_S4x32x768x2_S4x32x768x1_0_0_0_1) shapeCasts_S4x32x768x1_S4x32x768 := by
  show StableHlo.after hostOps0 _ _ = _
  simp only [hostOps0, List.flatten_cons, List.flatten_nil, List.append_nil, List.cons_append, List.nil_append]
  after_results_simp <;> rfl

theorem svi (b : Fin 4) (l : Fin 32) (k : Fin 768) : W1 m ρ c main_call0_v11 (ix3 b l k) = (In m c).sv b l k 1 := by
  rw [svi_read]
  pointwise
  rfl

theorem sm_read : W1 m ρ c main_call0_v12 = shapeCast S4x1x32 (m ((c : Thread nD τ).loc main_arg3)) shapeCasts_S4x32_S4x1x32 := by
  show StableHlo.after hostOps0 _ _ = _
  simp only [hostOps0, List.flatten_cons, List.flatten_nil, List.append_nil, List.cons_append, List.nil_append]
  after_results_simp <;> rfl

theorem sm (b : Fin 4) (e : Fin 32) : W1 m ρ c main_call0_v12 (ix3 b 0 e) = (In m c).sm b e := by
  rw [sm_read]
  pointwise
  rfl

theorem gam_read : W1 m ρ c main_call0_v13 = shapeCast S1x768 (m ((c : Thread nD τ).loc main_arg14)) shapeCasts_S768_S1x768 := by
  show StableHlo.after hostOps0 _ _ = _
  simp only [hostOps0, List.flatten_cons, List.flatten_nil, List.append_nil, List.cons_append, List.nil_append]
  after_results_simp <;> rfl

theorem gam (k : Fin 768) : W1 m ρ c main_call0_v13 (ix2 0 k) = (In m c).g k := by
  rw [gam_read]
  pointwise
  rfl

theorem bias_read : W1 m ρ c main_call0_v14 = shapeCast S1x1 (m ((c : Thread nD τ).loc main_arg6)) shapeCasts_S_S1x1 := by
  show StableHlo.after hostOps0 _ _ = _
  simp only [hostOps0, List.flatten_cons, List.flatten_nil, List.append_nil, List.cons_append, List.nil_append]
  after_results_simp <;> rfl

theorem bias  : W1 m ρ c main_call0_v14 (ix2 0 0) = (In m c).bias := by
  rw [bias_read]
  pointwise
  rfl

theorem nov_read : W1 m ρ c main_call0_v15 = shapeCast S1x1 (m ((c : Thread nD τ).loc main_arg7)) shapeCasts_S_S1x1 := by
  show StableHlo.after hostOps0 _ _ = _
  simp only [hostOps0, List.flatten_cons, List.flatten_nil, List.append_nil, List.cons_append, List.nil_append]
  after_results_simp <;> rfl

theorem nov  : W1 m ρ c main_call0_v15 (ix2 0 0) = (In m c).nov := by
  rw [nov_read]
  pointwise
  rfl

/-- The sum of the five shifted products of a padded array with a kernel of five entries. -/
def taps (p : FVec Ideal S4x2052 .f32) (k : FVec Ideal S5 .f32) : FVec Ideal S4x2048 .f32 :=
  addf (addf (addf (addf (addf (broadcastInDim S4x2048 ![] bcast_S_S4x2048 (constant S_ .f32 0x00000000#32)) (mulf (extractStridedSlice S4x2048 ![0, 0] p slices_S4x2052_S4x2048_0_0) (broadcastInDim S4x2048 ![] bcast_S_S4x2048 (shapeCast S_ (extractStridedSlice S1 ![4] k slices_S5_S1_4) shapeCasts_S1_S_)))) (mulf (extractStridedSlice S4x2048 ![0, 1] p slices_S4x2052_S4x2048_0_1) (broadcastInDim S4x2048 ![] bcast_S_S4x2048 (shapeCast S_ (extractStridedSlice S1 ![3] k slices_S5_S1_3) shapeCasts_S1_S_)))) (mulf (extractStridedSlice S4x2048 ![0, 2] p slices_S4x2052_S4x2048_0_2) (broadcastInDim S4x2048 ![] bcast_S_S4x2048 (shapeCast S_ (extractStridedSlice S1 ![2] k slices_S5_S1_2) shapeCasts_S1_S_)))) (mulf (extractStridedSlice S4x2048 ![0, 3] p slices_S4x2052_S4x2048_0_3) (broadcastInDim S4x2048 ![] bcast_S_S4x2048 (shapeCast S_ (extractStridedSlice S1 ![1] k slices_S5_S1_1) shapeCasts_S1_S_)))) (mulf (extractStridedSlice S4x2048 ![0, 4] p slices_S4x2052_S4x2048_0_4) (broadcastInDim S4x2048 ![] bcast_S_S4x2048 (shapeCast S_ (extractStridedSlice S1 ![0] k slices_S5_S1_0) shapeCasts_S1_S_)))

/-- The array with two zeros on either side of each row. -/
def padV (x : FVec Ideal S4x2048 .f32) : FVec Ideal S4x2052 .f32 :=
  pad S4x2052 ![0, 2] ![0, 2] ![0, 0] x (sitofp .f32 (constantI S_ 32 0#32)) pads_S4x2048_S4x2052_000_220 h_S_

/-- Five fifths. -/
def fifth : FVec Ideal S5 .f32 :=
  Host.divf (broadcastInDim S5 ![] bcast_S_S5 (constant S_ .f32 0x3F800000#32)) (broadcastInDim S5 ![] bcast_S_S5 (constant S_ .f32 0x40A00000#32))

/-- The local means of the rows of an array. -/
def localV (x : FVec Ideal S4x2048 .f32) : FVec Ideal S4x2048 .f32 := taps (padV x) fifth

theorem lm_read : W3 m ρ c main_call0_v53
    = shapeCast S4x2048x1 (localV (shapeCast S4x2048 (W2 m ρ c main_call0_v16_1) shapeCasts_S4x2048x1_S4x2048)) shapeCasts_S4x2048_S4x2048x1 := by
  show StableHlo.after hostOps1 _ _ = _
  simp only [hostOps1, List.flatten_cons, List.flatten_nil, List.append_nil, List.cons_append, List.nil_append]
  after_results_simp <;> rfl

theorem lm_apply (b : Fin 4) (l : Fin 2048) : W3 m ρ c main_call0_v53 (ix3 b l 0)
    = localV (shapeCast S4x2048 (W2 m ρ c main_call0_v16_1) shapeCasts_S4x2048x1_S4x2048) (ix2 b l) := by
  rw [lm_read]
  generalize localV _ = y
  pointwise

theorem ret_read : W8 m ρ c main_v0_0 = concatenate S4x2048x768x2 3 [⟨S4x2048x768x1, broadcastInDim S4x2048x768x1 ![0, 1, 2] bcast_S4x2048x768_S4x2048x768x1_0_1_2 (W7 m ρ c main_call0_v57_0)⟩, ⟨S4x2048x768x1, broadcastInDim S4x2048x768x1 ![0, 1, 2] bcast_S4x2048x768_S4x2048x768x1_0_1_2 (W7 m ρ c main_call0_v57_1)⟩] concatenates_S4x2048x768x1_S4x2048x768x1_S4x2048x768x2_d3 := by
  show StableHlo.after hostOps5 _ _ = _
  simp only [hostOps5, List.flatten_cons, List.flatten_nil, List.append_nil, List.cons_append, List.nil_append]
  after_results_simp <;> rfl

theorem ret_0 (b : Fin 4) (l : Fin 2048) (d : Fin 768) : W8 m ρ c main_v0_0 (ix4 b l d 0) = W7 m ρ c main_call0_v57_0 (ix3 b l d) := by
  rw [ret_read]
  pointwise

theorem ret_1 (b : Fin 4) (l : Fin 2048) (d : Fin 768) : W8 m ρ c main_v0_0 (ix4 b l d 1) = W7 m ρ c main_call0_v57_1 (ix3 b l d) := by
  rw [ret_read]
  pointwise

theorem keys_read : W8 m ρ c main_v0_1 = concatenate S4x32x768x2 3 [⟨S4x32x768x1, broadcastInDim S4x32x768x1 ![0, 1, 2] bcast_S4x32x768_S4x32x768x1_0_1_2 (W7 m ρ c main_call0_v56_0)⟩, ⟨S4x32x768x1, broadcastInDim S4x32x768x1 ![0, 1, 2] bcast_S4x32x768_S4x32x768x1_0_1_2 (W7 m ρ c main_call0_v56_1)⟩] concatenates_S4x32x768x1_S4x32x768x1_S4x32x768x2_d3 := by
  show StableHlo.after hostOps5 _ _ = _
  simp only [hostOps5, List.flatten_cons, List.flatten_nil, List.append_nil, List.cons_append, List.nil_append]
  after_results_simp <;> rfl

theorem keys_0 (b : Fin 4) (l : Fin 32) (d : Fin 768) : W8 m ρ c main_v0_1 (ix4 b l d 0) = W7 m ρ c main_call0_v56_0 (ix3 b l d) := by
  rw [keys_read]
  pointwise

theorem keys_1 (b : Fin 4) (l : Fin 32) (d : Fin 768) : W8 m ρ c main_v0_1 (ix4 b l d 1) = W7 m ρ c main_call0_v56_1 (ix3 b l d) := by
  rw [keys_read]
  pointwise

theorem vals_read : W8 m ρ c main_v0_2 = concatenate S4x32x768x2 3 [⟨S4x32x768x1, broadcastInDim S4x32x768x1 ![0, 1, 2] bcast_S4x32x768_S4x32x768x1_0_1_2 (W7 m ρ c main_call0_v56_2)⟩, ⟨S4x32x768x1, broadcastInDim S4x32x768x1 ![0, 1, 2] bcast_S4x32x768_S4x32x768x1_0_1_2 (W7 m ρ c main_call0_v56_3)⟩] concatenates_S4x32x768x1_S4x32x768x1_S4x32x768x2_d3 := by
  show StableHlo.after hostOps5 _ _ = _
  simp only [hostOps5, List.flatten_cons, List.flatten_nil, List.append_nil, List.cons_append, List.nil_append]
  after_results_simp <;> rfl

theorem vals_0 (b : Fin 4) (l : Fin 32) (d : Fin 768) : W8 m ρ c main_v0_2 (ix4 b l d 0) = W7 m ρ c main_call0_v56_2 (ix3 b l d) := by
  rw [vals_read]
  pointwise

theorem vals_1 (b : Fin 4) (l : Fin 32) (d : Fin 768) : W8 m ρ c main_v0_2 (ix4 b l d 1) = W7 m ρ c main_call0_v56_3 (ix3 b l d) := by
  rw [vals_read]
  pointwise

theorem mask_read : W8 m ρ c main_v0_3 = shapeCast S4x32 (W7 m ρ c main_call0_v56_4) shapeCasts_S4x1x32_S4x32 := by
  show StableHlo.after hostOps5 _ _ = _
  simp only [hostOps5, List.flatten_cons, List.flatten_nil, List.append_nil, List.cons_append, List.nil_append]
  after_results_simp <;> rfl

theorem mask (b : Fin 4) (e : Fin 32) : W8 m ρ c main_v0_3 (ix2 b e) = W7 m ρ c main_call0_v56_4 (ix3 b 0 e) := by
  rw [mask_read]
  pointwise

theorem sal_read : W8 m ρ c main_v0_4 = shapeCast S4x2048 (W7 m ρ c main_call0_v54_0) shapeCasts_S4x1x2048_S4x2048 := by
  show StableHlo.after hostOps5 _ _ = _
  simp only [hostOps5, List.flatten_cons, List.flatten_nil, List.append_nil, List.cons_append, List.nil_append]
  after_results_simp <;> rfl

theorem sal (b : Fin 4) (l : Fin 2048) : W8 m ρ c main_v0_4 (ix2 b l) = W7 m ρ c main_call0_v54_0 (ix3 b 0 l) := by
  rw [sal_read]
  pointwise

end Cert.KernelIdeal.Host

end
-- ==== Proof.StatsBlock.lean ====
/- What one grid point of the first call computes: the score, the mean magnitude and the root mean square of its rows. -/
module

public import proofs.«01_k».proof.Proof.KernelIdealRun.Stats
public import proofs.«01_k».proof.Proof.Flow

@[expose] public section

set_option maxRecDepth 16384

noncomputable section

namespace Cert.KernelIdeal.StatsBlock

open Cert.KernelIdeal Cert.KernelIdeal.Gen Idealize.ShloMosaic

theorem d_eq : Named.named (F := Ideal) κ "d" (φ := .f32) 0x3AAAAAAB#32 = Flow.inv768 :=
  IdealRules.named_const.ideal_named_scalar _ _ _ _ rfl

theorem hz2 : (![0, 0] : Fin 2 → Nat) = fun _ => 0 := funext fun a => by fin_cases a <;> rfl
theorem hz3 : (![0, 0, 0] : Fin 3 → Nat) = fun _ => 0 := funext fun a => by fin_cases a <;> rfl

variable (x0 x1 : Vec Ideal S1x512x768 .f32) (x2 x3 : Vec Ideal S768x1 .f32) (l : Fin 512)

theorem out4_apply : out0_4 x0 x1 x2 x3 (ix3 0 l 0)
    = Flow.cabs (∑ k, x0 (ix3 0 l k) * x2 (ix2 k 0) - ∑ k, x1 (ix3 0 l k) * x3 (ix2 k 0))
        (∑ k, x0 (ix3 0 l k) * x3 (ix2 k 0) + ∑ k, x1 (ix3 0 l k) * x2 (ix2 k 0)) := by
  unfold out0_4
  rw [View.canon_unit_zero hz3]
  simp only [View.ld_unit_zero (S := S768x1) hz2, View.ld_unit_zero (S := S1x512x768) hz3]
  unfold k0_pay5 k0_pay3 k0_pay4 Flow.cabs
  pointwise

theorem out5_apply : out0_5 x0 x1 x2 x3 (ix3 0 l 0) = (∑ k, Flow.cabs (x0 (ix3 0 l k)) (x1 (ix3 0 l k))) * Flow.inv768 := by
  unfold out0_5
  rw [View.canon_unit_zero hz3]
  simp only [View.ld_unit_zero (S := S1x512x768) hz3]
  unfold k0_pay1 k0_pay7 k0_pay6 k0_pay3 k0_pay4 Flow.cabs
  pointwise [d_eq]

theorem out6_apply : out0_6 x0 x1 x2 x3 (ix3 0 l 0)
    = Ideal.sqrt ((∑ k, (x0 (ix3 0 l k) * x0 (ix3 0 l k) + x1 (ix3 0 l k) * x1 (ix3 0 l k))) * Flow.inv768 + Flow.eps) := by
  unfold out0_6
  rw [View.canon_unit_zero hz3]
  simp only [View.ld_unit_zero (S := S1x512x768) hz3]
  unfold k0_pay2 k0_pay6 k0_pay3 k0_pay4 Flow.eps
  pointwise [d_eq]

end Cert.KernelIdeal.StatsBlock

end
-- ==== Proof.SegmentBlock.lean ====
/- What one grid point of the second call computes: the saliences of a batch entry, its segment numbers and its weights. -/
module

public import proofs.«01_k».proof.Proof.KernelIdealRun.Segment
public import proofs.«01_k».proof.Proof.Flow

@[expose] public section

set_option maxRecDepth 16384

noncomputable section

namespace Cert.KernelIdeal.SegmentBlock

open Cert.KernelIdeal Cert.KernelIdeal.Gen Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

theorem pay3_apply (v2 v6 : Vec Ideal S1x2048x1 .f32) (v10 : Vec Ideal S1x1 .f32) (v15 : Vec Ideal S1x2048x1 .f32) (v19 : Vec Ideal S1x1 .f32) (l : Fin 2048) :
    k1_pay3 v2 v6 v10 v15 v19 (ix2 0 l)
      = Ideal.logistic (v15 (ix3 0 l 0) + (v2 (ix3 0 l 0) - v6 (ix3 0 l 0)) * v10 (ix2 0 0) + v19 (ix2 0 0)) := by
  unfold k1_pay3
  pointwise
  simp only [Finset.univ_unique, Finset.sum_singleton]

/-- The shape of a row of `n` entries. -/
abbrev row (n : ℕ) : Shape := ⟨2, ![1, n]⟩

/-- The positions of a row. -/
def posV : IVec S1x2048 32 := iota .tc S1x2048 32 [1] iota_S1x2048_d1_w32

theorem posV_ge (K : ℕ) (hK : K < 2048) (l : Fin 2048) :
    cmpi .sge posV (broadcast S1x2048 (BitVec.ofNat 32 K)) (ix2 0 l) = if K ≤ l.val then 1#1 else 0#1 := by
  have e0 : posV (ix2 0 l) = BitVec.ofNat 32 l.val := congrArg (BitVec.ofNat 32) (by show 0 * 2048 + l.val = l.val; omega)
  show IntOp.cmpi .sge (posV (ix2 0 l)) (BitVec.ofNat 32 K) = _
  rw [e0]
  have hl := l.isLt
  have e : (BitVec.ofNat 32 K).sle (BitVec.ofNat 32 l.val) = decide (K ≤ l.val) := by
    have hv : ∀ n : ℕ, n < 2048 → (BitVec.ofNat 32 n).toInt = n := fun n hn => by
      rw [BitVec.toInt_eq_toNat_of_lt (by rw [BitVec.toNat_ofNat]; omega), BitVec.toNat_ofNat]
      omega
    rw [BitVec.sle_eq_decide, hv K hK, hv l.val hl]
    exact decide_eq_decide.mpr Int.ofNat_le
  show BitVec.ofBool ((BitVec.ofNat 32 K).sle (BitVec.ofNat 32 l.val)) = _
  rw [e]
  by_cases h : K ≤ l.val
  · simp [h]
  · simp [h]

/-- A row moved right by `K` places, zeros coming in from the left. -/
def rollV (K J : ℕ) (x : FVec Ideal S1x2048 .f32) (h1 : S1x2048.Slices ![0, J] (row K)) (h2 : S1x2048.Slices ![0, 0] (row J))
    (h3 : Shape.Concatenates [row K, row J] S1x2048 1) : FVec Ideal S1x2048 .f32 :=
  select (cmpi .sge posV (broadcast S1x2048 (BitVec.ofNat 32 K)))
    (concatenate S1x2048 1 [⟨row K, extractStridedSlice (row K) ![0, J] x h1⟩, ⟨row J, extractStridedSlice (row J) ![0, 0] x h2⟩] h3)
    (broadcast S1x2048 (Scalar.ofBits .f32 0x00000000#32))

theorem rollV_apply (K J : ℕ) (hK : K < 2048) (x : FVec Ideal S1x2048 .f32) (h1 : S1x2048.Slices ![0, J] (row K)) (h2 : S1x2048.Slices ![0, 0] (row J))
    (h3 : Shape.Concatenates [row K, row J] S1x2048 1) (l : Fin 2048) :
    rollV K J x h1 h2 h3 (ix2 0 l) = if K ≤ l.val then x (ix2 0 ⟨l.val - K, by omega⟩) else 0 := by
  unfold rollV
  unfold select
  rw [posV_ge K hK]
  by_cases h : K ≤ l.val
  · rw [if_pos h, if_pos h]
    rw [Scalar.select, if_pos (show (1#1 : BitVec 1) = 1 from rfl)]
    pointwise
    rw [dif_neg (by omega)]
    rfl
  · rw [if_neg h, if_neg h]
    pointwise

/-- One doubling step: a row plus itself moved right. -/
def stepV (K J : ℕ) (x : FVec Ideal S1x2048 .f32) (h1 : S1x2048.Slices ![0, J] (row K)) (h2 : S1x2048.Slices ![0, 0] (row J))
    (h3 : Shape.Concatenates [row K, row J] S1x2048 1) : FVec Ideal S1x2048 .f32 :=
  addf x (rollV K J x h1 h2 h3)

/-- A natural number as an extended real. -/
def nat (n : ℕ) : EReal := ((n : ℝ) : EReal)

theorem nat_add (a b : ℕ) : nat a + nat b = nat (a + b) := by
  unfold nat
  rw [Nat.cast_add, EReal.coe_add]

theorem stepV_dbl (f : ℕ → ℕ) (j K J : ℕ) (hK : 2 ^ j = K) (hK' : K < 2048) (x : FVec Ideal S1x2048 .f32) (h1 : S1x2048.Slices ![0, J] (row K))
    (h2 : S1x2048.Slices ![0, 0] (row J)) (h3 : Shape.Concatenates [row K, row J] S1x2048 1) (hx : ∀ l : Fin 2048, x (ix2 0 l) = nat (Flow.dbl f j l.val))
    (l : Fin 2048) : stepV K J x h1 h2 h3 (ix2 0 l) = nat (Flow.dbl f (j + 1) l.val) := by
  show x (ix2 0 l) + rollV K J x h1 h2 h3 (ix2 0 l) = _
  rw [rollV_apply K J hK', Flow.dbl, hK, ← nat_add, hx]
  by_cases h : K ≤ l.val
  · rw [if_pos h, if_pos h, hx]
  · rw [if_neg h, if_neg h]
    simp [nat]

/-- One where a segment starts, zero elsewhere. -/
def startV (v28 : IVec S1x2048 1) : FVec Ideal S1x2048 .f32 :=
  select v28 (subf (broadcast S1x2048 (Scalar.ofBits .f32 0x3F800000#32))
      (rollV 1 2047 (sitofp .f32 (extui 32 v28 natLt_1_32)) slices_S1x2048_o0_2047_S1x1 slices_S1x2048_o0_0_S1x2047 concatenates_S1x1_S1x2047_S1x2048_d1))
    (broadcast S1x2048 (Scalar.ofBits .f32 0x00000000#32))

open Classical in
theorem startV_apply (s : Fin 2048 → EReal) (v28 : IVec S1x2048 1) (h : ∀ l : Fin 2048, v28 (ix2 0 l) = if Flow.up s l.val then 1#1 else 0#1) (l : Fin 2048) :
    startV v28 (ix2 0 l) = nat (Flow.dbl (Flow.start s) 0 l.val) := by
  have hb : ∀ l : Fin 2048, (sitofp .f32 (extui 32 v28 natLt_1_32) : FVec Ideal S1x2048 .f32) (ix2 0 l) = if Flow.up s l.val then 1 else 0 := fun l => by
    pointwise
    rw [h]
    by_cases q : Flow.up s l.val
    · simp [q, FloatOps.sitofp]
    · simp [q, FloatOps.sitofp]
  unfold startV select
  rw [h, Flow.dbl]
  unfold Flow.start
  by_cases q : Flow.up s l.val
  · rw [if_pos q, Scalar.select, if_pos (show (1#1 : BitVec 1) = 1 from rfl)]
    pointwise
    rw [rollV_apply 1 2047 (by omega)]
    by_cases q1 : 1 ≤ l.val
    · rw [if_pos q1, hb]
      by_cases q2 : Flow.up s (l.val - 1)
      · rw [if_pos q2, if_neg (fun e => e.2 ⟨q1, q2⟩)]
        rw [show (1 : EReal) = ((1 : ℝ) : EReal) from rfl, ← EReal.coe_sub]
        simp [nat]
      · rw [if_neg q2, if_pos ⟨q, fun e => q2 e.2⟩]
        simp [nat]
    · rw [if_neg q1, if_pos ⟨q, fun e => q1 e.1⟩]
      simp [nat]
  · rw [if_neg q, Scalar.select, if_neg (by decide), if_neg (fun e => q e.1)]
    pointwise
    simp [nat]

/-- The number of segments started up to each position. -/
def cumV (v28 : IVec S1x2048 1) : FVec Ideal S1x2048 .f32 :=
  stepV 1024 1024 (stepV 512 1536 (stepV 256 1792 (stepV 128 1920 (stepV 64 1984 (stepV 32 2016 (stepV 16 2032 (stepV 8 2040 (stepV 4 2044 (stepV 2 2046
    (stepV 1 2047 (startV v28) slices_S1x2048_o0_2047_S1x1 slices_S1x2048_o0_0_S1x2047 concatenates_S1x1_S1x2047_S1x2048_d1)
    slices_S1x2048_o0_2046_S1x2 slices_S1x2048_o0_0_S1x2046 concatenates_S1x2_S1x2046_S1x2048_d1)
    slices_S1x2048_o0_2044_S1x4 slices_S1x2048_o0_0_S1x2044 concatenates_S1x4_S1x2044_S1x2048_d1)
    slices_S1x2048_o0_2040_S1x8 slices_S1x2048_o0_0_S1x2040 concatenates_S1x8_S1x2040_S1x2048_d1)
    slices_S1x2048_o0_2032_S1x16 slices_S1x2048_o0_0_S1x2032 concatenates_S1x16_S1x2032_S1x2048_d1)
    slices_S1x2048_o0_2016_S1x32 slices_S1x2048_o0_0_S1x2016 concatenates_S1x32_S1x2016_S1x2048_d1)
    slices_S1x2048_o0_1984_S1x64 slices_S1x2048_o0_0_S1x1984 concatenates_S1x64_S1x1984_S1x2048_d1)
    slices_S1x2048_o0_1920_S1x128 slices_S1x2048_o0_0_S1x1920 concatenates_S1x128_S1x1920_S1x2048_d1)
    slices_S1x2048_o0_1792_S1x256 slices_S1x2048_o0_0_S1x1792 concatenates_S1x256_S1x1792_S1x2048_d1)
    slices_S1x2048_o0_1536_S1x512 slices_S1x2048_o0_0_S1x1536 concatenates_S1x512_S1x1536_S1x2048_d1)
    slices_S1x2048_o0_1024_S1x1024 slices_S1x2048_o0_0_S1x1024 concatenates_S1x1024_S1x1024_S1x2048_d1

open Classical in
theorem cumV_apply (s : Fin 2048 → EReal) (v28 : IVec S1x2048 1) (h : ∀ l : Fin 2048, v28 (ix2 0 l) = if Flow.up s l.val then 1#1 else 0#1) (l : Fin 2048) :
    cumV v28 (ix2 0 l) = nat (Flow.cum s l.val) := by
  rw [← Flow.dbl_cum s l.val l.isLt]
  unfold cumV
  refine stepV_dbl _ 10 _ _ rfl (by omega) _ _ _ _ (fun l => ?_) l
  refine stepV_dbl _ 9 _ _ rfl (by omega) _ _ _ _ (fun l => ?_) l
  refine stepV_dbl _ 8 _ _ rfl (by omega) _ _ _ _ (fun l => ?_) l
  refine stepV_dbl _ 7 _ _ rfl (by omega) _ _ _ _ (fun l => ?_) l
  refine stepV_dbl _ 6 _ _ rfl (by omega) _ _ _ _ (fun l => ?_) l
  refine stepV_dbl _ 5 _ _ rfl (by omega) _ _ _ _ (fun l => ?_) l
  refine stepV_dbl _ 4 _ _ rfl (by omega) _ _ _ _ (fun l => ?_) l
  refine stepV_dbl _ 3 _ _ rfl (by omega) _ _ _ _ (fun l => ?_) l
  refine stepV_dbl _ 2 _ _ rfl (by omega) _ _ _ _ (fun l => ?_) l
  refine stepV_dbl _ 1 _ _ rfl (by omega) _ _ _ _ (fun l => ?_) l
  refine stepV_dbl _ 0 _ _ rfl (by omega) _ _ _ _ (fun l => ?_) l
  exact startV_apply s v28 h l

theorem ofBits_32 : Ideal.ofBits .f32 0x42000000#32 = ((32 : ℝ) : EReal) := by
  simp [Ideal.ofBits, Ideal.ieee, -EReal.coe_mul]; norm_num

theorem min_int (n : ℕ) : min (nat n - 1) ((32 : ℝ) : EReal) = Flow.int (min ((n : ℤ) - 1) 32) := by
  unfold nat Flow.int
  rw [show (1 : EReal) = ((1 : ℝ) : EReal) from rfl, ← EReal.coe_sub, ← EReal.coe_strictMono.monotone.map_min]
  push_cast
  rfl

section
variable (x0 x1 x2 : Vec Ideal S1x2048x1 .f32) (x3 x4 : Vec Ideal S1x1 .f32)

/-- The saliences of the block. -/
def salR (l : Fin 2048) : EReal := Ideal.logistic (x0 (ix3 0 l 0) + (x1 (ix3 0 l 0) - x2 (ix3 0 l 0)) * x4 (ix2 0 0) + x3 (ix2 0 0))

theorem out5_apply (l : Fin 2048) : out1_5 x0 x1 x2 x3 x4 (ix3 0 0 l) = salR x0 x1 x2 x3 x4 l := by
  unfold out1_5
  rw [View.canon_unit_zero hz3]
  simp only [View.ld_unit_zero (S := S1x1) hz2, View.ld_unit_zero (S := S1x2048x1) hz3]
  unfold k1_pay4
  pointwise [pay3_apply]
  rfl

open Classical in
theorem up_apply (l : Fin 2048) : k1_pay14 x0 x1 x2 x3 x4 (ix2 0 l) = if Flow.up (salR x0 x1 x2 x3 x4) l.val then 1#1 else 0#1 := by
  unfold k1_pay14
  simp only [View.ld_unit_zero (S := S1x1) hz2, View.ld_unit_zero (S := S1x2048x1) hz3]
  unfold k1_pay5
  show BitVec.ofBool (decide (Flow.half < k1_pay3 x1 x2 x4 x0 x3 (ix2 0 l))) = _
  rw [pay3_apply]
  by_cases h : Flow.up (salR x0 x1 x2 x3 x4) l.val
  · rw [if_pos h]
    have := (Flow.up_iff _ l).mp h
    unfold salR at this
    simp [this]
  · rw [if_neg h]
    have this : ¬Flow.half < salR x0 x1 x2 x3 x4 l := fun q => h ((Flow.up_iff _ l).mpr q)
    unfold salR at this
    rw [decide_eq_false this]
    rfl

theorem out6_eq : k1_pay1 (k1_pay14 x0 x1 x2 x3 x4) (k1_pay11 (k1_pay13 x0 x1 x2 x3 x4) (k1_pay18 x0 x1 x2 x3 x4) (k1_pay19 x0 x1 x2 x3 x4))
      (k1_pay12 (k1_pay13 x0 x1 x2 x3 x4) (k1_pay18 x0 x1 x2 x3 x4) (k1_pay19 x0 x1 x2 x3 x4))
    = shapeCast S1x1x2048 (select (k1_pay14 x0 x1 x2 x3 x4) (minimumf (subf (cumV (k1_pay14 x0 x1 x2 x3 x4)) (broadcast S1x2048 (Scalar.ofBits .f32 0x3F800000#32)))
        (broadcast S1x2048 (Scalar.ofBits .f32 0x42000000#32))) (broadcast S1x2048 (Scalar.ofBits .f32 0x42000000#32))) shapeCasts_S1x2048_S1x1x2048 := rfl

theorem out6_apply (l : Fin 2048) : out1_6 x0 x1 x2 x3 x4 (ix3 0 0 l) = Flow.int (Flow.seg (salR x0 x1 x2 x3 x4) l) := by
  unfold out1_6
  rw [View.canon_unit_zero hz3, out6_eq]
  pointwise
  rw [up_apply, cumV_apply _ _ (up_apply x0 x1 x2 x3 x4)]
  unfold Flow.seg
  by_cases h : Flow.up (salR x0 x1 x2 x3 x4) l.val
  · rw [if_pos h, if_pos h, ofBits_32, ← min_int]
    rfl
  · rw [if_neg h, if_neg h, ofBits_32, Scalar.select, if_neg (by decide)]
    simp [Flow.int]

theorem out7_apply (l : Fin 2048) : out1_7 x0 x1 x2 x3 x4 (ix3 0 0 l) = Flow.wt (salR x0 x1 x2 x3 x4) l := by
  unfold out1_7
  rw [View.canon_unit_zero hz3]
  simp only [View.ld_unit_zero (S := S1x1) hz2, View.ld_unit_zero (S := S1x2048x1) hz3]
  unfold k1_pay2
  pointwise [pay3_apply]
  rw [up_apply]
  unfold Flow.wt
  by_cases h : Flow.up (salR x0 x1 x2 x3 x4) l.val
  · rw [if_pos h, if_pos h]
    rfl
  · rw [if_neg h, if_neg h]
    rfl

end

end Cert.KernelIdeal.SegmentBlock

end
-- ==== Proof.PoolBlock.lean ====
/- What the third call computes: the sums over the segments of a batch entry, gathered over the four blocks of its row, and the pooled events. -/
module

public import proofs.«01_k».proof.Proof.KernelIdealRun.Pool
public import proofs.«01_k».proof.Proof.Flow

@[expose] public section

set_option maxRecDepth 16384

noncomputable section

namespace Cert.KernelIdeal.PoolBlock

open Cert.KernelIdeal Cert.KernelIdeal.Gen Idealize.ShloMosaic Idealize.ShloMosaic.TcCoe

theorem hz2 : (![0, 0] : Fin 2 → Nat) = fun _ => 0 := funext fun a => by fin_cases a <;> rfl
theorem hz3 : (![0, 0, 0] : Fin 3 → Nat) = fun _ => 0 := funext fun a => by fin_cases a <;> rfl

theorem int_eq_iff (q : ℤ) (e : Fin 33) : Flow.int q = (((BitVec.ofNat 32 e.val).toInt : ℝ) : EReal) ↔ q = e.val := by
  have hv : (BitVec.ofNat 32 e.val).toInt = e.val := by
    have := e.isLt
    rw [BitVec.toInt_eq_toNat_of_lt (by rw [BitVec.toNat_ofNat]; omega), BitVec.toNat_ofNat]
    omega
  rw [hv]
  unfold Flow.int
  rw [EReal.coe_eq_coe_iff]
  exact Int.cast_inj

/-- One where a position belongs to a segment. -/
theorem hot_apply (x2 : Vec Ideal S1x1x512 .f32) (q : ℤ) (e : Fin 33) (l : Fin 512) (h : x2 (ix3 0 0 l) = Flow.int q) :
    k2_pay10 x2 (ix2 e l) = if q = e.val then 1 else 0 := by
  have e0 : (0 * 33 + e.val) = e.val := by omega
  unfold k2_pay10
  pointwise
  rw [h, show (FloatOps.sitofp (F := Ideal) FTy.f32 (BitVec.ofNat 32 e.val)) = (((BitVec.ofNat 32 e.val).toInt : ℝ) : EReal) from rfl]
  by_cases c : q = e.val
  · rw [decide_eq_true ((int_eq_iff q e).mpr c), if_pos c]
    simp [FloatOps.sitofp]
  · rw [decide_eq_false (fun w => c ((int_eq_iff q e).mp w)), if_neg c]
    simp [FloatOps.sitofp]

theorem hw_apply (x2 x3 : Vec Ideal S1x1x512 .f32) (q : ℤ) (e : Fin 33) (l : Fin 512) (h : x2 (ix3 0 0 l) = Flow.int q) :
    k2_pay11 x2 x3 (ix2 e l) = if q = e.val then x3 (ix3 0 0 l) else 0 := by
  unfold k2_pay11 k2_pay9
  pointwise
  rw [hot_apply x2 q e l h]
  by_cases c : q = e.val
  · rw [if_pos c, if_pos c, one_mul]
  · rw [if_neg c, if_neg c, zero_mul]

theorem upd0_apply (x2 x3 : Vec Ideal S1x1x512 .f32) (a : Vec Ideal S33x768 .f32) (x : Vec Ideal S1x512x768 .f32) (q : Fin 512 → ℤ)
    (h : ∀ l, x2 (ix3 0 0 l) = Flow.int (q l)) (e : Fin 33) (k : Fin 768) :
    upd0 x2 x3 a x (ix2 e k) = a (ix2 e k) + ∑ l : Fin 512, if q l = e.val then x3 (ix3 0 0 l) * x (ix3 0 l k) else 0 := by
  unfold upd0 k2_pay12
  pointwise
  refine congrArg (a (ix2 e k) + ·) (Finset.sum_congr rfl fun l _ => ?_)
  rw [hw_apply x2 x3 (q l) e l (h l)]
  by_cases c : q l = e.val
  · rw [if_pos c, if_pos c]
  · rw [if_neg c, if_neg c, zero_mul]

theorem upd1_eq (x2 x3 : Vec Ideal S1x1x512 .f32) (a : Vec Ideal S33x768 .f32) (x : Vec Ideal S1x512x768 .f32) : upd1 x2 x3 a x = upd0 x2 x3 a x := rfl

theorem upd2_den (x2 x3 : Vec Ideal S1x1x512 .f32) (a : Vec Ideal S33x2 .f32) (q : Fin 512 → ℤ)
    (h : ∀ l, x2 (ix3 0 0 l) = Flow.int (q l)) (e : Fin 33) :
    upd2 x2 x3 a (ix2 e 0) = a (ix2 e 0) + ∑ l : Fin 512, if q l = e.val then x3 (ix3 0 0 l) else 0 := by
  unfold upd2 k2_pay1
  pointwise
  refine congrArg (a (ix2 e 0) + ·) (Finset.sum_congr rfl fun l _ => ?_)
  exact hw_apply x2 x3 (q l) e l (h l)

theorem upd2_cnt (x2 x3 : Vec Ideal S1x1x512 .f32) (a : Vec Ideal S33x2 .f32) (q : Fin 512 → ℤ)
    (h : ∀ l, x2 (ix3 0 0 l) = Flow.int (q l)) (e : Fin 33) :
    upd2 x2 x3 a (ix2 e 1) = a (ix2 e 1) + ∑ l : Fin 512, if q l = e.val then (if 0 < x3 (ix3 0 0 l) then 1 else 0) else 0 := by
  unfold upd2 k2_pay1 k2_pay9
  pointwise
  refine congrArg (a (ix2 e 1) + ·) (Finset.sum_congr rfl fun l _ => ?_)
  rw [hot_apply x2 (q l) e l (h l)]
  by_cases c : q l = e.val
  · rw [if_pos c, if_pos c, one_mul]
    by_cases w : 0 < x3 (ix3 0 0 l)
    · rw [if_pos w, decide_eq_true w]
      simp [FloatOps.sitofp]
    · rw [if_neg w, decide_eq_false w]
      simp [FloatOps.sitofp]
  · rw [if_neg c, if_neg c, zero_mul]

theorem pay6_apply (i : S33x768.Idx) : (k2_pay6 : FVec Ideal S33x768 .f32) i = 0 := by
  rw [← ix2_eta i]; unfold k2_pay6; pointwise
theorem pay7_apply (i : S33x768.Idx) : (k2_pay7 : FVec Ideal S33x768 .f32) i = 0 := by
  rw [← ix2_eta i]; unfold k2_pay7; pointwise
theorem pay8_apply (i : S33x2.Idx) : (k2_pay8 : FVec Ideal S33x2 .f32) i = 0 := by
  rw [← ix2_eta i]; unfold k2_pay8; pointwise

/-- A quantity that starts at zero with every row and adds one block's terms at each point holds the sum over the row's blocks so far. -/
theorem row_sum (A : ℕ → EReal) (b : ℕ) (G : ℕ → EReal)
    (h0 : A (4 * b) = 0 + ∑ l : Fin 512, G l.val)
    (hs : ∀ j, j < 3 → A (4 * b + (j + 1)) = A (4 * b + j) + ∑ l : Fin 512, G ((j + 1) * 512 + l.val)) :
    A (4 * b + 3) = ∑ l : Fin 2048, G l.val := by
  have key : ∀ j, j ≤ 3 → A (4 * b + j) = ∑ i ∈ Finset.range ((j + 1) * 512), G i := by
    intro j
    induction j with
    | zero =>
      intro _
      rw [add_zero, h0, zero_add, Fin.sum_univ_eq_sum_range (fun i => G i) 512]
    | succ j ih =>
      intro hj
      rw [hs j (by omega), ih (by omega), show (j + 1 + 1) * 512 = (j + 1) * 512 + 512 by ring, Finset.sum_range_add,
        Fin.sum_univ_eq_sum_range (fun i => G ((j + 1) * 512 + i)) 512]
  rw [key 3 le_rfl, Fin.sum_univ_eq_sum_range (fun i => G i) 2048]

section
variable (V : (c : Dev nD) → (b : Ref sig .tc) → Buf (Elt Ideal) ((c : Thread nD τ).loc b)) (c : Dev nD) (b : Fin 4)
  (s : Fin 2048 → EReal) (zr zi : Fin 2048 → Fin 768 → EReal)

/-- Position `l` of block `j`. -/
def pos (j : ℕ) (hj : j < 4) (l : Fin 512) : Fin 2048 := ⟨j * 512 + l.val, by omega⟩

/-- The blocks of a row of the four arrays the call reads. -/
structure Reads : Prop where
  r0 : ∀ j hj l k, iblk2 V c 0 (pt2 (4 * b.val + j)) (ix3 0 l k) = zr (pos j hj l) k
  r1 : ∀ j hj l k, iblk2 V c 1 (pt2 (4 * b.val + j)) (ix3 0 l k) = zi (pos j hj l) k
  r2 : ∀ j hj l, iblk2 V c 2 (pt2 (4 * b.val + j)) (ix3 0 0 l) = Flow.int (Flow.seg s (pos j hj l))
  r3 : ∀ j hj l, iblk2 V c 3 (pt2 (4 * b.val + j)) (ix3 0 0 l) = Flow.wt s (pos j hj l)

/-- A function on positions, extended by zero. -/
def ext (g : Fin 2048 → EReal) (n : ℕ) : EReal := if h : n < 2048 then g ⟨n, h⟩ else 0

theorem ext_pos (g : Fin 2048 → EReal) (j : ℕ) (hj : j < 4) (l : Fin 512) : ext g (j * 512 + l.val) = g (pos j hj l) := dif_pos _
theorem ext_val (g : Fin 2048 → EReal) (l : Fin 2048) : ext g l.val = g l := dif_pos l.isLt

variable {V c b s zr zi} (R : Reads V c b s zr zi)
include R

open Classical in
theorem acc0_apply (e : Fin 33) (k : Fin 768) : acc0 V c (4 * b.val + 3) (ix2 e k) = Flow.num s (fun l => zr l k) e := by
  have step : ∀ j (hj : j < 4) (a : Vec Ideal S33x768 .f32),
      upd0 (iblk2 V c 2 (pt2 (4 * b.val + j))) (iblk2 V c 3 (pt2 (4 * b.val + j))) a (iblk2 V c 0 (pt2 (4 * b.val + j))) (ix2 e k)
        = a (ix2 e k) + ∑ l : Fin 512, ext (fun l => if Flow.seg s l = e.val then Flow.wt s l * zr l k else 0) (j * 512 + l.val) := fun j hj a => by
    refine (upd0_apply _ _ a _ (fun l => Flow.seg s (pos j hj l)) (R.r2 j hj) e k).trans (congrArg (a (ix2 e k) + ·) (Finset.sum_congr rfl fun l _ => ?_))
    rw [ext_pos _ j hj l, R.r3 j hj l, R.r0 j hj l k]
  refine (row_sum (fun n => acc0 V c n (ix2 e k)) b.val (ext (fun l => if Flow.seg s l = e.val then Flow.wt s l * zr l k else 0)) ?_ ?_).trans ?_
  · refine (congrFun (acc_first_pt V c (4 * b.val) (by omega)).1 _).trans ((step 0 (by omega) _).trans ?_)
    rw [pay6_apply]
    simp only [Nat.zero_mul, Nat.zero_add]
  · intro j hj
    exact (congrFun (acc_next_pt V c (4 * b.val + (j + 1)) (by omega)).1 _).trans (step (j + 1) (by omega) _)
  · exact Finset.sum_congr rfl fun l _ => ext_val _ l

open Classical in
theorem acc1_apply (e : Fin 33) (k : Fin 768) : acc1 V c (4 * b.val + 3) (ix2 e k) = Flow.num s (fun l => zi l k) e := by
  have step : ∀ j (hj : j < 4) (a : Vec Ideal S33x768 .f32),
      upd1 (iblk2 V c 2 (pt2 (4 * b.val + j))) (iblk2 V c 3 (pt2 (4 * b.val + j))) a (iblk2 V c 1 (pt2 (4 * b.val + j))) (ix2 e k)
        = a (ix2 e k) + ∑ l : Fin 512, ext (fun l => if Flow.seg s l = e.val then Flow.wt s l * zi l k else 0) (j * 512 + l.val) := fun j hj a => by
    refine (upd0_apply _ _ a _ (fun l => Flow.seg s (pos j hj l)) (R.r2 j hj) e k).trans (congrArg (a (ix2 e k) + ·) (Finset.sum_congr rfl fun l _ => ?_))
    rw [ext_pos _ j hj l, R.r3 j hj l, R.r1 j hj l k]
  refine (row_sum (fun n => acc1 V c n (ix2 e k)) b.val (ext (fun l => if Flow.seg s l = e.val then Flow.wt s l * zi l k else 0)) ?_ ?_).trans ?_
  · refine (congrFun (acc_first_pt V c (4 * b.val) (by omega)).2.1 _).trans ((step 0 (by omega) _).trans ?_)
    rw [pay7_apply]
    simp only [Nat.zero_mul, Nat.zero_add]
  · intro j hj
    exact (congrFun (acc_next_pt V c (4 * b.val + (j + 1)) (by omega)).2.1 _).trans (step (j + 1) (by omega) _)
  · exact Finset.sum_congr rfl fun l _ => ext_val _ l

open Classical in
theorem acc2_den (e : Fin 33) : acc2 V c (4 * b.val + 3) (ix2 e 0) = Flow.den s e := by
  have step : ∀ j (hj : j < 4) (a : Vec Ideal S33x2 .f32),
      upd2 (iblk2 V c 2 (pt2 (4 * b.val + j))) (iblk2 V c 3 (pt2 (4 * b.val + j))) a (ix2 e 0)
        = a (ix2 e 0) + ∑ l : Fin 512, ext (fun l => if Flow.seg s l = e.val then Flow.wt s l else 0) (j * 512 + l.val) := fun j hj a => by
    refine (upd2_den _ _ a (fun l => Flow.seg s (pos j hj l)) (R.r2 j hj) e).trans (congrArg (a (ix2 e 0) + ·) (Finset.sum_congr rfl fun l _ => ?_))
    rw [ext_pos _ j hj l, R.r3 j hj l]
  refine (row_sum (fun n => acc2 V c n (ix2 e 0)) b.val (ext (fun l => if Flow.seg s l = e.val then Flow.wt s l else 0)) ?_ ?_).trans ?_
  · refine (congrFun (acc_first_pt V c (4 * b.val) (by omega)).2.2 _).trans ((step 0 (by omega) _).trans ?_)
    rw [pay8_apply]
    simp only [Nat.zero_mul, Nat.zero_add]
  · intro j hj
    exact (congrFun (acc_next_pt V c (4 * b.val + (j + 1)) (by omega)).2.2 _).trans (step (j + 1) (by omega) _)
  · exact Finset.sum_congr rfl fun l _ => ext_val _ l

open Classical in
theorem acc2_cnt (e : Fin 33) : acc2 V c (4 * b.val + 3) (ix2 e 1) = Flow.cnt s e := by
  have step : ∀ j (hj : j < 4) (a : Vec Ideal S33x2 .f32),
      upd2 (iblk2 V c 2 (pt2 (4 * b.val + j))) (iblk2 V c 3 (pt2 (4 * b.val + j))) a (ix2 e 1)
        = a (ix2 e 1) + ∑ l : Fin 512, ext (fun l => if Flow.seg s l = e.val then (if Flow.up s l.val then 1 else 0) else 0) (j * 512 + l.val) := fun j hj a => by
    refine (upd2_cnt _ _ a (fun l => Flow.seg s (pos j hj l)) (R.r2 j hj) e).trans (congrArg (a (ix2 e 1) + ·) (Finset.sum_congr rfl fun l _ => ?_))
    rw [ext_pos _ j hj l, R.r3 j hj l]
    simp only [Flow.wt_pos_iff]
  refine (row_sum (fun n => acc2 V c n (ix2 e 1)) b.val (ext (fun l => if Flow.seg s l = e.val then (if Flow.up s l.val then 1 else 0) else 0)) ?_ ?_).trans ?_
  · refine (congrFun (acc_first_pt V c (4 * b.val) (by omega)).2.2 _).trans ((step 0 (by omega) _).trans ?_)
    rw [pay8_apply]
    simp only [Nat.zero_mul, Nat.zero_add]
  · intro j hj
    exact (congrFun (acc_next_pt V c (4 * b.val + (j + 1)) (by omega)).2.2 _).trans (step (j + 1) (by omega) _)
  · exact Finset.sum_congr rfl fun l _ => ext_val _ l

end

/-! ## The results -/

theorem ld0 (a : Vec Ideal S33x2 .f32) (e : Fin 32) :
    View.ld a (Rect.unit (s := S33x2) ![0, 0] S32x1.size inb_S33x2_S32x1_0_0) (ix2 e 0) = a (ix2 (Flow.slot e) 0) :=
  congrArg a (funext fun i => Fin.ext (by
    match i with
    | 0 => show 0 + 1 * e.val = e.val; omega
    | 1 => show 0 + 1 * 0 = 0; omega))
theorem ld1 (a : Vec Ideal S33x2 .f32) (e : Fin 32) :
    View.ld a (Rect.unit (s := S33x2) ![0, 1] S32x1.size inb_S33x2_S32x1_0_1) (ix2 e 0) = a (ix2 (Flow.slot e) 1) :=
  congrArg a (funext fun i => Fin.ext (by
    match i with
    | 0 => show 0 + 1 * e.val = e.val; omega
    | 1 => show 1 + 1 * 0 = 1; omega))
theorem ldz (a : Vec Ideal S33x768 .f32) (e : Fin 32) (k : Fin 768) :
    View.ld a (Rect.unit (s := S33x768) ![0, 0] S32x768.size inb_S33x768_S32x768_0_0) (ix2 e k) = a (ix2 (Flow.slot e) k) :=
  congrArg a (funext fun i => Fin.ext (by
    match i with
    | 0 => show 0 + 1 * e.val = e.val; omega
    | 1 => show 0 + 1 * k.val = k.val; omega))

theorem res4_apply (a : Vec Ideal S33x2 .f32) (z : Vec Ideal S33x768 .f32) (e : Fin 32) (k : Fin 768) :
    res4 a z (ix3 0 e k) = Ideal.div (z (ix2 (Flow.slot e) k)) (max (a (ix2 (Flow.slot e) 0)) Flow.eps) := by
  unfold res4
  rw [← ld0 a e, ← ldz z e k]
  generalize View.ld a _ = p
  generalize View.ld z _ = q
  unfold k2_pay3 k2_pay2
  pointwise
  rfl
theorem res5_apply (a : Vec Ideal S33x2 .f32) (z : Vec Ideal S33x768 .f32) (e : Fin 32) (k : Fin 768) :
    res5 a z (ix3 0 e k) = Ideal.div (z (ix2 (Flow.slot e) k)) (max (a (ix2 (Flow.slot e) 0)) Flow.eps) := res4_apply a z e k
open Classical in
theorem res6_apply (a : Vec Ideal S33x2 .f32) (e : Fin 32) :
    res6 a (ix3 0 e 0) = if 0 < a (ix2 (Flow.slot e) 1) then 1 else 0 := by
  unfold res6
  rw [← ld1 a e]
  generalize View.ld a _ = p
  unfold k2_pay5
  pointwise
  by_cases w : 0 < p (ix2 e 0)
  · rw [if_pos w, decide_eq_true w]
    simp [FloatOps.sitofp]
  · rw [if_neg w, decide_eq_false w]
    simp [FloatOps.sitofp]

end Cert.KernelIdeal.PoolBlock

end
-- ==== Proof.ProjectBlock.lean ====
/- What one grid point of the fourth call computes: the new keys, the new values and the new mask of its batch entry. -/
module

public import proofs.«01_k».proof.Proof.KernelIdealRun.Project
public import proofs.«01_k».proof.Proof.Flow

@[expose] public section

set_option maxRecDepth 16384

noncomputable section

namespace Cert.KernelIdeal.ProjectBlock

open Cert.KernelIdeal Cert.KernelIdeal.Gen Idealize.ShloMosaic

theorem hz2 : (![0, 0] : Fin 2 → Nat) = fun _ => 0 := funext fun a => by fin_cases a <;> rfl
theorem hz3 : (![0, 0, 0] : Fin 3 → Nat) = fun _ => 0 := funext fun a => by fin_cases a <;> rfl

variable (x0 x1 : Vec Ideal S1x32x768 .f32) (x2 : Vec Ideal S1x32x1 .f32) (x3 x4 x5 x6 : Vec Ideal S1x32x768 .f32) (x7 : Vec Ideal S1x1x32 .f32)
  (x8 x9 x10 x11 : Vec Ideal S768x768 .f32) (s : Fin 32) (d : Fin 768)

theorem out12_apply : out3_12 x0 x1 x2 x3 x4 x5 x6 x7 x8 x9 x10 x11 (ix3 0 s d)
    = Flow.mix (x2 (ix3 0 s 0)) (∑ k, x0 (ix3 0 s k) * x8 (ix2 k d) - ∑ k, x1 (ix3 0 s k) * x9 (ix2 k d)) (x3 (ix3 0 s d)) := by
  unfold out3_12
  rw [View.canon_unit_zero hz3]
  unfold k3_pay13
  simp only [View.ld_unit_zero (S := S768x768) hz2, View.ld_unit_zero (S := S1x32x768) hz3, View.ld_unit_zero (S := S1x32x1) hz3]
  unfold k3_pay10 k3_pay6 k3_pay3 k3_pay4 k3_pay5 Flow.mix
  pointwise

theorem out13_apply : out3_13 x0 x1 x2 x3 x4 x5 x6 x7 x8 x9 x10 x11 (ix3 0 s d)
    = Flow.mix (x2 (ix3 0 s 0)) (∑ k, x0 (ix3 0 s k) * x9 (ix2 k d) + ∑ k, x1 (ix3 0 s k) * x8 (ix2 k d)) (x4 (ix3 0 s d)) := by
  unfold out3_13
  rw [View.canon_unit_zero hz3]
  unfold k3_pay13
  simp only [View.ld_unit_zero (S := S768x768) hz2, View.ld_unit_zero (S := S1x32x768) hz3, View.ld_unit_zero (S := S1x32x1) hz3]
  unfold k3_pay11 k3_pay7 k3_pay3 k3_pay4 k3_pay5 Flow.mix
  pointwise

theorem out14_apply : out3_14 x0 x1 x2 x3 x4 x5 x6 x7 x8 x9 x10 x11 (ix3 0 s d)
    = Flow.mix (x2 (ix3 0 s 0)) (∑ k, x0 (ix3 0 s k) * x10 (ix2 k d) - ∑ k, x1 (ix3 0 s k) * x11 (ix2 k d)) (x5 (ix3 0 s d)) := by
  unfold out3_14
  rw [View.canon_unit_zero hz3]
  unfold k3_pay13
  simp only [View.ld_unit_zero (S := S768x768) hz2, View.ld_unit_zero (S := S1x32x768) hz3, View.ld_unit_zero (S := S1x32x1) hz3]
  unfold k3_pay12 k3_pay8 k3_pay3 k3_pay4 k3_pay5 Flow.mix
  pointwise

theorem out15_apply : out3_15 x0 x1 x2 x3 x4 x5 x6 x7 x8 x9 x10 x11 (ix3 0 s d)
    = Flow.mix (x2 (ix3 0 s 0)) (∑ k, x0 (ix3 0 s k) * x11 (ix2 k d) + ∑ k, x1 (ix3 0 s k) * x10 (ix2 k d)) (x6 (ix3 0 s d)) := by
  unfold out3_15
  rw [View.canon_unit_zero hz3]
  unfold k3_pay13
  simp only [View.ld_unit_zero (S := S768x768) hz2, View.ld_unit_zero (S := S1x32x768) hz3, View.ld_unit_zero (S := S1x32x1) hz3]
  unfold k3_pay1 k3_pay9 k3_pay3 k3_pay4 k3_pay5 Flow.mix
  pointwise

theorem out16_apply : out3_16 x0 x1 x2 x3 x4 x5 x6 x7 x8 x9 x10 x11 (ix3 0 0 s) = min (x7 (ix3 0 0 s) + x2 (ix3 0 s 0)) 1 := by
  unfold out3_16
  rw [View.canon_unit_zero hz3]
  unfold k3_pay13
  simp only [View.ld_unit_zero (S := S1x1x32) hz3, View.ld_unit_zero (S := S1x32x1) hz3]
  unfold k3_pay2 k3_pay5
  pointwise
  rw [Finset.univ_unique, Finset.sum_singleton]

end Cert.KernelIdeal.ProjectBlock

end
-- ==== Proof.RetrieveBlock.lean ====
/- What one grid point of the retrieval call computes, row by row: the payloads of its stores read at an index. -/
module

public import proofs.«01_k».proof.Proof.KernelIdealRun.Retrieve
public import proofs.«01_k».proof.Proof.Spec

@[expose] public section

set_option maxRecDepth 16384

noncomputable section

namespace Cert.KernelIdeal.RetrieveBlock

open Cert.KernelIdeal Cert.KernelIdeal.Gen Idealize.ShloMosaic

theorem mask_eq : Named.named (F := Ideal) κ "mask" (φ := .f32) 0xF149F2CA#32 = (⊥ : EReal) :=
  IdealRules.named_const.ideal_named_scalar _ _ _ _ rfl

theorem s_eq : Named.named (F := Ideal) κ "s" (φ := .f32) 0x3D13CD3A#32 = (((Real.sqrt 768)⁻¹ : ℝ) : EReal) :=
  IdealRules.named_const.ideal_named_scalar _ _ _ _ rfl

theorem pay1_apply (v0 : Vec Ideal S1x768 .f32) (v2 : Vec Ideal S1x512x1 .f32) (l : Fin 512) (d : Fin 768) :
    k4_pay1 v0 v2 (ix2 l d) = Ideal.div (v0 (ix2 0 d)) (v2 (ix3 0 l 0)) := by
  unfold k4_pay1
  pointwise

/-- One removal over a block of rows. -/
def removeV (v : FVec Ideal S512x32 .f32) : FVec Ideal S512x32 .f32 :=
  select (cmpf .oge v (broadcastTo S512x32 (shapeCast S512x1
      (multiReduction .maximumf [1] S512 v 0xFF800000#32 reduces_S512x32_S512 (.inl rfl) rfl) shapeCasts_S512_S512x1) broadcasts_S512x1_S512x32))
    (broadcast S512x32 (Named.named κ "mask" 0xF149F2CA#32)) v

theorem removeV_row (v : FVec Ideal S512x32 .f32) (l : Fin 512) :
    (fun i => removeV v (ix2 l i)) = Rounds.remove (fun i => v (ix2 l i)) := by
  funext i
  unfold removeV Rounds.remove
  pointwise [mask_eq, Spec.ofBits_neg_inf, Spec.fold_max_eq_sup]

/-- The row's maximum, as a column. -/
theorem pay8_apply (v22 : FVec Ideal S512x768 .f32) (v25 : FVec Ideal S512x32 .f32) (v27 : FVec Ideal S32x768 .f32)
    (v32 : Vec Ideal S1x1x32 .f32) (l : Fin 512) :
    k4_pay8 v22 v25 v27 v32 (ix2 l 0) = Finset.univ.sup fun i => k4_pay7 v22 v25 v27 v32 (ix2 l i) := by
  unfold k4_pay8
  pointwise [Spec.ofBits_neg_inf, Spec.fold_max_eq_sup]

theorem pay9_eq (v22 : FVec Ideal S512x768 .f32) (v25 : FVec Ideal S512x32 .f32) (v27 : FVec Ideal S32x768 .f32) (v32 : Vec Ideal S1x1x32 .f32) :
    k4_pay9 v22 v25 v27 v32 = removeV (removeV (removeV (removeV (removeV (k4_pay7 v22 v25 v27 v32))))) := rfl

/-- The unnormalised weights over a block of rows, from the scores, their maximum and the scores with seven removals made. -/
def expV (v39 : FVec Ideal S512x32 .f32) (v41 : FVec Ideal S512x1 .f32) (v81 : FVec Ideal S512x32 .f32) : FVec Ideal S512x32 .f32 :=
  select (cmpf .oge v39 (broadcastTo S512x32 (shapeCast S512x1
      (multiReduction .maximumf [1] S512 v81 0xFF800000#32 reduces_S512x32_S512 (.inl rfl) rfl) shapeCasts_S512_S512x1) broadcasts_S512x1_S512x32))
    (exp (subf v39 (broadcastTo S512x32 v41 broadcasts_S512x1_S512x32))) (broadcast S512x32 (Scalar.ofBits .f32 0x00000000#32))

theorem expV_row (v39 : FVec Ideal S512x32 .f32) (v41 : FVec Ideal S512x1 .f32) (l : Fin 512) (j : Fin 32)
    (h41 : v41 (ix2 l 0) = Finset.univ.sup fun i => v39 (ix2 l i)) :
    expV v39 v41 (removeV (removeV (removeV (removeV (removeV (removeV (removeV v39))))))) (ix2 l j) = Rounds.roundE (fun i => v39 (ix2 l i)) j := by
  unfold Rounds.roundE expV
  pointwise [Spec.ofBits_neg_inf, Spec.fold_max_eq_sup, h41, Ideal.ofBits_zero]
  rw [removeV_row, removeV_row, removeV_row, removeV_row, removeV_row, removeV_row, removeV_row]
  rfl

theorem pay10_eq (v39 : FVec Ideal S512x32 .f32) (v41 : FVec Ideal S512x1 .f32) (v69 : FVec Ideal S512x32 .f32) :
    k4_pay10 v39 v41 v69 = divf (expV v39 v41 (removeV (removeV v69))) (broadcastTo S512x32 (shapeCast S512x1
      (multiReduction .add [1] S512 (expV v39 v41 (removeV (removeV v69))) 0x00000000#32 reduces_S512x32_S512 (.inl rfl) rfl) shapeCasts_S512_S512x1)
      broadcasts_S512x1_S512x32) := rfl

/-- The weights, from the scores, their maximum and the scores with five removals made. -/
theorem pay10_row (v39 : FVec Ideal S512x32 .f32) (v41 : FVec Ideal S512x1 .f32) (l : Fin 512) (i : Fin 32)
    (h41 : v41 (ix2 l 0) = Finset.univ.sup fun i => v39 (ix2 l i)) :
    k4_pay10 v39 v41 (removeV (removeV (removeV (removeV (removeV v39))))) (ix2 l i) = Rounds.roundW (fun i => v39 (ix2 l i)) i := by
  rw [pay10_eq]
  unfold Rounds.roundW
  pointwise [expV_row v39 v41 l _ h41]

theorem pay7_apply (v22 : FVec Ideal S512x768 .f32) (v25 : FVec Ideal S512x32 .f32) (v27 : FVec Ideal S32x768 .f32) (v32 : Vec Ideal S1x1x32 .f32)
    (l : Fin 512) (i : Fin 32) :
    k4_pay7 v22 v25 v27 v32 (ix2 l i)
      = (v25 (ix2 l i) + ∑ x, v22 (ix2 l x) * v27 (ix2 i x)) * (((Real.sqrt 768)⁻¹ : ℝ) : EReal) + Spec.bias (v32 (ix3 0 0 i)) := by
  unfold k4_pay7 Spec.bias
  pointwise [s_eq]

theorem pay4_apply (v0 : Vec Ideal S1x768 .f32) (v2 : Vec Ideal S1x512x1 .f32) (v7 v10 : Vec Ideal S1x512x768 .f32) (v18 v20 : Vec Ideal S768x768 .f32)
    (l : Fin 512) (d : Fin 768) (h : v2 (ix3 0 l 0) ≠ 0) :
    k4_pay4 v0 v2 v7 v10 v18 v20 (ix2 l d)
      = ∑ k, Spec.normed (v7 (ix3 0 l k)) (v2 (ix3 0 l 0)) (v0 (ix2 0 k)) * v18 (ix2 k d)
        + ∑ k, Spec.normed (v10 (ix3 0 l k)) (v2 (ix3 0 l 0)) (v0 (ix2 0 k)) * v20 (ix2 k d) := by
  unfold k4_pay4 k4_pay2 k4_pay3
  pointwise [pay1_apply, Spec.mul_div_eq _ _ _ h]

theorem pay5_apply (v0 : Vec Ideal S1x768 .f32) (v2 : Vec Ideal S1x512x1 .f32) (v7 v10 : Vec Ideal S1x512x768 .f32) (v13 v15 : Vec Ideal S768x768 .f32)
    (v23 : Vec Ideal S1x32x768 .f32) (l : Fin 512) (s : Fin 32) (h : v2 (ix3 0 l 0) ≠ 0) :
    k4_pay5 v0 v2 v7 v10 v13 v15 v23 (ix2 l s)
      = ∑ d, (∑ k, Spec.normed (v7 (ix3 0 l k)) (v2 (ix3 0 l 0)) (v0 (ix2 0 k)) * v13 (ix2 k d)
          - ∑ k, Spec.normed (v10 (ix3 0 l k)) (v2 (ix3 0 l 0)) (v0 (ix2 0 k)) * v15 (ix2 k d)) * v23 (ix3 0 s d) := by
  unfold k4_pay5 k4_pay2 k4_pay3
  pointwise [pay1_apply, Spec.mul_div_eq _ _ _ h]

/-- The masked scores of a block's row. -/
def blockScores (x0 x1 : Vec Ideal S1x512x768 .f32) (x2 : Vec Ideal S1x512x1 .f32) (x3 : Vec Ideal S1x768 .f32) (x4 x5 : Vec Ideal S768x768 .f32)
    (x6 x7 : Vec Ideal S1x32x768 .f32) (x10 : Vec Ideal S1x1x32 .f32) (l : Fin 512) : Fin 32 → EReal :=
  Spec.scores (fun k => Spec.normed (x0 (ix3 0 l k)) (x2 (ix3 0 l 0)) (x3 (ix2 0 k)))
    (fun k => Spec.normed (x1 (ix3 0 l k)) (x2 (ix3 0 l 0)) (x3 (ix2 0 k))) (fun k d => x4 (ix2 k d)) (fun k d => x5 (ix2 k d))
    (fun s d => x6 (ix3 0 s d)) (fun s d => x7 (ix3 0 s d)) (fun s => x10 (ix3 0 0 s))

theorem hz2 : (![0, 0] : Fin 2 → Nat) = fun _ => 0 := funext fun a => by fin_cases a <;> rfl
theorem hz3 : (![0, 0, 0] : Fin 3 → Nat) = fun _ => 0 := funext fun a => by fin_cases a <;> rfl

theorem pay16_apply (x0 x1 : Vec Ideal S1x512x768 .f32) (x2 : Vec Ideal S1x512x1 .f32) (x3 : Vec Ideal S1x768 .f32) (x4 x5 : Vec Ideal S768x768 .f32)
    (x6 x7 x8 x9 : Vec Ideal S1x32x768 .f32) (x10 : Vec Ideal S1x1x32 .f32) (l : Fin 512) (s : Fin 32) (h : x2 (ix3 0 l 0) ≠ 0) :
    k4_pay16 x0 x1 x2 x3 x4 x5 x6 x7 x8 x9 x10 (ix2 l s) = blockScores x0 x1 x2 x3 x4 x5 x6 x7 x10 l s := by
  unfold k4_pay16 k4_pay13 k4_pay14 k4_pay15
  simp only [View.ld_unit_zero (S := S1x768) hz2, View.ld_unit_zero (S := S768x768) hz2, View.ld_unit_zero (S := S1x512x1) hz3,
    View.ld_unit_zero (S := S1x512x768) hz3, View.ld_unit_zero (S := S1x32x768) hz3, View.ld_unit_zero (S := S1x1x32) hz3]
  rw [pay7_apply]
  unfold k4_pay6 blockScores Spec.scores
  pointwise [pay4_apply _ _ _ _ _ _ _ _ h, pay5_apply _ _ _ _ _ _ _ _ _ h]

/-- What the call leaves at an index of its real output block. -/
theorem out11_apply (x0 x1 : Vec Ideal S1x512x768 .f32) (x2 : Vec Ideal S1x512x1 .f32) (x3 : Vec Ideal S1x768 .f32) (x4 x5 : Vec Ideal S768x768 .f32)
    (x6 x7 x8 x9 : Vec Ideal S1x32x768 .f32) (x10 : Vec Ideal S1x1x32 .f32) (l : Fin 512) (d : Fin 768) (h : x2 (ix3 0 l 0) ≠ 0) :
    out4_11 x0 x1 x2 x3 x4 x5 x6 x7 x8 x9 x10 (ix3 0 l d)
      = ∑ s, Rounds.roundW (blockScores x0 x1 x2 x3 x4 x5 x6 x7 x10 l) s * x8 (ix3 0 s d) := by
  unfold out4_11
  rw [View.canon_unit_zero hz3, View.ld_unit_zero hz3]
  have h18 : k4_pay18 x0 x1 x2 x3 x4 x5 x6 x7 x8 x9 x10 = removeV (removeV (removeV (removeV (removeV (k4_pay16 x0 x1 x2 x3 x4 x5 x6 x7 x8 x9 x10))))) := rfl
  have h17 : k4_pay17 x0 x1 x2 x3 x4 x5 x6 x7 x8 x9 x10 (ix2 l 0) = Finset.univ.sup fun i => k4_pay16 x0 x1 x2 x3 x4 x5 x6 x7 x8 x9 x10 (ix2 l i) :=
    pay8_apply _ _ _ _ l
  have hrow : (fun i => k4_pay16 x0 x1 x2 x3 x4 x5 x6 x7 x8 x9 x10 (ix2 l i)) = blockScores x0 x1 x2 x3 x4 x5 x6 x7 x10 l :=
    funext fun i => pay16_apply x0 x1 x2 x3 x4 x5 x6 x7 x8 x9 x10 l i h
  unfold k4_pay11
  pointwise
  refine Finset.sum_congr rfl fun s _ => ?_
  rw [h18, pay10_row _ _ _ _ h17, hrow]

/-- What the call leaves at an index of its imaginary output block. -/
theorem out12_apply (x0 x1 : Vec Ideal S1x512x768 .f32) (x2 : Vec Ideal S1x512x1 .f32) (x3 : Vec Ideal S1x768 .f32) (x4 x5 : Vec Ideal S768x768 .f32)
    (x6 x7 x8 x9 : Vec Ideal S1x32x768 .f32) (x10 : Vec Ideal S1x1x32 .f32) (l : Fin 512) (d : Fin 768) (h : x2 (ix3 0 l 0) ≠ 0) :
    out4_12 x0 x1 x2 x3 x4 x5 x6 x7 x8 x9 x10 (ix3 0 l d)
      = ∑ s, Rounds.roundW (blockScores x0 x1 x2 x3 x4 x5 x6 x7 x10 l) s * x9 (ix3 0 s d) := by
  unfold out4_12
  rw [View.canon_unit_zero hz3, View.ld_unit_zero hz3]
  have h18 : k4_pay18 x0 x1 x2 x3 x4 x5 x6 x7 x8 x9 x10 = removeV (removeV (removeV (removeV (removeV (k4_pay16 x0 x1 x2 x3 x4 x5 x6 x7 x8 x9 x10))))) := rfl
  have h17 : k4_pay17 x0 x1 x2 x3 x4 x5 x6 x7 x8 x9 x10 (ix2 l 0) = Finset.univ.sup fun i => k4_pay16 x0 x1 x2 x3 x4 x5 x6 x7 x8 x9 x10 (ix2 l i) :=
    pay8_apply _ _ _ _ l
  have hrow : (fun i => k4_pay16 x0 x1 x2 x3 x4 x5 x6 x7 x8 x9 x10 (ix2 l i)) = blockScores x0 x1 x2 x3 x4 x5 x6 x7 x10 l :=
    funext fun i => pay16_apply x0 x1 x2 x3 x4 x5 x6 x7 x8 x9 x10 l i h
  unfold k4_pay12
  pointwise
  refine Finset.sum_congr rfl fun s _ => ?_
  rw [h18, pay10_row _ _ _ _ h17, hrow]

end Cert.KernelIdeal.RetrieveBlock

end
-- ==== Proof.Arrays.Stats.lean ====
/- The first call: which part of each array a grid point reads, and the result arrays index by index. -/
module

public import proofs.«01_k».proof.Proof.KernelIdealRun.Stats
public import Idealize.ShloMosaic.Lib.Pointwise

@[expose] public section

set_option maxRecDepth 16384

noncomputable section

namespace Cert.KernelIdeal.ArraysStats

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem tlt (t : Fin cfg0.N) : t.val < 16 := t.isLt

/-- Row `l` of block `j`. -/
def row (j : ℕ) (hj : j < 4) (l : Fin 512) : Fin 2048 := ⟨j * 512 + l.val, by omega⟩
/-- The grid point of block `j` of batch entry `b`. -/
def pt (b : Fin 4) (j : ℕ) (hj : j < 4) : Fin cfg0.N := ⟨4 * b.val + j, by show _ < 16; omega⟩
/-- The row of its block in which row `l` lies. -/
def inner (l : Fin 2048) : Fin 512 := ⟨l.val % 512, by omega⟩
theorem blt (l : Fin 2048) : l.val / 512 < 4 := by omega
theorem row_inner (l : Fin 2048) : row (l.val / 512) (blt l) (inner l) = l := Fin.ext (by show l.val / 512 * 512 + l.val % 512 = l.val; omega)

theorem idx0 : ∀ t : Fin cfg0.N, win0_0.index t = ![t.val / 4, t.val % 4, 0] :=
  (by decide +kernel : ∀ t : Fin grid0.N, win0_0.index t = ![t.val / 4, t.val % 4, 0])

theorem blk0 (b : Fin 4) (j : ℕ) (hj : j < 4) (t : Fin cfg0.N) (ht : t.val = 4 * b.val + j) (l : Fin 512) (x : Fin 768) : iblk0 V c 0 t (ix3 0 l x) = V c main_call0_v1 (ix3 b (row j hj l) x) := by
  show V c main_call0_v1 _ = _
  refine congrArg (V c main_call0_v1) (funext fun a => Fin.ext ?_)
  have h := idx0 t
  match a with
  | ⟨0, _⟩ =>
    show win0_0.index t 0 * 1 + 1 * 0 = b.val
    rw [h]
    show t.val / 4 * 1 + 1 * 0 = b.val
    omega
  | ⟨1, _⟩ =>
    show win0_0.index t 1 * 512 + 1 * l.val = j * 512 + l.val
    rw [h]
    show t.val % 4 * 512 + 1 * l.val = j * 512 + l.val
    omega
  | ⟨2, _⟩ =>
    show win0_0.index t 2 * 768 + 1 * x.val = x.val
    rw [h]
    simp

theorem idx1 : ∀ t : Fin cfg0.N, win0_1.index t = ![t.val / 4, t.val % 4, 0] :=
  (by decide +kernel : ∀ t : Fin grid0.N, win0_1.index t = ![t.val / 4, t.val % 4, 0])

theorem blk1 (b : Fin 4) (j : ℕ) (hj : j < 4) (t : Fin cfg0.N) (ht : t.val = 4 * b.val + j) (l : Fin 512) (x : Fin 768) : iblk0 V c 1 t (ix3 0 l x) = V c main_call0_v3 (ix3 b (row j hj l) x) := by
  show V c main_call0_v3 _ = _
  refine congrArg (V c main_call0_v3) (funext fun a => Fin.ext ?_)
  have h := idx1 t
  match a with
  | ⟨0, _⟩ =>
    show win0_1.index t 0 * 1 + 1 * 0 = b.val
    rw [h]
    show t.val / 4 * 1 + 1 * 0 = b.val
    omega
  | ⟨1, _⟩ =>
    show win0_1.index t 1 * 512 + 1 * l.val = j * 512 + l.val
    rw [h]
    show t.val % 4 * 512 + 1 * l.val = j * 512 + l.val
    omega
  | ⟨2, _⟩ =>
    show win0_1.index t 2 * 768 + 1 * x.val = x.val
    rw [h]
    simp

theorem idx2 : ∀ t : Fin cfg0.N, win0_2.index t = ![0, 0] :=
  (by decide +kernel : ∀ t : Fin grid0.N, win0_2.index t = ![0, 0])

theorem blk2 (t : Fin cfg0.N) (x : Fin 768) : iblk0 V c 2 t (ix2 x 0) = V c main_arg4 (ix2 x 0) := by
  show V c main_arg4 _ = _
  refine congrArg (V c main_arg4) (funext fun a => Fin.ext ?_)
  have h := idx2 t
  match a with
  | ⟨0, _⟩ =>
    show win0_2.index t 0 * 768 + 1 * x.val = x.val
    rw [h]
    simp
  | ⟨1, _⟩ =>
    show win0_2.index t 1 * 1 + 1 * 0 = 0
    rw [h]
    simp

theorem idx3 : ∀ t : Fin cfg0.N, win0_3.index t = ![0, 0] :=
  (by decide +kernel : ∀ t : Fin grid0.N, win0_3.index t = ![0, 0])

theorem blk3 (t : Fin cfg0.N) (x : Fin 768) : iblk0 V c 3 t (ix2 x 0) = V c main_arg5 (ix2 x 0) := by
  show V c main_arg5 _ = _
  refine congrArg (V c main_arg5) (funext fun a => Fin.ext ?_)
  have h := idx3 t
  match a with
  | ⟨0, _⟩ =>
    show win0_3.index t 0 * 768 + 1 * x.val = x.val
    rw [h]
    simp
  | ⟨1, _⟩ =>
    show win0_3.index t 1 * 1 + 1 * 0 = 0
    rw [h]
    simp

theorem idx4 : ∀ t : Fin cfg0.N, win0_4.index t = ![t.val / 4, t.val % 4, 0] :=
  (by decide +kernel : ∀ t : Fin grid0.N, win0_4.index t = ![t.val / 4, t.val % 4, 0])

theorem emb4 (f : S4x2048x1.Idx → EReal) (b : Fin 4) (j : ℕ) (hj : j < 4) (t : Fin cfg0.N) (ht : t.val = 4 * b.val + j) (l : Fin 512) :
    ((cfg0.win 4).blk t).view.read (Elt Ideal) f (ix3 0 l 0) = f (ix3 b (row j hj l) 0) := by
  show f _ = _
  refine congrArg f (funext fun a => Fin.ext ?_)
  have h := idx4 t
  match a with
  | ⟨0, _⟩ =>
    show win0_4.index t 0 * 1 + 1 * 0 = b.val
    rw [h]
    show t.val / 4 * 1 + 1 * 0 = b.val
    omega
  | ⟨1, _⟩ =>
    show win0_4.index t 1 * 512 + 1 * l.val = j * 512 + l.val
    rw [h]
    show t.val % 4 * 512 + 1 * l.val = j * 512 + l.val
    omega
  | ⟨2, _⟩ =>
    show win0_4.index t 2 * 1 + 1 * 0 = 0
    rw [h]
    simp

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun e => hne (by
    have e0 : t.val / 4 = t'.val / 4 := congrFun ((idx4 t).symm.trans (e.trans (idx4 t'))) 0
    have e1 : t.val % 4 = t'.val % 4 := congrFun ((idx4 t).symm.trans (e.trans (idx4 t'))) 1
    exact Fin.ext (by omega))

theorem fin4 (b : Fin 4) (l : Fin 2048) :
    (dat0 V c).arrAt 4 cfg0.N (ix3 b l 0) = (dat0 V c).after 4 (pt b (l.val / 512) (blt l)) (ix3 0 (inner l) 0) := by
  have e := congrFun ((dat0 V c).read_blk_arrAt_eq_flushed 4 disjoint4 cfg0.N (pt b (l.val / 512) (blt l)) (Fin.isLt _) (flush0_4 _)) (ix3 0 (inner l) 0)
  rw [emb4 _ b (l.val / 512) (blt l) (pt b (l.val / 512) (blt l)) rfl (inner l), row_inner] at e
  exact e

theorem idx5 : ∀ t : Fin cfg0.N, win0_5.index t = ![t.val / 4, t.val % 4, 0] :=
  (by decide +kernel : ∀ t : Fin grid0.N, win0_5.index t = ![t.val / 4, t.val % 4, 0])

theorem emb5 (f : S4x2048x1.Idx → EReal) (b : Fin 4) (j : ℕ) (hj : j < 4) (t : Fin cfg0.N) (ht : t.val = 4 * b.val + j) (l : Fin 512) :
    ((cfg0.win 5).blk t).view.read (Elt Ideal) f (ix3 0 l 0) = f (ix3 b (row j hj l) 0) := by
  show f _ = _
  refine congrArg f (funext fun a => Fin.ext ?_)
  have h := idx5 t
  match a with
  | ⟨0, _⟩ =>
    show win0_5.index t 0 * 1 + 1 * 0 = b.val
    rw [h]
    show t.val / 4 * 1 + 1 * 0 = b.val
    omega
  | ⟨1, _⟩ =>
    show win0_5.index t 1 * 512 + 1 * l.val = j * 512 + l.val
    rw [h]
    show t.val % 4 * 512 + 1 * l.val = j * 512 + l.val
    omega
  | ⟨2, _⟩ =>
    show win0_5.index t 2 * 1 + 1 * 0 = 0
    rw [h]
    simp

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun e => hne (by
    have e0 : t.val / 4 = t'.val / 4 := congrFun ((idx5 t).symm.trans (e.trans (idx5 t'))) 0
    have e1 : t.val % 4 = t'.val % 4 := congrFun ((idx5 t).symm.trans (e.trans (idx5 t'))) 1
    exact Fin.ext (by omega))

theorem fin5 (b : Fin 4) (l : Fin 2048) :
    (dat0 V c).arrAt 5 cfg0.N (ix3 b l 0) = (dat0 V c).after 5 (pt b (l.val / 512) (blt l)) (ix3 0 (inner l) 0) := by
  have e := congrFun ((dat0 V c).read_blk_arrAt_eq_flushed 5 disjoint5 cfg0.N (pt b (l.val / 512) (blt l)) (Fin.isLt _) (flush0_5 _)) (ix3 0 (inner l) 0)
  rw [emb5 _ b (l.val / 512) (blt l) (pt b (l.val / 512) (blt l)) rfl (inner l), row_inner] at e
  exact e

theorem idx6 : ∀ t : Fin cfg0.N, win0_6.index t = ![t.val / 4, t.val % 4, 0] :=
  (by decide +kernel : ∀ t : Fin grid0.N, win0_6.index t = ![t.val / 4, t.val % 4, 0])

theorem emb6 (f : S4x2048x1.Idx → EReal) (b : Fin 4) (j : ℕ) (hj : j < 4) (t : Fin cfg0.N) (ht : t.val = 4 * b.val + j) (l : Fin 512) :
    ((cfg0.win 6).blk t).view.read (Elt Ideal) f (ix3 0 l 0) = f (ix3 b (row j hj l) 0) := by
  show f _ = _
  refine congrArg f (funext fun a => Fin.ext ?_)
  have h := idx6 t
  match a with
  | ⟨0, _⟩ =>
    show win0_6.index t 0 * 1 + 1 * 0 = b.val
    rw [h]
    show t.val / 4 * 1 + 1 * 0 = b.val
    omega
  | ⟨1, _⟩ =>
    show win0_6.index t 1 * 512 + 1 * l.val = j * 512 + l.val
    rw [h]
    show t.val % 4 * 512 + 1 * l.val = j * 512 + l.val
    omega
  | ⟨2, _⟩ =>
    show win0_6.index t 2 * 1 + 1 * 0 = 0
    rw [h]
    simp

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun e => hne (by
    have e0 : t.val / 4 = t'.val / 4 := congrFun ((idx6 t).symm.trans (e.trans (idx6 t'))) 0
    have e1 : t.val % 4 = t'.val % 4 := congrFun ((idx6 t).symm.trans (e.trans (idx6 t'))) 1
    exact Fin.ext (by omega))

theorem fin6 (b : Fin 4) (l : Fin 2048) :
    (dat0 V c).arrAt 6 cfg0.N (ix3 b l 0) = (dat0 V c).after 6 (pt b (l.val / 512) (blt l)) (ix3 0 (inner l) 0) := by
  have e := congrFun ((dat0 V c).read_blk_arrAt_eq_flushed 6 disjoint6 cfg0.N (pt b (l.val / 512) (blt l)) (Fin.isLt _) (flush0_6 _)) (ix3 0 (inner l) 0)
  rw [emb6 _ b (l.val / 512) (blt l) (pt b (l.val / 512) (blt l)) rfl (inner l), row_inner] at e
  exact e

end Cert.KernelIdeal.ArraysStats

end
-- ==== Proof.Arrays.Segment.lean ====
/- The second call: which part of each array a grid point reads, and the result arrays index by index. -/
module

public import proofs.«01_k».proof.Proof.KernelIdealRun.Segment
public import Idealize.ShloMosaic.Lib.Pointwise

@[expose] public section

set_option maxRecDepth 16384

noncomputable section

namespace Cert.KernelIdeal.ArraysSegment

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem tlt (t : Fin cfg1.N) : t.val < 4 := t.isLt

/-- The grid point of batch entry `b`. -/
def pt (b : Fin 4) : Fin cfg1.N := ⟨b.val, by show _ < 4; omega⟩

theorem idx0 : ∀ t : Fin cfg1.N, win1_0.index t = ![t.val, 0, 0] :=
  (by decide +kernel : ∀ t : Fin grid1.N, win1_0.index t = ![t.val, 0, 0])

theorem blk0 (b : Fin 4) (t : Fin cfg1.N) (ht : t.val = b.val) (x : Fin 2048) : iblk1 V c 0 t (ix3 0 x 0) = V c main_call0_v16_0 (ix3 b x 0) := by
  show V c main_call0_v16_0 _ = _
  refine congrArg (V c main_call0_v16_0) (funext fun a => Fin.ext ?_)
  have h := idx0 t
  match a with
  | ⟨0, _⟩ =>
    show win1_0.index t 0 * 1 + 1 * 0 = b.val
    rw [h]
    show t.val * 1 + 1 * 0 = b.val
    omega
  | ⟨1, _⟩ =>
    show win1_0.index t 1 * 2048 + 1 * x.val = x.val
    rw [h]
    simp
  | ⟨2, _⟩ =>
    show win1_0.index t 2 * 1 + 1 * 0 = 0
    rw [h]
    simp

theorem idx1 : ∀ t : Fin cfg1.N, win1_1.index t = ![t.val, 0, 0] :=
  (by decide +kernel : ∀ t : Fin grid1.N, win1_1.index t = ![t.val, 0, 0])

theorem blk1 (b : Fin 4) (t : Fin cfg1.N) (ht : t.val = b.val) (x : Fin 2048) : iblk1 V c 1 t (ix3 0 x 0) = V c main_call0_v16_1 (ix3 b x 0) := by
  show V c main_call0_v16_1 _ = _
  refine congrArg (V c main_call0_v16_1) (funext fun a => Fin.ext ?_)
  have h := idx1 t
  match a with
  | ⟨0, _⟩ =>
    show win1_1.index t 0 * 1 + 1 * 0 = b.val
    rw [h]
    show t.val * 1 + 1 * 0 = b.val
    omega
  | ⟨1, _⟩ =>
    show win1_1.index t 1 * 2048 + 1 * x.val = x.val
    rw [h]
    simp
  | ⟨2, _⟩ =>
    show win1_1.index t 2 * 1 + 1 * 0 = 0
    rw [h]
    simp

theorem idx2 : ∀ t : Fin cfg1.N, win1_2.index t = ![t.val, 0, 0] :=
  (by decide +kernel : ∀ t : Fin grid1.N, win1_2.index t = ![t.val, 0, 0])

theorem blk2 (b : Fin 4) (t : Fin cfg1.N) (ht : t.val = b.val) (x : Fin 2048) : iblk1 V c 2 t (ix3 0 x 0) = V c main_call0_v53 (ix3 b x 0) := by
  show V c main_call0_v53 _ = _
  refine congrArg (V c main_call0_v53) (funext fun a => Fin.ext ?_)
  have h := idx2 t
  match a with
  | ⟨0, _⟩ =>
    show win1_2.index t 0 * 1 + 1 * 0 = b.val
    rw [h]
    show t.val * 1 + 1 * 0 = b.val
    omega
  | ⟨1, _⟩ =>
    show win1_2.index t 1 * 2048 + 1 * x.val = x.val
    rw [h]
    simp
  | ⟨2, _⟩ =>
    show win1_2.index t 2 * 1 + 1 * 0 = 0
    rw [h]
    simp

theorem idx3 : ∀ t : Fin cfg1.N, win1_3.index t = ![0, 0] :=
  (by decide +kernel : ∀ t : Fin grid1.N, win1_3.index t = ![0, 0])

theorem blk3 (t : Fin cfg1.N)  : iblk1 V c 3 t (ix2 0 0) = V c main_call0_v14 (ix2 0 0) := by
  show V c main_call0_v14 _ = _
  refine congrArg (V c main_call0_v14) (funext fun a => Fin.ext ?_)
  have h := idx3 t
  match a with
  | ⟨0, _⟩ =>
    show win1_3.index t 0 * 1 + 1 * 0 = 0
    rw [h]
    simp
  | ⟨1, _⟩ =>
    show win1_3.index t 1 * 1 + 1 * 0 = 0
    rw [h]
    simp

theorem idx4 : ∀ t : Fin cfg1.N, win1_4.index t = ![0, 0] :=
  (by decide +kernel : ∀ t : Fin grid1.N, win1_4.index t = ![0, 0])

theorem blk4 (t : Fin cfg1.N)  : iblk1 V c 4 t (ix2 0 0) = V c main_call0_v15 (ix2 0 0) := by
  show V c main_call0_v15 _ = _
  refine congrArg (V c main_call0_v15) (funext fun a => Fin.ext ?_)
  have h := idx4 t
  match a with
  | ⟨0, _⟩ =>
    show win1_4.index t 0 * 1 + 1 * 0 = 0
    rw [h]
    simp
  | ⟨1, _⟩ =>
    show win1_4.index t 1 * 1 + 1 * 0 = 0
    rw [h]
    simp

theorem idx5 : ∀ t : Fin cfg1.N, win1_5.index t = ![t.val, 0, 0] :=
  (by decide +kernel : ∀ t : Fin grid1.N, win1_5.index t = ![t.val, 0, 0])

theorem emb5 (f : S4x1x2048.Idx → EReal) (b : Fin 4) (t : Fin cfg1.N) (ht : t.val = b.val) (x : Fin 2048) :
    ((cfg1.win 5).blk t).view.read (Elt Ideal) f (ix3 0 0 x) = f (ix3 b 0 x) := by
  show f _ = _
  refine congrArg f (funext fun a => Fin.ext ?_)
  have h := idx5 t
  match a with
  | ⟨0, _⟩ =>
    show win1_5.index t 0 * 1 + 1 * 0 = b.val
    rw [h]
    show t.val * 1 + 1 * 0 = b.val
    omega
  | ⟨1, _⟩ =>
    show win1_5.index t 1 * 1 + 1 * 0 = 0
    rw [h]
    simp
  | ⟨2, _⟩ =>
    show win1_5.index t 2 * 2048 + 1 * x.val = x.val
    rw [h]
    simp

theorem disjoint5 : ∀ t t' : Fin cfg1.N, (cfg1.win 5).flush t = true → (cfg1.win 5).flush t' = true → t ≠ t' →
    Disjoint ((cfg1.win 5).blk t).view.set ((cfg1.win 5).blk t').view.set :=
  fun t t' _ _ hne => (cfg1.win 5).disjoint_blk fun e => hne (by
    have e0 : t.val = t'.val := congrFun ((idx5 t).symm.trans (e.trans (idx5 t'))) 0
    exact Fin.ext e0)

theorem fin5 (b : Fin 4) (x : Fin 2048) :
    (dat1 V c).arrAt 5 cfg1.N (ix3 b 0 x) = (dat1 V c).after 5 (pt b) (ix3 0 0 x) := by
  have e := congrFun ((dat1 V c).read_blk_arrAt_eq_flushed 5 disjoint5 cfg1.N (pt b) (Fin.isLt _) (flush1_5 _)) (ix3 0 0 x)
  rw [emb5 _ b (pt b) rfl x] at e
  exact e

theorem idx6 : ∀ t : Fin cfg1.N, win1_6.index t = ![t.val, 0, 0] :=
  (by decide +kernel : ∀ t : Fin grid1.N, win1_6.index t = ![t.val, 0, 0])

theorem emb6 (f : S4x1x2048.Idx → EReal) (b : Fin 4) (t : Fin cfg1.N) (ht : t.val = b.val) (x : Fin 2048) :
    ((cfg1.win 6).blk t).view.read (Elt Ideal) f (ix3 0 0 x) = f (ix3 b 0 x) := by
  show f _ = _
  refine congrArg f (funext fun a => Fin.ext ?_)
  have h := idx6 t
  match a with
  | ⟨0, _⟩ =>
    show win1_6.index t 0 * 1 + 1 * 0 = b.val
    rw [h]
    show t.val * 1 + 1 * 0 = b.val
    omega
  | ⟨1, _⟩ =>
    show win1_6.index t 1 * 1 + 1 * 0 = 0
    rw [h]
    simp
  | ⟨2, _⟩ =>
    show win1_6.index t 2 * 2048 + 1 * x.val = x.val
    rw [h]
    simp

theorem disjoint6 : ∀ t t' : Fin cfg1.N, (cfg1.win 6).flush t = true → (cfg1.win 6).flush t' = true → t ≠ t' →
    Disjoint ((cfg1.win 6).blk t).view.set ((cfg1.win 6).blk t').view.set :=
  fun t t' _ _ hne => (cfg1.win 6).disjoint_blk fun e => hne (by
    have e0 : t.val = t'.val := congrFun ((idx6 t).symm.trans (e.trans (idx6 t'))) 0
    exact Fin.ext e0)

theorem fin6 (b : Fin 4) (x : Fin 2048) :
    (dat1 V c).arrAt 6 cfg1.N (ix3 b 0 x) = (dat1 V c).after 6 (pt b) (ix3 0 0 x) := by
  have e := congrFun ((dat1 V c).read_blk_arrAt_eq_flushed 6 disjoint6 cfg1.N (pt b) (Fin.isLt _) (flush1_6 _)) (ix3 0 0 x)
  rw [emb6 _ b (pt b) rfl x] at e
  exact e

theorem idx7 : ∀ t : Fin cfg1.N, win1_7.index t = ![t.val, 0, 0] :=
  (by decide +kernel : ∀ t : Fin grid1.N, win1_7.index t = ![t.val, 0, 0])

theorem emb7 (f : S4x1x2048.Idx → EReal) (b : Fin 4) (t : Fin cfg1.N) (ht : t.val = b.val) (x : Fin 2048) :
    ((cfg1.win 7).blk t).view.read (Elt Ideal) f (ix3 0 0 x) = f (ix3 b 0 x) := by
  show f _ = _
  refine congrArg f (funext fun a => Fin.ext ?_)
  have h := idx7 t
  match a with
  | ⟨0, _⟩ =>
    show win1_7.index t 0 * 1 + 1 * 0 = b.val
    rw [h]
    show t.val * 1 + 1 * 0 = b.val
    omega
  | ⟨1, _⟩ =>
    show win1_7.index t 1 * 1 + 1 * 0 = 0
    rw [h]
    simp
  | ⟨2, _⟩ =>
    show win1_7.index t 2 * 2048 + 1 * x.val = x.val
    rw [h]
    simp

theorem disjoint7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun e => hne (by
    have e0 : t.val = t'.val := congrFun ((idx7 t).symm.trans (e.trans (idx7 t'))) 0
    exact Fin.ext e0)

theorem fin7 (b : Fin 4) (x : Fin 2048) :
    (dat1 V c).arrAt 7 cfg1.N (ix3 b 0 x) = (dat1 V c).after 7 (pt b) (ix3 0 0 x) := by
  have e := congrFun ((dat1 V c).read_blk_arrAt_eq_flushed 7 disjoint7 cfg1.N (pt b) (Fin.isLt _) (flush1_7 _)) (ix3 0 0 x)
  rw [emb7 _ b (pt b) rfl x] at e
  exact e

end Cert.KernelIdeal.ArraysSegment

end
-- ==== Proof.Arrays.Pool.lean ====
/- The third call: which part of each array a grid point reads, and the result arrays index by index. -/
module

public import proofs.«01_k».proof.Proof.KernelIdealRun.Pool
public import Idealize.ShloMosaic.Lib.Pointwise

@[expose] public section

set_option maxRecDepth 16384

noncomputable section

namespace Cert.KernelIdeal.ArraysPool

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem tlt (t : Fin cfg2.N) : t.val < 16 := t.isLt

/-- Row `l` of block `j`. -/
def row (j : ℕ) (hj : j < 4) (l : Fin 512) : Fin 2048 := ⟨j * 512 + l.val, by omega⟩
/-- The grid point of block `j` of batch entry `b`. -/
def pt (b : Fin 4) (j : ℕ) (hj : j < 4) : Fin cfg2.N := ⟨4 * b.val + j, by show _ < 16; omega⟩
/-- The row of its block in which row `l` lies. -/
def inner (l : Fin 2048) : Fin 512 := ⟨l.val % 512, by omega⟩
theorem blt (l : Fin 2048) : l.val / 512 < 4 := by omega
theorem row_inner (l : Fin 2048) : row (l.val / 512) (blt l) (inner l) = l := Fin.ext (by show l.val / 512 * 512 + l.val % 512 = l.val; omega)

theorem idx0 : ∀ t : Fin cfg2.N, win2_0.index t = ![t.val / 4, t.val % 4, 0] :=
  (by decide +kernel : ∀ t : Fin grid2.N, win2_0.index t = ![t.val / 4, t.val % 4, 0])

theorem blk0 (b : Fin 4) (j : ℕ) (hj : j < 4) (t : Fin cfg2.N) (ht : t.val = 4 * b.val + j) (l : Fin 512) (x : Fin 768) : iblk2 V c 0 t (ix3 0 l x) = V c main_call0_v1 (ix3 b (row j hj l) x) := by
  show V c main_call0_v1 _ = _
  refine congrArg (V c main_call0_v1) (funext fun a => Fin.ext ?_)
  have h := idx0 t
  match a with
  | ⟨0, _⟩ =>
    show win2_0.index t 0 * 1 + 1 * 0 = b.val
    rw [h]
    show t.val / 4 * 1 + 1 * 0 = b.val
    omega
  | ⟨1, _⟩ =>
    show win2_0.index t 1 * 512 + 1 * l.val = j * 512 + l.val
    rw [h]
    show t.val % 4 * 512 + 1 * l.val = j * 512 + l.val
    omega
  | ⟨2, _⟩ =>
    show win2_0.index t 2 * 768 + 1 * x.val = x.val
    rw [h]
    simp

theorem idx1 : ∀ t : Fin cfg2.N, win2_1.index t = ![t.val / 4, t.val % 4, 0] :=
  (by decide +kernel : ∀ t : Fin grid2.N, win2_1.index t = ![t.val / 4, t.val % 4, 0])

theorem blk1 (b : Fin 4) (j : ℕ) (hj : j < 4) (t : Fin cfg2.N) (ht : t.val = 4 * b.val + j) (l : Fin 512) (x : Fin 768) : iblk2 V c 1 t (ix3 0 l x) = V c main_call0_v3 (ix3 b (row j hj l) x) := by
  show V c main_call0_v3 _ = _
  refine congrArg (V c main_call0_v3) (funext fun a => Fin.ext ?_)
  have h := idx1 t
  match a with
  | ⟨0, _⟩ =>
    show win2_1.index t 0 * 1 + 1 * 0 = b.val
    rw [h]
    show t.val / 4 * 1 + 1 * 0 = b.val
    omega
  | ⟨1, _⟩ =>
    show win2_1.index t 1 * 512 + 1 * l.val = j * 512 + l.val
    rw [h]
    show t.val % 4 * 512 + 1 * l.val = j * 512 + l.val
    omega
  | ⟨2, _⟩ =>
    show win2_1.index t 2 * 768 + 1 * x.val = x.val
    rw [h]
    simp

theorem idx2 : ∀ t : Fin cfg2.N, win2_2.index t = ![t.val / 4, 0, t.val % 4] :=
  (by decide +kernel : ∀ t : Fin grid2.N, win2_2.index t = ![t.val / 4, 0, t.val % 4])

theorem blk2 (b : Fin 4) (j : ℕ) (hj : j < 4) (t : Fin cfg2.N) (ht : t.val = 4 * b.val + j) (l : Fin 512) : iblk2 V c 2 t (ix3 0 0 l) = V c main_call0_v54_1 (ix3 b 0 (row j hj l)) := by
  show V c main_call0_v54_1 _ = _
  refine congrArg (V c main_call0_v54_1) (funext fun a => Fin.ext ?_)
  have h := idx2 t
  match a with
  | ⟨0, _⟩ =>
    show win2_2.index t 0 * 1 + 1 * 0 = b.val
    rw [h]
    show t.val / 4 * 1 + 1 * 0 = b.val
    omega
  | ⟨1, _⟩ =>
    show win2_2.index t 1 * 1 + 1 * 0 = 0
    rw [h]
    simp
  | ⟨2, _⟩ =>
    show win2_2.index t 2 * 512 + 1 * l.val = j * 512 + l.val
    rw [h]
    show t.val % 4 * 512 + 1 * l.val = j * 512 + l.val
    omega

theorem idx3 : ∀ t : Fin cfg2.N, win2_3.index t = ![t.val / 4, 0, t.val % 4] :=
  (by decide +kernel : ∀ t : Fin grid2.N, win2_3.index t = ![t.val / 4, 0, t.val % 4])

theorem blk3 (b : Fin 4) (j : ℕ) (hj : j < 4) (t : Fin cfg2.N) (ht : t.val = 4 * b.val + j) (l : Fin 512) : iblk2 V c 3 t (ix3 0 0 l) = V c main_call0_v54_2 (ix3 b 0 (row j hj l)) := by
  show V c main_call0_v54_2 _ = _
  refine congrArg (V c main_call0_v54_2) (funext fun a => Fin.ext ?_)
  have h := idx3 t
  match a with
  | ⟨0, _⟩ =>
    show win2_3.index t 0 * 1 + 1 * 0 = b.val
    rw [h]
    show t.val / 4 * 1 + 1 * 0 = b.val
    omega
  | ⟨1, _⟩ =>
    show win2_3.index t 1 * 1 + 1 * 0 = 0
    rw [h]
    simp
  | ⟨2, _⟩ =>
    show win2_3.index t 2 * 512 + 1 * l.val = j * 512 + l.val
    rw [h]
    show t.val % 4 * 512 + 1 * l.val = j * 512 + l.val
    omega

theorem idx4 : ∀ t : Fin cfg2.N, win2_4.index t = ![t.val / 4, 0, 0] :=
  (by decide +kernel : ∀ t : Fin grid2.N, win2_4.index t = ![t.val / 4, 0, 0])

theorem emb4 (f : S4x32x768.Idx → EReal) (b : Fin 4) (j : ℕ) (hj : j < 4) (t : Fin cfg2.N) (ht : t.val = 4 * b.val + j) (x : Fin 32) (y : Fin 768) :
    ((cfg2.win 4).blk t).view.read (Elt Ideal) f (ix3 0 x y) = f (ix3 b x y) := by
  show f _ = _
  refine congrArg f (funext fun a => Fin.ext ?_)
  have h := idx4 t
  match a with
  | ⟨0, _⟩ =>
    show win2_4.index t 0 * 1 + 1 * 0 = b.val
    rw [h]
    show t.val / 4 * 1 + 1 * 0 = b.val
    omega
  | ⟨1, _⟩ =>
    show win2_4.index t 1 * 32 + 1 * x.val = x.val
    rw [h]
    simp
  | ⟨2, _⟩ =>
    show win2_4.index t 2 * 768 + 1 * y.val = y.val
    rw [h]
    simp

theorem disjoint4 : ∀ t t' : Fin cfg2.N, (cfg2.win 4).flush t = true → (cfg2.win 4).flush t' = true → t ≠ t' →
    Disjoint ((cfg2.win 4).blk t).view.set ((cfg2.win 4).blk t').view.set :=
  fun t t' h h' hne => (cfg2.win 4).disjoint_blk fun e => hne (by
    have e0 := congrFun ((idx4 t).symm.trans (e.trans (idx4 t'))) 0
    have e1 : t.val / 4 = t'.val / 4 := e0
    have f := (flush2_4 t).mp h
    have f' := (flush2_4 t').mp h'
    exact Fin.ext (by omega))

theorem fin4 (b : Fin 4) (x : Fin 32) (y : Fin 768) :
    (dat2 V c).arrAt 4 cfg2.N (ix3 b x y) = (dat2 V c).after 4 (pt b 3 (by omega)) (ix3 0 x y) := by
  have e := congrFun ((dat2 V c).read_blk_arrAt_eq_flushed 4 disjoint4 cfg2.N (pt b 3 (by omega)) (Fin.isLt _) ((flush2_4 _).mpr (by show (4 * b.val + 3) % 4 = 3; omega))) (ix3 0 x y)
  rw [emb4 _ b 3 (by omega) (pt b 3 (by omega)) rfl x y] at e
  exact e

theorem idx5 : ∀ t : Fin cfg2.N, win2_5.index t = ![t.val / 4, 0, 0] :=
  (by decide +kernel : ∀ t : Fin grid2.N, win2_5.index t = ![t.val / 4, 0, 0])

theorem emb5 (f : S4x32x768.Idx → EReal) (b : Fin 4) (j : ℕ) (hj : j < 4) (t : Fin cfg2.N) (ht : t.val = 4 * b.val + j) (x : Fin 32) (y : Fin 768) :
    ((cfg2.win 5).blk t).view.read (Elt Ideal) f (ix3 0 x y) = f (ix3 b x y) := by
  show f _ = _
  refine congrArg f (funext fun a => Fin.ext ?_)
  have h := idx5 t
  match a with
  | ⟨0, _⟩ =>
    show win2_5.index t 0 * 1 + 1 * 0 = b.val
    rw [h]
    show t.val / 4 * 1 + 1 * 0 = b.val
    omega
  | ⟨1, _⟩ =>
    show win2_5.index t 1 * 32 + 1 * x.val = x.val
    rw [h]
    simp
  | ⟨2, _⟩ =>
    show win2_5.index t 2 * 768 + 1 * y.val = y.val
    rw [h]
    simp

theorem disjoint5 : ∀ t t' : Fin cfg2.N, (cfg2.win 5).flush t = true → (cfg2.win 5).flush t' = true → t ≠ t' →
    Disjoint ((cfg2.win 5).blk t).view.set ((cfg2.win 5).blk t').view.set :=
  fun t t' h h' hne => (cfg2.win 5).disjoint_blk fun e => hne (by
    have e0 := congrFun ((idx5 t).symm.trans (e.trans (idx5 t'))) 0
    have e1 : t.val / 4 = t'.val / 4 := e0
    have f := (flush2_5 t).mp h
    have f' := (flush2_5 t').mp h'
    exact Fin.ext (by omega))

theorem fin5 (b : Fin 4) (x : Fin 32) (y : Fin 768) :
    (dat2 V c).arrAt 5 cfg2.N (ix3 b x y) = (dat2 V c).after 5 (pt b 3 (by omega)) (ix3 0 x y) := by
  have e := congrFun ((dat2 V c).read_blk_arrAt_eq_flushed 5 disjoint5 cfg2.N (pt b 3 (by omega)) (Fin.isLt _) ((flush2_5 _).mpr (by show (4 * b.val + 3) % 4 = 3; omega))) (ix3 0 x y)
  rw [emb5 _ b 3 (by omega) (pt b 3 (by omega)) rfl x y] at e
  exact e

theorem idx6 : ∀ t : Fin cfg2.N, win2_6.index t = ![t.val / 4, 0, 0] :=
  (by decide +kernel : ∀ t : Fin grid2.N, win2_6.index t = ![t.val / 4, 0, 0])

theorem emb6 (f : S4x32x1.Idx → EReal) (b : Fin 4) (j : ℕ) (hj : j < 4) (t : Fin cfg2.N) (ht : t.val = 4 * b.val + j) (x : Fin 32) :
    ((cfg2.win 6).blk t).view.read (Elt Ideal) f (ix3 0 x 0) = f (ix3 b x 0) := by
  show f _ = _
  refine congrArg f (funext fun a => Fin.ext ?_)
  have h := idx6 t
  match a with
  | ⟨0, _⟩ =>
    show win2_6.index t 0 * 1 + 1 * 0 = b.val
    rw [h]
    show t.val / 4 * 1 + 1 * 0 = b.val
    omega
  | ⟨1, _⟩ =>
    show win2_6.index t 1 * 32 + 1 * x.val = x.val
    rw [h]
    simp
  | ⟨2, _⟩ =>
    show win2_6.index t 2 * 1 + 1 * 0 = 0
    rw [h]
    simp

theorem disjoint6 : ∀ t t' : Fin cfg2.N, (cfg2.win 6).flush t = true → (cfg2.win 6).flush t' = true → t ≠ t' →
    Disjoint ((cfg2.win 6).blk t).view.set ((cfg2.win 6).blk t').view.set :=
  fun t t' h h' hne => (cfg2.win 6).disjoint_blk fun e => hne (by
    have e0 := congrFun ((idx6 t).symm.trans (e.trans (idx6 t'))) 0
    have e1 : t.val / 4 = t'.val / 4 := e0
    have f := (flush2_6 t).mp h
    have f' := (flush2_6 t').mp h'
    exact Fin.ext (by omega))

theorem fin6 (b : Fin 4) (x : Fin 32) :
    (dat2 V c).arrAt 6 cfg2.N (ix3 b x 0) = (dat2 V c).after 6 (pt b 3 (by omega)) (ix3 0 x 0) := by
  have e := congrFun ((dat2 V c).read_blk_arrAt_eq_flushed 6 disjoint6 cfg2.N (pt b 3 (by omega)) (Fin.isLt _) ((flush2_6 _).mpr (by show (4 * b.val + 3) % 4 = 3; omega))) (ix3 0 x 0)
  rw [emb6 _ b 3 (by omega) (pt b 3 (by omega)) rfl x] at e
  exact e

end Cert.KernelIdeal.ArraysPool

end
-- ==== Proof.Arrays.Project.lean ====
/- The fourth call: which part of each array a grid point reads, and the result arrays index by index. -/
module

public import proofs.«01_k».proof.Proof.KernelIdealRun.Project
public import Idealize.ShloMosaic.Lib.Pointwise

@[expose] public section

set_option maxRecDepth 16384

noncomputable section

namespace Cert.KernelIdeal.ArraysProject

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem tlt (t : Fin cfg3.N) : t.val < 4 := t.isLt

/-- The grid point of batch entry `b`. -/
def pt (b : Fin 4) : Fin cfg3.N := ⟨b.val, by show _ < 4; omega⟩

theorem idx0 : ∀ t : Fin cfg3.N, win3_0.index t = ![t.val, 0, 0] :=
  (by decide +kernel : ∀ t : Fin grid3.N, win3_0.index t = ![t.val, 0, 0])

theorem blk0 (b : Fin 4) (t : Fin cfg3.N) (ht : t.val = b.val) (x : Fin 32) (y : Fin 768) : iblk3 V c 0 t (ix3 0 x y) = V c main_call0_v55_0 (ix3 b x y) := by
  show V c main_call0_v55_0 _ = _
  refine congrArg (V c main_call0_v55_0) (funext fun a => Fin.ext ?_)
  have h := idx0 t
  match a with
  | ⟨0, _⟩ =>
    show win3_0.index t 0 * 1 + 1 * 0 = b.val
    rw [h]
    show t.val * 1 + 1 * 0 = b.val
    omega
  | ⟨1, _⟩ =>
    show win3_0.index t 1 * 32 + 1 * x.val = x.val
    rw [h]
    simp
  | ⟨2, _⟩ =>
    show win3_0.index t 2 * 768 + 1 * y.val = y.val
    rw [h]
    simp

theorem idx1 : ∀ t : Fin cfg3.N, win3_1.index t = ![t.val, 0, 0] :=
  (by decide +kernel : ∀ t : Fin grid3.N, win3_1.index t = ![t.val, 0, 0])

theorem blk1 (b : Fin 4) (t : Fin cfg3.N) (ht : t.val = b.val) (x : Fin 32) (y : Fin 768) : iblk3 V c 1 t (ix3 0 x y) = V c main_call0_v55_1 (ix3 b x y) := by
  show V c main_call0_v55_1 _ = _
  refine congrArg (V c main_call0_v55_1) (funext fun a => Fin.ext ?_)
  have h := idx1 t
  match a with
  | ⟨0, _⟩ =>
    show win3_1.index t 0 * 1 + 1 * 0 = b.val
    rw [h]
    show t.val * 1 + 1 * 0 = b.val
    omega
  | ⟨1, _⟩ =>
    show win3_1.index t 1 * 32 + 1 * x.val = x.val
    rw [h]
    simp
  | ⟨2, _⟩ =>
    show win3_1.index t 2 * 768 + 1 * y.val = y.val
    rw [h]
    simp

theorem idx2 : ∀ t : Fin cfg3.N, win3_2.index t = ![t.val, 0, 0] :=
  (by decide +kernel : ∀ t : Fin grid3.N, win3_2.index t = ![t.val, 0, 0])

theorem blk2 (b : Fin 4) (t : Fin cfg3.N) (ht : t.val = b.val) (x : Fin 32) : iblk3 V c 2 t (ix3 0 x 0) = V c main_call0_v55_2 (ix3 b x 0) := by
  show V c main_call0_v55_2 _ = _
  refine congrArg (V c main_call0_v55_2) (funext fun a => Fin.ext ?_)
  have h := idx2 t
  match a with
  | ⟨0, _⟩ =>
    show win3_2.index t 0 * 1 + 1 * 0 = b.val
    rw [h]
    show t.val * 1 + 1 * 0 = b.val
    omega
  | ⟨1, _⟩ =>
    show win3_2.index t 1 * 32 + 1 * x.val = x.val
    rw [h]
    simp
  | ⟨2, _⟩ =>
    show win3_2.index t 2 * 1 + 1 * 0 = 0
    rw [h]
    simp

theorem idx3 : ∀ t : Fin cfg3.N, win3_3.index t = ![t.val, 0, 0] :=
  (by decide +kernel : ∀ t : Fin grid3.N, win3_3.index t = ![t.val, 0, 0])

theorem blk3 (b : Fin 4) (t : Fin cfg3.N) (ht : t.val = b.val) (x : Fin 32) (y : Fin 768) : iblk3 V c 3 t (ix3 0 x y) = V c main_call0_v5 (ix3 b x y) := by
  show V c main_call0_v5 _ = _
  refine congrArg (V c main_call0_v5) (funext fun a => Fin.ext ?_)
  have h := idx3 t
  match a with
  | ⟨0, _⟩ =>
    show win3_3.index t 0 * 1 + 1 * 0 = b.val
    rw [h]
    show t.val * 1 + 1 * 0 = b.val
    omega
  | ⟨1, _⟩ =>
    show win3_3.index t 1 * 32 + 1 * x.val = x.val
    rw [h]
    simp
  | ⟨2, _⟩ =>
    show win3_3.index t 2 * 768 + 1 * y.val = y.val
    rw [h]
    simp

theorem idx4 : ∀ t : Fin cfg3.N, win3_4.index t = ![t.val, 0, 0] :=
  (by decide +kernel : ∀ t : Fin grid3.N, win3_4.index t = ![t.val, 0, 0])

theorem blk4 (b : Fin 4) (t : Fin cfg3.N) (ht : t.val = b.val) (x : Fin 32) (y : Fin 768) : iblk3 V c 4 t (ix3 0 x y) = V c main_call0_v7 (ix3 b x y) := by
  show V c main_call0_v7 _ = _
  refine congrArg (V c main_call0_v7) (funext fun a => Fin.ext ?_)
  have h := idx4 t
  match a with
  | ⟨0, _⟩ =>
    show win3_4.index t 0 * 1 + 1 * 0 = b.val
    rw [h]
    show t.val * 1 + 1 * 0 = b.val
    omega
  | ⟨1, _⟩ =>
    show win3_4.index t 1 * 32 + 1 * x.val = x.val
    rw [h]
    simp
  | ⟨2, _⟩ =>
    show win3_4.index t 2 * 768 + 1 * y.val = y.val
    rw [h]
    simp

theorem idx5 : ∀ t : Fin cfg3.N, win3_5.index t = ![t.val, 0, 0] :=
  (by decide +kernel : ∀ t : Fin grid3.N, win3_5.index t = ![t.val, 0, 0])

theorem blk5 (b : Fin 4) (t : Fin cfg3.N) (ht : t.val = b.val) (x : Fin 32) (y : Fin 768) : iblk3 V c 5 t (ix3 0 x y) = V c main_call0_v9 (ix3 b x y) := by
  show V c main_call0_v9 _ = _
  refine congrArg (V c main_call0_v9) (funext fun a => Fin.ext ?_)
  have h := idx5 t
  match a with
  | ⟨0, _⟩ =>
    show win3_5.index t 0 * 1 + 1 * 0 = b.val
    rw [h]
    show t.val * 1 + 1 * 0 = b.val
    omega
  | ⟨1, _⟩ =>
    show win3_5.index t 1 * 32 + 1 * x.val = x.val
    rw [h]
    simp
  | ⟨2, _⟩ =>
    show win3_5.index t 2 * 768 + 1 * y.val = y.val
    rw [h]
    simp

theorem idx6 : ∀ t : Fin cfg3.N, win3_6.index t = ![t.val, 0, 0] :=
  (by decide +kernel : ∀ t : Fin grid3.N, win3_6.index t = ![t.val, 0, 0])

theorem blk6 (b : Fin 4) (t : Fin cfg3.N) (ht : t.val = b.val) (x : Fin 32) (y : Fin 768) : iblk3 V c 6 t (ix3 0 x y) = V c main_call0_v11 (ix3 b x y) := by
  show V c main_call0_v11 _ = _
  refine congrArg (V c main_call0_v11) (funext fun a => Fin.ext ?_)
  have h := idx6 t
  match a with
  | ⟨0, _⟩ =>
    show win3_6.index t 0 * 1 + 1 * 0 = b.val
    rw [h]
    show t.val * 1 + 1 * 0 = b.val
    omega
  | ⟨1, _⟩ =>
    show win3_6.index t 1 * 32 + 1 * x.val = x.val
    rw [h]
    simp
  | ⟨2, _⟩ =>
    show win3_6.index t 2 * 768 + 1 * y.val = y.val
    rw [h]
    simp

theorem idx7 : ∀ t : Fin cfg3.N, win3_7.index t = ![t.val, 0, 0] :=
  (by decide +kernel : ∀ t : Fin grid3.N, win3_7.index t = ![t.val, 0, 0])

theorem blk7 (b : Fin 4) (t : Fin cfg3.N) (ht : t.val = b.val) (x : Fin 32) : iblk3 V c 7 t (ix3 0 0 x) = V c main_call0_v12 (ix3 b 0 x) := by
  show V c main_call0_v12 _ = _
  refine congrArg (V c main_call0_v12) (funext fun a => Fin.ext ?_)
  have h := idx7 t
  match a with
  | ⟨0, _⟩ =>
    show win3_7.index t 0 * 1 + 1 * 0 = b.val
    rw [h]
    show t.val * 1 + 1 * 0 = b.val
    omega
  | ⟨1, _⟩ =>
    show win3_7.index t 1 * 1 + 1 * 0 = 0
    rw [h]
    simp
  | ⟨2, _⟩ =>
    show win3_7.index t 2 * 32 + 1 * x.val = x.val
    rw [h]
    simp

theorem idx8 : ∀ t : Fin cfg3.N, win3_8.index t = ![0, 0] :=
  (by decide +kernel : ∀ t : Fin grid3.N, win3_8.index t = ![0, 0])

theorem blk8 (t : Fin cfg3.N) (x : Fin 768) (y : Fin 768) : iblk3 V c 8 t (ix2 x y) = V c main_arg8 (ix2 x y) := by
  show V c main_arg8 _ = _
  refine congrArg (V c main_arg8) (funext fun a => Fin.ext ?_)
  have h := idx8 t
  match a with
  | ⟨0, _⟩ =>
    show win3_8.index t 0 * 768 + 1 * x.val = x.val
    rw [h]
    simp
  | ⟨1, _⟩ =>
    show win3_8.index t 1 * 768 + 1 * y.val = y.val
    rw [h]
    simp

theorem idx9 : ∀ t : Fin cfg3.N, win3_9.index t = ![0, 0] :=
  (by decide +kernel : ∀ t : Fin grid3.N, win3_9.index t = ![0, 0])

theorem blk9 (t : Fin cfg3.N) (x : Fin 768) (y : Fin 768) : iblk3 V c 9 t (ix2 x y) = V c main_arg9 (ix2 x y) := by
  show V c main_arg9 _ = _
  refine congrArg (V c main_arg9) (funext fun a => Fin.ext ?_)
  have h := idx9 t
  match a with
  | ⟨0, _⟩ =>
    show win3_9.index t 0 * 768 + 1 * x.val = x.val
    rw [h]
    simp
  | ⟨1, _⟩ =>
    show win3_9.index t 1 * 768 + 1 * y.val = y.val
    rw [h]
    simp

theorem idx10 : ∀ t : Fin cfg3.N, win3_10.index t = ![0, 0] :=
  (by decide +kernel : ∀ t : Fin grid3.N, win3_10.index t = ![0, 0])

theorem blk10 (t : Fin cfg3.N) (x : Fin 768) (y : Fin 768) : iblk3 V c 10 t (ix2 x y) = V c main_arg10 (ix2 x y) := by
  show V c main_arg10 _ = _
  refine congrArg (V c main_arg10) (funext fun a => Fin.ext ?_)
  have h := idx10 t
  match a with
  | ⟨0, _⟩ =>
    show win3_10.index t 0 * 768 + 1 * x.val = x.val
    rw [h]
    simp
  | ⟨1, _⟩ =>
    show win3_10.index t 1 * 768 + 1 * y.val = y.val
    rw [h]
    simp

theorem idx11 : ∀ t : Fin cfg3.N, win3_11.index t = ![0, 0] :=
  (by decide +kernel : ∀ t : Fin grid3.N, win3_11.index t = ![0, 0])

theorem blk11 (t : Fin cfg3.N) (x : Fin 768) (y : Fin 768) : iblk3 V c 11 t (ix2 x y) = V c main_arg11 (ix2 x y) := by
  show V c main_arg11 _ = _
  refine congrArg (V c main_arg11) (funext fun a => Fin.ext ?_)
  have h := idx11 t
  match a with
  | ⟨0, _⟩ =>
    show win3_11.index t 0 * 768 + 1 * x.val = x.val
    rw [h]
    simp
  | ⟨1, _⟩ =>
    show win3_11.index t 1 * 768 + 1 * y.val = y.val
    rw [h]
    simp

theorem idx12 : ∀ t : Fin cfg3.N, win3_12.index t = ![t.val, 0, 0] :=
  (by decide +kernel : ∀ t : Fin grid3.N, win3_12.index t = ![t.val, 0, 0])

theorem emb12 (f : S4x32x768.Idx → EReal) (b : Fin 4) (t : Fin cfg3.N) (ht : t.val = b.val) (x : Fin 32) (y : Fin 768) :
    ((cfg3.win 12).blk t).view.read (Elt Ideal) f (ix3 0 x y) = f (ix3 b x y) := by
  show f _ = _
  refine congrArg f (funext fun a => Fin.ext ?_)
  have h := idx12 t
  match a with
  | ⟨0, _⟩ =>
    show win3_12.index t 0 * 1 + 1 * 0 = b.val
    rw [h]
    show t.val * 1 + 1 * 0 = b.val
    omega
  | ⟨1, _⟩ =>
    show win3_12.index t 1 * 32 + 1 * x.val = x.val
    rw [h]
    simp
  | ⟨2, _⟩ =>
    show win3_12.index t 2 * 768 + 1 * y.val = y.val
    rw [h]
    simp

theorem disjoint12 : ∀ t t' : Fin cfg3.N, (cfg3.win 12).flush t = true → (cfg3.win 12).flush t' = true → t ≠ t' →
    Disjoint ((cfg3.win 12).blk t).view.set ((cfg3.win 12).blk t').view.set :=
  fun t t' _ _ hne => (cfg3.win 12).disjoint_blk fun e => hne (by
    have e0 : t.val = t'.val := congrFun ((idx12 t).symm.trans (e.trans (idx12 t'))) 0
    exact Fin.ext e0)

theorem fin12 (b : Fin 4) (x : Fin 32) (y : Fin 768) :
    (dat3 V c).arrAt 12 cfg3.N (ix3 b x y) = (dat3 V c).after 12 (pt b) (ix3 0 x y) := by
  have e := congrFun ((dat3 V c).read_blk_arrAt_eq_flushed 12 disjoint12 cfg3.N (pt b) (Fin.isLt _) (flush3_12 _)) (ix3 0 x y)
  rw [emb12 _ b (pt b) rfl x y] at e
  exact e

theorem idx13 : ∀ t : Fin cfg3.N, win3_13.index t = ![t.val, 0, 0] :=
  (by decide +kernel : ∀ t : Fin grid3.N, win3_13.index t = ![t.val, 0, 0])

theorem emb13 (f : S4x32x768.Idx → EReal) (b : Fin 4) (t : Fin cfg3.N) (ht : t.val = b.val) (x : Fin 32) (y : Fin 768) :
    ((cfg3.win 13).blk t).view.read (Elt Ideal) f (ix3 0 x y) = f (ix3 b x y) := by
  show f _ = _
  refine congrArg f (funext fun a => Fin.ext ?_)
  have h := idx13 t
  match a with
  | ⟨0, _⟩ =>
    show win3_13.index t 0 * 1 + 1 * 0 = b.val
    rw [h]
    show t.val * 1 + 1 * 0 = b.val
    omega
  | ⟨1, _⟩ =>
    show win3_13.index t 1 * 32 + 1 * x.val = x.val
    rw [h]
    simp
  | ⟨2, _⟩ =>
    show win3_13.index t 2 * 768 + 1 * y.val = y.val
    rw [h]
    simp

theorem disjoint13 : ∀ t t' : Fin cfg3.N, (cfg3.win 13).flush t = true → (cfg3.win 13).flush t' = true → t ≠ t' →
    Disjoint ((cfg3.win 13).blk t).view.set ((cfg3.win 13).blk t').view.set :=
  fun t t' _ _ hne => (cfg3.win 13).disjoint_blk fun e => hne (by
    have e0 : t.val = t'.val := congrFun ((idx13 t).symm.trans (e.trans (idx13 t'))) 0
    exact Fin.ext e0)

theorem fin13 (b : Fin 4) (x : Fin 32) (y : Fin 768) :
    (dat3 V c).arrAt 13 cfg3.N (ix3 b x y) = (dat3 V c).after 13 (pt b) (ix3 0 x y) := by
  have e := congrFun ((dat3 V c).read_blk_arrAt_eq_flushed 13 disjoint13 cfg3.N (pt b) (Fin.isLt _) (flush3_13 _)) (ix3 0 x y)
  rw [emb13 _ b (pt b) rfl x y] at e
  exact e

theorem idx14 : ∀ t : Fin cfg3.N, win3_14.index t = ![t.val, 0, 0] :=
  (by decide +kernel : ∀ t : Fin grid3.N, win3_14.index t = ![t.val, 0, 0])

theorem emb14 (f : S4x32x768.Idx → EReal) (b : Fin 4) (t : Fin cfg3.N) (ht : t.val = b.val) (x : Fin 32) (y : Fin 768) :
    ((cfg3.win 14).blk t).view.read (Elt Ideal) f (ix3 0 x y) = f (ix3 b x y) := by
  show f _ = _
  refine congrArg f (funext fun a => Fin.ext ?_)
  have h := idx14 t
  match a with
  | ⟨0, _⟩ =>
    show win3_14.index t 0 * 1 + 1 * 0 = b.val
    rw [h]
    show t.val * 1 + 1 * 0 = b.val
    omega
  | ⟨1, _⟩ =>
    show win3_14.index t 1 * 32 + 1 * x.val = x.val
    rw [h]
    simp
  | ⟨2, _⟩ =>
    show win3_14.index t 2 * 768 + 1 * y.val = y.val
    rw [h]
    simp

theorem disjoint14 : ∀ t t' : Fin cfg3.N, (cfg3.win 14).flush t = true → (cfg3.win 14).flush t' = true → t ≠ t' →
    Disjoint ((cfg3.win 14).blk t).view.set ((cfg3.win 14).blk t').view.set :=
  fun t t' _ _ hne => (cfg3.win 14).disjoint_blk fun e => hne (by
    have e0 : t.val = t'.val := congrFun ((idx14 t).symm.trans (e.trans (idx14 t'))) 0
    exact Fin.ext e0)

theorem fin14 (b : Fin 4) (x : Fin 32) (y : Fin 768) :
    (dat3 V c).arrAt 14 cfg3.N (ix3 b x y) = (dat3 V c).after 14 (pt b) (ix3 0 x y) := by
  have e := congrFun ((dat3 V c).read_blk_arrAt_eq_flushed 14 disjoint14 cfg3.N (pt b) (Fin.isLt _) (flush3_14 _)) (ix3 0 x y)
  rw [emb14 _ b (pt b) rfl x y] at e
  exact e

theorem idx15 : ∀ t : Fin cfg3.N, win3_15.index t = ![t.val, 0, 0] :=
  (by decide +kernel : ∀ t : Fin grid3.N, win3_15.index t = ![t.val, 0, 0])

theorem emb15 (f : S4x32x768.Idx → EReal) (b : Fin 4) (t : Fin cfg3.N) (ht : t.val = b.val) (x : Fin 32) (y : Fin 768) :
    ((cfg3.win 15).blk t).view.read (Elt Ideal) f (ix3 0 x y) = f (ix3 b x y) := by
  show f _ = _
  refine congrArg f (funext fun a => Fin.ext ?_)
  have h := idx15 t
  match a with
  | ⟨0, _⟩ =>
    show win3_15.index t 0 * 1 + 1 * 0 = b.val
    rw [h]
    show t.val * 1 + 1 * 0 = b.val
    omega
  | ⟨1, _⟩ =>
    show win3_15.index t 1 * 32 + 1 * x.val = x.val
    rw [h]
    simp
  | ⟨2, _⟩ =>
    show win3_15.index t 2 * 768 + 1 * y.val = y.val
    rw [h]
    simp

theorem disjoint15 : ∀ t t' : Fin cfg3.N, (cfg3.win 15).flush t = true → (cfg3.win 15).flush t' = true → t ≠ t' →
    Disjoint ((cfg3.win 15).blk t).view.set ((cfg3.win 15).blk t').view.set :=
  fun t t' _ _ hne => (cfg3.win 15).disjoint_blk fun e => hne (by
    have e0 : t.val = t'.val := congrFun ((idx15 t).symm.trans (e.trans (idx15 t'))) 0
    exact Fin.ext e0)

theorem fin15 (b : Fin 4) (x : Fin 32) (y : Fin 768) :
    (dat3 V c).arrAt 15 cfg3.N (ix3 b x y) = (dat3 V c).after 15 (pt b) (ix3 0 x y) := by
  have e := congrFun ((dat3 V c).read_blk_arrAt_eq_flushed 15 disjoint15 cfg3.N (pt b) (Fin.isLt _) (flush3_15 _)) (ix3 0 x y)
  rw [emb15 _ b (pt b) rfl x y] at e
  exact e

theorem idx16 : ∀ t : Fin cfg3.N, win3_16.index t = ![t.val, 0, 0] :=
  (by decide +kernel : ∀ t : Fin grid3.N, win3_16.index t = ![t.val, 0, 0])

theorem emb16 (f : S4x1x32.Idx → EReal) (b : Fin 4) (t : Fin cfg3.N) (ht : t.val = b.val) (x : Fin 32) :
    ((cfg3.win 16).blk t).view.read (Elt Ideal) f (ix3 0 0 x) = f (ix3 b 0 x) := by
  show f _ = _
  refine congrArg f (funext fun a => Fin.ext ?_)
  have h := idx16 t
  match a with
  | ⟨0, _⟩ =>
    show win3_16.index t 0 * 1 + 1 * 0 = b.val
    rw [h]
    show t.val * 1 + 1 * 0 = b.val
    omega
  | ⟨1, _⟩ =>
    show win3_16.index t 1 * 1 + 1 * 0 = 0
    rw [h]
    simp
  | ⟨2, _⟩ =>
    show win3_16.index t 2 * 32 + 1 * x.val = x.val
    rw [h]
    simp

theorem disjoint16 : ∀ t t' : Fin cfg3.N, (cfg3.win 16).flush t = true → (cfg3.win 16).flush t' = true → t ≠ t' →
    Disjoint ((cfg3.win 16).blk t).view.set ((cfg3.win 16).blk t').view.set :=
  fun t t' _ _ hne => (cfg3.win 16).disjoint_blk fun e => hne (by
    have e0 : t.val = t'.val := congrFun ((idx16 t).symm.trans (e.trans (idx16 t'))) 0
    exact Fin.ext e0)

theorem fin16 (b : Fin 4) (x : Fin 32) :
    (dat3 V c).arrAt 16 cfg3.N (ix3 b 0 x) = (dat3 V c).after 16 (pt b) (ix3 0 0 x) := by
  have e := congrFun ((dat3 V c).read_blk_arrAt_eq_flushed 16 disjoint16 cfg3.N (pt b) (Fin.isLt _) (flush3_16 _)) (ix3 0 0 x)
  rw [emb16 _ b (pt b) rfl x] at e
  exact e

end Cert.KernelIdeal.ArraysProject

end
-- ==== Proof.Arrays.Retrieve.lean ====
/- The fifth call: which part of each array a grid point reads, and the result arrays index by index. -/
module

public import proofs.«01_k».proof.Proof.KernelIdealRun.Retrieve
public import Idealize.ShloMosaic.Lib.Pointwise

@[expose] public section

set_option maxRecDepth 16384

noncomputable section

namespace Cert.KernelIdeal.ArraysRetrieve

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

theorem tlt (t : Fin cfg4.N) : t.val < 16 := t.isLt

/-- Row `l` of block `j`. -/
def row (j : ℕ) (hj : j < 4) (l : Fin 512) : Fin 2048 := ⟨j * 512 + l.val, by omega⟩
/-- The grid point of block `j` of batch entry `b`. -/
def pt (b : Fin 4) (j : ℕ) (hj : j < 4) : Fin cfg4.N := ⟨4 * b.val + j, by show _ < 16; omega⟩
/-- The row of its block in which row `l` lies. -/
def inner (l : Fin 2048) : Fin 512 := ⟨l.val % 512, by omega⟩
theorem blt (l : Fin 2048) : l.val / 512 < 4 := by omega
theorem row_inner (l : Fin 2048) : row (l.val / 512) (blt l) (inner l) = l := Fin.ext (by show l.val / 512 * 512 + l.val % 512 = l.val; omega)

theorem idx0 : ∀ t : Fin cfg4.N, win4_0.index t = ![t.val / 4, t.val % 4, 0] :=
  (by decide +kernel : ∀ t : Fin grid4.N, win4_0.index t = ![t.val / 4, t.val % 4, 0])

theorem blk0 (b : Fin 4) (j : ℕ) (hj : j < 4) (t : Fin cfg4.N) (ht : t.val = 4 * b.val + j) (l : Fin 512) (x : Fin 768) : iblk4 V c 0 t (ix3 0 l x) = V c main_call0_v1 (ix3 b (row j hj l) x) := by
  show V c main_call0_v1 _ = _
  refine congrArg (V c main_call0_v1) (funext fun a => Fin.ext ?_)
  have h := idx0 t
  match a with
  | ⟨0, _⟩ =>
    show win4_0.index t 0 * 1 + 1 * 0 = b.val
    rw [h]
    show t.val / 4 * 1 + 1 * 0 = b.val
    omega
  | ⟨1, _⟩ =>
    show win4_0.index t 1 * 512 + 1 * l.val = j * 512 + l.val
    rw [h]
    show t.val % 4 * 512 + 1 * l.val = j * 512 + l.val
    omega
  | ⟨2, _⟩ =>
    show win4_0.index t 2 * 768 + 1 * x.val = x.val
    rw [h]
    simp

theorem idx1 : ∀ t : Fin cfg4.N, win4_1.index t = ![t.val / 4, t.val % 4, 0] :=
  (by decide +kernel : ∀ t : Fin grid4.N, win4_1.index t = ![t.val / 4, t.val % 4, 0])

theorem blk1 (b : Fin 4) (j : ℕ) (hj : j < 4) (t : Fin cfg4.N) (ht : t.val = 4 * b.val + j) (l : Fin 512) (x : Fin 768) : iblk4 V c 1 t (ix3 0 l x) = V c main_call0_v3 (ix3 b (row j hj l) x) := by
  show V c main_call0_v3 _ = _
  refine congrArg (V c main_call0_v3) (funext fun a => Fin.ext ?_)
  have h := idx1 t
  match a with
  | ⟨0, _⟩ =>
    show win4_1.index t 0 * 1 + 1 * 0 = b.val
    rw [h]
    show t.val / 4 * 1 + 1 * 0 = b.val
    omega
  | ⟨1, _⟩ =>
    show win4_1.index t 1 * 512 + 1 * l.val = j * 512 + l.val
    rw [h]
    show t.val % 4 * 512 + 1 * l.val = j * 512 + l.val
    omega
  | ⟨2, _⟩ =>
    show win4_1.index t 2 * 768 + 1 * x.val = x.val
    rw [h]
    simp

theorem idx2 : ∀ t : Fin cfg4.N, win4_2.index t = ![t.val / 4, t.val % 4, 0] :=
  (by decide +kernel : ∀ t : Fin grid4.N, win4_2.index t = ![t.val / 4, t.val % 4, 0])

theorem blk2 (b : Fin 4) (j : ℕ) (hj : j < 4) (t : Fin cfg4.N) (ht : t.val = 4 * b.val + j) (l : Fin 512) : iblk4 V c 2 t (ix3 0 l 0) = V c main_call0_v16_2 (ix3 b (row j hj l) 0) := by
  show V c main_call0_v16_2 _ = _
  refine congrArg (V c main_call0_v16_2) (funext fun a => Fin.ext ?_)
  have h := idx2 t
  match a with
  | ⟨0, _⟩ =>
    show win4_2.index t 0 * 1 + 1 * 0 = b.val
    rw [h]
    show t.val / 4 * 1 + 1 * 0 = b.val
    omega
  | ⟨1, _⟩ =>
    show win4_2.index t 1 * 512 + 1 * l.val = j * 512 + l.val
    rw [h]
    show t.val % 4 * 512 + 1 * l.val = j * 512 + l.val
    omega
  | ⟨2, _⟩ =>
    show win4_2.index t 2 * 1 + 1 * 0 = 0
    rw [h]
    simp

theorem idx3 : ∀ t : Fin cfg4.N, win4_3.index t = ![0, 0] :=
  (by decide +kernel : ∀ t : Fin grid4.N, win4_3.index t = ![0, 0])

theorem blk3 (t : Fin cfg4.N) (x : Fin 768) : iblk4 V c 3 t (ix2 0 x) = V c main_call0_v13 (ix2 0 x) := by
  show V c main_call0_v13 _ = _
  refine congrArg (V c main_call0_v13) (funext fun a => Fin.ext ?_)
  have h := idx3 t
  match a with
  | ⟨0, _⟩ =>
    show win4_3.index t 0 * 1 + 1 * 0 = 0
    rw [h]
    simp
  | ⟨1, _⟩ =>
    show win4_3.index t 1 * 768 + 1 * x.val = x.val
    rw [h]
    simp

theorem idx4 : ∀ t : Fin cfg4.N, win4_4.index t = ![0, 0] :=
  (by decide +kernel : ∀ t : Fin grid4.N, win4_4.index t = ![0, 0])

theorem blk4 (t : Fin cfg4.N) (x : Fin 768) (y : Fin 768) : iblk4 V c 4 t (ix2 x y) = V c main_arg12 (ix2 x y) := by
  show V c main_arg12 _ = _
  refine congrArg (V c main_arg12) (funext fun a => Fin.ext ?_)
  have h := idx4 t
  match a with
  | ⟨0, _⟩ =>
    show win4_4.index t 0 * 768 + 1 * x.val = x.val
    rw [h]
    simp
  | ⟨1, _⟩ =>
    show win4_4.index t 1 * 768 + 1 * y.val = y.val
    rw [h]
    simp

theorem idx5 : ∀ t : Fin cfg4.N, win4_5.index t = ![0, 0] :=
  (by decide +kernel : ∀ t : Fin grid4.N, win4_5.index t = ![0, 0])

theorem blk5 (t : Fin cfg4.N) (x : Fin 768) (y : Fin 768) : iblk4 V c 5 t (ix2 x y) = V c main_arg13 (ix2 x y) := by
  show V c main_arg13 _ = _
  refine congrArg (V c main_arg13) (funext fun a => Fin.ext ?_)
  have h := idx5 t
  match a with
  | ⟨0, _⟩ =>
    show win4_5.index t 0 * 768 + 1 * x.val = x.val
    rw [h]
    simp
  | ⟨1, _⟩ =>
    show win4_5.index t 1 * 768 + 1 * y.val = y.val
    rw [h]
    simp

theorem idx6 : ∀ t : Fin cfg4.N, win4_6.index t = ![t.val / 4, 0, 0] :=
  (by decide +kernel : ∀ t : Fin grid4.N, win4_6.index t = ![t.val / 4, 0, 0])

theorem blk6 (b : Fin 4) (j : ℕ) (hj : j < 4) (t : Fin cfg4.N) (ht : t.val = 4 * b.val + j) (x : Fin 32) (y : Fin 768) : iblk4 V c 6 t (ix3 0 x y) = V c main_call0_v56_0 (ix3 b x y) := by
  show V c main_call0_v56_0 _ = _
  refine congrArg (V c main_call0_v56_0) (funext fun a => Fin.ext ?_)
  have h := idx6 t
  match a with
  | ⟨0, _⟩ =>
    show win4_6.index t 0 * 1 + 1 * 0 = b.val
    rw [h]
    show t.val / 4 * 1 + 1 * 0 = b.val
    omega
  | ⟨1, _⟩ =>
    show win4_6.index t 1 * 32 + 1 * x.val = x.val
    rw [h]
    simp
  | ⟨2, _⟩ =>
    show win4_6.index t 2 * 768 + 1 * y.val = y.val
    rw [h]
    simp

theorem idx7 : ∀ t : Fin cfg4.N, win4_7.index t = ![t.val / 4, 0, 0] :=
  (by decide +kernel : ∀ t : Fin grid4.N, win4_7.index t = ![t.val / 4, 0, 0])

theorem blk7 (b : Fin 4) (j : ℕ) (hj : j < 4) (t : Fin cfg4.N) (ht : t.val = 4 * b.val + j) (x : Fin 32) (y : Fin 768) : iblk4 V c 7 t (ix3 0 x y) = V c main_call0_v56_1 (ix3 b x y) := by
  show V c main_call0_v56_1 _ = _
  refine congrArg (V c main_call0_v56_1) (funext fun a => Fin.ext ?_)
  have h := idx7 t
  match a with
  | ⟨0, _⟩ =>
    show win4_7.index t 0 * 1 + 1 * 0 = b.val
    rw [h]
    show t.val / 4 * 1 + 1 * 0 = b.val
    omega
  | ⟨1, _⟩ =>
    show win4_7.index t 1 * 32 + 1 * x.val = x.val
    rw [h]
    simp
  | ⟨2, _⟩ =>
    show win4_7.index t 2 * 768 + 1 * y.val = y.val
    rw [h]
    simp

theorem idx8 : ∀ t : Fin cfg4.N, win4_8.index t = ![t.val / 4, 0, 0] :=
  (by decide +kernel : ∀ t : Fin grid4.N, win4_8.index t = ![t.val / 4, 0, 0])

theorem blk8 (b : Fin 4) (j : ℕ) (hj : j < 4) (t : Fin cfg4.N) (ht : t.val = 4 * b.val + j) (x : Fin 32) (y : Fin 768) : iblk4 V c 8 t (ix3 0 x y) = V c main_call0_v56_2 (ix3 b x y) := by
  show V c main_call0_v56_2 _ = _
  refine congrArg (V c main_call0_v56_2) (funext fun a => Fin.ext ?_)
  have h := idx8 t
  match a with
  | ⟨0, _⟩ =>
    show win4_8.index t 0 * 1 + 1 * 0 = b.val
    rw [h]
    show t.val / 4 * 1 + 1 * 0 = b.val
    omega
  | ⟨1, _⟩ =>
    show win4_8.index t 1 * 32 + 1 * x.val = x.val
    rw [h]
    simp
  | ⟨2, _⟩ =>
    show win4_8.index t 2 * 768 + 1 * y.val = y.val
    rw [h]
    simp

theorem idx9 : ∀ t : Fin cfg4.N, win4_9.index t = ![t.val / 4, 0, 0] :=
  (by decide +kernel : ∀ t : Fin grid4.N, win4_9.index t = ![t.val / 4, 0, 0])

theorem blk9 (b : Fin 4) (j : ℕ) (hj : j < 4) (t : Fin cfg4.N) (ht : t.val = 4 * b.val + j) (x : Fin 32) (y : Fin 768) : iblk4 V c 9 t (ix3 0 x y) = V c main_call0_v56_3 (ix3 b x y) := by
  show V c main_call0_v56_3 _ = _
  refine congrArg (V c main_call0_v56_3) (funext fun a => Fin.ext ?_)
  have h := idx9 t
  match a with
  | ⟨0, _⟩ =>
    show win4_9.index t 0 * 1 + 1 * 0 = b.val
    rw [h]
    show t.val / 4 * 1 + 1 * 0 = b.val
    omega
  | ⟨1, _⟩ =>
    show win4_9.index t 1 * 32 + 1 * x.val = x.val
    rw [h]
    simp
  | ⟨2, _⟩ =>
    show win4_9.index t 2 * 768 + 1 * y.val = y.val
    rw [h]
    simp

theorem idx10 : ∀ t : Fin cfg4.N, win4_10.index t = ![t.val / 4, 0, 0] :=
  (by decide +kernel : ∀ t : Fin grid4.N, win4_10.index t = ![t.val / 4, 0, 0])

theorem blk10 (b : Fin 4) (j : ℕ) (hj : j < 4) (t : Fin cfg4.N) (ht : t.val = 4 * b.val + j) (x : Fin 32) : iblk4 V c 10 t (ix3 0 0 x) = V c main_call0_v56_4 (ix3 b 0 x) := by
  show V c main_call0_v56_4 _ = _
  refine congrArg (V c main_call0_v56_4) (funext fun a => Fin.ext ?_)
  have h := idx10 t
  match a with
  | ⟨0, _⟩ =>
    show win4_10.index t 0 * 1 + 1 * 0 = b.val
    rw [h]
    show t.val / 4 * 1 + 1 * 0 = b.val
    omega
  | ⟨1, _⟩ =>
    show win4_10.index t 1 * 1 + 1 * 0 = 0
    rw [h]
    simp
  | ⟨2, _⟩ =>
    show win4_10.index t 2 * 32 + 1 * x.val = x.val
    rw [h]
    simp

theorem idx11 : ∀ t : Fin cfg4.N, win4_11.index t = ![t.val / 4, t.val % 4, 0] :=
  (by decide +kernel : ∀ t : Fin grid4.N, win4_11.index t = ![t.val / 4, t.val % 4, 0])

theorem emb11 (f : S4x2048x768.Idx → EReal) (b : Fin 4) (j : ℕ) (hj : j < 4) (t : Fin cfg4.N) (ht : t.val = 4 * b.val + j) (l : Fin 512) (x : Fin 768) :
    ((cfg4.win 11).blk t).view.read (Elt Ideal) f (ix3 0 l x) = f (ix3 b (row j hj l) x) := by
  show f _ = _
  refine congrArg f (funext fun a => Fin.ext ?_)
  have h := idx11 t
  match a with
  | ⟨0, _⟩ =>
    show win4_11.index t 0 * 1 + 1 * 0 = b.val
    rw [h]
    show t.val / 4 * 1 + 1 * 0 = b.val
    omega
  | ⟨1, _⟩ =>
    show win4_11.index t 1 * 512 + 1 * l.val = j * 512 + l.val
    rw [h]
    show t.val % 4 * 512 + 1 * l.val = j * 512 + l.val
    omega
  | ⟨2, _⟩ =>
    show win4_11.index t 2 * 768 + 1 * x.val = x.val
    rw [h]
    simp

theorem disjoint11 : ∀ t t' : Fin cfg4.N, (cfg4.win 11).flush t = true → (cfg4.win 11).flush t' = true → t ≠ t' →
    Disjoint ((cfg4.win 11).blk t).view.set ((cfg4.win 11).blk t').view.set :=
  fun t t' _ _ hne => (cfg4.win 11).disjoint_blk fun e => hne (by
    have e0 : t.val / 4 = t'.val / 4 := congrFun ((idx11 t).symm.trans (e.trans (idx11 t'))) 0
    have e1 : t.val % 4 = t'.val % 4 := congrFun ((idx11 t).symm.trans (e.trans (idx11 t'))) 1
    exact Fin.ext (by omega))

theorem fin11 (b : Fin 4) (l : Fin 2048) (x : Fin 768) :
    (dat4 V c).arrAt 11 cfg4.N (ix3 b l x) = (dat4 V c).after 11 (pt b (l.val / 512) (blt l)) (ix3 0 (inner l) x) := by
  have e := congrFun ((dat4 V c).read_blk_arrAt_eq_flushed 11 disjoint11 cfg4.N (pt b (l.val / 512) (blt l)) (Fin.isLt _) (flush4_11 _)) (ix3 0 (inner l) x)
  rw [emb11 _ b (l.val / 512) (blt l) (pt b (l.val / 512) (blt l)) rfl (inner l) x, row_inner] at e
  exact e

theorem idx12 : ∀ t : Fin cfg4.N, win4_12.index t = ![t.val / 4, t.val % 4, 0] :=
  (by decide +kernel : ∀ t : Fin grid4.N, win4_12.index t = ![t.val / 4, t.val % 4, 0])

theorem emb12 (f : S4x2048x768.Idx → EReal) (b : Fin 4) (j : ℕ) (hj : j < 4) (t : Fin cfg4.N) (ht : t.val = 4 * b.val + j) (l : Fin 512) (x : Fin 768) :
    ((cfg4.win 12).blk t).view.read (Elt Ideal) f (ix3 0 l x) = f (ix3 b (row j hj l) x) := by
  show f _ = _
  refine congrArg f (funext fun a => Fin.ext ?_)
  have h := idx12 t
  match a with
  | ⟨0, _⟩ =>
    show win4_12.index t 0 * 1 + 1 * 0 = b.val
    rw [h]
    show t.val / 4 * 1 + 1 * 0 = b.val
    omega
  | ⟨1, _⟩ =>
    show win4_12.index t 1 * 512 + 1 * l.val = j * 512 + l.val
    rw [h]
    show t.val % 4 * 512 + 1 * l.val = j * 512 + l.val
    omega
  | ⟨2, _⟩ =>
    show win4_12.index t 2 * 768 + 1 * x.val = x.val
    rw [h]
    simp

theorem disjoint12 : ∀ t t' : Fin cfg4.N, (cfg4.win 12).flush t = true → (cfg4.win 12).flush t' = true → t ≠ t' →
    Disjoint ((cfg4.win 12).blk t).view.set ((cfg4.win 12).blk t').view.set :=
  fun t t' _ _ hne => (cfg4.win 12).disjoint_blk fun e => hne (by
    have e0 : t.val / 4 = t'.val / 4 := congrFun ((idx12 t).symm.trans (e.trans (idx12 t'))) 0
    have e1 : t.val % 4 = t'.val % 4 := congrFun ((idx12 t).symm.trans (e.trans (idx12 t'))) 1
    exact Fin.ext (by omega))

theorem fin12 (b : Fin 4) (l : Fin 2048) (x : Fin 768) :
    (dat4 V c).arrAt 12 cfg4.N (ix3 b l x) = (dat4 V c).after 12 (pt b (l.val / 512) (blt l)) (ix3 0 (inner l) x) := by
  have e := congrFun ((dat4 V c).read_blk_arrAt_eq_flushed 12 disjoint12 cfg4.N (pt b (l.val / 512) (blt l)) (Fin.isLt _) (flush4_12 _)) (ix3 0 (inner l) x)
  rw [emb12 _ b (l.val / 512) (blt l) (pt b (l.val / 512) (blt l)) rfl (inner l) x, row_inner] at e
  exact e

end Cert.KernelIdeal.ArraysRetrieve

end
-- ==== Proof.Chain.lean ====
/- The five calls in a row: each array which a call writes, index by index, as a function of the arguments. -/
module

public import proofs.«01_k».proof.Proof.Host
public import proofs.«01_k».proof.Proof.StatsBlock
public import proofs.«01_k».proof.Proof.SegmentBlock
public import proofs.«01_k».proof.Proof.PoolBlock
public import proofs.«01_k».proof.Proof.ProjectBlock
public import proofs.«01_k».proof.Proof.RetrieveBlock
public import proofs.«01_k».proof.Proof.Arrays.Stats
public import proofs.«01_k».proof.Proof.Arrays.Segment
public import proofs.«01_k».proof.Proof.Arrays.Pool
public import proofs.«01_k».proof.Proof.Arrays.Project
public import proofs.«01_k».proof.Proof.Arrays.Retrieve

@[expose] public section

set_option maxRecDepth 16384

noncomputable section

namespace Cert.KernelIdeal.Chain

open Cert.KernelIdeal Cert.KernelIdeal.Gen Cert.KernelIdeal.Host Idealize.ShloMosaic Idealize.ShloMosaic.TcCoe

variable (m : (ℓ : Loc nD τ sig) → Buf (Elt Ideal) ℓ) (ρ : Dev nD → PrngReg) (c : Dev nD)

/-! ## What stays the same from one call to the next -/

theorem v1_4 : W4 m ρ c main_call0_v1 = W1 m ρ c main_call0_v1 :=
  (W4_of m ρ c main_call0_v1 (by decide +kernel)).trans ((W3_of m ρ c main_call0_v1 (by decide +kernel)).trans ((W2_of m ρ c main_call0_v1 (by decide +kernel))))

theorem v1_6 : W6 m ρ c main_call0_v1 = W1 m ρ c main_call0_v1 :=
  (W6_of m ρ c main_call0_v1 (by decide +kernel)).trans ((W5_of m ρ c main_call0_v1 (by decide +kernel)).trans ((W4_of m ρ c main_call0_v1 (by decide +kernel)).trans ((W3_of m ρ c main_call0_v1 (by decide +kernel)).trans ((W2_of m ρ c main_call0_v1 (by decide +kernel))))))

theorem v3_4 : W4 m ρ c main_call0_v3 = W1 m ρ c main_call0_v3 :=
  (W4_of m ρ c main_call0_v3 (by decide +kernel)).trans ((W3_of m ρ c main_call0_v3 (by decide +kernel)).trans ((W2_of m ρ c main_call0_v3 (by decide +kernel))))

theorem v3_6 : W6 m ρ c main_call0_v3 = W1 m ρ c main_call0_v3 :=
  (W6_of m ρ c main_call0_v3 (by decide +kernel)).trans ((W5_of m ρ c main_call0_v3 (by decide +kernel)).trans ((W4_of m ρ c main_call0_v3 (by decide +kernel)).trans ((W3_of m ρ c main_call0_v3 (by decide +kernel)).trans ((W2_of m ρ c main_call0_v3 (by decide +kernel))))))

theorem v16_0_3 : W3 m ρ c main_call0_v16_0 = W2 m ρ c main_call0_v16_0 :=
  (W3_of m ρ c main_call0_v16_0 (by decide +kernel))

theorem v16_1_3 : W3 m ρ c main_call0_v16_1 = W2 m ρ c main_call0_v16_1 :=
  (W3_of m ρ c main_call0_v16_1 (by decide +kernel))

theorem v14_3 : W3 m ρ c main_call0_v14 = W1 m ρ c main_call0_v14 :=
  (W3_of m ρ c main_call0_v14 (by decide +kernel)).trans ((W2_of m ρ c main_call0_v14 (by decide +kernel)))

theorem v15_3 : W3 m ρ c main_call0_v15 = W1 m ρ c main_call0_v15 :=
  (W3_of m ρ c main_call0_v15 (by decide +kernel)).trans ((W2_of m ρ c main_call0_v15 (by decide +kernel)))

theorem v54_0_7 : W7 m ρ c main_call0_v54_0 = W4 m ρ c main_call0_v54_0 :=
  (W7_of m ρ c main_call0_v54_0 (by decide +kernel)).trans ((W6_of m ρ c main_call0_v54_0 (by decide +kernel)).trans ((W5_of m ρ c main_call0_v54_0 (by decide +kernel))))

theorem v5_5 : W5 m ρ c main_call0_v5 = W1 m ρ c main_call0_v5 :=
  (W5_of m ρ c main_call0_v5 (by decide +kernel)).trans ((W4_of m ρ c main_call0_v5 (by decide +kernel)).trans ((W3_of m ρ c main_call0_v5 (by decide +kernel)).trans ((W2_of m ρ c main_call0_v5 (by decide +kernel)))))

theorem v7_5 : W5 m ρ c main_call0_v7 = W1 m ρ c main_call0_v7 :=
  (W5_of m ρ c main_call0_v7 (by decide +kernel)).trans ((W4_of m ρ c main_call0_v7 (by decide +kernel)).trans ((W3_of m ρ c main_call0_v7 (by decide +kernel)).trans ((W2_of m ρ c main_call0_v7 (by decide +kernel)))))

theorem v9_5 : W5 m ρ c main_call0_v9 = W1 m ρ c main_call0_v9 :=
  (W5_of m ρ c main_call0_v9 (by decide +kernel)).trans ((W4_of m ρ c main_call0_v9 (by decide +kernel)).trans ((W3_of m ρ c main_call0_v9 (by decide +kernel)).trans ((W2_of m ρ c main_call0_v9 (by decide +kernel)))))

theorem v11_5 : W5 m ρ c main_call0_v11 = W1 m ρ c main_call0_v11 :=
  (W5_of m ρ c main_call0_v11 (by decide +kernel)).trans ((W4_of m ρ c main_call0_v11 (by decide +kernel)).trans ((W3_of m ρ c main_call0_v11 (by decide +kernel)).trans ((W2_of m ρ c main_call0_v11 (by decide +kernel)))))

theorem v12_5 : W5 m ρ c main_call0_v12 = W1 m ρ c main_call0_v12 :=
  (W5_of m ρ c main_call0_v12 (by decide +kernel)).trans ((W4_of m ρ c main_call0_v12 (by decide +kernel)).trans ((W3_of m ρ c main_call0_v12 (by decide +kernel)).trans ((W2_of m ρ c main_call0_v12 (by decide +kernel)))))

theorem v56_0_7 : W7 m ρ c main_call0_v56_0 = W6 m ρ c main_call0_v56_0 :=
  (W7_of m ρ c main_call0_v56_0 (by decide +kernel))

theorem v56_1_7 : W7 m ρ c main_call0_v56_1 = W6 m ρ c main_call0_v56_1 :=
  (W7_of m ρ c main_call0_v56_1 (by decide +kernel))

theorem v56_2_7 : W7 m ρ c main_call0_v56_2 = W6 m ρ c main_call0_v56_2 :=
  (W7_of m ρ c main_call0_v56_2 (by decide +kernel))

theorem v56_3_7 : W7 m ρ c main_call0_v56_3 = W6 m ρ c main_call0_v56_3 :=
  (W7_of m ρ c main_call0_v56_3 (by decide +kernel))

theorem v56_4_7 : W7 m ρ c main_call0_v56_4 = W6 m ρ c main_call0_v56_4 :=
  (W7_of m ρ c main_call0_v56_4 (by decide +kernel))

theorem v16_2_6 : W6 m ρ c main_call0_v16_2 = W2 m ρ c main_call0_v16_2 :=
  (W6_of m ρ c main_call0_v16_2 (by decide +kernel)).trans ((W5_of m ρ c main_call0_v16_2 (by decide +kernel)).trans ((W4_of m ρ c main_call0_v16_2 (by decide +kernel)).trans ((W3_of m ρ c main_call0_v16_2 (by decide +kernel)))))

theorem v13_6 : W6 m ρ c main_call0_v13 = W1 m ρ c main_call0_v13 :=
  (W6_of m ρ c main_call0_v13 (by decide +kernel)).trans ((W5_of m ρ c main_call0_v13 (by decide +kernel)).trans ((W4_of m ρ c main_call0_v13 (by decide +kernel)).trans ((W3_of m ρ c main_call0_v13 (by decide +kernel)).trans ((W2_of m ρ c main_call0_v13 (by decide +kernel))))))

theorem arg4_1 (k : Fin 768) : W1 m ρ c main_arg4 (ix2 k 0) = (In m c).ar k :=
  congrFun (W1_args m ρ c main_arg4 (by decide +kernel)) _

theorem arg5_1 (k : Fin 768) : W1 m ρ c main_arg5 (ix2 k 0) = (In m c).ai k :=
  congrFun (W1_args m ρ c main_arg5 (by decide +kernel)) _

theorem arg8_5 (k d : Fin 768) : W5 m ρ c main_arg8 (ix2 k d) = (In m c).kr k d :=
  congrFun (W5_args m ρ c main_arg8 (by decide +kernel)) _

theorem arg9_5 (k d : Fin 768) : W5 m ρ c main_arg9 (ix2 k d) = (In m c).ki k d :=
  congrFun (W5_args m ρ c main_arg9 (by decide +kernel)) _

theorem arg10_5 (k d : Fin 768) : W5 m ρ c main_arg10 (ix2 k d) = (In m c).vr k d :=
  congrFun (W5_args m ρ c main_arg10 (by decide +kernel)) _

theorem arg11_5 (k d : Fin 768) : W5 m ρ c main_arg11 (ix2 k d) = (In m c).vi k d :=
  congrFun (W5_args m ρ c main_arg11 (by decide +kernel)) _

theorem arg12_6 (k d : Fin 768) : W6 m ρ c main_arg12 (ix2 k d) = (In m c).qr k d :=
  congrFun (W6_args m ρ c main_arg12 (by decide +kernel)) _

theorem arg13_6 (k d : Fin 768) : W6 m ρ c main_arg13 (ix2 k d) = (In m c).qi k d :=
  congrFun (W6_args m ρ c main_arg13 (by decide +kernel)) _

/-! ## The first call -/

theorem ps (b : Fin 4) (l : Fin 2048) : W2 m ρ c main_call0_v16_0 (ix3 b l 0) = Flow.score (In m c) b l := by
  refine (congrFun (W2_arr m ρ c 4) _).trans ((ArraysStats.fin4 (V1 m ρ) c b l).trans ?_)
  have r0 : ∀ k, iblk0 (V1 m ρ) c 0 (ArraysStats.pt b (l.val / 512) (ArraysStats.blt l)) (ix3 0 (ArraysStats.inner l) k) = (In m c).z b l k 0 :=
    fun k => (ArraysStats.blk0 (V1 m ρ) c b (l.val / 512) (ArraysStats.blt l) _ rfl (ArraysStats.inner l) k).trans (by rw [ArraysStats.row_inner]; exact zr m ρ c b l k)
  have r1 : ∀ k, iblk0 (V1 m ρ) c 1 (ArraysStats.pt b (l.val / 512) (ArraysStats.blt l)) (ix3 0 (ArraysStats.inner l) k) = (In m c).z b l k 1 :=
    fun k => (ArraysStats.blk1 (V1 m ρ) c b (l.val / 512) (ArraysStats.blt l) _ rfl (ArraysStats.inner l) k).trans (by rw [ArraysStats.row_inner]; exact zi m ρ c b l k)
  have r2 : ∀ t k, iblk0 (V1 m ρ) c 2 t (ix2 k 0) = (In m c).ar k := fun t k => (ArraysStats.blk2 (V1 m ρ) c t k).trans (arg4_1 m ρ c k)
  have r3 : ∀ t k, iblk0 (V1 m ρ) c 3 t (ix2 k 0) = (In m c).ai k := fun t k => (ArraysStats.blk3 (V1 m ρ) c t k).trans (arg5_1 m ρ c k)
  rw [after0_4, StatsBlock.out4_apply]
  simp only [r0, r1, r2, r3]
  rfl

theorem am (b : Fin 4) (l : Fin 2048) : W2 m ρ c main_call0_v16_1 (ix3 b l 0) = Flow.avg (In m c) b l := by
  refine (congrFun (W2_arr m ρ c 5) _).trans ((ArraysStats.fin5 (V1 m ρ) c b l).trans ?_)
  have r0 : ∀ k, iblk0 (V1 m ρ) c 0 (ArraysStats.pt b (l.val / 512) (ArraysStats.blt l)) (ix3 0 (ArraysStats.inner l) k) = (In m c).z b l k 0 :=
    fun k => (ArraysStats.blk0 (V1 m ρ) c b (l.val / 512) (ArraysStats.blt l) _ rfl (ArraysStats.inner l) k).trans (by rw [ArraysStats.row_inner]; exact zr m ρ c b l k)
  have r1 : ∀ k, iblk0 (V1 m ρ) c 1 (ArraysStats.pt b (l.val / 512) (ArraysStats.blt l)) (ix3 0 (ArraysStats.inner l) k) = (In m c).z b l k 1 :=
    fun k => (ArraysStats.blk1 (V1 m ρ) c b (l.val / 512) (ArraysStats.blt l) _ rfl (ArraysStats.inner l) k).trans (by rw [ArraysStats.row_inner]; exact zi m ρ c b l k)
  have r2 : ∀ t k, iblk0 (V1 m ρ) c 2 t (ix2 k 0) = (In m c).ar k := fun t k => (ArraysStats.blk2 (V1 m ρ) c t k).trans (arg4_1 m ρ c k)
  have r3 : ∀ t k, iblk0 (V1 m ρ) c 3 t (ix2 k 0) = (In m c).ai k := fun t k => (ArraysStats.blk3 (V1 m ρ) c t k).trans (arg5_1 m ρ c k)
  rw [after0_5, StatsBlock.out5_apply]
  simp only [r0, r1, r2, r3]
  rfl

theorem rms (b : Fin 4) (l : Fin 2048) : W2 m ρ c main_call0_v16_2 (ix3 b l 0) = Flow.rms (In m c) b l := by
  refine (congrFun (W2_arr m ρ c 6) _).trans ((ArraysStats.fin6 (V1 m ρ) c b l).trans ?_)
  have r0 : ∀ k, iblk0 (V1 m ρ) c 0 (ArraysStats.pt b (l.val / 512) (ArraysStats.blt l)) (ix3 0 (ArraysStats.inner l) k) = (In m c).z b l k 0 :=
    fun k => (ArraysStats.blk0 (V1 m ρ) c b (l.val / 512) (ArraysStats.blt l) _ rfl (ArraysStats.inner l) k).trans (by rw [ArraysStats.row_inner]; exact zr m ρ c b l k)
  have r1 : ∀ k, iblk0 (V1 m ρ) c 1 (ArraysStats.pt b (l.val / 512) (ArraysStats.blt l)) (ix3 0 (ArraysStats.inner l) k) = (In m c).z b l k 1 :=
    fun k => (ArraysStats.blk1 (V1 m ρ) c b (l.val / 512) (ArraysStats.blt l) _ rfl (ArraysStats.inner l) k).trans (by rw [ArraysStats.row_inner]; exact zi m ρ c b l k)
  have r2 : ∀ t k, iblk0 (V1 m ρ) c 2 t (ix2 k 0) = (In m c).ar k := fun t k => (ArraysStats.blk2 (V1 m ρ) c t k).trans (arg4_1 m ρ c k)
  have r3 : ∀ t k, iblk0 (V1 m ρ) c 3 t (ix2 k 0) = (In m c).ai k := fun t k => (ArraysStats.blk3 (V1 m ρ) c t k).trans (arg5_1 m ρ c k)
  rw [after0_6, StatsBlock.out6_apply]
  simp only [r0, r1, r2, r3]
  rfl

/-- The mean magnitudes as an array. -/
def avgV : FVec Ideal S4x2048 .f32 := fun i => Flow.avg (In m c) (i 0) (i 1)

/-- The local means of the mean magnitudes. -/
def lm (b : Fin 4) (l : Fin 2048) : EReal := localV (avgV m c) (ix2 b l)

theorem lm_at (b : Fin 4) (l : Fin 2048) : W3 m ρ c main_call0_v53 (ix3 b l 0) = lm m c b l := by
  refine (lm_apply m ρ c b l).trans (congrFun (congrArg localV (funext fun i => ?_)) _)
  rw [← ix2_eta i]
  refine Eq.trans ?_ (am m ρ c (i 0) (i 1))
  pointwise

/-- The saliences of a batch entry. -/
def sl (b : Fin 4) : Fin 2048 → EReal := Flow.sal (In m c) (lm m c) b

/-! ## The second call -/

theorem salR_eq (b : Fin 4) : SegmentBlock.salR (iblk1 (V3 m ρ) c 0 (ArraysSegment.pt b)) (iblk1 (V3 m ρ) c 1 (ArraysSegment.pt b))
    (iblk1 (V3 m ρ) c 2 (ArraysSegment.pt b)) (iblk1 (V3 m ρ) c 3 (ArraysSegment.pt b)) (iblk1 (V3 m ρ) c 4 (ArraysSegment.pt b)) = sl m c b := by
  funext l
  have r0 : iblk1 (V3 m ρ) c 0 (ArraysSegment.pt b) (ix3 0 l 0) = Flow.score (In m c) b l :=
    (ArraysSegment.blk0 (V3 m ρ) c b _ rfl l).trans ((congrFun (v16_0_3 m ρ c) _).trans (ps m ρ c b l))
  have r1 : iblk1 (V3 m ρ) c 1 (ArraysSegment.pt b) (ix3 0 l 0) = Flow.avg (In m c) b l :=
    (ArraysSegment.blk1 (V3 m ρ) c b _ rfl l).trans ((congrFun (v16_1_3 m ρ c) _).trans (am m ρ c b l))
  have r2 : iblk1 (V3 m ρ) c 2 (ArraysSegment.pt b) (ix3 0 l 0) = lm m c b l :=
    (ArraysSegment.blk2 (V3 m ρ) c b _ rfl l).trans (lm_at m ρ c b l)
  have r3 : iblk1 (V3 m ρ) c 3 (ArraysSegment.pt b) (ix2 0 0) = (In m c).bias :=
    (ArraysSegment.blk3 (V3 m ρ) c _).trans ((congrFun (v14_3 m ρ c) _).trans (bias m ρ c))
  have r4 : iblk1 (V3 m ρ) c 4 (ArraysSegment.pt b) (ix2 0 0) = (In m c).nov :=
    (ArraysSegment.blk4 (V3 m ρ) c _).trans ((congrFun (v15_3 m ρ c) _).trans (nov m ρ c))
  unfold SegmentBlock.salR
  rw [r0, r1, r2, r3, r4]
  rfl

theorem salience (b : Fin 4) (l : Fin 2048) : W4 m ρ c main_call0_v54_0 (ix3 b 0 l) = sl m c b l := by
  refine (congrFun (W4_arr m ρ c 5) _).trans ((ArraysSegment.fin5 (V3 m ρ) c b l).trans ?_)
  rw [after1_5, SegmentBlock.out5_apply, salR_eq]

theorem segm (b : Fin 4) (l : Fin 2048) : W4 m ρ c main_call0_v54_1 (ix3 b 0 l) = Flow.int (Flow.seg (sl m c b) l) := by
  refine (congrFun (W4_arr m ρ c 6) _).trans ((ArraysSegment.fin6 (V3 m ρ) c b l).trans ?_)
  rw [after1_6, SegmentBlock.out6_apply, salR_eq]

theorem wgt (b : Fin 4) (l : Fin 2048) : W4 m ρ c main_call0_v54_2 (ix3 b 0 l) = Flow.wt (sl m c b) l := by
  refine (congrFun (W4_arr m ρ c 7) _).trans ((ArraysSegment.fin7 (V3 m ρ) c b l).trans ?_)
  rw [after1_7, SegmentBlock.out7_apply, salR_eq]

/-! ## The third call -/

theorem reads (b : Fin 4) : PoolBlock.Reads (V4 m ρ) c b (sl m c b) (fun l k => (In m c).z b l k 0) (fun l k => (In m c).z b l k 1) := by
  have hp : ∀ j, j < 4 → (pt2 (4 * b.val + j)).val = 4 * b.val + j := fun j hj => by
    show (4 * b.val + j) % 16 = _
    have := b.isLt
    omega
  exact {
    r0 := fun j hj l k => (ArraysPool.blk0 (V4 m ρ) c b j hj _ (hp j hj) l k).trans ((congrFun (v1_4 m ρ c) _).trans (zr m ρ c b _ k))
    r1 := fun j hj l k => (ArraysPool.blk1 (V4 m ρ) c b j hj _ (hp j hj) l k).trans ((congrFun (v3_4 m ρ c) _).trans (zi m ρ c b _ k))
    r2 := fun j hj l => (ArraysPool.blk2 (V4 m ρ) c b j hj _ (hp j hj) l).trans (segm m ρ c b _)
    r3 := fun j hj l => (ArraysPool.blk3 (V4 m ρ) c b j hj _ (hp j hj) l).trans (wgt m ρ c b _) }

theorem evr (b : Fin 4) (e : Fin 32) (k : Fin 768) : W5 m ρ c main_call0_v55_0 (ix3 b e k) = Flow.event (In m c) (lm m c) b e k 0 := by
  refine (congrFun (W5_arr m ρ c 4) _).trans ((ArraysPool.fin4 (V4 m ρ) c b e k).trans ?_)
  rw [after2_4, PoolBlock.res4_apply]
  have h0 := PoolBlock.acc0_apply (reads m ρ c b) (Flow.slot e) k
  have h1 := PoolBlock.acc2_den (reads m ρ c b) (Flow.slot e)
  exact congrArg₂ (fun x y => Ideal.div x (max y Flow.eps)) h0 h1

theorem evi (b : Fin 4) (e : Fin 32) (k : Fin 768) : W5 m ρ c main_call0_v55_1 (ix3 b e k) = Flow.event (In m c) (lm m c) b e k 1 := by
  refine (congrFun (W5_arr m ρ c 5) _).trans ((ArraysPool.fin5 (V4 m ρ) c b e k).trans ?_)
  rw [after2_5, PoolBlock.res5_apply]
  have h0 := PoolBlock.acc1_apply (reads m ρ c b) (Flow.slot e) k
  have h1 := PoolBlock.acc2_den (reads m ρ c b) (Flow.slot e)
  exact congrArg₂ (fun x y => Ideal.div x (max y Flow.eps)) h0 h1

theorem evm (b : Fin 4) (e : Fin 32) : W5 m ρ c main_call0_v55_2 (ix3 b e 0) = Flow.emask (In m c) (lm m c) b e := by
  refine (congrFun (W5_arr m ρ c 6) _).trans ((ArraysPool.fin6 (V4 m ρ) c b e).trans ?_)
  rw [after2_6, PoolBlock.res6_apply]
  have h1 := PoolBlock.acc2_cnt (reads m ρ c b) (Flow.slot e)
  unfold Flow.emask
  by_cases h : 0 < Flow.cnt (sl m c b) (Flow.slot e)
  · exact (if_pos (lt_of_lt_of_eq h h1.symm)).trans (if_pos h).symm
  · exact (if_neg fun q => h (lt_of_lt_of_eq q h1)).trans (if_neg h).symm

/-! ## The fourth call -/

theorem nkr (b : Fin 4) (e : Fin 32) (d : Fin 768) : W6 m ρ c main_call0_v56_0 (ix3 b e d) = Flow.nk (In m c) (lm m c) b e d 0 := by
  refine (congrFun (W6_arr m ρ c 12) _).trans ((ArraysProject.fin12 (V5 m ρ) c b e d).trans ?_)
  have r0 : ∀ k, iblk3 (V5 m ρ) c 0 (ArraysProject.pt b) (ix3 0 e k) = Flow.event (In m c) (lm m c) b e k 0 :=
    fun k => (ArraysProject.blk0 (V5 m ρ) c b _ rfl e k).trans (evr m ρ c b e k)
  have r1 : ∀ k, iblk3 (V5 m ρ) c 1 (ArraysProject.pt b) (ix3 0 e k) = Flow.event (In m c) (lm m c) b e k 1 :=
    fun k => (ArraysProject.blk1 (V5 m ρ) c b _ rfl e k).trans (evi m ρ c b e k)
  have r2 : iblk3 (V5 m ρ) c 2 (ArraysProject.pt b) (ix3 0 e 0) = Flow.emask (In m c) (lm m c) b e :=
    (ArraysProject.blk2 (V5 m ρ) c b _ rfl e).trans (evm m ρ c b e)
  have r3 : iblk3 (V5 m ρ) c 3 (ArraysProject.pt b) (ix3 0 e d) = (In m c).sk b e d 0 :=
    (ArraysProject.blk3 (V5 m ρ) c b _ rfl e d).trans ((congrFun (v5_5 m ρ c) _).trans (skr m ρ c b e d))
  have r4 : ∀ t k, iblk3 (V5 m ρ) c 8 t (ix2 k d) = (In m c).kr k d := fun t k => (ArraysProject.blk8 (V5 m ρ) c t k d).trans (arg8_5 m ρ c k d)
  have r5 : ∀ t k, iblk3 (V5 m ρ) c 9 t (ix2 k d) = (In m c).ki k d := fun t k => (ArraysProject.blk9 (V5 m ρ) c t k d).trans (arg9_5 m ρ c k d)
  rw [after3_12, ProjectBlock.out12_apply]
  simp only [r0, r1, r2, r3, r4, r5]
  rfl

theorem nki (b : Fin 4) (e : Fin 32) (d : Fin 768) : W6 m ρ c main_call0_v56_1 (ix3 b e d) = Flow.nk (In m c) (lm m c) b e d 1 := by
  refine (congrFun (W6_arr m ρ c 13) _).trans ((ArraysProject.fin13 (V5 m ρ) c b e d).trans ?_)
  have r0 : ∀ k, iblk3 (V5 m ρ) c 0 (ArraysProject.pt b) (ix3 0 e k) = Flow.event (In m c) (lm m c) b e k 0 :=
    fun k => (ArraysProject.blk0 (V5 m ρ) c b _ rfl e k).trans (evr m ρ c b e k)
  have r1 : ∀ k, iblk3 (V5 m ρ) c 1 (ArraysProject.pt b) (ix3 0 e k) = Flow.event (In m c) (lm m c) b e k 1 :=
    fun k => (ArraysProject.blk1 (V5 m ρ) c b _ rfl e k).trans (evi m ρ c b e k)
  have r2 : iblk3 (V5 m ρ) c 2 (ArraysProject.pt b) (ix3 0 e 0) = Flow.emask (In m c) (lm m c) b e :=
    (ArraysProject.blk2 (V5 m ρ) c b _ rfl e).trans (evm m ρ c b e)
  have r3 : iblk3 (V5 m ρ) c 4 (ArraysProject.pt b) (ix3 0 e d) = (In m c).sk b e d 1 :=
    (ArraysProject.blk4 (V5 m ρ) c b _ rfl e d).trans ((congrFun (v7_5 m ρ c) _).trans (ski m ρ c b e d))
  have r4 : ∀ t k, iblk3 (V5 m ρ) c 8 t (ix2 k d) = (In m c).kr k d := fun t k => (ArraysProject.blk8 (V5 m ρ) c t k d).trans (arg8_5 m ρ c k d)
  have r5 : ∀ t k, iblk3 (V5 m ρ) c 9 t (ix2 k d) = (In m c).ki k d := fun t k => (ArraysProject.blk9 (V5 m ρ) c t k d).trans (arg9_5 m ρ c k d)
  rw [after3_13, ProjectBlock.out13_apply]
  simp only [r0, r1, r2, r3, r4, r5]
  rfl

theorem nvr (b : Fin 4) (e : Fin 32) (d : Fin 768) : W6 m ρ c main_call0_v56_2 (ix3 b e d) = Flow.nv (In m c) (lm m c) b e d 0 := by
  refine (congrFun (W6_arr m ρ c 14) _).trans ((ArraysProject.fin14 (V5 m ρ) c b e d).trans ?_)
  have r0 : ∀ k, iblk3 (V5 m ρ) c 0 (ArraysProject.pt b) (ix3 0 e k) = Flow.event (In m c) (lm m c) b e k 0 :=
    fun k => (ArraysProject.blk0 (V5 m ρ) c b _ rfl e k).trans (evr m ρ c b e k)
  have r1 : ∀ k, iblk3 (V5 m ρ) c 1 (ArraysProject.pt b) (ix3 0 e k) = Flow.event (In m c) (lm m c) b e k 1 :=
    fun k => (ArraysProject.blk1 (V5 m ρ) c b _ rfl e k).trans (evi m ρ c b e k)
  have r2 : iblk3 (V5 m ρ) c 2 (ArraysProject.pt b) (ix3 0 e 0) = Flow.emask (In m c) (lm m c) b e :=
    (ArraysProject.blk2 (V5 m ρ) c b _ rfl e).trans (evm m ρ c b e)
  have r3 : iblk3 (V5 m ρ) c 5 (ArraysProject.pt b) (ix3 0 e d) = (In m c).sv b e d 0 :=
    (ArraysProject.blk5 (V5 m ρ) c b _ rfl e d).trans ((congrFun (v9_5 m ρ c) _).trans (svr m ρ c b e d))
  have r4 : ∀ t k, iblk3 (V5 m ρ) c 10 t (ix2 k d) = (In m c).vr k d := fun t k => (ArraysProject.blk10 (V5 m ρ) c t k d).trans (arg10_5 m ρ c k d)
  have r5 : ∀ t k, iblk3 (V5 m ρ) c 11 t (ix2 k d) = (In m c).vi k d := fun t k => (ArraysProject.blk11 (V5 m ρ) c t k d).trans (arg11_5 m ρ c k d)
  rw [after3_14, ProjectBlock.out14_apply]
  simp only [r0, r1, r2, r3, r4, r5]
  rfl

theorem nvi (b : Fin 4) (e : Fin 32) (d : Fin 768) : W6 m ρ c main_call0_v56_3 (ix3 b e d) = Flow.nv (In m c) (lm m c) b e d 1 := by
  refine (congrFun (W6_arr m ρ c 15) _).trans ((ArraysProject.fin15 (V5 m ρ) c b e d).trans ?_)
  have r0 : ∀ k, iblk3 (V5 m ρ) c 0 (ArraysProject.pt b) (ix3 0 e k) = Flow.event (In m c) (lm m c) b e k 0 :=
    fun k => (ArraysProject.blk0 (V5 m ρ) c b _ rfl e k).trans (evr m ρ c b e k)
  have r1 : ∀ k, iblk3 (V5 m ρ) c 1 (ArraysProject.pt b) (ix3 0 e k) = Flow.event (In m c) (lm m c) b e k 1 :=
    fun k => (ArraysProject.blk1 (V5 m ρ) c b _ rfl e k).trans (evi m ρ c b e k)
  have r2 : iblk3 (V5 m ρ) c 2 (ArraysProject.pt b) (ix3 0 e 0) = Flow.emask (In m c) (lm m c) b e :=
    (ArraysProject.blk2 (V5 m ρ) c b _ rfl e).trans (evm m ρ c b e)
  have r3 : iblk3 (V5 m ρ) c 6 (ArraysProject.pt b) (ix3 0 e d) = (In m c).sv b e d 1 :=
    (ArraysProject.blk6 (V5 m ρ) c b _ rfl e d).trans ((congrFun (v11_5 m ρ c) _).trans (svi m ρ c b e d))
  have r4 : ∀ t k, iblk3 (V5 m ρ) c 10 t (ix2 k d) = (In m c).vr k d := fun t k => (ArraysProject.blk10 (V5 m ρ) c t k d).trans (arg10_5 m ρ c k d)
  have r5 : ∀ t k, iblk3 (V5 m ρ) c 11 t (ix2 k d) = (In m c).vi k d := fun t k => (ArraysProject.blk11 (V5 m ρ) c t k d).trans (arg11_5 m ρ c k d)
  rw [after3_15, ProjectBlock.out15_apply]
  simp only [r0, r1, r2, r3, r4, r5]
  rfl

theorem nmk (b : Fin 4) (e : Fin 32) : W6 m ρ c main_call0_v56_4 (ix3 b 0 e) = Flow.nm (In m c) (lm m c) b e := by
  refine (congrFun (W6_arr m ρ c 16) _).trans ((ArraysProject.fin16 (V5 m ρ) c b e).trans ?_)
  have r2 : iblk3 (V5 m ρ) c 2 (ArraysProject.pt b) (ix3 0 e 0) = Flow.emask (In m c) (lm m c) b e :=
    (ArraysProject.blk2 (V5 m ρ) c b _ rfl e).trans (evm m ρ c b e)
  have r7 : iblk3 (V5 m ρ) c 7 (ArraysProject.pt b) (ix3 0 0 e) = (In m c).sm b e :=
    (ArraysProject.blk7 (V5 m ρ) c b _ rfl e).trans ((congrFun (v12_5 m ρ c) _).trans (Host.sm m ρ c b e))
  rw [after3_16, ProjectBlock.out16_apply, r2, r7]
  rfl

/-! ## The fifth call -/

theorem rtr (b : Fin 4) (l : Fin 2048) (d : Fin 768) : W7 m ρ c main_call0_v57_0 (ix3 b l d)
    = ∑ s, Rounds.roundW (Flow.scores (In m c) (lm m c) b l) s * Flow.nv (In m c) (lm m c) b s d 0 := by
  refine (congrFun (W7_arr m ρ c 11) _).trans ((ArraysRetrieve.fin11 (V6 m ρ) c b l d).trans ?_)
  have r0 : ∀ k, iblk4 (V6 m ρ) c 0 (ArraysRetrieve.pt b (l.val / 512) (ArraysRetrieve.blt l)) (ix3 0 (ArraysRetrieve.inner l) k) = (In m c).z b l k 0 :=
    fun k => (ArraysRetrieve.blk0 (V6 m ρ) c b (l.val / 512) (ArraysRetrieve.blt l) _ rfl (ArraysRetrieve.inner l) k).trans (by rw [ArraysRetrieve.row_inner]; exact (congrFun (v1_6 m ρ c) _).trans (zr m ρ c b l k))
  have r1 : ∀ k, iblk4 (V6 m ρ) c 1 (ArraysRetrieve.pt b (l.val / 512) (ArraysRetrieve.blt l)) (ix3 0 (ArraysRetrieve.inner l) k) = (In m c).z b l k 1 :=
    fun k => (ArraysRetrieve.blk1 (V6 m ρ) c b (l.val / 512) (ArraysRetrieve.blt l) _ rfl (ArraysRetrieve.inner l) k).trans (by rw [ArraysRetrieve.row_inner]; exact (congrFun (v3_6 m ρ c) _).trans (zi m ρ c b l k))
  have r2 : iblk4 (V6 m ρ) c 2 (ArraysRetrieve.pt b (l.val / 512) (ArraysRetrieve.blt l)) (ix3 0 (ArraysRetrieve.inner l) 0) = Flow.rms (In m c) b l :=
    (ArraysRetrieve.blk2 (V6 m ρ) c b (l.val / 512) (ArraysRetrieve.blt l) _ rfl (ArraysRetrieve.inner l)).trans (by rw [ArraysRetrieve.row_inner]; exact (congrFun (v16_2_6 m ρ c) _).trans (rms m ρ c b l))
  have r3 : ∀ t k, iblk4 (V6 m ρ) c 3 t (ix2 0 k) = (In m c).g k := fun t k => (ArraysRetrieve.blk3 (V6 m ρ) c t k).trans ((congrFun (v13_6 m ρ c) _).trans (gam m ρ c k))
  have r4 : ∀ t k d, iblk4 (V6 m ρ) c 4 t (ix2 k d) = (In m c).qr k d := fun t k d => (ArraysRetrieve.blk4 (V6 m ρ) c t k d).trans (arg12_6 m ρ c k d)
  have r5 : ∀ t k d, iblk4 (V6 m ρ) c 5 t (ix2 k d) = (In m c).qi k d := fun t k d => (ArraysRetrieve.blk5 (V6 m ρ) c t k d).trans (arg13_6 m ρ c k d)
  have r6 : ∀ s d, iblk4 (V6 m ρ) c 6 (ArraysRetrieve.pt b (l.val / 512) (ArraysRetrieve.blt l)) (ix3 0 s d) = Flow.nk (In m c) (lm m c) b s d 0 :=
    fun s d => (ArraysRetrieve.blk6 (V6 m ρ) c b (l.val / 512) (ArraysRetrieve.blt l) _ rfl s d).trans (nkr m ρ c b s d)
  have r7 : ∀ s d, iblk4 (V6 m ρ) c 7 (ArraysRetrieve.pt b (l.val / 512) (ArraysRetrieve.blt l)) (ix3 0 s d) = Flow.nk (In m c) (lm m c) b s d 1 :=
    fun s d => (ArraysRetrieve.blk7 (V6 m ρ) c b (l.val / 512) (ArraysRetrieve.blt l) _ rfl s d).trans (nki m ρ c b s d)
  have r8 : ∀ s d, iblk4 (V6 m ρ) c 8 (ArraysRetrieve.pt b (l.val / 512) (ArraysRetrieve.blt l)) (ix3 0 s d) = Flow.nv (In m c) (lm m c) b s d 0 :=
    fun s d => (ArraysRetrieve.blk8 (V6 m ρ) c b (l.val / 512) (ArraysRetrieve.blt l) _ rfl s d).trans (nvr m ρ c b s d)
  have r10 : ∀ s, iblk4 (V6 m ρ) c 10 (ArraysRetrieve.pt b (l.val / 512) (ArraysRetrieve.blt l)) (ix3 0 0 s) = Flow.nm (In m c) (lm m c) b s :=
    fun s => (ArraysRetrieve.blk10 (V6 m ρ) c b (l.val / 512) (ArraysRetrieve.blt l) _ rfl s).trans (nmk m ρ c b s)
  have hs : RetrieveBlock.blockScores (iblk4 (V6 m ρ) c 0 (ArraysRetrieve.pt b (l.val / 512) (ArraysRetrieve.blt l))) (iblk4 (V6 m ρ) c 1 (ArraysRetrieve.pt b (l.val / 512) (ArraysRetrieve.blt l))) (iblk4 (V6 m ρ) c 2 (ArraysRetrieve.pt b (l.val / 512) (ArraysRetrieve.blt l))) (iblk4 (V6 m ρ) c 3 (ArraysRetrieve.pt b (l.val / 512) (ArraysRetrieve.blt l)))
      (iblk4 (V6 m ρ) c 4 (ArraysRetrieve.pt b (l.val / 512) (ArraysRetrieve.blt l))) (iblk4 (V6 m ρ) c 5 (ArraysRetrieve.pt b (l.val / 512) (ArraysRetrieve.blt l))) (iblk4 (V6 m ρ) c 6 (ArraysRetrieve.pt b (l.val / 512) (ArraysRetrieve.blt l))) (iblk4 (V6 m ρ) c 7 (ArraysRetrieve.pt b (l.val / 512) (ArraysRetrieve.blt l))) (iblk4 (V6 m ρ) c 10 (ArraysRetrieve.pt b (l.val / 512) (ArraysRetrieve.blt l))) (ArraysRetrieve.inner l)
      = Flow.scores (In m c) (lm m c) b l := by
    unfold RetrieveBlock.blockScores Flow.scores
    simp only [r0, r1, r2, r3, r4, r5, r6, r7, r10]
  rw [after4_11, RetrieveBlock.out11_apply _ _ _ _ _ _ _ _ _ _ _ _ _ (by rw [r2]; exact Flow.rms_ne _ _ _), hs]
  simp only [r8]

theorem rti (b : Fin 4) (l : Fin 2048) (d : Fin 768) : W7 m ρ c main_call0_v57_1 (ix3 b l d)
    = ∑ s, Rounds.roundW (Flow.scores (In m c) (lm m c) b l) s * Flow.nv (In m c) (lm m c) b s d 1 := by
  refine (congrFun (W7_arr m ρ c 12) _).trans ((ArraysRetrieve.fin12 (V6 m ρ) c b l d).trans ?_)
  have r0 : ∀ k, iblk4 (V6 m ρ) c 0 (ArraysRetrieve.pt b (l.val / 512) (ArraysRetrieve.blt l)) (ix3 0 (ArraysRetrieve.inner l) k) = (In m c).z b l k 0 :=
    fun k => (ArraysRetrieve.blk0 (V6 m ρ) c b (l.val / 512) (ArraysRetrieve.blt l) _ rfl (ArraysRetrieve.inner l) k).trans (by rw [ArraysRetrieve.row_inner]; exact (congrFun (v1_6 m ρ c) _).trans (zr m ρ c b l k))
  have r1 : ∀ k, iblk4 (V6 m ρ) c 1 (ArraysRetrieve.pt b (l.val / 512) (ArraysRetrieve.blt l)) (ix3 0 (ArraysRetrieve.inner l) k) = (In m c).z b l k 1 :=
    fun k => (ArraysRetrieve.blk1 (V6 m ρ) c b (l.val / 512) (ArraysRetrieve.blt l) _ rfl (ArraysRetrieve.inner l) k).trans (by rw [ArraysRetrieve.row_inner]; exact (congrFun (v3_6 m ρ c) _).trans (zi m ρ c b l k))
  have r2 : iblk4 (V6 m ρ) c 2 (ArraysRetrieve.pt b (l.val / 512) (ArraysRetrieve.blt l)) (ix3 0 (ArraysRetrieve.inner l) 0) = Flow.rms (In m c) b l :=
    (ArraysRetrieve.blk2 (V6 m ρ) c b (l.val / 512) (ArraysRetrieve.blt l) _ rfl (ArraysRetrieve.inner l)).trans (by rw [ArraysRetrieve.row_inner]; exact (congrFun (v16_2_6 m ρ c) _).trans (rms m ρ c b l))
  have r3 : ∀ t k, iblk4 (V6 m ρ) c 3 t (ix2 0 k) = (In m c).g k := fun t k => (ArraysRetrieve.blk3 (V6 m ρ) c t k).trans ((congrFun (v13_6 m ρ c) _).trans (gam m ρ c k))
  have r4 : ∀ t k d, iblk4 (V6 m ρ) c 4 t (ix2 k d) = (In m c).qr k d := fun t k d => (ArraysRetrieve.blk4 (V6 m ρ) c t k d).trans (arg12_6 m ρ c k d)
  have r5 : ∀ t k d, iblk4 (V6 m ρ) c 5 t (ix2 k d) = (In m c).qi k d := fun t k d => (ArraysRetrieve.blk5 (V6 m ρ) c t k d).trans (arg13_6 m ρ c k d)
  have r6 : ∀ s d, iblk4 (V6 m ρ) c 6 (ArraysRetrieve.pt b (l.val / 512) (ArraysRetrieve.blt l)) (ix3 0 s d) = Flow.nk (In m c) (lm m c) b s d 0 :=
    fun s d => (ArraysRetrieve.blk6 (V6 m ρ) c b (l.val / 512) (ArraysRetrieve.blt l) _ rfl s d).trans (nkr m ρ c b s d)
  have r7 : ∀ s d, iblk4 (V6 m ρ) c 7 (ArraysRetrieve.pt b (l.val / 512) (ArraysRetrieve.blt l)) (ix3 0 s d) = Flow.nk (In m c) (lm m c) b s d 1 :=
    fun s d => (ArraysRetrieve.blk7 (V6 m ρ) c b (l.val / 512) (ArraysRetrieve.blt l) _ rfl s d).trans (nki m ρ c b s d)
  have r8 : ∀ s d, iblk4 (V6 m ρ) c 9 (ArraysRetrieve.pt b (l.val / 512) (ArraysRetrieve.blt l)) (ix3 0 s d) = Flow.nv (In m c) (lm m c) b s d 1 :=
    fun s d => (ArraysRetrieve.blk9 (V6 m ρ) c b (l.val / 512) (ArraysRetrieve.blt l) _ rfl s d).trans (nvi m ρ c b s d)
  have r10 : ∀ s, iblk4 (V6 m ρ) c 10 (ArraysRetrieve.pt b (l.val / 512) (ArraysRetrieve.blt l)) (ix3 0 0 s) = Flow.nm (In m c) (lm m c) b s :=
    fun s => (ArraysRetrieve.blk10 (V6 m ρ) c b (l.val / 512) (ArraysRetrieve.blt l) _ rfl s).trans (nmk m ρ c b s)
  have hs : RetrieveBlock.blockScores (iblk4 (V6 m ρ) c 0 (ArraysRetrieve.pt b (l.val / 512) (ArraysRetrieve.blt l))) (iblk4 (V6 m ρ) c 1 (ArraysRetrieve.pt b (l.val / 512) (ArraysRetrieve.blt l))) (iblk4 (V6 m ρ) c 2 (ArraysRetrieve.pt b (l.val / 512) (ArraysRetrieve.blt l))) (iblk4 (V6 m ρ) c 3 (ArraysRetrieve.pt b (l.val / 512) (ArraysRetrieve.blt l)))
      (iblk4 (V6 m ρ) c 4 (ArraysRetrieve.pt b (l.val / 512) (ArraysRetrieve.blt l))) (iblk4 (V6 m ρ) c 5 (ArraysRetrieve.pt b (l.val / 512) (ArraysRetrieve.blt l))) (iblk4 (V6 m ρ) c 6 (ArraysRetrieve.pt b (l.val / 512) (ArraysRetrieve.blt l))) (iblk4 (V6 m ρ) c 7 (ArraysRetrieve.pt b (l.val / 512) (ArraysRetrieve.blt l))) (iblk4 (V6 m ρ) c 10 (ArraysRetrieve.pt b (l.val / 512) (ArraysRetrieve.blt l))) (ArraysRetrieve.inner l)
      = Flow.scores (In m c) (lm m c) b l := by
    unfold RetrieveBlock.blockScores Flow.scores
    simp only [r0, r1, r2, r3, r4, r5, r6, r7, r10]
  rw [after4_12, RetrieveBlock.out12_apply _ _ _ _ _ _ _ _ _ _ _ _ _ (by rw [r2]; exact Flow.rms_ne _ _ _), hs]
  simp only [r8]

/-! ## The five results -/

theorem two (p : Fin 2) : p = 0 ∨ p = 1 := by omega

theorem result0 (b : Fin 4) (l : Fin 2048) (d : Fin 768) (p : Fin 2) : W8 m ρ c main_v0_0 (ix4 b l d p)
    = ∑ s, Rounds.roundW (Flow.scores (In m c) (lm m c) b l) s * Flow.nv (In m c) (lm m c) b s d p := by
  rcases two p with rfl | rfl
  · exact (ret_0 m ρ c b l d).trans (rtr m ρ c b l d)
  · exact (ret_1 m ρ c b l d).trans (rti m ρ c b l d)

theorem result1 (b : Fin 4) (e : Fin 32) (d : Fin 768) (p : Fin 2) : W8 m ρ c main_v0_1 (ix4 b e d p) = Flow.nk (In m c) (lm m c) b e d p := by
  rcases two p with rfl | rfl
  · exact (keys_0 m ρ c b e d).trans ((congrFun (v56_0_7 m ρ c) _).trans (nkr m ρ c b e d))
  · exact (keys_1 m ρ c b e d).trans ((congrFun (v56_1_7 m ρ c) _).trans (nki m ρ c b e d))

theorem result2 (b : Fin 4) (e : Fin 32) (d : Fin 768) (p : Fin 2) : W8 m ρ c main_v0_2 (ix4 b e d p) = Flow.nv (In m c) (lm m c) b e d p := by
  rcases two p with rfl | rfl
  · exact (vals_0 m ρ c b e d).trans ((congrFun (v56_2_7 m ρ c) _).trans (nvr m ρ c b e d))
  · exact (vals_1 m ρ c b e d).trans ((congrFun (v56_3_7 m ρ c) _).trans (nvi m ρ c b e d))

theorem result3 (b : Fin 4) (e : Fin 32) : W8 m ρ c main_v0_3 (ix2 b e) = Flow.nm (In m c) (lm m c) b e :=
  (mask m ρ c b e).trans ((congrFun (v56_4_7 m ρ c) _).trans (nmk m ρ c b e))

theorem result4 (b : Fin 4) (l : Fin 2048) : W8 m ρ c main_v0_4 (ix2 b l) = Flow.sal (In m c) (lm m c) b l :=
  (Host.sal m ρ c b l).trans ((congrFun (v54_0_7 m ρ c) _).trans (salience m ρ c b l))

end Cert.KernelIdeal.Chain

end
-- ==== Proof.RefSegments.lean ====
/- The reference's segments of one row of saliences: where they start, how they are numbered, and the sums over them. -/
module

public import proofs.«01_k».proof.Proof.Flow
public import proofs.«01_k».proof.Proof.Gen.ReferenceIdeal
public import Idealize.ShloMosaic.Lib.Pointwise
public import Idealize.ShloMosaic.Lib.IdealHost
public import Idealize.ShloMosaic.Lib.Routing.Ops

@[expose] public section

set_option maxRecDepth 16384

noncomputable section

namespace Cert.ReferenceIdeal.Segments

open Cert.ReferenceIdeal Cert.ReferenceIdeal.Gen Idealize.ShloMosaic
open Classical

/-! ## Scattered sums -/

theorem start0 (idx : IVec S2048x1 32) (j : S2048x768x2.Idx) :
    scatter_S33x768x2_S2048x1_S2048x768x2_12_0_0_1.start j idx 0 = (idx (ix2 (j 0) 0)).toInt := by
  unfold ScatterDims.start
  rw [dif_pos (show (0 : Fin 3) ∈ scatter_S33x768x2_S2048x1_S2048x768x2_12_0_0_1.scatterDimsToOperandDims from by decide)]
  refine congrArg (fun i => (idx i).toInt) (funext fun a => ?_)
  match a with
  | ⟨0, _⟩ => rfl
  | ⟨1, _⟩ => rfl

theorem start1 (idx : IVec S2048x1 32) (j : S2048x768x2.Idx) : scatter_S33x768x2_S2048x1_S2048x768x2_12_0_0_1.start j idx 1 = 0 := rfl
theorem start2 (idx : IVec S2048x1 32) (j : S2048x768x2.Idx) : scatter_S33x768x2_S2048x1_S2048x768x2_12_0_0_1.start j idx 2 = 0 := rfl
theorem window0 (j : S2048x768x2.Idx) : scatter_S33x768x2_S2048x1_S2048x768x2_12_0_0_1.window j 0 = 0 := rfl
theorem window1 (j : S2048x768x2.Idx) : scatter_S33x768x2_S2048x1_S2048x768x2_12_0_0_1.window j 1 = (j 1).val := rfl
theorem window2 (j : S2048x768x2.Idx) : scatter_S33x768x2_S2048x1_S2048x768x2_12_0_0_1.window j 2 = (j 2).val := rfl

/-- Where an entry of the updates lands. -/
theorem land3 (idx : IVec S2048x1 32) (j : S2048x768x2.Idx) (e : Fin 33) (k : Fin 768) (p : Fin 2) :
    scatter_S33x768x2_S2048x1_S2048x768x2_12_0_0_1.resultIdx? j idx = some (ix3 e k p)
      ↔ (idx (ix2 (j 0) 0)).toInt = e.val ∧ j 1 = k ∧ j 2 = p := by
  have h0 := start0 idx j
  have h1 := start1 idx j
  have h2 := start2 idx j
  have w0 := window0 j
  have w1 := window1 j
  have w2 := window2 j
  have l1 : (j 1).val < 768 := (j 1).isLt
  have l2 : (j 2).val < 2 := (j 2).isLt
  have le := e.isLt
  unfold ScatterDims.resultIdx?
  constructor
  · intro h
    split at h
    · next hb =>
      have hh := Option.some.inj h
      have b0 := hb 0
      have e0 : (scatter_S33x768x2_S2048x1_S2048x768x2_12_0_0_1.start j idx 0 + scatter_S33x768x2_S2048x1_S2048x768x2_12_0_0_1.window j 0).toNat = e.val :=
        congrArg Fin.val (congrFun hh 0)
      have e1 : (scatter_S33x768x2_S2048x1_S2048x768x2_12_0_0_1.start j idx 1 + scatter_S33x768x2_S2048x1_S2048x768x2_12_0_0_1.window j 1).toNat = k.val :=
        congrArg Fin.val (congrFun hh 1)
      have e2 : (scatter_S33x768x2_S2048x1_S2048x768x2_12_0_0_1.start j idx 2 + scatter_S33x768x2_S2048x1_S2048x768x2_12_0_0_1.window j 2).toNat = p.val :=
        congrArg Fin.val (congrFun hh 2)
      rw [h0, w0] at e0 b0
      rw [h1, w1] at e1
      rw [h2, w2] at e2
      exact ⟨by omega, Fin.ext (by omega), Fin.ext (by omega)⟩
    · exact absurd h (by simp)
  · rintro ⟨e0, e1, e2⟩
    have hb : ∀ a, 0 ≤ scatter_S33x768x2_S2048x1_S2048x768x2_12_0_0_1.start j idx a + scatter_S33x768x2_S2048x1_S2048x768x2_12_0_0_1.window j a
        ∧ scatter_S33x768x2_S2048x1_S2048x768x2_12_0_0_1.start j idx a + scatter_S33x768x2_S2048x1_S2048x768x2_12_0_0_1.window j a < S33x768x2.size a := by
      intro a
      match a with
      | ⟨0, _⟩ =>
        refine And.intro ?_ ?_
        · show 0 ≤ scatter_S33x768x2_S2048x1_S2048x768x2_12_0_0_1.start j idx 0 + scatter_S33x768x2_S2048x1_S2048x768x2_12_0_0_1.window j 0
          rw [h0, w0]; omega
        · show scatter_S33x768x2_S2048x1_S2048x768x2_12_0_0_1.start j idx 0 + scatter_S33x768x2_S2048x1_S2048x768x2_12_0_0_1.window j 0 < 33
          rw [h0, w0]; omega
      | ⟨1, _⟩ =>
        refine And.intro ?_ ?_
        · show 0 ≤ scatter_S33x768x2_S2048x1_S2048x768x2_12_0_0_1.start j idx 1 + scatter_S33x768x2_S2048x1_S2048x768x2_12_0_0_1.window j 1
          rw [h1, w1]; omega
        · show scatter_S33x768x2_S2048x1_S2048x768x2_12_0_0_1.start j idx 1 + scatter_S33x768x2_S2048x1_S2048x768x2_12_0_0_1.window j 1 < 768
          rw [h1, w1]; omega
      | ⟨2, _⟩ =>
        refine And.intro ?_ ?_
        · show 0 ≤ scatter_S33x768x2_S2048x1_S2048x768x2_12_0_0_1.start j idx 2 + scatter_S33x768x2_S2048x1_S2048x768x2_12_0_0_1.window j 2
          rw [h2, w2]; omega
        · show scatter_S33x768x2_S2048x1_S2048x768x2_12_0_0_1.start j idx 2 + scatter_S33x768x2_S2048x1_S2048x768x2_12_0_0_1.window j 2 < 2
          rw [h2, w2]; omega
    rw [dif_pos hb]
    refine congrArg some (funext fun a => Fin.ext ?_)
    have e1' := congrArg Fin.val e1
    have e2' := congrArg Fin.val e2
    match a with
    | ⟨0, _⟩ =>
      show (scatter_S33x768x2_S2048x1_S2048x768x2_12_0_0_1.start j idx 0 + scatter_S33x768x2_S2048x1_S2048x768x2_12_0_0_1.window j 0).toNat = e.val
      rw [h0, w0]; omega
    | ⟨1, _⟩ =>
      show (scatter_S33x768x2_S2048x1_S2048x768x2_12_0_0_1.start j idx 1 + scatter_S33x768x2_S2048x1_S2048x768x2_12_0_0_1.window j 1).toNat = k.val
      rw [h1, w1]; omega
    | ⟨2, _⟩ =>
      show (scatter_S33x768x2_S2048x1_S2048x768x2_12_0_0_1.start j idx 2 + scatter_S33x768x2_S2048x1_S2048x768x2_12_0_0_1.window j 2).toNat = p.val
      rw [h2, w2]; omega

theorem scatter3 (x : FVec Ideal S33x768x2 .f32) (idx : IVec S2048x1 32) (u : FVec Ideal S2048x768x2 .f32) (e : Fin 33) (k : Fin 768) (p : Fin 2) :
    Host.scatterAdd scatter_S33x768x2_S2048x1_S2048x768x2_12_0_0_1 x idx u (ix3 e k p)
      = x (ix3 e k p) + ∑ l : Fin 2048, if (idx (ix2 l 0)).toInt = e.val then u (ix3 l k p) else 0 := by
  show x (ix3 e k p) + (∑ j ∈ Finset.univ.filter (fun j => scatter_S33x768x2_S2048x1_S2048x768x2_12_0_0_1.resultIdx? j idx = some (ix3 e k p)), u j) = _
  refine congrArg (x (ix3 e k p) + ·) ?_
  rw [← Finset.sum_filter]
  refine Finset.sum_nbij' (fun j => j 0) (fun l => ix3 l k p) ?_ ?_ ?_ ?_ ?_
  · intro j hj
    exact Finset.mem_filter.mpr ⟨Finset.mem_univ _, ((land3 idx j e k p).mp (Finset.mem_filter.mp hj).2).1⟩
  · intro l hl
    exact Finset.mem_filter.mpr ⟨Finset.mem_univ _, (land3 idx (ix3 l k p) e k p).mpr ⟨(Finset.mem_filter.mp hl).2, rfl, rfl⟩⟩
  · intro j hj
    obtain ⟨_, h1, h2⟩ := (land3 idx j e k p).mp (Finset.mem_filter.mp hj).2
    funext a
    match a with
    | ⟨0, _⟩ => rfl
    | ⟨1, _⟩ => exact h1.symm
    | ⟨2, _⟩ => exact h2.symm
  · intro l hl
    rfl
  · intro j hj
    obtain ⟨_, h1, h2⟩ := (land3 idx j e k p).mp (Finset.mem_filter.mp hj).2
    refine congrArg u (funext fun a => ?_)
    match a with
    | ⟨0, _⟩ => rfl
    | ⟨1, _⟩ => exact h1
    | ⟨2, _⟩ => exact h2

theorem start' (idx : IVec S2048x1 32) (j : S2048.Idx) :
    scatter_S33_S2048x1_S2048_n_0_0_1.start j idx 0 = (idx (ix2 (j 0) 0)).toInt := by
  unfold ScatterDims.start
  rw [dif_pos (show (0 : Fin 1) ∈ scatter_S33_S2048x1_S2048_n_0_0_1.scatterDimsToOperandDims from by decide)]
  refine congrArg (fun i => (idx i).toInt) (funext fun a => ?_)
  match a with
  | ⟨0, _⟩ => rfl
  | ⟨1, _⟩ => rfl

theorem window' (j : S2048.Idx) : scatter_S33_S2048x1_S2048_n_0_0_1.window j 0 = 0 := rfl

theorem land1 (idx : IVec S2048x1 32) (j : S2048.Idx) (e : Fin 33) :
    scatter_S33_S2048x1_S2048_n_0_0_1.resultIdx? j idx = some (ix1 e) ↔ (idx (ix2 (j 0) 0)).toInt = e.val := by
  have h0 := start' idx j
  have w0 := window' j
  have le := e.isLt
  unfold ScatterDims.resultIdx?
  constructor
  · intro h
    split at h
    · next hb =>
      have hh := Option.some.inj h
      have b0 := hb 0
      have e0 : (scatter_S33_S2048x1_S2048_n_0_0_1.start j idx 0 + scatter_S33_S2048x1_S2048_n_0_0_1.window j 0).toNat = e.val :=
        congrArg Fin.val (congrFun hh 0)
      rw [h0, w0] at e0 b0
      omega
    · exact absurd h (by simp)
  · intro e0
    have hb : ∀ a, 0 ≤ scatter_S33_S2048x1_S2048_n_0_0_1.start j idx a + scatter_S33_S2048x1_S2048_n_0_0_1.window j a
        ∧ scatter_S33_S2048x1_S2048_n_0_0_1.start j idx a + scatter_S33_S2048x1_S2048_n_0_0_1.window j a < S33.size a := by
      intro a
      match a with
      | ⟨0, _⟩ =>
        refine And.intro ?_ ?_
        · show 0 ≤ scatter_S33_S2048x1_S2048_n_0_0_1.start j idx 0 + scatter_S33_S2048x1_S2048_n_0_0_1.window j 0
          rw [h0, w0]; omega
        · show scatter_S33_S2048x1_S2048_n_0_0_1.start j idx 0 + scatter_S33_S2048x1_S2048_n_0_0_1.window j 0 < 33
          rw [h0, w0]; omega
    rw [dif_pos hb]
    refine congrArg some (funext fun a => Fin.ext ?_)
    match a with
    | ⟨0, _⟩ =>
      show (scatter_S33_S2048x1_S2048_n_0_0_1.start j idx 0 + scatter_S33_S2048x1_S2048_n_0_0_1.window j 0).toNat = e.val
      rw [h0, w0]; omega

theorem scatter1 (x : FVec Ideal S33 .f32) (idx : IVec S2048x1 32) (u : FVec Ideal S2048 .f32) (e : Fin 33) :
    Host.scatterAdd scatter_S33_S2048x1_S2048_n_0_0_1 x idx u (ix1 e)
      = x (ix1 e) + ∑ l : Fin 2048, if (idx (ix2 l 0)).toInt = e.val then u (ix1 l) else 0 := by
  show x (ix1 e) + (∑ j ∈ Finset.univ.filter (fun j => scatter_S33_S2048x1_S2048_n_0_0_1.resultIdx? j idx = some (ix1 e)), u j) = _
  refine congrArg (x (ix1 e) + ·) ?_
  rw [← Finset.sum_filter]
  refine Finset.sum_nbij' (fun j => j 0) (fun l => ix1 l) ?_ ?_ ?_ ?_ ?_
  · intro j hj
    exact Finset.mem_filter.mpr ⟨Finset.mem_univ _, (land1 idx j e).mp (Finset.mem_filter.mp hj).2⟩
  · intro l hl
    exact Finset.mem_filter.mpr ⟨Finset.mem_univ _, (land1 idx (ix1 l) e).mpr (Finset.mem_filter.mp hl).2⟩
  · intro j hj
    funext a
    match a with
    | ⟨0, _⟩ => rfl
  · intro l hl
    rfl
  · intro j hj
    refine congrArg u (funext fun a => ?_)
    match a with
    | ⟨0, _⟩ => rfl

/-! ## One row -/

/-- Whether a salience exceeds one half. -/
def upV (s : FVec Ideal S2048 .f32) : IVec S2048 1 := cmpf .ogt s (broadcastInDim S2048 ![] bcast_S_S2048 (constant S_ .f32 0x3F000000#32))

/-- The same one position later. -/
def prevV (u : IVec S2048 1) : IVec S2048 1 :=
  concatenate S2048 0 [⟨S1, (broadcastInDim S1 ![] bcast_S_S1 (constantI S_ 1 0#1))⟩, ⟨S2047, (extractStridedSlice S2047 ![0] u slices_S2048_S2047_0)⟩] concatenates_S1_S2047_S2048_d0

/-- The number of segments started up to each position. -/
def cumV (u : IVec S2048 1) : IVec S2048 32 :=
  Host.reduceWindow IntOp.addi ![2048] ![1] ![2047] ![0] (extui 32 (andi u (noti (prevV u))) natLt_1_32) (broadcastInDim S_ ![] bcast_S_S_ (constantI S_ 32 0#32)) reduceWindows_S2048_S2048_w2048s1p2047_0 h_S_

/-- The segment of each position. -/
def segV (u : IVec S2048 1) : IVec S2048 32 :=
  select u (minsi (subi (cumV u) (broadcastInDim S2048 ![] bcast_S_S2048 (constantI S_ 32 1#32))) (broadcastInDim S2048 ![] bcast_S_S2048 (constantI S_ 32 32#32)))
    (broadcastInDim S2048 ![] bcast_S_S2048 (id (constantI S_ 32 32#32)))

/-- The weight of each position. -/
def wtV (u : IVec S2048 1) (s : FVec Ideal S2048 .f32) : FVec Ideal S2048 .f32 :=
  select u s (broadcastInDim S2048 ![] bcast_S_S2048 (id (constant S_ .f32 0x00000000#32)))

/-- The pooled events. -/
def evV (g : IVec S2048 32) (w : FVec Ideal S2048 .f32) (x : FVec Ideal S2048x768x2 .f32) : FVec Ideal S32x768x2 .f32 :=
  Host.divf (extractStridedSlice S32x768x2 ![0, 0, 0] (Host.scatterAdd scatter_S33x768x2_S2048x1_S2048x768x2_12_0_0_1 (broadcastInDim S33x768x2 ![] bcast_S_S33x768x2 (constant S_ .f32 0x00000000#32)) (broadcastInDim S2048x1 ![0] bcast_S2048_S2048x1_0 g) (mulf x (broadcastInDim S2048x768x2 ![0, 1, 2] bcast_S2048x1x1_S2048x768x2_0_1_2 (broadcastInDim S2048x1x1 ![0] bcast_S2048_S2048x1x1_0 w)))) slices_S33x768x2_S32x768x2_0_0_0) (broadcastInDim S32x768x2 ![0, 1, 2] bcast_S32x1x1_S32x768x2_0_1_2 (broadcastInDim S32x1x1 ![0] bcast_S32_S32x1x1_0 (maximumf (extractStridedSlice S32 ![0] (Host.scatterAdd scatter_S33_S2048x1_S2048_n_0_0_1 (broadcastInDim S33 ![] bcast_S_S33 (constant S_ .f32 0x00000000#32)) (broadcastInDim S2048x1 ![0] bcast_S2048_S2048x1_0 g) w) slices_S33_S32_0) (broadcastInDim S32 ![] bcast_S_S32 (constant S_ .f32 0x322BCC77#32)))))

/-- Which events exist. -/
def mkV (g : IVec S2048 32) (u : IVec S2048 1) : FVec Ideal S32 .f32 :=
  uitofp .f32 (cmpf .ogt (extractStridedSlice S32 ![0] (Host.scatterAdd scatter_S33_S2048x1_S2048_n_0_0_1 (broadcastInDim S33 ![] bcast_S_S33 (constant S_ .f32 0x00000000#32)) (broadcastInDim S2048x1 ![0] bcast_S2048_S2048x1_0 g) (uitofp .f32 u)) slices_S33_S32_0 : FVec Ideal S32 .f32) (broadcastInDim S32 ![] bcast_S_S32 (constant S_ .f32 0x00000000#32)))

variable (s : FVec Ideal S2048 .f32)

/-- The row as a function of the position. -/
def fn (l : Fin 2048) : EReal := s (ix1 l)

theorem upV_apply (l : Fin 2048) : upV s (ix1 l) = if Flow.up (fn s) l.val then 1#1 else 0#1 := by
  have e : upV s (ix1 l) = BitVec.ofBool (decide (Flow.half < fn s l)) := by
    unfold upV
    pointwise
    rfl
  rw [e]
  by_cases h : Flow.half < fn s l
  · rw [if_pos ((Flow.up_iff _ l).mpr h), decide_eq_true h]; rfl
  · rw [if_neg fun q => h ((Flow.up_iff _ l).mp q), decide_eq_false h]; rfl

theorem prevV_zero (u : IVec S2048 1) : prevV u (ix1 0) = 0#1 := by
  unfold prevV
  pointwise

theorem prevV_succ (u : IVec S2048 1) (n : ℕ) (h : n + 1 < 2048) : prevV u (ix1 ⟨n + 1, h⟩) = u (ix1 ⟨n, by omega⟩) := by
  unfold prevV
  pointwise
  rw [dif_neg (by omega)]
  rfl

/-- The start of a segment, as the number which is summed. -/
theorem start_apply (l : Fin 2048) :
    extui 32 (andi (upV s) (noti (prevV (upV s)))) natLt_1_32 (ix1 l) = BitVec.ofNat 32 (Flow.start (fn s) l.val) := by
  show ((upV s (ix1 l)) &&& (~~~(prevV (upV s) (ix1 l)))).setWidth 32 = _
  have hp : prevV (upV s) (ix1 l) = if 1 ≤ l.val ∧ Flow.up (fn s) (l.val - 1) then 1#1 else 0#1 := by
    obtain ⟨n, hn⟩ := l
    cases n with
    | zero =>
      rw [if_neg (by simp)]
      exact prevV_zero _
    | succ n =>
      rw [prevV_succ _ n hn, upV_apply]
      refine if_congr ?_ rfl rfl
      show Flow.up (fn s) n ↔ 1 ≤ n + 1 ∧ Flow.up (fn s) (n + 1 - 1)
      rw [Nat.add_sub_cancel]
      exact ⟨fun h => ⟨by omega, h⟩, fun h => h.2⟩
  rw [hp, upV_apply]
  unfold Flow.start
  by_cases h1 : Flow.up (fn s) l.val
  · by_cases h2 : 1 ≤ l.val ∧ Flow.up (fn s) (l.val - 1)
    · rw [if_pos h1, if_pos h2, if_neg fun q => q.2 h2]; rfl
    · rw [if_pos h1, if_neg h2, if_pos ⟨h1, h2⟩]; rfl
  · by_cases h2 : 1 ≤ l.val ∧ Flow.up (fn s) (l.val - 1)
    · rw [if_neg h1, if_pos h2, if_neg (fun q => h1 q.1)]; rfl
    · rw [if_neg h1, if_neg h2, if_neg (fun q => h1 q.1)]; rfl

theorem range_sum (f : ℕ → ℕ) (n : ℕ) : ((List.range n).map f).sum = ∑ i ∈ Finset.range n, f i := by
  induction n with
  | zero => rfl
  | succ n ih => rw [List.range_succ, List.map_append, List.sum_append, ih, Finset.sum_range_succ]; simp

theorem cumV_apply (l : Fin 2048) : cumV (upV s) (ix1 l) = BitVec.ofNat 32 (Flow.cum (fn s) l.val) := by
  refine (Idealize.ShloMosaic.Routing.cumsum1 (N := 2048) (Nm1 := 2047) rfl _ (Flow.start (fn s)) (start_apply s) _ ?_ _ _ l).trans ?_
  · rfl
  · refine congrArg (BitVec.ofNat 32) ?_
    unfold Flow.cum
    exact range_sum _ _

theorem ofNat_sub_one (n : ℕ) (h : n ≤ 2048) : (BitVec.ofNat 32 n - 1#32).toInt = (n : ℤ) - 1 := by
  have e1 : (1#32 : BitVec 32).toInt = 1 := by decide
  have e0 : (BitVec.ofNat 32 n).toInt = n := by
    rw [BitVec.toInt_eq_toNat_of_lt (by rw [BitVec.toNat_ofNat]; omega), BitVec.toNat_ofNat]
    omega
  rw [BitVec.toInt_sub, e0, e1]
  simp only [Int.bmod]
  omega

theorem segV_apply (l : Fin 2048) : (segV (upV s) (ix1 l)).toInt = Flow.seg (fn s) l := by
  have hc : Flow.cum (fn s) l.val ≤ 2048 := (Flow.cum_le _ _).trans (by omega)
  show (Scalar.select (upV s (ix1 l)) (IntOp.minsi (cumV (upV s) (ix1 l) - 1#32) 32#32) 32#32).toInt = _
  rw [upV_apply, cumV_apply]
  unfold Flow.seg
  by_cases h : Flow.up (fn s) l.val
  · rw [if_pos h, if_pos h, Scalar.select, if_pos (show (1#1 : BitVec 1) = 1 from rfl)]
    have e := ofNat_sub_one _ hc
    have e32 : (32#32 : BitVec 32).toInt = 32 := by decide
    unfold IntOp.minsi
    rw [BitVec.slt_eq_decide, e, e32]
    by_cases hlt : ((Flow.cum (fn s) l.val : ℤ) - 1) < 32
    · rw [if_pos (decide_eq_true hlt), e, min_eq_left hlt.le]
    · rw [if_neg (by simpa using hlt), e32, min_eq_right (not_lt.mp hlt)]
  · rw [if_neg h, if_neg h, Scalar.select, if_neg (by decide)]
    decide

theorem wtV_apply (l : Fin 2048) : wtV (upV s) s (ix1 l) = Flow.wt (fn s) l := by
  unfold wtV
  pointwise
  rw [upV_apply]
  unfold Flow.wt
  by_cases h : Flow.up (fn s) l.val
  · rw [if_pos h, if_pos h, Scalar.select, if_pos (show (1#1 : BitVec 1) = 1 from rfl)]; rfl
  · rw [if_neg h, if_neg h, Scalar.select, if_neg (by decide)]
    show constant (F := Ideal) S_ .f32 0#32 ix0 = 0
    pointwise

theorem ones_apply (l : Fin 2048) : uitofp (F := Ideal) .f32 (upV s) (ix1 l) = if Flow.up (fn s) l.val then 1 else 0 := by
  show FloatOps.uitofp (F := Ideal) .f32 (upV s (ix1 l)) = _
  rw [upV_apply]
  by_cases h : Flow.up (fn s) l.val
  · rw [if_pos h, if_pos h]; simp [FloatOps.uitofp]
  · rw [if_neg h, if_neg h]; simp [FloatOps.uitofp]

theorem col_apply (g : IVec S2048 32) (l : Fin 2048) : broadcastInDim S2048x1 ![0] bcast_S2048_S2048x1_0 g (ix2 l 0) = g (ix1 l) := by
  pointwise

theorem pick3 (u : FVec Ideal S33x768x2 .f32) (e : Fin 32) (k : Fin 768) (p : Fin 2) :
    extractStridedSlice S32x768x2 ![0, 0, 0] u slices_S33x768x2_S32x768x2_0_0_0 (ix3 e k p) = u (ix3 (Flow.slot e) k p) := by
  pointwise
  rfl

theorem pick1 (u : FVec Ideal S33 .f32) (e : Fin 32) : extractStridedSlice S32 ![0] u slices_S33_S32_0 (ix1 e) = u (ix1 (Flow.slot e)) := by
  pointwise
  rfl

theorem zero3 (e : Fin 33) (k : Fin 768) (p : Fin 2) : broadcastInDim S33x768x2 ![] bcast_S_S33x768x2 (constant (F := Ideal) S_ .f32 0x00000000#32) (ix3 e k p) = 0 := by
  pointwise

theorem zero1 (e : Fin 33) : broadcastInDim S33 ![] bcast_S_S33 (constant (F := Ideal) S_ .f32 0x00000000#32) (ix1 e) = 0 := by
  pointwise

theorem weighted (w : FVec Ideal S2048 .f32) (x : FVec Ideal S2048x768x2 .f32) (l : Fin 2048) (k : Fin 768) (p : Fin 2) :
    mulf x (broadcastInDim S2048x768x2 ![0, 1, 2] bcast_S2048x1x1_S2048x768x2_0_1_2 (broadcastInDim S2048x1x1 ![0] bcast_S2048_S2048x1x1_0 w)) (ix3 l k p)
      = x (ix3 l k p) * w (ix1 l) := by
  pointwise

/-- The sums of an event, and its total weight. -/
def numV (g : IVec S2048 32) (w : FVec Ideal S2048 .f32) (x : FVec Ideal S2048x768x2 .f32) : FVec Ideal S33x768x2 .f32 :=
  Host.scatterAdd scatter_S33x768x2_S2048x1_S2048x768x2_12_0_0_1 (broadcastInDim S33x768x2 ![] bcast_S_S33x768x2 (constant S_ .f32 0x00000000#32)) (broadcastInDim S2048x1 ![0] bcast_S2048_S2048x1_0 g) (mulf x (broadcastInDim S2048x768x2 ![0, 1, 2] bcast_S2048x1x1_S2048x768x2_0_1_2 (broadcastInDim S2048x1x1 ![0] bcast_S2048_S2048x1x1_0 w)))
def denV (g : IVec S2048 32) (w : FVec Ideal S2048 .f32) : FVec Ideal S33 .f32 :=
  Host.scatterAdd scatter_S33_S2048x1_S2048_n_0_0_1 (broadcastInDim S33 ![] bcast_S_S33 (constant S_ .f32 0x00000000#32)) (broadcastInDim S2048x1 ![0] bcast_S2048_S2048x1_0 g) w

theorem numV_apply (x : FVec Ideal S2048x768x2 .f32) (e : Fin 33) (k : Fin 768) (p : Fin 2) :
    numV (segV (upV s)) (wtV (upV s) s) x (ix3 e k p) = Flow.num (fn s) (fun l => x (ix3 l k p)) e := by
  unfold numV
  rw [scatter3, zero3, zero_add]
  unfold Flow.num
  refine Finset.sum_congr rfl fun l _ => ?_
  rw [col_apply, segV_apply, weighted, wtV_apply, mul_comm]

theorem denV_apply (e : Fin 33) : denV (segV (upV s)) (wtV (upV s) s) (ix1 e) = Flow.den (fn s) e := by
  unfold denV
  rw [scatter1, zero1, zero_add]
  unfold Flow.den
  refine Finset.sum_congr rfl fun l _ => ?_
  rw [col_apply, segV_apply, wtV_apply]

theorem cntV_apply (e : Fin 33) : denV (segV (upV s)) (uitofp (F := Ideal) .f32 (upV s)) (ix1 e) = Flow.cnt (fn s) e := by
  unfold denV
  rw [scatter1, zero1, zero_add]
  unfold Flow.cnt
  refine Finset.sum_congr rfl fun l _ => ?_
  rw [col_apply, segV_apply, ones_apply]

theorem quot (a : FVec Ideal S32x768x2 .f32) (b : FVec Ideal S32 .f32) (e : Fin 32) (k : Fin 768) (p : Fin 2) :
    Host.divf a (broadcastInDim S32x768x2 ![0, 1, 2] bcast_S32x1x1_S32x768x2_0_1_2 (broadcastInDim S32x1x1 ![0] bcast_S32_S32x1x1_0 (maximumf b (broadcastInDim S32 ![] bcast_S_S32 (constant S_ .f32 0x322BCC77#32))))) (ix3 e k p)
      = Ideal.div (a (ix3 e k p)) (max (b (ix1 e)) Flow.eps) := by
  pointwise
  rfl

theorem positive (y : FVec Ideal S32 .f32) (e : Fin 32) :
    uitofp (F := Ideal) .f32 (cmpf .ogt y (broadcastInDim S32 ![] bcast_S_S32 (constant S_ .f32 0x00000000#32))) (ix1 e) = if 0 < y (ix1 e) then 1 else 0 := by
  have e1 : uitofp (F := Ideal) .f32 (cmpf .ogt y (broadcastInDim S32 ![] bcast_S_S32 (constant S_ .f32 0x00000000#32))) (ix1 e)
      = FloatOps.uitofp (F := Ideal) .f32 (BitVec.ofBool (decide ((0 : EReal) < y (ix1 e)))) := by
    pointwise
  refine e1.trans ?_
  by_cases h : (0 : EReal) < y (ix1 e)
  · rw [if_pos h, decide_eq_true h]; simp [FloatOps.uitofp]
  · rw [if_neg h, decide_eq_false h]; simp [FloatOps.uitofp]

theorem evV_eq (g : IVec S2048 32) (w : FVec Ideal S2048 .f32) (x : FVec Ideal S2048x768x2 .f32) :
    evV g w x = Host.divf (extractStridedSlice S32x768x2 ![0, 0, 0] (numV g w x) slices_S33x768x2_S32x768x2_0_0_0)
      (broadcastInDim S32x768x2 ![0, 1, 2] bcast_S32x1x1_S32x768x2_0_1_2 (broadcastInDim S32x1x1 ![0] bcast_S32_S32x1x1_0
        (maximumf (extractStridedSlice S32 ![0] (denV g w) slices_S33_S32_0) (broadcastInDim S32 ![] bcast_S_S32 (constant S_ .f32 0x322BCC77#32))))) := rfl

theorem mkV_eq (g : IVec S2048 32) (u : IVec S2048 1) :
    mkV g u = uitofp (F := Ideal) .f32 (cmpf .ogt (extractStridedSlice S32 ![0] (denV g (uitofp (F := Ideal) .f32 u)) slices_S33_S32_0)
      (broadcastInDim S32 ![] bcast_S_S32 (constant S_ .f32 0x00000000#32))) := rfl

theorem evV_apply (x : FVec Ideal S2048x768x2 .f32) (e : Fin 32) (k : Fin 768) (p : Fin 2) :
    evV (segV (upV s)) (wtV (upV s) s) x (ix3 e k p)
      = Ideal.div (Flow.num (fn s) (fun l => x (ix3 l k p)) (Flow.slot e)) (max (Flow.den (fn s) (Flow.slot e)) Flow.eps) := by
  rw [evV_eq, quot, pick3, pick1, numV_apply, denV_apply]

theorem mkV_apply (e : Fin 32) : mkV (segV (upV s)) (upV s) (ix1 e) = if 0 < Flow.cnt (fn s) (Flow.slot e) then 1 else 0 := by
  rw [mkV_eq, positive, pick1, cntV_apply]

end Cert.ReferenceIdeal.Segments

end
-- ==== Proof.RefMemory.lean ====
/- The reference's arrays at an index, up to the new memory: magnitudes, saliences, pooled events, new keys, new values and new mask. -/
module

public import proofs.«01_k».proof.Proof.RefSegments
public import proofs.«01_k».proof.Proof.Args

@[expose] public section

set_option maxRecDepth 16384

noncomputable section

namespace Cert.ReferenceIdeal.Memory

open Cert.ReferenceIdeal Cert.ReferenceIdeal.Gen Idealize.ShloMosaic
open Cert.ReferenceIdeal.Segments (upV segV wtV evV mkV)

/-- Real and imaginary part of an array of rows, and of an array of memory slots. -/
def partR (x : FVec Ideal S4x2048x768x2 .f32) : FVec Ideal S4x2048x768 .f32 :=
  shapeCast _ (extractStridedSlice S4x2048x768x1 ![0, 0, 0, 0] x slices_S4x2048x768x2_S4x2048x768x1_0_0_0_0) shapeCasts_S4x2048x768x1_S4x2048x768
def partI (x : FVec Ideal S4x2048x768x2 .f32) : FVec Ideal S4x2048x768 .f32 :=
  shapeCast _ (extractStridedSlice S4x2048x768x1 ![0, 0, 0, 1] x slices_S4x2048x768x2_S4x2048x768x1_0_0_0_1) shapeCasts_S4x2048x768x1_S4x2048x768
def memR (x : FVec Ideal S4x32x768x2 .f32) : FVec Ideal S4x32x768 .f32 :=
  shapeCast _ (extractStridedSlice S4x32x768x1 ![0, 0, 0, 0] x slices_S4x32x768x2_S4x32x768x1_0_0_0_0) shapeCasts_S4x32x768x1_S4x32x768
def memI (x : FVec Ideal S4x32x768x2 .f32) : FVec Ideal S4x32x768 .f32 :=
  shapeCast _ (extractStridedSlice S4x32x768x1 ![0, 0, 0, 1] x slices_S4x32x768x2_S4x32x768x1_0_0_0_1) shapeCasts_S4x32x768x1_S4x32x768

/-- The magnitudes of the entries. -/
def magV (a0 : FVec Ideal S4x2048x768x2 .f32) : FVec Ideal S4x2048x768 .f32 :=
  Host.sqrt (addf (mulf (partR a0) (partR a0)) (mulf (partI a0) (partI a0)))

/-- The mean magnitudes of the rows. -/
def avgV (a0 : FVec Ideal S4x2048x768x2 .f32) : FVec Ideal S4x2048 .f32 :=
  Host.divf (Host.reduceAdd (magV a0) (constant S_ .f32 0x00000000#32) reducesTo_S4x2048x768_S4x2048_d2 h_S_) (broadcastInDim S4x2048 ![] bcast_S_S4x2048 (constant S_ .f32 0x44400000#32))

/-- A row product with a column. -/
def dotA (x : FVec Ideal S4x2048x768 .f32) (w : FVec Ideal S768x1 .f32) : FVec Ideal S4x2048x1 .f32 :=
  Host.dotGeneral dot_S4x2048x768_S768x1_S4x2048x1_2_0_01_1_n_n none x w

/-- The salience projections, and their parts. -/
def ancV (a0 : FVec Ideal S4x2048x768x2 .f32) (a4 a5 : FVec Ideal S768x1 .f32) : FVec Ideal S4x2048x1x2 .f32 :=
  concatenate S4x2048x1x2 3 [⟨S4x2048x1x1, (broadcastInDim S4x2048x1x1 ![0, 1, 2] bcast_S4x2048x1_S4x2048x1x1_0_1_2 (subf (dotA (partR a0) a4) (dotA (partI a0) a5)))⟩,
    ⟨S4x2048x1x1, (broadcastInDim S4x2048x1x1 ![0, 1, 2] bcast_S4x2048x1_S4x2048x1x1_0_1_2 (addf (dotA (partR a0) a5) (dotA (partI a0) a4)))⟩] concatenates_S4x2048x1x1_S4x2048x1x1_S4x2048x1x2_d3
def ancR (x : FVec Ideal S4x2048x1x2 .f32) : FVec Ideal S4x2048x1 .f32 :=
  shapeCast _ (extractStridedSlice S4x2048x1x1 ![0, 0, 0, 0] x slices_S4x2048x1x2_S4x2048x1x1_0_0_0_0) shapeCasts_S4x2048x1x1_S4x2048x1
def ancI (x : FVec Ideal S4x2048x1x2 .f32) : FVec Ideal S4x2048x1 .f32 :=
  shapeCast _ (extractStridedSlice S4x2048x1x1 ![0, 0, 0, 1] x slices_S4x2048x1x2_S4x2048x1x1_0_0_0_1) shapeCasts_S4x2048x1x1_S4x2048x1
def scoreA (a0 : FVec Ideal S4x2048x768x2 .f32) (a4 a5 : FVec Ideal S768x1 .f32) : FVec Ideal S4x2048 .f32 :=
  shapeCast _ (Host.sqrt (addf (mulf (ancR (ancV a0 a4 a5)) (ancR (ancV a0 a4 a5))) (mulf (ancI (ancV a0 a4 a5)) (ancI (ancV a0 a4 a5))))) shapeCasts_S4x2048x1_S4x2048

/-- Five fifths, the rows with two zeros on either side, and the local means. -/
def fifthV : FVec Ideal S5 .f32 :=
  Host.divf (broadcastInDim S5 ![] bcast_S_S5 (constant S_ .f32 0x3F800000#32)) (broadcastInDim S5 ![] bcast_S_S5 (constant S_ .f32 0x40A00000#32))
def padV (x : FVec Ideal S4x2048 .f32) : FVec Ideal S4x2052 .f32 :=
  pad S4x2052 ![0, 2] ![0, 2] ![0, 0] x (sitofp .f32 (constantI S_ 32 0#32)) pads_S4x2048_S4x2052_000_220 h_S_
def tapsV (p : FVec Ideal S4x2052 .f32) (k : FVec Ideal S5 .f32) : FVec Ideal S4x2048 .f32 :=
  addf (addf (addf (addf (addf (broadcastInDim S4x2048 ![] bcast_S_S4x2048 (constant S_ .f32 0x00000000#32)) (mulf (extractStridedSlice S4x2048 ![0, 0] p slices_S4x2052_S4x2048_0_0) (broadcastInDim S4x2048 ![] bcast_S_S4x2048 (shapeCast _ (extractStridedSlice S1 ![4] k slices_S5_S1_4) shapeCasts_S1_S_)))) (mulf (extractStridedSlice S4x2048 ![0, 1] p slices_S4x2052_S4x2048_0_1) (broadcastInDim S4x2048 ![] bcast_S_S4x2048 (shapeCast _ (extractStridedSlice S1 ![3] k slices_S5_S1_3) shapeCasts_S1_S_)))) (mulf (extractStridedSlice S4x2048 ![0, 2] p slices_S4x2052_S4x2048_0_2) (broadcastInDim S4x2048 ![] bcast_S_S4x2048 (shapeCast _ (extractStridedSlice S1 ![2] k slices_S5_S1_2) shapeCasts_S1_S_)))) (mulf (extractStridedSlice S4x2048 ![0, 3] p slices_S4x2052_S4x2048_0_3) (broadcastInDim S4x2048 ![] bcast_S_S4x2048 (shapeCast _ (extractStridedSlice S1 ![1] k slices_S5_S1_1) shapeCasts_S1_S_)))) (mulf (extractStridedSlice S4x2048 ![0, 4] p slices_S4x2052_S4x2048_0_4) (broadcastInDim S4x2048 ![] bcast_S_S4x2048 (shapeCast _ (extractStridedSlice S1 ![0] k slices_S5_S1_0) shapeCasts_S1_S_)))
def localV (x : FVec Ideal S4x2048 .f32) : FVec Ideal S4x2048 .f32 := tapsV (padV x) fifthV

/-- The saliences, from projection, mean magnitude and local mean. -/
def logV (s v w : FVec Ideal S4x2048 .f32) (a6 a7 : FVec Ideal S_ .f32) : FVec Ideal S4x2048 .f32 :=
  Host.divf (broadcastInDim S4x2048 ![] bcast_S_S4x2048 (constant S_ .f32 0x3F800000#32)) (addf (broadcastInDim S4x2048 ![] bcast_S_S4x2048 (constant S_ .f32 0x3F800000#32)) (Host.exp (Host.negf (addf (addf s (mulf (subf v w) (broadcastInDim S4x2048 ![] bcast_S_S4x2048 a7))) (broadcastInDim S4x2048 ![] bcast_S_S4x2048 a6)))))
def salV (a0 : FVec Ideal S4x2048x768x2 .f32) (a4 a5 : FVec Ideal S768x1 .f32) (a6 a7 : FVec Ideal S_ .f32) : FVec Ideal S4x2048 .f32 :=
  logV (scoreA a0 a4 a5) (avgV a0) (localV (avgV a0)) a6 a7

/-- One row of saliences, and one batch of the rows. -/
def row0 (s : FVec Ideal S4x2048 .f32) : FVec Ideal S2048 .f32 :=
  shapeCast _ (extractStridedSlice S1x2048 ![0, 0] s slices_S4x2048_S1x2048_0_0) shapeCasts_S1x2048_S2048
def part0 (x : FVec Ideal S4x2048x768x2 .f32) : FVec Ideal S2048x768x2 .f32 :=
  shapeCast _ (extractStridedSlice S1x2048x768x2 ![0, 0, 0, 0] x slices_S4x2048x768x2_S1x2048x768x2_0_0_0_0) shapeCasts_S1x2048x768x2_S2048x768x2
def row1 (s : FVec Ideal S4x2048 .f32) : FVec Ideal S2048 .f32 :=
  shapeCast _ (extractStridedSlice S1x2048 ![1, 0] s slices_S4x2048_S1x2048_1_0) shapeCasts_S1x2048_S2048
def part1 (x : FVec Ideal S4x2048x768x2 .f32) : FVec Ideal S2048x768x2 .f32 :=
  shapeCast _ (extractStridedSlice S1x2048x768x2 ![1, 0, 0, 0] x slices_S4x2048x768x2_S1x2048x768x2_1_0_0_0) shapeCasts_S1x2048x768x2_S2048x768x2
def row2 (s : FVec Ideal S4x2048 .f32) : FVec Ideal S2048 .f32 :=
  shapeCast _ (extractStridedSlice S1x2048 ![2, 0] s slices_S4x2048_S1x2048_2_0) shapeCasts_S1x2048_S2048
def part2 (x : FVec Ideal S4x2048x768x2 .f32) : FVec Ideal S2048x768x2 .f32 :=
  shapeCast _ (extractStridedSlice S1x2048x768x2 ![2, 0, 0, 0] x slices_S4x2048x768x2_S1x2048x768x2_2_0_0_0) shapeCasts_S1x2048x768x2_S2048x768x2
def row3 (s : FVec Ideal S4x2048 .f32) : FVec Ideal S2048 .f32 :=
  shapeCast _ (extractStridedSlice S1x2048 ![3, 0] s slices_S4x2048_S1x2048_3_0) shapeCasts_S1x2048_S2048
def part3 (x : FVec Ideal S4x2048x768x2 .f32) : FVec Ideal S2048x768x2 .f32 :=
  shapeCast _ (extractStridedSlice S1x2048x768x2 ![3, 0, 0, 0] x slices_S4x2048x768x2_S1x2048x768x2_3_0_0_0) shapeCasts_S1x2048x768x2_S2048x768x2
def rows (s : FVec Ideal S4x2048 .f32) : Fin 4 → FVec Ideal S2048 .f32
  | 0 => row0 s
  | 1 => row1 s
  | 2 => row2 s
  | 3 => row3 s

/-- The pooled events of all batches, and which of them exist. -/
def poolV (a0 : FVec Ideal S4x2048x768x2 .f32) (r0 r1 r2 r3 : FVec Ideal S2048 .f32) : FVec Ideal S4x32x768x2 .f32 :=
  concatenate S4x32x768x2 0 [⟨S1x32x768x2, broadcastInDim S1x32x768x2 ![1, 2, 3] bcast_S32x768x2_S1x32x768x2_1_2_3 (evV (segV (upV r0)) (wtV (upV r0) r0) (part0 a0))⟩,
    ⟨S1x32x768x2, broadcastInDim S1x32x768x2 ![1, 2, 3] bcast_S32x768x2_S1x32x768x2_1_2_3 (evV (segV (upV r1)) (wtV (upV r1) r1) (part1 a0))⟩,
    ⟨S1x32x768x2, broadcastInDim S1x32x768x2 ![1, 2, 3] bcast_S32x768x2_S1x32x768x2_1_2_3 (evV (segV (upV r2)) (wtV (upV r2) r2) (part2 a0))⟩,
    ⟨S1x32x768x2, broadcastInDim S1x32x768x2 ![1, 2, 3] bcast_S32x768x2_S1x32x768x2_1_2_3 (evV (segV (upV r3)) (wtV (upV r3) r3) (part3 a0))⟩] concatenates_S1x32x768x2_S1x32x768x2_S1x32x768x2_S1x32x768x2_S4x32x768x2_d0
def maskV (r0 r1 r2 r3 : FVec Ideal S2048 .f32) : FVec Ideal S4x32 .f32 :=
  concatenate S4x32 0 [⟨S1x32, broadcastInDim S1x32 ![1] bcast_S32_S1x32_1 (mkV (segV (upV r0)) (upV r0))⟩,
    ⟨S1x32, broadcastInDim S1x32 ![1] bcast_S32_S1x32_1 (mkV (segV (upV r1)) (upV r1))⟩,
    ⟨S1x32, broadcastInDim S1x32 ![1] bcast_S32_S1x32_1 (mkV (segV (upV r2)) (upV r2))⟩,
    ⟨S1x32, broadcastInDim S1x32 ![1] bcast_S32_S1x32_1 (mkV (segV (upV r3)) (upV r3))⟩] concatenates_S1x32_S1x32_S1x32_S1x32_S4x32_d0
def eventsV (a0 : FVec Ideal S4x2048x768x2 .f32) (s : FVec Ideal S4x2048 .f32) : FVec Ideal S4x32x768x2 .f32 := poolV a0 (row0 s) (row1 s) (row2 s) (row3 s)
def existV (s : FVec Ideal S4x2048 .f32) : FVec Ideal S4x32 .f32 := maskV (row0 s) (row1 s) (row2 s) (row3 s)

/-- A product of memory slots with a square matrix, and with a complex one. -/
def dotM (x : FVec Ideal S4x32x768 .f32) (w : FVec Ideal S768x768 .f32) : FVec Ideal S4x32x768 .f32 :=
  Host.dotGeneral dot_S4x32x768_S768x768_S4x32x768_2_0_01_1_n_n none x w
def projV (x : FVec Ideal S4x32x768x2 .f32) (wr wi : FVec Ideal S768x768 .f32) : FVec Ideal S4x32x768x2 .f32 :=
  concatenate S4x32x768x2 3 [⟨S4x32x768x1, (broadcastInDim S4x32x768x1 ![0, 1, 2] bcast_S4x32x768_S4x32x768x1_0_1_2 (subf (dotM (memR x) wr) (dotM (memI x) wi)))⟩,
    ⟨S4x32x768x1, (broadcastInDim S4x32x768x1 ![0, 1, 2] bcast_S4x32x768_S4x32x768x1_0_1_2 (addf (dotM (memR x) wi) (dotM (memI x) wr)))⟩] concatenates_S4x32x768x1_S4x32x768x1_S4x32x768x2_d3

/-- The new memory: new where the event exists, old elsewhere; and the new mask. -/
def mixV (e : FVec Ideal S4x32 .f32) (x old : FVec Ideal S4x32x768x2 .f32) : FVec Ideal S4x32x768x2 .f32 :=
  addf (mulf (broadcastInDim S4x32x768x2 ![0, 1, 2, 3] bcast_S4x32x1x1_S4x32x768x2_0_1_2_3 (broadcastInDim S4x32x1x1 ![0, 1] bcast_S4x32_S4x32x1x1_0_1 e)) x)
    (mulf (broadcastInDim S4x32x768x2 ![0, 1, 2, 3] bcast_S4x32x1x1_S4x32x768x2_0_1_2_3 (subf (broadcastInDim S4x32x1x1 ![] bcast_S_S4x32x1x1 (constant S_ .f32 0x3F800000#32)) (broadcastInDim S4x32x1x1 ![0, 1] bcast_S4x32_S4x32x1x1_0_1 e))) old)
def memV (a0 : FVec Ideal S4x2048x768x2 .f32) (s : FVec Ideal S4x2048 .f32) (wr wi : FVec Ideal S768x768 .f32) (old : FVec Ideal S4x32x768x2 .f32) : FVec Ideal S4x32x768x2 .f32 :=
  mixV (existV s) (projV (eventsV a0 s) wr wi) old
def nmV (a3 e : FVec Ideal S4x32 .f32) : FVec Ideal S4x32 .f32 :=
  minimumf (addf a3 e) (broadcastInDim S4x32 ![] bcast_S_S4x32 (constant S_ .f32 0x3F800000#32))

/-! ## At an index -/

theorem partR_apply (x : FVec Ideal S4x2048x768x2 .f32) (b : Fin 4) (l : Fin 2048) (k : Fin 768) : partR x (ix3 b l k) = x (ix4 b l k 0) := by
  unfold partR
  pointwise
theorem partI_apply (x : FVec Ideal S4x2048x768x2 .f32) (b : Fin 4) (l : Fin 2048) (k : Fin 768) : partI x (ix3 b l k) = x (ix4 b l k 1) := by
  unfold partI
  pointwise
theorem memR_apply (x : FVec Ideal S4x32x768x2 .f32) (b : Fin 4) (l : Fin 32) (k : Fin 768) : memR x (ix3 b l k) = x (ix4 b l k 0) := by
  unfold memR
  pointwise
theorem memI_apply (x : FVec Ideal S4x32x768x2 .f32) (b : Fin 4) (l : Fin 32) (k : Fin 768) : memI x (ix3 b l k) = x (ix4 b l k 1) := by
  unfold memI
  pointwise

theorem magV_apply (x : FVec Ideal S4x2048x768x2 .f32) (b : Fin 4) (l : Fin 2048) (k : Fin 768) :
    magV x (ix3 b l k) = Flow.cabs (x (ix4 b l k 0)) (x (ix4 b l k 1)) := by
  unfold magV Flow.cabs
  pointwise [partR_apply, partI_apply]

theorem dotA_apply (x : FVec Ideal S4x2048x768 .f32) (w : FVec Ideal S768x1 .f32) (b : Fin 4) (l : Fin 2048) :
    dotA x w (ix3 b l 0) = ∑ k, x (ix3 b l k) * w (ix2 k 0) := by
  unfold dotA
  pointwise

theorem ancV_apply0 (a0 : FVec Ideal S4x2048x768x2 .f32) (a4 a5 : FVec Ideal S768x1 .f32) (b : Fin 4) (l : Fin 2048) :
    ancV a0 a4 a5 (ix4 b l 0 0) = dotA (partR a0) a4 (ix3 b l 0) - dotA (partI a0) a5 (ix3 b l 0) := by
  unfold ancV
  pointwise
theorem ancV_apply1 (a0 : FVec Ideal S4x2048x768x2 .f32) (a4 a5 : FVec Ideal S768x1 .f32) (b : Fin 4) (l : Fin 2048) :
    ancV a0 a4 a5 (ix4 b l 0 1) = dotA (partR a0) a5 (ix3 b l 0) + dotA (partI a0) a4 (ix3 b l 0) := by
  unfold ancV
  pointwise
theorem ancR_apply (x : FVec Ideal S4x2048x1x2 .f32) (b : Fin 4) (l : Fin 2048) : ancR x (ix3 b l 0) = x (ix4 b l 0 0) := by
  unfold ancR
  pointwise
theorem ancI_apply (x : FVec Ideal S4x2048x1x2 .f32) (b : Fin 4) (l : Fin 2048) : ancI x (ix3 b l 0) = x (ix4 b l 0 1) := by
  unfold ancI
  pointwise

theorem scoreA_apply (a0 : FVec Ideal S4x2048x768x2 .f32) (a4 a5 : FVec Ideal S768x1 .f32) (b : Fin 4) (l : Fin 2048) :
    scoreA a0 a4 a5 (ix2 b l) = Flow.cabs (ancV a0 a4 a5 (ix4 b l 0 0)) (ancV a0 a4 a5 (ix4 b l 0 1)) := by
  unfold scoreA Flow.cabs
  pointwise [ancR_apply, ancI_apply]

theorem avg_apply (a0 : FVec Ideal S4x2048x768x2 .f32) (b : Fin 4) (l : Fin 2048) :
    avgV a0 (ix2 b l) = (∑ k, Flow.cabs (a0 (ix4 b l k 0)) (a0 (ix4 b l k 1))) * Flow.inv768 := by
  unfold avgV
  rw [← Flow.div_768]
  pointwise [magV_apply]
  rw [Spec.ofBits_768]

theorem logV_apply (s v w : FVec Ideal S4x2048 .f32) (a6 a7 : FVec Ideal S_ .f32) (b : Fin 4) (l : Fin 2048) :
    logV s v w a6 a7 (ix2 b l) = Ideal.logistic (s (ix2 b l) + (v (ix2 b l) - w (ix2 b l)) * a7 ix0 + a6 ix0) := by
  unfold logV
  pointwise
  rfl

theorem row0_apply (s : FVec Ideal S4x2048 .f32) (l : Fin 2048) : row0 s (ix1 l) = s (ix2 0 l) := by
  unfold row0
  pointwise
theorem part0_apply (x : FVec Ideal S4x2048x768x2 .f32) (l : Fin 2048) (k : Fin 768) (p : Fin 2) : part0 x (ix3 l k p) = x (ix4 0 l k p) := by
  unfold part0
  pointwise
theorem row1_apply (s : FVec Ideal S4x2048 .f32) (l : Fin 2048) : row1 s (ix1 l) = s (ix2 1 l) := by
  unfold row1
  pointwise
theorem part1_apply (x : FVec Ideal S4x2048x768x2 .f32) (l : Fin 2048) (k : Fin 768) (p : Fin 2) : part1 x (ix3 l k p) = x (ix4 1 l k p) := by
  unfold part1
  pointwise
theorem row2_apply (s : FVec Ideal S4x2048 .f32) (l : Fin 2048) : row2 s (ix1 l) = s (ix2 2 l) := by
  unfold row2
  pointwise
theorem part2_apply (x : FVec Ideal S4x2048x768x2 .f32) (l : Fin 2048) (k : Fin 768) (p : Fin 2) : part2 x (ix3 l k p) = x (ix4 2 l k p) := by
  unfold part2
  pointwise
theorem row3_apply (s : FVec Ideal S4x2048 .f32) (l : Fin 2048) : row3 s (ix1 l) = s (ix2 3 l) := by
  unfold row3
  pointwise
theorem part3_apply (x : FVec Ideal S4x2048x768x2 .f32) (l : Fin 2048) (k : Fin 768) (p : Fin 2) : part3 x (ix3 l k p) = x (ix4 3 l k p) := by
  unfold part3
  pointwise
theorem rows_apply (s : FVec Ideal S4x2048 .f32) (b : Fin 4) (l : Fin 2048) : rows s b (ix1 l) = s (ix2 b l) := by
  match b with
  | 0 => exact row0_apply s l
  | 1 => exact row1_apply s l
  | 2 => exact row2_apply s l
  | 3 => exact row3_apply s l

theorem lift4 (x : FVec Ideal S32x768x2 .f32) (e : Fin 32) (k : Fin 768) (p : Fin 2) :
    broadcastInDim S1x32x768x2 ![1, 2, 3] bcast_S32x768x2_S1x32x768x2_1_2_3 x (ix4 0 e k p) = x (ix3 e k p) := by
  pointwise
theorem lift2 (x : FVec Ideal S32 .f32) (e : Fin 32) : broadcastInDim S1x32 ![1] bcast_S32_S1x32_1 x (ix2 0 e) = x (ix1 e) := by
  pointwise

theorem stack4 (x0 x1 x2 x3 : FVec Ideal S1x32x768x2 .f32) (b : Fin 4) (e : Fin 32) (k : Fin 768) (p : Fin 2) :
    concatenate S4x32x768x2 0 [⟨S1x32x768x2, x0⟩, ⟨S1x32x768x2, x1⟩, ⟨S1x32x768x2, x2⟩, ⟨S1x32x768x2, x3⟩] concatenates_S1x32x768x2_S1x32x768x2_S1x32x768x2_S1x32x768x2_S4x32x768x2_d0 (ix4 b e k p)
      = (match b with | 0 => x0 | 1 => x1 | 2 => x2 | 3 => x3) (ix4 0 e k p) := by
  match b with
  | 0 => pointwise
  | 1 => pointwise
  | 2 => pointwise
  | 3 => pointwise
theorem stack2 (x0 x1 x2 x3 : FVec Ideal S1x32 .f32) (b : Fin 4) (e : Fin 32) :
    concatenate S4x32 0 [⟨S1x32, x0⟩, ⟨S1x32, x1⟩, ⟨S1x32, x2⟩, ⟨S1x32, x3⟩] concatenates_S1x32_S1x32_S1x32_S1x32_S4x32_d0 (ix2 b e)
      = (match b with | 0 => x0 | 1 => x1 | 2 => x2 | 3 => x3) (ix2 0 e) := by
  match b with
  | 0 => pointwise
  | 1 => pointwise
  | 2 => pointwise
  | 3 => pointwise

theorem poolV_apply (a0 : FVec Ideal S4x2048x768x2 .f32) (r : Fin 4 → FVec Ideal S2048 .f32) (b : Fin 4) (e : Fin 32) (k : Fin 768) (p : Fin 2) :
    poolV a0 (r 0) (r 1) (r 2) (r 3) (ix4 b e k p)
      = Ideal.div (Flow.num (Segments.fn (r b)) (fun l => a0 (ix4 b l k p)) (Flow.slot e)) (max (Flow.den (Segments.fn (r b)) (Flow.slot e)) Flow.eps) := by
  unfold poolV
  match b with
  | 0 =>
    rw [stack4]
    refine (lift4 _ e k p).trans ((Segments.evV_apply (r 0) (part0 a0) e k p).trans ?_)
    simp only [part0_apply]
  | 1 =>
    rw [stack4]
    refine (lift4 _ e k p).trans ((Segments.evV_apply (r 1) (part1 a0) e k p).trans ?_)
    simp only [part1_apply]
  | 2 =>
    rw [stack4]
    refine (lift4 _ e k p).trans ((Segments.evV_apply (r 2) (part2 a0) e k p).trans ?_)
    simp only [part2_apply]
  | 3 =>
    rw [stack4]
    refine (lift4 _ e k p).trans ((Segments.evV_apply (r 3) (part3 a0) e k p).trans ?_)
    simp only [part3_apply]

theorem maskV_apply (r : Fin 4 → FVec Ideal S2048 .f32) (b : Fin 4) (e : Fin 32) :
    maskV (r 0) (r 1) (r 2) (r 3) (ix2 b e) = if 0 < Flow.cnt (Segments.fn (r b)) (Flow.slot e) then 1 else 0 := by
  unfold maskV
  match b with
  | 0 =>
    rw [stack2]
    exact (lift2 _ e).trans (Segments.mkV_apply (r 0) e)
  | 1 =>
    rw [stack2]
    exact (lift2 _ e).trans (Segments.mkV_apply (r 1) e)
  | 2 =>
    rw [stack2]
    exact (lift2 _ e).trans (Segments.mkV_apply (r 2) e)
  | 3 =>
    rw [stack2]
    exact (lift2 _ e).trans (Segments.mkV_apply (r 3) e)

theorem dotM_apply (x : FVec Ideal S4x32x768 .f32) (w : FVec Ideal S768x768 .f32) (b : Fin 4) (e : Fin 32) (d : Fin 768) :
    dotM x w (ix3 b e d) = ∑ k, x (ix3 b e k) * w (ix2 k d) := by
  unfold dotM
  pointwise

theorem projV_apply (x : FVec Ideal S4x32x768x2 .f32) (wr wi : FVec Ideal S768x768 .f32) (b : Fin 4) (e : Fin 32) (d : Fin 768) (p : Fin 2) :
    projV x wr wi (ix4 b e d p) = Flow.cl (fun k p => x (ix4 b e k p)) (fun k d => wr (ix2 k d)) (fun k d => wi (ix2 k d)) d p := by
  unfold projV Flow.cl
  match p with
  | ⟨0, _⟩ =>
    rw [if_pos (show (⟨0, _⟩ : Fin 2) = 0 from rfl)]
    show concatenate S4x32x768x2 3 _ _ (ix4 b e d 0) = _
    pointwise [dotM_apply, memR_apply, memI_apply]
  | ⟨1, _⟩ =>
    rw [if_neg (fun h : (⟨1, _⟩ : Fin 2) = 0 => absurd (congrArg Fin.val h) (by simp))]
    show concatenate S4x32x768x2 3 _ _ (ix4 b e d 1) = _
    pointwise [dotM_apply, memR_apply, memI_apply]

theorem mixV_apply (m : FVec Ideal S4x32 .f32) (x old : FVec Ideal S4x32x768x2 .f32) (b : Fin 4) (e : Fin 32) (d : Fin 768) (p : Fin 2) :
    mixV m x old (ix4 b e d p) = Flow.mix (m (ix2 b e)) (x (ix4 b e d p)) (old (ix4 b e d p)) := by
  unfold mixV Flow.mix
  pointwise

theorem nmV_apply (a3 m : FVec Ideal S4x32 .f32) (b : Fin 4) (e : Fin 32) : nmV a3 m (ix2 b e) = min (a3 (ix2 b e) + m (ix2 b e)) 1 := by
  unfold nmV
  pointwise

/-! ## Against the plain functions -/

section
variable (a0 : FVec Ideal S4x2048x768x2 .f32) (a1 a2 : FVec Ideal S4x32x768x2 .f32) (a3 : FVec Ideal S4x32 .f32) (a4 a5 : FVec Ideal S768x1 .f32)
  (a6 a7 : FVec Ideal S_ .f32) (a8 a9 a10 a11 a12 a13 : FVec Ideal S768x768 .f32) (a14 : FVec Ideal S768 .f32)

/-- The reference's local means. -/
def lm (a0 : FVec Ideal S4x2048x768x2 .f32) (b : Fin 4) (l : Fin 2048) : EReal := localV (avgV a0) (ix2 b l)

theorem avgV_eq : avgV a0 = fun i => Flow.avg (Flow.inp a0 a1 a2 a3 a4 a5 a6 a7 a8 a9 a10 a11 a12 a13 a14) (i 0) (i 1) := by
  funext i
  have e : i = ix2 (i 0) (i 1) := by
    funext a
    match a with
    | ⟨0, _⟩ => rfl
    | ⟨1, _⟩ => rfl
  rw [e]
  exact avg_apply a0 _ _

theorem salV_apply (b : Fin 4) (l : Fin 2048) : salV a0 a4 a5 a6 a7 (ix2 b l) = Flow.sal (Flow.inp a0 a1 a2 a3 a4 a5 a6 a7 a8 a9 a10 a11 a12 a13 a14) (lm a0) b l := by
  unfold salV
  rw [logV_apply, scoreA_apply, avg_apply, ancV_apply0, ancV_apply1]
  simp only [dotA_apply, partR_apply, partI_apply]
  rfl

theorem row_sal (b : Fin 4) : Segments.fn (rows (salV a0 a4 a5 a6 a7) b) = Flow.sal (Flow.inp a0 a1 a2 a3 a4 a5 a6 a7 a8 a9 a10 a11 a12 a13 a14) (lm a0) b := by
  funext l
  exact (rows_apply _ b l).trans (salV_apply _ _ _ _ _ _ _ _ _ _ _ _ _ _ _ b l)

theorem existV_apply (b : Fin 4) (e : Fin 32) : existV (salV a0 a4 a5 a6 a7) (ix2 b e) = Flow.emask (Flow.inp a0 a1 a2 a3 a4 a5 a6 a7 a8 a9 a10 a11 a12 a13 a14) (lm a0) b e := by
  refine (maskV_apply (rows (salV a0 a4 a5 a6 a7)) b e).trans ?_
  rw [row_sal a0 a1 a2 a3 a4 a5 a6 a7 a8 a9 a10 a11 a12 a13 a14]
  unfold Flow.emask
  by_cases h : 0 < Flow.cnt (Flow.sal (Flow.inp a0 a1 a2 a3 a4 a5 a6 a7 a8 a9 a10 a11 a12 a13 a14) (lm a0) b) (Flow.slot e)
  · exact (if_pos h).trans (if_pos h).symm
  · exact (if_neg h).trans (if_neg h).symm

theorem eventsV_apply (b : Fin 4) (e : Fin 32) (k : Fin 768) (p : Fin 2) :
    eventsV a0 (salV a0 a4 a5 a6 a7) (ix4 b e k p) = Flow.event (Flow.inp a0 a1 a2 a3 a4 a5 a6 a7 a8 a9 a10 a11 a12 a13 a14) (lm a0) b e k p := by
  refine (poolV_apply a0 (rows (salV a0 a4 a5 a6 a7)) b e k p).trans ?_
  rw [row_sal a0 a1 a2 a3 a4 a5 a6 a7 a8 a9 a10 a11 a12 a13 a14]
  rfl

theorem memV_apply (wr wi : FVec Ideal S768x768 .f32) (old : FVec Ideal S4x32x768x2 .f32) (b : Fin 4) (e : Fin 32) (d : Fin 768) (p : Fin 2) :
    memV a0 (salV a0 a4 a5 a6 a7) wr wi old (ix4 b e d p)
      = Flow.mix (Flow.emask (Flow.inp a0 a1 a2 a3 a4 a5 a6 a7 a8 a9 a10 a11 a12 a13 a14) (lm a0) b e) (Flow.cl (Flow.event (Flow.inp a0 a1 a2 a3 a4 a5 a6 a7 a8 a9 a10 a11 a12 a13 a14) (lm a0) b e) (fun k d => wr (ix2 k d)) (fun k d => wi (ix2 k d)) d p) (old (ix4 b e d p)) := by
  unfold memV
  rw [mixV_apply, projV_apply, existV_apply a0 a1 a2 a3 a4 a5 a6 a7 a8 a9 a10 a11 a12 a13 a14]
  refine congrArg (fun x => Flow.mix _ (Flow.cl x _ _ d p) _) (funext fun k => funext fun p => ?_)
  exact eventsV_apply a0 a1 a2 a3 a4 a5 a6 a7 a8 a9 a10 a11 a12 a13 a14 b e k p

theorem keys_apply (b : Fin 4) (e : Fin 32) (d : Fin 768) (p : Fin 2) :
    memV a0 (salV a0 a4 a5 a6 a7) a8 a9 a1 (ix4 b e d p) = Flow.nk (Flow.inp a0 a1 a2 a3 a4 a5 a6 a7 a8 a9 a10 a11 a12 a13 a14) (lm a0) b e d p :=
  memV_apply a0 a1 a2 a3 a4 a5 a6 a7 a8 a9 a10 a11 a12 a13 a14 a8 a9 a1 b e d p

theorem values_apply (b : Fin 4) (e : Fin 32) (d : Fin 768) (p : Fin 2) :
    memV a0 (salV a0 a4 a5 a6 a7) a10 a11 a2 (ix4 b e d p) = Flow.nv (Flow.inp a0 a1 a2 a3 a4 a5 a6 a7 a8 a9 a10 a11 a12 a13 a14) (lm a0) b e d p :=
  memV_apply a0 a1 a2 a3 a4 a5 a6 a7 a8 a9 a10 a11 a12 a13 a14 a10 a11 a2 b e d p

theorem mask_apply (b : Fin 4) (e : Fin 32) : nmV a3 (existV (salV a0 a4 a5 a6 a7)) (ix2 b e) = Flow.nm (Flow.inp a0 a1 a2 a3 a4 a5 a6 a7 a8 a9 a10 a11 a12 a13 a14) (lm a0) b e := by
  rw [nmV_apply, existV_apply a0 a1 a2 a3 a4 a5 a6 a7 a8 a9 a10 a11 a12 a13 a14]
  rfl

end

end Cert.ReferenceIdeal.Memory

end
-- ==== Proof.Rows.lean ====
/- The reference's retrieval at an index: normalised rows, queries, the masked scores of a row, the eight greatest with their places, the
   softmax over the eight, and the weighted sum of the new values. -/
module

public import proofs.«01_k».proof.Proof.RefMemory

@[expose] public section

set_option maxRecDepth 16384

noncomputable section

namespace Cert.ReferenceIdeal.Rows

open Cert.ReferenceIdeal Cert.ReferenceIdeal.Gen Idealize.ShloMosaic Idealize.ShloMosaic.TcCoe Idealize.SL.Sem Idealize.ShloMosaic.StableHlo
open Cert.ReferenceIdeal.Memory (partR partI memR memI magV memV nmV existV salV partR_apply partI_apply memR_apply memI_apply magV_apply lm)

/-- The root mean squares of the rows. -/
def rmsV (a0 : FVec Ideal S4x2048x768x2 .f32) : FVec Ideal S4x2048x1 .f32 :=
  Host.sqrt (addf (Host.divf (broadcastInDim S4x2048x1 ![0, 1] bcast_S4x2048_S4x2048x1_0_1 (Host.reduceAdd (mulf (magV a0) (magV a0)) (constant S_ .f32 0x00000000#32) reducesTo_S4x2048x768_S4x2048_d2 h_S_)) (broadcastInDim S4x2048x1 ![] bcast_S_S4x2048x1 (constant S_ .f32 0x44400000#32))) (broadcastInDim S4x2048x1 ![] bcast_S_S4x2048x1 (constant S_ .f32 0x322BCC77#32)))

/-- The normalised rows. -/
def normV (a0 : FVec Ideal S4x2048x768x2 .f32) (r : FVec Ideal S4x2048x1 .f32) (a14 : FVec Ideal S768 .f32) : FVec Ideal S4x2048x768x2 .f32 :=
  mulf (Host.divf a0 (broadcastInDim S4x2048x768x2 ![0, 1, 2, 3] bcast_S4x2048x1x1_S4x2048x768x2_0_1_2_3
      (broadcastInDim S4x2048x1x1 ![0, 1, 2] bcast_S4x2048x1_S4x2048x1x1_0_1_2 r)))
    (broadcastInDim S4x2048x768x2 ![0, 1, 2, 3] bcast_S1x1x768x1_S4x2048x768x2_0_1_2_3
      (broadcastInDim S1x1x768x1 ![2] bcast_S768_S1x1x768x1_2 a14))

/-- A row product with a square matrix, and the complex one. -/
def lin (x : FVec Ideal S4x2048x768 .f32) (w : FVec Ideal S768x768 .f32) : FVec Ideal S4x2048x768 .f32 :=
  Host.dotGeneral dot_S4x2048x768_S768x768_S4x2048x768_2_0_01_1_n_n none x w
def queryV (x : FVec Ideal S4x2048x768x2 .f32) (wr wi : FVec Ideal S768x768 .f32) : FVec Ideal S4x2048x768x2 .f32 :=
  concatenate S4x2048x768x2 3 [⟨S4x2048x768x1, (broadcastInDim S4x2048x768x1 ![0, 1, 2] bcast_S4x2048x768_S4x2048x768x1_0_1_2 (subf (lin (partR x) wr) (lin (partI x) wi)))⟩,
    ⟨S4x2048x768x1, (broadcastInDim S4x2048x768x1 ![0, 1, 2] bcast_S4x2048x768_S4x2048x768x1_0_1_2 (addf (lin (partR x) wi) (lin (partI x) wr)))⟩] concatenates_S4x2048x768x1_S4x2048x768x1_S4x2048x768x2_d3

/-- The scores against the keys. -/
def dotK (x : FVec Ideal S4x2048x768 .f32) (k : FVec Ideal S4x32x768 .f32) : FVec Ideal S4x2048x32 .f32 :=
  Host.dotGeneral dot_S4x2048x768_S4x32x768_S4x2048x32_2_2_1_1_0_0 none x k

/-- The masked scores of queries against keys. -/
def scoreV (q : FVec Ideal S4x2048x768x2 .f32) (k : FVec Ideal S4x32x768x2 .f32) (n : FVec Ideal S4x32 .f32) : FVec Ideal S4x2048x32 .f32 :=
  addf (Host.divf (addf (dotK (partR q) (memR k)) (dotK (partI q) (memI k)))
      (broadcastInDim S4x2048x32 ![] bcast_S_S4x2048x32 (Host.sqrt (constant S_ .f32 0x44400000#32))))
    (broadcastInDim S4x2048x32 ![0, 1, 2] bcast_S4x1x32_S4x2048x32_0_1_2
      (mulf (subf (broadcastInDim S4x1x32 ![0, 2] bcast_S4x32_S4x1x32_0_2 n) (broadcastInDim S4x1x32 ![] bcast_S_S4x1x32 (constant S_ .f32 0x3F800000#32)))
        (broadcastInDim S4x1x32 ![] bcast_S_S4x1x32 (constant S_ .f32 0x4E6E6B28#32))))

/-- The eight greatest of each row, and their places. -/
def topV (x : FVec Ideal S4x2048x32 .f32) : FVec Ideal S4x2048x8 .f32 :=
  (Host.topK S4x2048x8 2 (FloatOps.cmpfTotal .gt) x sliceFits_S4x2048x32_S4x2048x8).1
def topI (x : FVec Ideal S4x2048x32 .f32) : IVec S4x2048x8 32 :=
  (Host.topK S4x2048x8 2 (FloatOps.cmpfTotal (F := Ideal) (φ := .f32) .gt) x sliceFits_S4x2048x32_S4x2048x8).2

/-- The exponentials of the eight, their maximum subtracted. -/
def expV (v : FVec Ideal S4x2048x8 .f32) : FVec Ideal S4x2048x8 .f32 :=
  Host.exp (subf v (broadcastInDim S4x2048x8 ![0, 1, 2] bcast_S4x2048x1_S4x2048x8_0_1_2 (broadcastInDim S4x2048x1 ![0, 1] bcast_S4x2048_S4x2048x1_0_1
    (maximumf (broadcastInDim S4x2048 ![] bcast_S_S4x2048 (constant S_ .f32 0xFF800000#32))
      (Host.reduce FloatOps.maximumf v (constant S_ .f32 0xFF800000#32) reducesTo_S4x2048x8_S4x2048_d2 h_S_)))))

/-- The softmax over the eight. -/
def softV (v : FVec Ideal S4x2048x8 .f32) : FVec Ideal S4x2048x8 .f32 :=
  Host.divf (expV v) (broadcastInDim S4x2048x8 ![0, 1, 2] bcast_S4x2048x1_S4x2048x8_0_1_2 (broadcastInDim S4x2048x1 ![0, 1] bcast_S4x2048_S4x2048x1_0_1
    (Host.reduceAdd (expV v) (constant S_ .f32 0x00000000#32) reducesTo_S4x2048x8_S4x2048_d2 h_S_)))

/-- One row of zeros and a one for each of the eight. -/
def hotV (i : IVec S4x2048x8 32) : FVec Ideal S4x2048x8x32 .f32 :=
  uitofp .f32 (cmpi .eq
    (broadcastInDim S4x2048x8x32 ![0, 1, 2, 3] bcast_S4x2048x8x1_S4x2048x8x32_0_1_2_3 (broadcastInDim S4x2048x8x1 ![0, 1, 2] bcast_S4x2048x8_S4x2048x8x1_0_1_2 i))
    (broadcastInDim S4x2048x8x32 ![0, 1, 2, 3] bcast_S1x1x1x32_S4x2048x8x32_0_1_2_3 (iotaInDim S1x1x1x32 32 3)))

/-- The weight of every place. -/
def weightV (x : FVec Ideal S4x2048x32 .f32) : FVec Ideal S4x2048x32 .f32 :=
  Host.dotGeneral dot_S4x2048x8_S4x2048x8x32_S4x2048x32_2_2_n_3_01_01 none (softV (topV x)) (hotV (topI x))

def outV (w : FVec Ideal S4x2048x32 .f32) (v : FVec Ideal S4x32x768x2 .f32) : FVec Ideal S4x2048x768x2 .f32 :=
  Host.dotGeneral dot_S4x2048x32_S4x32x768x2_S4x2048x768x2_2_1_1_23_0_0 none w v

/-- The masked scores from the arguments. -/
def allV (a0 : FVec Ideal S4x2048x768x2 .f32) (a1 : FVec Ideal S4x32x768x2 .f32) (a3 : FVec Ideal S4x32 .f32) (s : FVec Ideal S4x2048 .f32)
    (a8 a9 a12 a13 : FVec Ideal S768x768 .f32) (a14 : FVec Ideal S768 .f32) : FVec Ideal S4x2048x32 .f32 :=
  scoreV (queryV (normV a0 (rmsV a0) a14) a12 a13) (memV a0 s a8 a9 a1) (nmV a3 (existV s))

theorem rmsV_apply (a0 : FVec Ideal S4x2048x768x2 .f32) (b : Fin 4) (l : Fin 2048) :
    rmsV a0 (ix3 b l 0) = Ideal.sqrt ((∑ k, (a0 (ix4 b l k 0) * a0 (ix4 b l k 0) + a0 (ix4 b l k 1) * a0 (ix4 b l k 1))) * Flow.inv768 + Flow.eps) := by
  unfold rmsV
  rw [← Flow.div_768]
  pointwise [magV_apply]
  simp only [Flow.cabs_sq]
  rw [Spec.ofBits_768]
  rfl

theorem normV_apply (a0 : FVec Ideal S4x2048x768x2 .f32) (r : FVec Ideal S4x2048x1 .f32) (a14 : FVec Ideal S768 .f32) (b : Fin 4) (l : Fin 2048) (k : Fin 768) (p : Fin 2) :
    normV a0 r a14 (ix4 b l k p) = Spec.normed (a0 (ix4 b l k p)) (r (ix3 b l 0)) (a14 (ix1 k)) := by
  unfold normV Spec.normed
  pointwise

theorem lin_apply (x : FVec Ideal S4x2048x768 .f32) (w : FVec Ideal S768x768 .f32) (b : Fin 4) (l : Fin 2048) (d : Fin 768) :
    lin x w (ix3 b l d) = ∑ k, x (ix3 b l k) * w (ix2 k d) := by
  unfold lin
  pointwise

theorem queryV_apply0 (x : FVec Ideal S4x2048x768x2 .f32) (wr wi : FVec Ideal S768x768 .f32) (b : Fin 4) (l : Fin 2048) (d : Fin 768) :
    queryV x wr wi (ix4 b l d 0) = ∑ k, x (ix4 b l k 0) * wr (ix2 k d) - ∑ k, x (ix4 b l k 1) * wi (ix2 k d) := by
  unfold queryV
  pointwise [lin_apply, partR_apply, partI_apply]
theorem queryV_apply1 (x : FVec Ideal S4x2048x768x2 .f32) (wr wi : FVec Ideal S768x768 .f32) (b : Fin 4) (l : Fin 2048) (d : Fin 768) :
    queryV x wr wi (ix4 b l d 1) = ∑ k, x (ix4 b l k 0) * wi (ix2 k d) + ∑ k, x (ix4 b l k 1) * wr (ix2 k d) := by
  unfold queryV
  pointwise [lin_apply, partR_apply, partI_apply]

theorem dotK_apply (x : FVec Ideal S4x2048x768 .f32) (k : FVec Ideal S4x32x768 .f32) (b : Fin 4) (l : Fin 2048) (s : Fin 32) :
    dotK x k (ix3 b l s) = ∑ d, x (ix3 b l d) * k (ix3 b s d) := by
  unfold dotK
  pointwise

theorem scoreV_apply (q : FVec Ideal S4x2048x768x2 .f32) (k : FVec Ideal S4x32x768x2 .f32) (n : FVec Ideal S4x32 .f32) (b : Fin 4) (l : Fin 2048) (s : Fin 32) :
    scoreV q k n (ix3 b l s) = (∑ d, q (ix4 b l d 0) * k (ix4 b s d 0) + ∑ d, q (ix4 b l d 1) * k (ix4 b s d 1)) * (((Real.sqrt 768)⁻¹ : ℝ) : EReal)
      + Spec.bias (n (ix2 b s)) := by
  unfold scoreV Spec.bias
  rw [← Spec.div_sqrt, ← Spec.sqrt_coe, ← Spec.ofBits_768]
  pointwise [dotK_apply, partR_apply, partI_apply, memR_apply, memI_apply]

theorem along_eq (j : S4x2048x32.Idx) (h : 2 < S4x2048x32.rank) (k : Fin 32) : j.along ⟨2, h⟩ k = ix3 (j 0) (j 1) k := by
  funext a
  match a with
  | ⟨0, _⟩ => rfl
  | ⟨1, _⟩ => rfl
  | ⟨2, _⟩ => rfl

/-- The order in which the sort runs through a row. -/
theorem order_eq (x : FVec Ideal S4x2048x32 .f32) (j : S4x2048x32.Idx) (h : 2 < S4x2048x32.rank) :
    sortedFrom (fun k k' : Fin 32 => FloatOps.cmpfTotal (F := Ideal) (φ := .f32) .gt (x (j.along ⟨2, h⟩ k)) (x (j.along ⟨2, h⟩ k')) == 1#1)
      = Rounds.place (fun s => x (ix3 (j 0) (j 1) s)) := by
  funext r
  unfold Rounds.place
  refine congrArg (fun f => sortedFrom f r) (funext fun k => funext fun k' => ?_)
  rw [along_eq, along_eq]
  show (BitVec.ofBool (decide (x (ix3 (j 0) (j 1) k') < x (ix3 (j 0) (j 1) k))) == 1#1) = decide (x (ix3 (j 0) (j 1) k') < x (ix3 (j 0) (j 1) k))
  by_cases hlt : x (ix3 (j 0) (j 1) k') < x (ix3 (j 0) (j 1) k)
  · simp [hlt]
  · simp [hlt]

/-- A row's position among the first eight, as an index of the whole row. -/
def wide (b : Fin 4) (l : Fin 2048) (k : Fin 8) : S4x2048x32.Idx := ix3 b l ⟨k.val, by omega⟩

theorem slice_apply {α : Type} (y : S4x2048x32.Idx → α) (b : Fin 4) (l : Fin 2048) (k : Fin 8) :
    extractStridedSlice S4x2048x8 (fun _ => 0) y sliceFits_S4x2048x32_S4x2048x8 (ix3 b l k) = y (wide b l k) := by
  refine congrArg y (funext fun a => Fin.ext ?_)
  match a with
  | ⟨0, _⟩ => exact Nat.zero_add _
  | ⟨1, _⟩ => exact Nat.zero_add _
  | ⟨2, _⟩ => exact Nat.zero_add _

/-- A row sorted with its places. -/
def sorted (x : FVec Ideal S4x2048x32 .f32) : (S4x2048x32.Idx → EReal) × (S4x2048x32.Idx → BitVec 32) :=
  Host.sort2 S4x2048x32 2 (fun l r => FloatOps.cmpfTotal (F := Ideal) (φ := .f32) .gt l.1 r.1) x
    (fun i => if hd : 2 < S4x2048x32.rank then iotaInDim S4x2048x32 32 ⟨2, hd⟩ i else 0#32)

theorem sorted_fst (x : FVec Ideal S4x2048x32 .f32) (j : S4x2048x32.Idx) :
    (sorted x).1 j = x (ix3 (j 0) (j 1) (Rounds.place (fun s => x (ix3 (j 0) (j 1) s)) (j 2))) := by
  unfold sorted Host.sort2
  rw [dif_pos (show 2 < S4x2048x32.rank by decide)]
  dsimp only
  refine (congrArg x (along_eq j (by decide) _)).trans ?_
  exact congrArg (fun f => x (ix3 (j 0) (j 1) (f (j 2)))) (order_eq x j (by decide))

theorem iota_apply (h : 2 < S4x2048x32.rank) (b : Fin 4) (l : Fin 2048) (q : Fin 32) :
    iotaInDim S4x2048x32 32 ⟨2, h⟩ (ix3 b l q) = BitVec.ofNat 32 q.val := rfl

theorem sorted_snd (x : FVec Ideal S4x2048x32 .f32) (j : S4x2048x32.Idx) :
    (sorted x).2 j = BitVec.ofNat 32 (Rounds.place (fun s => x (ix3 (j 0) (j 1) s)) (j 2)).val := by
  unfold sorted Host.sort2
  rw [dif_pos (show 2 < S4x2048x32.rank by decide)]
  dsimp only
  rw [dif_pos (show 2 < S4x2048x32.rank by decide)]
  refine (congrArg (iotaInDim S4x2048x32 32 ⟨2, by decide⟩) (along_eq j (by decide) _)).trans ?_
  exact (iota_apply _ _ _ _).trans (congrArg (fun q : Fin 32 => BitVec.ofNat 32 q.val) (congrFun (order_eq x j (by decide)) (j 2)))

theorem topV_eq (x : FVec Ideal S4x2048x32 .f32) :
    topV x = extractStridedSlice S4x2048x8 (fun _ => 0) (sorted x).1 sliceFits_S4x2048x32_S4x2048x8 := rfl

theorem topI_eq (x : FVec Ideal S4x2048x32 .f32) :
    topI x = extractStridedSlice S4x2048x8 (fun _ => 0) (sorted x).2 sliceFits_S4x2048x32_S4x2048x8 := rfl

theorem topV_apply (x : FVec Ideal S4x2048x32 .f32) (b : Fin 4) (l : Fin 2048) (k : Fin 8) :
    topV x (ix3 b l k) = x (ix3 b l (Rounds.place8 (fun s => x (ix3 b l s)) k)) := by
  rw [topV_eq, slice_apply, sorted_fst]
  rfl

theorem topI_apply (x : FVec Ideal S4x2048x32 .f32) (b : Fin 4) (l : Fin 2048) (k : Fin 8) :
    topI x (ix3 b l k) = BitVec.ofNat 32 (Rounds.place8 (fun s => x (ix3 b l s)) k).val := by
  rw [topI_eq, slice_apply, sorted_snd]
  rfl

theorem expV_apply (v : FVec Ideal S4x2048x8 .f32) (b : Fin 4) (l : Fin 2048) (k : Fin 8) :
    expV v (ix3 b l k) = Ideal.exp (v (ix3 b l k) - Finset.univ.sup fun j : Fin 8 => v (ix3 b l j)) := by
  unfold expV
  pointwise
  rw [Spec.ofBits_neg_inf, Spec.fold_max_eq_sup, max_eq_right bot_le]

theorem softV_apply (v : FVec Ideal S4x2048x8 .f32) (b : Fin 4) (l : Fin 2048) (k : Fin 8) :
    softV v (ix3 b l k) = Ideal.div (expV v (ix3 b l k)) (∑ j : Fin 8, expV v (ix3 b l j)) := by
  unfold softV
  pointwise

theorem hotV_apply (i : IVec S4x2048x8 32) (b : Fin 4) (l : Fin 2048) (k : Fin 8) (s : Fin 32) :
    hotV i (ix4 b l k s) = if i (ix3 b l k) = BitVec.ofNat 32 s.val then 1 else 0 := by
  unfold hotV
  pointwise
  by_cases h : i (ix3 b l k) = BitVec.ofNat 32 s.val
  · rw [if_pos h, h]
    simp [IntOp.cmpi, FloatOps.uitofp]
  · rw [if_neg h]
    simp [IntOp.cmpi, FloatOps.uitofp, h]

theorem weightV_apply (x : FVec Ideal S4x2048x32 .f32) (b : Fin 4) (l : Fin 2048) (s : Fin 32) :
    weightV x (ix3 b l s) = Rounds.sortW (fun s => x (ix3 b l s)) s := by
  unfold weightV Rounds.sortW Rounds.sortE
  pointwise [softV_apply, expV_apply, topV_apply, hotV_apply, topI_apply]
  refine Finset.sum_congr rfl fun k _ => congrArg _ (if_congr ?_ rfl rfl)
  exact ⟨fun h => Fin.ext (by
    have := congrArg BitVec.toNat h
    simp only [BitVec.toNat_ofNat] at this
    omega), fun h => by rw [h]⟩

theorem outV_apply (w : FVec Ideal S4x2048x32 .f32) (v : FVec Ideal S4x32x768x2 .f32) (b : Fin 4) (l : Fin 2048) (d : Fin 768) (p : Fin 2) :
    outV w v (ix4 b l d p) = ∑ s : Fin 32, w (ix3 b l s) * v (ix4 b s d p) := by
  unfold outV
  pointwise

section
variable (a0 : FVec Ideal S4x2048x768x2 .f32) (a1 a2 : FVec Ideal S4x32x768x2 .f32) (a3 : FVec Ideal S4x32 .f32) (a4 a5 : FVec Ideal S768x1 .f32)
  (a6 a7 : FVec Ideal S_ .f32) (a8 a9 a10 a11 a12 a13 : FVec Ideal S768x768 .f32) (a14 : FVec Ideal S768 .f32)

theorem allV_apply (b : Fin 4) (l : Fin 2048) (s : Fin 32) :
    allV a0 a1 a3 (salV a0 a4 a5 a6 a7) a8 a9 a12 a13 a14 (ix3 b l s)
      = Flow.scores (Flow.inp a0 a1 a2 a3 a4 a5 a6 a7 a8 a9 a10 a11 a12 a13 a14) (lm a0) b l s := by
  unfold allV
  rw [scoreV_apply]
  simp only [queryV_apply0, queryV_apply1, normV_apply, rmsV_apply, Memory.keys_apply a0 a1 a2 a3 a4 a5 a6 a7 a8 a9 a10 a11 a12 a13 a14,
    Memory.mask_apply a0 a1 a2 a3 a4 a5 a6 a7 a8 a9 a10 a11 a12 a13 a14]
  rfl

theorem retrieved_apply (b : Fin 4) (l : Fin 2048) (d : Fin 768) (p : Fin 2) :
    outV (weightV (allV a0 a1 a3 (salV a0 a4 a5 a6 a7) a8 a9 a12 a13 a14)) (memV a0 (salV a0 a4 a5 a6 a7) a10 a11 a2) (ix4 b l d p)
      = ∑ s, Rounds.sortW (Flow.scores (Flow.inp a0 a1 a2 a3 a4 a5 a6 a7 a8 a9 a10 a11 a12 a13 a14) (lm a0) b l) s
          * Flow.nv (Flow.inp a0 a1 a2 a3 a4 a5 a6 a7 a8 a9 a10 a11 a12 a13 a14) (lm a0) b s d p := by
  rw [outV_apply]
  refine Finset.sum_congr rfl fun s _ => ?_
  rw [weightV_apply, Memory.values_apply a0 a1 a2 a3 a4 a5 a6 a7 a8 a9 a10 a11 a12 a13 a14]
  refine congrArg (fun f => Rounds.sortW f s * _) (funext fun t => ?_)
  exact allV_apply a0 a1 a2 a3 a4 a5 a6 a7 a8 a9 a10 a11 a12 a13 a14 b l t

end

end Cert.ReferenceIdeal.Rows

end
-- ==== Proof.RefRun.lean ====
/- The terms of the reference's run are the arrays of the other modules. -/
module

public import proofs.«01_k».proof.Proof.Rows
public import proofs.«01_k».proof.Proof.Gen.ReferenceIdeal.Run

@[expose] public section

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Memory Cert.ReferenceIdeal.Rows
open Cert.ReferenceIdeal.Segments (upV segV wtV evV mkV)

variable (V : Valuation τ sig (Elt Ideal))

/-- The arguments. -/
abbrev A0 : FVec Ideal S4x2048x768x2 .f32 := V (Proc.devRef .tc main_arg0)
abbrev A1 : FVec Ideal S4x32x768x2 .f32 := V (Proc.devRef .tc main_arg1)
abbrev A2 : FVec Ideal S4x32x768x2 .f32 := V (Proc.devRef .tc main_arg2)
abbrev A3 : FVec Ideal S4x32 .f32 := V (Proc.devRef .tc main_arg3)
abbrev A4 : FVec Ideal S768x1 .f32 := V (Proc.devRef .tc main_arg4)
abbrev A5 : FVec Ideal S768x1 .f32 := V (Proc.devRef .tc main_arg5)
abbrev A6 : FVec Ideal S_ .f32 := V (Proc.devRef .tc main_arg6)
abbrev A7 : FVec Ideal S_ .f32 := V (Proc.devRef .tc main_arg7)
abbrev A8 : FVec Ideal S768x768 .f32 := V (Proc.devRef .tc main_arg8)
abbrev A9 : FVec Ideal S768x768 .f32 := V (Proc.devRef .tc main_arg9)
abbrev A10 : FVec Ideal S768x768 .f32 := V (Proc.devRef .tc main_arg10)
abbrev A11 : FVec Ideal S768x768 .f32 := V (Proc.devRef .tc main_arg11)
abbrev A12 : FVec Ideal S768x768 .f32 := V (Proc.devRef .tc main_arg12)
abbrev A13 : FVec Ideal S768x768 .f32 := V (Proc.devRef .tc main_arg13)
abbrev A14 : FVec Ideal S768 .f32 := V (Proc.devRef .tc main_arg14)

/-- The saliences of the run. -/
abbrev S : FVec Ideal S4x2048 .f32 := salV (A0 V) (A4 V) (A5 V) (A6 V) (A7 V)

theorem avg_eq : Value.res_main_v32 V = avgV (A0 V) := rfl
theorem anc_eq : Value.res_main_v12 V = ancV (A0 V) (A4 V) (A5 V) := rfl
theorem pad_eq : Value.res_main_v36 V = padV (avgV (A0 V)) := congrArg padV (avg_eq V)
theorem ancR_eq : Value.res_main_v14 V = ancR (ancV (A0 V) (A4 V) (A5 V)) := congrArg ancR (anc_eq V)
theorem ancI_eq : Value.res_main_v17 V = ancI (ancV (A0 V) (A4 V) (A5 V)) := congrArg ancI (anc_eq V)

theorem sal_eq : Value.res_main_v79 V = S V := by
  have e : Value.res_main_v79 V = logV (shapeCast _ (Host.sqrt (addf (mulf (Value.res_main_v14 V) (Value.res_main_v14 V)) (mulf (Value.res_main_v17 V) (Value.res_main_v17 V)))) shapeCasts_S4x2048x1_S4x2048)
      (Value.res_main_v32 V) (tapsV (Value.res_main_v36 V) (Value.res_main_v35 V)) (A6 V) (A7 V) := rfl
  rw [e, ancR_eq, ancI_eq, avg_eq, pad_eq]
  rfl

theorem row0_eq : Value.res_main_v83 V = row0 (S V) := congrArg row0 (sal_eq V)
theorem up0_eq : Value.res_main_v85 V = upV (row0 (S V)) := congrArg upV (row0_eq V)
theorem seg0_eq : Value.res_main_v97 V = segV (upV (row0 (S V))) := congrArg segV (up0_eq V)
theorem wt0_eq : Value.res_main_v98 V = wtV (upV (row0 (S V))) (row0 (S V)) := congrArg₂ wtV (up0_eq V) (row0_eq V)
theorem row1_eq : Value.res_main_v126 V = row1 (S V) := congrArg row1 (sal_eq V)
theorem up1_eq : Value.res_main_v128 V = upV (row1 (S V)) := congrArg upV (row1_eq V)
theorem seg1_eq : Value.res_main_v140 V = segV (upV (row1 (S V))) := congrArg segV (up1_eq V)
theorem wt1_eq : Value.res_main_v141 V = wtV (upV (row1 (S V))) (row1 (S V)) := congrArg₂ wtV (up1_eq V) (row1_eq V)
theorem row2_eq : Value.res_main_v169 V = row2 (S V) := congrArg row2 (sal_eq V)
theorem up2_eq : Value.res_main_v171 V = upV (row2 (S V)) := congrArg upV (row2_eq V)
theorem seg2_eq : Value.res_main_v183 V = segV (upV (row2 (S V))) := congrArg segV (up2_eq V)
theorem wt2_eq : Value.res_main_v184 V = wtV (upV (row2 (S V))) (row2 (S V)) := congrArg₂ wtV (up2_eq V) (row2_eq V)
theorem row3_eq : Value.res_main_v212 V = row3 (S V) := congrArg row3 (sal_eq V)
theorem up3_eq : Value.res_main_v214 V = upV (row3 (S V)) := congrArg upV (row3_eq V)
theorem seg3_eq : Value.res_main_v226 V = segV (upV (row3 (S V))) := congrArg segV (up3_eq V)
theorem wt3_eq : Value.res_main_v227 V = wtV (upV (row3 (S V))) (row3 (S V)) := congrArg₂ wtV (up3_eq V) (row3_eq V)

theorem events_eq : Value.res_main_v256 V = eventsV (A0 V) (S V) := by
  have e : Value.res_main_v256 V = concatenate S4x32x768x2 0 [⟨S1x32x768x2, broadcastInDim S1x32x768x2 ![1, 2, 3] bcast_S32x768x2_S1x32x768x2_1_2_3 (evV (Value.res_main_v97 V) (Value.res_main_v98 V) (part0 (A0 V)))⟩, ⟨S1x32x768x2, broadcastInDim S1x32x768x2 ![1, 2, 3] bcast_S32x768x2_S1x32x768x2_1_2_3 (evV (Value.res_main_v140 V) (Value.res_main_v141 V) (part1 (A0 V)))⟩, ⟨S1x32x768x2, broadcastInDim S1x32x768x2 ![1, 2, 3] bcast_S32x768x2_S1x32x768x2_1_2_3 (evV (Value.res_main_v183 V) (Value.res_main_v184 V) (part2 (A0 V)))⟩, ⟨S1x32x768x2, broadcastInDim S1x32x768x2 ![1, 2, 3] bcast_S32x768x2_S1x32x768x2_1_2_3 (evV (Value.res_main_v226 V) (Value.res_main_v227 V) (part3 (A0 V)))⟩] concatenates_S1x32x768x2_S1x32x768x2_S1x32x768x2_S1x32x768x2_S4x32x768x2_d0 := rfl
  rw [e, seg0_eq, wt0_eq, seg1_eq, wt1_eq, seg2_eq, wt2_eq, seg3_eq, wt3_eq]
  rfl

theorem exist_eq : Value.res_main_v261 V = existV (S V) := by
  have e : Value.res_main_v261 V = concatenate S4x32 0 [⟨S1x32, broadcastInDim S1x32 ![1] bcast_S32_S1x32_1 (mkV (Value.res_main_v97 V) (Value.res_main_v85 V))⟩, ⟨S1x32, broadcastInDim S1x32 ![1] bcast_S32_S1x32_1 (mkV (Value.res_main_v140 V) (Value.res_main_v128 V))⟩, ⟨S1x32, broadcastInDim S1x32 ![1] bcast_S32_S1x32_1 (mkV (Value.res_main_v183 V) (Value.res_main_v171 V))⟩, ⟨S1x32, broadcastInDim S1x32 ![1] bcast_S32_S1x32_1 (mkV (Value.res_main_v226 V) (Value.res_main_v214 V))⟩] concatenates_S1x32_S1x32_S1x32_S1x32_S4x32_d0 := rfl
  rw [e, seg0_eq, up0_eq, seg1_eq, up1_eq, seg2_eq, up2_eq, seg3_eq, up3_eq]
  rfl

/-- The new memory from its parts. -/
theorem keys_eq : Value.res_main_v295 V = memV (A0 V) (S V) (A8 V) (A9 V) (A1 V) := by
  have e : Value.res_main_v295 V = mixV (Value.res_main_v261 V) (projV (Value.res_main_v256 V) (A8 V) (A9 V)) (A1 V) := rfl
  rw [e, exist_eq, events_eq]
  rfl

/-- The new values as the run spells them. -/
abbrev valuesT : FVec Ideal S4x32x768x2 .f32 := mixV (Value.res_main_v261 V) (projV (Value.res_main_v256 V) (A10 V) (A11 V)) (A2 V)

theorem values_eq : valuesT V = memV (A0 V) (S V) (A10 V) (A11 V) (A2 V) := by
  unfold valuesT
  rw [exist_eq, events_eq]
  rfl

theorem mask_eq : nmV (A3 V) (Value.res_main_v261 V) = nmV (A3 V) (existV (S V)) := by
  rw [exist_eq]

theorem query_eq : Value.res_main_v340 V = queryV (normV (A0 V) (rmsV (A0 V)) (A14 V)) (A12 V) (A13 V) := rfl

theorem scores_eq : Value.res_main_v361 V = allV (A0 V) (A1 V) (A3 V) (S V) (A8 V) (A9 V) (A12 V) (A13 V) (A14 V) := by
  have e : Value.res_main_v361 V = scoreV (Value.res_main_v340 V) (Value.res_main_v295 V) (nmV (A3 V) (Value.res_main_v261 V)) := rfl
  rw [e, query_eq, keys_eq, exist_eq]
  rfl

/-- What a run of the reference leaves in its results and in its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v375) = outV (weightV (allV (A0 (launchContents m c)) (A1 (launchContents m c)) (A3 (launchContents m c)) (S (launchContents m c))
          (A8 (launchContents m c)) (A9 (launchContents m c)) (A12 (launchContents m c)) (A13 (launchContents m c)) (A14 (launchContents m c))))
          (memV (A0 (launchContents m c)) (S (launchContents m c)) (A10 (launchContents m c)) (A11 (launchContents m c)) (A2 (launchContents m c))))
      ∧ r.2.mem ((c.tc : Thread nD τ).loc main_v295) = memV (A0 (launchContents m c)) (S (launchContents m c)) (A8 (launchContents m c)) (A9 (launchContents m c)) (A1 (launchContents m c))
      ∧ r.2.mem ((c.tc : Thread nD τ).loc main_v302) = memV (A0 (launchContents m c)) (S (launchContents m c)) (A10 (launchContents m c)) (A11 (launchContents m c)) (A2 (launchContents m c))
      ∧ r.2.mem ((c.tc : Thread nD τ).loc main_v305) = nmV (A3 (launchContents m c)) (existV (S (launchContents m c)))
      ∧ r.2.mem ((c.tc : Thread nD τ).loc main_v79) = S (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
    obtain ⟨h0, h1, h2, h3, h4, h5⟩ := h c
    refine ⟨h0.trans ?_, h1.trans (keys_eq _), h2.trans (values_eq _), h3.trans ?_, h4.trans (sal_eq _), h5⟩
    on_goal 2 => exact mask_eq (launchContents m c)
    have e := congrArg₂ (fun x v => outV (weightV x) v) (scores_eq (launchContents m c)) (values_eq (launchContents m c))
    exact e) (Value.run m ρ)

end Cert.ReferenceIdeal.RefRun

end
-- ==== Proof.Mask.lean ====
/- What the mask says of a row: its masked scores are pairwise different and below +∞. -/
module

public import proofs.«01_k».proof.Proof.Rows
public import proofs.«01_k».proof.Proof.Gen.On_distinct
public import Idealize.ShloMosaic.Lib.ReduceAll

@[expose] public section

set_option maxRecDepth 16384

noncomputable section

namespace Cert.ReferenceIdeal.Pieces

open Cert.ReferenceIdeal Cert.ReferenceIdeal.Gen Idealize.ShloMosaic
open Cert.ReferenceIdeal.Memory Cert.ReferenceIdeal.Rows
open Cert.ReferenceIdeal.Segments (upV prevV cumV segV wtV evV mkV)

/-- Events from their two sums, and which counts are positive. -/
def quotW (n : FVec Ideal S32x768x2 .f32) (d : FVec Ideal S32 .f32) : FVec Ideal S32x768x2 .f32 :=
  Host.divf n (broadcastInDim S32x768x2 ![0, 1, 2] bcast_S32x1x1_S32x768x2_0_1_2 (broadcastInDim S32x1x1 ![0] bcast_S32_S32x1x1_0 (maximumf d (broadcastInDim S32 ![] bcast_S_S32 (constant S_ .f32 0x322BCC77#32)))))
def posW (c : FVec Ideal S32 .f32) : FVec Ideal S32 .f32 :=
  uitofp .f32 (cmpf .ogt c (broadcastInDim S32 ![] bcast_S_S32 (constant S_ .f32 0x00000000#32)))

/-- The sums: of weighted rows, and of numbers. -/
def numW (g : IVec S2048 32) (w : FVec Ideal S2048x1x1 .f32) (x : FVec Ideal S2048x768x2 .f32) : FVec Ideal S33x768x2 .f32 :=
  Host.scatterAdd scatter_S33x768x2_S2048x1_S2048x768x2_12_0_0_1 (broadcastInDim S33x768x2 ![] bcast_S_S33x768x2 (constant S_ .f32 0x00000000#32)) (broadcastInDim S2048x1 ![0] bcast_S2048_S2048x1_0 g) (mulf x (broadcastInDim S2048x768x2 ![0, 1, 2] bcast_S2048x1x1_S2048x768x2_0_1_2 w))
def cutW (x : FVec Ideal S33x768x2 .f32) : FVec Ideal S32x768x2 .f32 := extractStridedSlice S32x768x2 ![0, 0, 0] x slices_S33x768x2_S32x768x2_0_0_0
def denW (g : IVec S2048 32) (w : FVec Ideal S2048 .f32) : FVec Ideal S32 .f32 :=
  extractStridedSlice S32 ![0] (Host.scatterAdd scatter_S33_S2048x1_S2048_n_0_0_1 (broadcastInDim S33 ![] bcast_S_S33 (constant S_ .f32 0x00000000#32)) (broadcastInDim S2048x1 ![0] bcast_S2048_S2048x1_0 g) w) slices_S33_S32_0
def colW (w : FVec Ideal S2048 .f32) : FVec Ideal S2048x1x1 .f32 := broadcastInDim S2048x1x1 ![0] bcast_S2048_S2048x1x1_0 w

/-- The segments, from the counts, from the starts, and with a given first entry. -/
def segA (u : IVec S2048 1) (x y : IVec S2048 32) : IVec S2048 32 :=
  select u (minsi x y) (broadcastInDim S2048 ![] bcast_S_S2048 (id (constantI S_ 32 32#32)))
def segB (u : IVec S2048 1) (x : IVec S2048 32) : IVec S2048 32 :=
  segA u (subi (Host.reduceWindow IntOp.addi ![2048] ![1] ![2047] ![0] x (broadcastInDim S_ ![] bcast_S_S_ (constantI S_ 32 0#32)) reduceWindows_S2048_S2048_w2048s1p2047_0 h_S_) (broadcastInDim S2048 ![] bcast_S_S2048 (constantI S_ 32 1#32)))
    (broadcastInDim S2048 ![] bcast_S_S2048 (constantI S_ 32 32#32))
def segC (u : IVec S2048 1) (c : IVec S_ 1) : IVec S2048 32 :=
  segB u (extui 32 (andi u (noti (concatenate S2048 0 [⟨S1, (broadcastInDim S1 ![] bcast_S_S1 c)⟩, ⟨S2047, (extractStridedSlice S2047 ![0] u slices_S2048_S2047_0)⟩] concatenates_S1_S2047_S2048_d0))) natLt_1_32)

theorem evW_eq (g : IVec S2048 32) (w : FVec Ideal S2048 .f32) (x : FVec Ideal S2048x768x2 .f32) : quotW (cutW (numW g (colW w) x)) (denW g w) = evV g w x := rfl
theorem mkW_eq (g : IVec S2048 32) (u : IVec S2048 1) : posW (denW g (uitofp .f32 u)) = mkV g u := rfl
theorem segC_eq (u : IVec S2048 1) : segC u (constantI S_ 1 0#1) = segV u := rfl

/-- The new memory from its events, and the masked scores from keys and mask. -/
def joinE (p0 p1 p2 p3 : FVec Ideal S32x768x2 .f32) : FVec Ideal S4x32x768x2 .f32 :=
  concatenate S4x32x768x2 0 [⟨S1x32x768x2, broadcastInDim S1x32x768x2 ![1, 2, 3] bcast_S32x768x2_S1x32x768x2_1_2_3 p0⟩,
    ⟨S1x32x768x2, broadcastInDim S1x32x768x2 ![1, 2, 3] bcast_S32x768x2_S1x32x768x2_1_2_3 p1⟩,
    ⟨S1x32x768x2, broadcastInDim S1x32x768x2 ![1, 2, 3] bcast_S32x768x2_S1x32x768x2_1_2_3 p2⟩,
    ⟨S1x32x768x2, broadcastInDim S1x32x768x2 ![1, 2, 3] bcast_S32x768x2_S1x32x768x2_1_2_3 p3⟩] concatenates_S1x32x768x2_S1x32x768x2_S1x32x768x2_S1x32x768x2_S4x32x768x2_d0
def liftM (e : FVec Ideal S32 .f32) : FVec Ideal S1x32 .f32 := broadcastInDim S1x32 ![1] bcast_S32_S1x32_1 e
def catM (e0 e1 e2 e3 : FVec Ideal S1x32 .f32) : FVec Ideal S4x32 .f32 :=
  concatenate S4x32 0 [⟨S1x32, e0⟩, ⟨S1x32, e1⟩, ⟨S1x32, e2⟩, ⟨S1x32, e3⟩] concatenates_S1x32_S1x32_S1x32_S1x32_S4x32_d0
def joinM (e0 e1 e2 e3 : FVec Ideal S32 .f32) : FVec Ideal S4x32 .f32 := catM (liftM e0) (liftM e1) (liftM e2) (liftM e3)
def pairW (x y : FVec Ideal S4x32x768 .f32) : FVec Ideal S4x32x768x2 .f32 :=
  concatenate S4x32x768x2 3 [⟨S4x32x768x1, (broadcastInDim S4x32x768x1 ![0, 1, 2] bcast_S4x32x768_S4x32x768x1_0_1_2 x)⟩,
    ⟨S4x32x768x1, (broadcastInDim S4x32x768x1 ![0, 1, 2] bcast_S4x32x768_S4x32x768x1_0_1_2 y)⟩] concatenates_S4x32x768x1_S4x32x768x1_S4x32x768x2_d3
def one32 : FVec Ideal S4x32 .f32 := broadcastInDim S4x32 ![] bcast_S_S4x32 (constant S_ .f32 0x3F800000#32)
def biasW (n : FVec Ideal S4x32 .f32) (x : FVec Ideal S4x2048x32 .f32) : FVec Ideal S4x2048x32 .f32 :=
  addf (Host.divf x (broadcastInDim S4x2048x32 ![] bcast_S_S4x2048x32 (Host.sqrt (constant S_ .f32 0x44400000#32))))
    (broadcastInDim S4x2048x32 ![0, 1, 2] bcast_S4x1x32_S4x2048x32_0_1_2
      (mulf (subf (broadcastInDim S4x1x32 ![0, 2] bcast_S4x32_S4x1x32_0_2 n) (broadcastInDim S4x1x32 ![] bcast_S_S4x1x32 (constant S_ .f32 0x3F800000#32)))
        (broadcastInDim S4x1x32 ![] bcast_S_S4x1x32 (constant S_ .f32 0x4E6E6B28#32))))
def scaleW (x : FVec Ideal S4x2048x768x2 .f32) (y : FVec Ideal S1x1x768x1 .f32) : FVec Ideal S4x2048x768x2 .f32 :=
  mulf x (broadcastInDim S4x2048x768x2 ![0, 1, 2, 3] bcast_S1x1x768x1_S4x2048x768x2_0_1_2_3 y)

theorem pool_join (a0 : FVec Ideal S4x2048x768x2 .f32) (s : FVec Ideal S4x2048 .f32) :
    joinE (evV (segV (upV (row0 s))) (wtV (upV (row0 s)) (row0 s)) (part0 a0)) (evV (segV (upV (row1 s))) (wtV (upV (row1 s)) (row1 s)) (part1 a0))
      (evV (segV (upV (row2 s))) (wtV (upV (row2 s)) (row2 s)) (part2 a0)) (evV (segV (upV (row3 s))) (wtV (upV (row3 s)) (row3 s)) (part3 a0)) = eventsV a0 s := rfl
theorem exist_join (s : FVec Ideal S4x2048 .f32) :
    joinM (mkV (segV (upV (row0 s))) (upV (row0 s))) (mkV (segV (upV (row1 s))) (upV (row1 s))) (mkV (segV (upV (row2 s))) (upV (row2 s))) (mkV (segV (upV (row3 s))) (upV (row3 s)))
      = existV s := rfl

/-- The local means' taps, one by one. -/
def tapW (p : FVec Ideal S4x2048 .f32) (k : FVec Ideal S1 .f32) : FVec Ideal S4x2048 .f32 :=
  mulf p (broadcastInDim S4x2048 ![] bcast_S_S4x2048 (shapeCast _ k shapeCasts_S1_S_))
def zeroW (c : FVec Ideal S_ .f32) : FVec Ideal S4x2048 .f32 := broadcastInDim S4x2048 ![] bcast_S_S4x2048 c
def tap0 (p : FVec Ideal S4x2052 .f32) (k : FVec Ideal S5 .f32) : FVec Ideal S4x2048 .f32 :=
  tapW (extractStridedSlice S4x2048 ![0, 0] p slices_S4x2052_S4x2048_0_0) (extractStridedSlice S1 ![4] k slices_S5_S1_4)
def tapsW (c : FVec Ideal S_ .f32) (t : FVec Ideal S4x2048 .f32) (p : FVec Ideal S4x2052 .f32) (k : FVec Ideal S5 .f32) : FVec Ideal S4x2048 .f32 :=
  addf (addf (addf (addf (addf (zeroW c) t)
    (tapW (extractStridedSlice S4x2048 ![0, 1] p slices_S4x2052_S4x2048_0_1) (extractStridedSlice S1 ![3] k slices_S5_S1_3)))
    (tapW (extractStridedSlice S4x2048 ![0, 2] p slices_S4x2052_S4x2048_0_2) (extractStridedSlice S1 ![2] k slices_S5_S1_2)))
    (tapW (extractStridedSlice S4x2048 ![0, 3] p slices_S4x2052_S4x2048_0_3) (extractStridedSlice S1 ![1] k slices_S5_S1_1)))
    (tapW (extractStridedSlice S4x2048 ![0, 4] p slices_S4x2052_S4x2048_0_4) (extractStridedSlice S1 ![0] k slices_S5_S1_0))
theorem taps_eq (x : FVec Ideal S4x2048 .f32) : tapsW (constant S_ .f32 0x00000000#32) (tap0 (padV x) fifthV) (padV x) fifthV = localV x := rfl

/-- The mean magnitudes from the real parts. -/
def avgW (a0 : FVec Ideal S4x2048x768x2 .f32) (r : FVec Ideal S4x2048x768 .f32) : FVec Ideal S4x2048 .f32 :=
  Host.divf (Host.reduceAdd (Host.sqrt (addf (mulf r r) (mulf (partI a0) (partI a0)))) (constant S_ .f32 0x00000000#32) reducesTo_S4x2048x768_S4x2048_d2 h_S_) (broadcastInDim S4x2048 ![] bcast_S_S4x2048 (constant S_ .f32 0x44400000#32))
theorem avgW_eq (a0 : FVec Ideal S4x2048x768x2 .f32) : avgW a0 (partR a0) = avgV a0 := rfl

end Cert.ReferenceIdeal.Pieces

namespace Cert.On_distinct.Mask

open Cert.On_distinct Cert.On_distinct.Gen Idealize.ShloMosaic
open Cert.ReferenceIdeal.Pieces
open Cert.ReferenceIdeal.Memory (projV mixV memV nmV existV eventsV salV logV scoreA avgV localV padV fifthV partR row0 row1 row2 row3 part0 part1 part2 part3)
open Cert.ReferenceIdeal.Rows (rmsV normV queryV dotK scoreV allV)
open Cert.ReferenceIdeal.Segments (upV segV wtV evV mkV)

/-- Whether two scores are told apart, with the condition on one score. -/
def goodV (x : FVec Ideal S4x2048x32 .f32) (p : IVec S4x2048x32x32 1) (q : IVec S1x1x32x32 1) : IVec S4x2048x32x32 1 :=
  andi (ori p (broadcastInDim S4x2048x32x32 ![0, 1, 2, 3] Facts.bcast_S1x1x32x32_S4x2048x32x32_0_1_2_3 q))
      (broadcastInDim S4x2048x32x32 ![0, 1, 2, 3] Facts.bcast_S4x2048x32x1_S4x2048x32x32_0_1_2_3 (broadcastInDim S4x2048x32x1 ![0, 1, 2] Facts.bcast_S4x2048x32_S4x2048x32x1_0_1_2
        (cmpf .olt x (broadcastInDim S4x2048x32 ![] Facts.bcast_S_S4x2048x32 (constant S_ .f32 0x7F800000#32)))))

/-- The same from the masked scores. -/
def rowsV (x : FVec Ideal S4x2048x32 .f32) : IVec S4x2048x32x32 1 :=
  goodV x
    (cmpf .une (broadcastInDim S4x2048x32x32 ![0, 1, 2, 3] Facts.bcast_S4x2048x32x1_S4x2048x32x32_0_1_2_3 (broadcastInDim S4x2048x32x1 ![0, 1, 2] Facts.bcast_S4x2048x32_S4x2048x32x1_0_1_2 x))
      (broadcastInDim S4x2048x32x32 ![0, 1, 2, 3] Facts.bcast_S4x2048x1x32_S4x2048x32x32_0_1_2_3 (broadcastInDim S4x2048x1x32 ![0, 1, 3] Facts.bcast_S4x2048x32_S4x2048x1x32_0_1_3 x)))
    (broadcastInDim S1x1x32x32 ![2, 3] Facts.bcast_S32x32_S1x1x32x32_2_3
      (cmpi .eq (broadcastInDim S32x32 ![0, 1] Facts.bcast_S32x1_S32x32_0_1 (broadcastInDim S32x1 ![0] Facts.bcast_S32_S32x1_0 (iotaInDim S32 32 0)))
        (broadcastInDim S32x32 ![0, 1] Facts.bcast_S1x32_S32x32_0_1 (broadcastInDim S1x32 ![1] Facts.bcast_S32_S1x32_1 (iotaInDim S32 32 0)))))

/-- The mask at every entry of its rows, and the masks of the other results. -/
def spreadV (r : IVec S4x2048x32x32 1) : IVec S4x2048x768x2 1 :=
  broadcastInDim S4x2048x768x2 ![0, 1, 2, 3] Facts.bcast_S4x2048x1x1_S4x2048x768x2_0_1_2_3 (broadcastInDim S4x2048x1x1 ![0, 1] Facts.bcast_S4x2048_S4x2048x1x1_0_1
    (Host.reduce IntOp.andi r (constantI S_ 1 1#1) Facts.reducesTo_S4x2048x32x32_S4x2048_d2_3 Facts.h_S_))
def onesM : IVec S4x32x768x2 1 := broadcastInDim S4x32x768x2 ![] Facts.bcast_S_S4x32x768x2 (constantI S_ 1 1#1)

/-- Five masks. -/
abbrev Masks : Type := IVec S4x2048x768x2 1 × IVec S4x32x768x2 1 × IVec S4x32x768x2 1 × IVec S4x32 1 × IVec S4x2048 1

/-- The five masks from the first one's conditions. -/
def five (r : IVec S4x2048x32x32 1) : Masks :=
  (spreadV r, onesM, onesM, broadcastInDim S4x32 ![] Facts.bcast_S_S4x32 (constantI S_ 1 1#1), broadcastInDim S4x2048 ![] Facts.bcast_S_S4x2048 (constantI S_ 1 1#1))

variable (a0 : FVec Ideal S4x2048x768x2 .f32) (a1 a2 : FVec Ideal S4x32x768x2 .f32) (a3 : FVec Ideal S4x32 .f32) (a4 a5 : FVec Ideal S768x1 .f32)
  (a6 a7 : FVec Ideal S_ .f32) (a8 a9 a10 a11 a12 a13 : FVec Ideal S768x768 .f32) (a14 : FVec Ideal S768 .f32)

/-- The masks from the scores, from keys and new events' places, and from the events. -/
def ofS (x : FVec Ideal S4x2048x32 .f32) : Masks := five (rowsV x)
def ofZ (e : FVec Ideal S4x32 .f32) (k : FVec Ideal S4x32x768x2 .f32) : Masks :=
  ofS (scoreV (queryV (normV a0 (rmsV a0) a14) a12 a13) (mixV e k a1) (nmV a3 e))
def ofY (p0 p1 p2 p3 : FVec Ideal S32x768x2 .f32) (e0 e1 e2 e3 : FVec Ideal S32 .f32) :
    Masks :=
  ofZ a0 a1 a3 a12 a13 a14 (joinM e0 e1 e2 e3) (projV (joinE p0 p1 p2 p3) a8 a9)
/-- Pooled events and places of one row of saliences. -/
def evR (r : FVec Ideal S2048 .f32) (x : FVec Ideal S2048x768x2 .f32) : FVec Ideal S32x768x2 .f32 := evV (segV (upV r)) (wtV (upV r) r) x
def mkR (r : FVec Ideal S2048 .f32) : FVec Ideal S32 .f32 := mkV (segV (upV r)) (upV r)

theorem part18_eq (x : FVec Ideal S4x2048x32 .f32) (m : IVec S4x2048x32x32 1) (q : IVec S1x32 32) (r : IVec S32x32 32) :
    fn_part18 (F := Ideal) x m q r = five (goodV x m (broadcastInDim S1x1x32x32 ![2, 3] Facts.bcast_S32x32_S1x1x32x32_2_3
      (cmpi .eq r (broadcastInDim S32x32 ![0, 1] Facts.bcast_S1x32_S32x32_0_1 q)))) := rfl

theorem part17_eq (n : FVec Ideal S4x32 .f32) (y : FVec Ideal S4x2048x32 .f32) (u : FVec Ideal S4x2048x768 .f32) (v : FVec Ideal S4x32x768 .f32) :
    fn_part17 (F := Ideal) n y u v = ofS (biasW n (addf y (dotK u v))) := part18_eq _ _ _ _

theorem part16_eq (k : FVec Ideal S4x32x768x2 .f32) (n : FVec Ideal S4x32 .f32) (x : FVec Ideal S4x2048x768x2 .f32) (y : FVec Ideal S1x1x768x1 .f32) :
    fn_part16 (F := Ideal) a12 a13 k n x y = ofS (scoreV (queryV (scaleW x y) a12 a13) k n) := part17_eq _ _ _ _

theorem part15_eq (k : FVec Ideal S4x32x768x2 .f32) (x y : FVec Ideal S4x32 .f32) :
    fn_part15 (F := Ideal) a0 a12 a13 a14 k x y = ofS (scoreV (queryV (normV a0 (rmsV a0) a14) a12 a13) k (minimumf x y)) := part16_eq a12 a13 _ _ _ _

theorem part14_eq (e : FVec Ideal S4x32 .f32) (g : FVec Ideal S4x32x768x2 .f32) (x y z : FVec Ideal S4x32x768 .f32) :
    fn_part14 (F := Ideal) a0 a1 a2 a3 a12 a13 a14 e g x y z = ofZ a0 a1 a3 a12 a13 a14 e (pairW x (addf y z)) := part15_eq a0 a12 a13 a14 _ _ _

theorem part13_eq (e3 : FVec Ideal S32 .f32) (p : FVec Ideal S4x32x768x2 .f32) (e0 e1 e2 : FVec Ideal S1x32 .f32) :
    fn_part13 (F := Ideal) a0 a1 a2 a3 a8 a9 a10 a11 a12 a13 a14 e3 p e0 e1 e2 = ofZ a0 a1 a3 a12 a13 a14 (catM e0 e1 e2 (liftM e3)) (projV p a8 a9) :=
  part14_eq a0 a1 a2 a3 a12 a13 a14 _ (projV p a10 a11) _ _ _

variable (s : FVec Ideal S4x2048 .f32) (p0 p1 p2 : FVec Ideal S32x768x2 .f32) (e0 e1 e2 : FVec Ideal S32 .f32)

theorem part12_eq (u : IVec S2048 1) (g : IVec S2048 32) (n : FVec Ideal S32x768x2 .f32) (d : FVec Ideal S32 .f32) :
    fn_part12 (F := Ideal) a0 a1 a2 a3 a8 a9 a10 a11 a12 a13 a14 p0 e0 p1 e1 p2 e2 u g n d = ofY a0 a1 a3 a8 a9 a12 a13 a14 p0 p1 p2 (quotW n d) e0 e1 e2 (mkV g u) :=
  part13_eq a0 a1 a2 a3 a8 a9 a10 a11 a12 a13 a14 _ _ _ _ _

theorem part11_eq (x : FVec Ideal S2048x768x2 .f32) (s : FVec Ideal S2048 .f32) (u : IVec S2048 1) (t : IVec S2048 32) :
    fn_part11 (F := Ideal) a0 a1 a2 a3 a8 a9 a10 a11 a12 a13 a14 p0 e0 p1 e1 p2 e2 x s u t
      = ofY a0 a1 a3 a8 a9 a12 a13 a14 p0 p1 p2 (evV (segB u t) (wtV u s) x) e0 e1 e2 (mkV (segB u t) u) :=
  part12_eq a0 a1 a2 a3 a8 a9 a10 a11 a12 a13 a14 _ _ _ _ _ _ _ _ _ _

theorem part10_eq (n : FVec Ideal S32x768x2 .f32) (d c : FVec Ideal S32 .f32) :
    fn_part10 (F := Ideal) a0 a1 a2 a3 a8 a9 a10 a11 a12 a13 a14 s p0 e0 p1 e1 n d c
      = ofY a0 a1 a3 a8 a9 a12 a13 a14 p0 p1 (quotW n d) (evR (row3 s) (part3 a0)) e0 e1 (posW c) (mkR (row3 s)) :=
  part11_eq a0 a1 a2 a3 a8 a9 a10 a11 a12 a13 a14 _ _ _ _ _ _ _ _ _ _

theorem part9_eq (x : FVec Ideal S2048x768x2 .f32) (r : FVec Ideal S2048 .f32) (u : IVec S2048 1) (t q : IVec S2048 32) :
    fn_part9 (F := Ideal) a0 a1 a2 a3 a8 a9 a10 a11 a12 a13 a14 s p0 e0 p1 e1 x r u t q
      = ofY a0 a1 a3 a8 a9 a12 a13 a14 p0 p1 (evV (segA u t q) (wtV u r) x) (evR (row3 s) (part3 a0)) e0 e1 (mkV (segA u t q) u) (mkR (row3 s)) :=
  part10_eq a0 a1 a2 a3 a8 a9 a10 a11 a12 a13 a14 _ _ _ _ _ _ _ _

theorem part8_eq (c : FVec Ideal S32 .f32) :
    fn_part8 (F := Ideal) a0 a1 a2 a3 a8 a9 a10 a11 a12 a13 a14 s p0 e0 c p1
      = ofY a0 a1 a3 a8 a9 a12 a13 a14 p0 p1 (evR (row2 s) (part2 a0)) (evR (row3 s) (part3 a0)) e0 (posW c) (mkR (row2 s)) (mkR (row3 s)) :=
  part9_eq a0 a1 a2 a3 a8 a9 a10 a11 a12 a13 a14 _ _ _ _ _ _ _ _ _ _

theorem part7_eq (x : FVec Ideal S2048x768x2 .f32) (u : IVec S2048 1) (g : IVec S2048 32)
    (w : FVec Ideal S2048 .f32) (y : FVec Ideal S2048x1x1 .f32) :
    fn_part7 (F := Ideal) a0 a1 a2 a3 a8 a9 a10 a11 a12 a13 a14 s p0 e0 x u g w y
      = ofY a0 a1 a3 a8 a9 a12 a13 a14 p0 (quotW (cutW (numW g y x)) (denW g w)) (evR (row2 s) (part2 a0)) (evR (row3 s) (part3 a0)) e0 (mkV g u) (mkR (row2 s)) (mkR (row3 s)) :=
  part8_eq a0 a1 a2 a3 a8 a9 a10 a11 a12 a13 a14 _ _ _ _ _

theorem part6_eq (x : FVec Ideal S2048x768x2 .f32) :
    fn_part6 (F := Ideal) a0 a1 a2 a3 a8 a9 a10 a11 a12 a13 a14 s p0 e0 x
      = ofY a0 a1 a3 a8 a9 a12 a13 a14 p0 (evR (row1 s) x) (evR (row2 s) (part2 a0)) (evR (row3 s) (part3 a0)) e0 (mkR (row1 s)) (mkR (row2 s)) (mkR (row3 s)) :=
  part7_eq a0 a1 a2 a3 a8 a9 a10 a11 a12 a13 a14 _ _ _ _ _ _ _ _

theorem part5_eq (u : IVec S2048 1) (g : IVec S2048 32) (w : FVec Ideal S2048 .f32) (n : FVec Ideal S33x768x2 .f32) :
    fn_part5 (F := Ideal) a0 a1 a2 a3 a8 a9 a10 a11 a12 a13 a14 s u g w n
      = ofY a0 a1 a3 a8 a9 a12 a13 a14 (quotW (cutW n) (denW g w)) (evR (row1 s) (part1 a0)) (evR (row2 s) (part2 a0)) (evR (row3 s) (part3 a0))
        (mkV g u) (mkR (row1 s)) (mkR (row2 s)) (mkR (row3 s)) :=
  part6_eq a0 a1 a2 a3 a8 a9 a10 a11 a12 a13 a14 _ _ _ _

theorem part4_eq (x : FVec Ideal S2048x768x2 .f32) (r : FVec Ideal S2048 .f32) (u : IVec S2048 1) (c : IVec S_ 1) :
    fn_part4 (F := Ideal) a0 a1 a2 a3 a8 a9 a10 a11 a12 a13 a14 s x r u c
      = ofY a0 a1 a3 a8 a9 a12 a13 a14 (evV (segC u c) (wtV u r) x) (evR (row1 s) (part1 a0)) (evR (row2 s) (part2 a0)) (evR (row3 s) (part3 a0))
        (mkV (segC u c) u) (mkR (row1 s)) (mkR (row2 s)) (mkR (row3 s)) :=
  part5_eq a0 a1 a2 a3 a8 a9 a10 a11 a12 a13 a14 _ _ _ _ _

/-- The masks from the saliences. -/
def ofV (s : FVec Ideal S4x2048 .f32) : Masks :=
  ofS (allV a0 a1 a3 s a8 a9 a12 a13 a14)

theorem ofY_eq :
    ofY a0 a1 a3 a8 a9 a12 a13 a14 (evR (row0 s) (part0 a0)) (evR (row1 s) (part1 a0)) (evR (row2 s) (part2 a0)) (evR (row3 s) (part3 a0))
        (mkR (row0 s)) (mkR (row1 s)) (mkR (row2 s)) (mkR (row3 s)) = ofV a0 a1 a3 a8 a9 a12 a13 a14 s := rfl

theorem part3_eq (x y z t v : FVec Ideal S4x2048 .f32) :
    fn_part3 (F := Ideal) a0 a1 a2 a3 a6 a7 a8 a9 a10 a11 a12 a13 a14 x y z t v = ofV a0 a1 a3 a8 a9 a12 a13 a14 (logV x y (addf z (mulf t v)) a6 a7) :=
  (part4_eq a0 a1 a2 a3 a8 a9 a10 a11 a12 a13 a14 (logV x y (addf z (mulf t v)) a6 a7) (part0 a0) (row0 (logV x y (addf z (mulf t v)) a6 a7))
    (upV (row0 (logV x y (addf z (mulf t v)) a6 a7))) (constantI _ 1 0#1)).trans (ofY_eq a0 a1 a3 a8 a9 a12 a13 a14 _)

theorem part2_eq (x y : FVec Ideal S4x2048 .f32) (k : FVec Ideal S5 .f32) (p : FVec Ideal S4x2052 .f32) (t : FVec Ideal S4x2048 .f32) (c : FVec Ideal S_ .f32) :
    fn_part2 (F := Ideal) a0 a1 a2 a3 a6 a7 a8 a9 a10 a11 a12 a13 a14 x y k p t c = ofV a0 a1 a3 a8 a9 a12 a13 a14 (logV x y (tapsW c t p k) a6 a7) :=
  part3_eq a0 a1 a2 a3 a6 a7 a8 a9 a10 a11 a12 a13 a14 _ _ _ _ _

theorem part1_eq (x : FVec Ideal S4x2048 .f32) (r : FVec Ideal S4x2048x768 .f32) :
    fn_part1 (F := Ideal) a0 a1 a2 a3 a6 a7 a8 a9 a10 a11 a12 a13 a14 x r = ofV a0 a1 a3 a8 a9 a12 a13 a14 (logV x (avgW a0 r) (localV (avgW a0 r)) a6 a7) :=
  part2_eq a0 a1 a2 a3 a6 a7 a8 a9 a10 a11 a12 a13 a14 _ _ _ _ _ _

theorem fn_eq : fn (F := Ideal) a0 a1 a2 a3 a4 a5 a6 a7 a8 a9 a10 a11 a12 a13 a14
    = ofV a0 a1 a3 a8 a9 a12 a13 a14 (logV (scoreA a0 a4 a5) (avgW a0 (partR a0)) (localV (avgW a0 (partR a0))) a6 a7) :=
  part1_eq a0 a1 a2 a3 a6 a7 a8 a9 a10 a11 a12 a13 a14 (scoreA a0 a4 a5) (partR a0)

theorem five_fst (r : IVec S4x2048x32x32 1) : (five r).1 = spreadV r := by
  simp only [five]

theorem fst_of {t : Masks} {r : IVec S4x2048x32x32 1} (h : t = five r) :
    t.1 = spreadV r := by
  rw [h, five_fst]

theorem ofV_eq (s s' : FVec Ideal S4x2048 .f32) (h : s = s') : ofV a0 a1 a3 a8 a9 a12 a13 a14 s = five (rowsV (allV a0 a1 a3 s' a8 a9 a12 a13 a14)) := by
  subst h
  delta ofV ofS
  exact Eq.refl _

theorem sal_eq : logV (scoreA a0 a4 a5) (avgW a0 (partR a0)) (localV (avgW a0 (partR a0))) a6 a7 = salV a0 a4 a5 a6 a7 := by
  rw [avgW_eq]
  delta salV
  exact Eq.refl _

theorem fn_fst : (fn (F := Ideal) a0 a1 a2 a3 a4 a5 a6 a7 a8 a9 a10 a11 a12 a13 a14).1 = spreadV (rowsV (allV a0 a1 a3 (salV a0 a4 a5 a6 a7) a8 a9 a12 a13 a14)) :=
  fst_of ((fn_eq a0 a1 a2 a3 a4 a5 a6 a7 a8 a9 a10 a11 a12 a13 a14).trans (ofV_eq a0 a1 a3 a8 a9 a12 a13 a14 _ _ (sal_eq a0 a4 a5 a6 a7)))

/-- A conjunction over a finite set which is true has only true members. -/
theorem fold_and {ι : Type} (f : ι → BitVec 1) (A : Finset ι) (h : A.fold IntOp.andi (1#1) f = 1#1) : ∀ x ∈ A, f x = 1#1 := by
  classical
  induction A using Finset.induction_on with
  | empty => intro x hx; exact absurd hx (Finset.notMem_empty x)
  | insert a A ha ih =>
    rw [Finset.fold_insert ha] at h
    obtain ⟨h1, h2⟩ := IntOp.andi_eq_one.1 h
    intro x hx
    rcases Finset.mem_insert.1 hx with rfl | hx
    · exact h1
    · exact ih h2 x hx

theorem spread_one (r : IVec S4x2048x32x32 1) (b : Fin 4) (l : Fin 2048) (d : Fin 768) (p : Fin 2) (h : spreadV r (ix4 b l d p) = 1#1) (s t : Fin 32) :
    r (ix4 b l s t) = 1#1 := by
  unfold spreadV at h
  revert h
  pointwise
  intro h
  exact fold_and (fun x : Fin 32 × Fin 32 => r (ix4 b l x.1 x.2)) _ h (s, t) (Finset.mem_univ _)

theorem rows_one (x : FVec Ideal S4x2048x32 .f32) (b : Fin 4) (l : Fin 2048) (s t : Fin 32) (h : rowsV x (ix4 b l s t) = 1#1) :
    (x (ix3 b l s) ≠ x (ix3 b l t) ∨ s = t) ∧ x (ix3 b l s) ≠ ⊤ := by
  unfold rowsV goodV at h
  revert h
  pointwise
  intro h
  obtain ⟨h1, h2⟩ := IntOp.andi_eq_one.1 h
  refine ⟨?_, ?_⟩
  · by_cases hst : s = t
    · exact Or.inr hst
    · refine Or.inl fun e => ?_
      have hne : BitVec.ofNat 32 s.val ≠ BitVec.ofNat 32 t.val := fun he => hst (Fin.ext (by
        have := congrArg BitVec.toNat he
        simp only [BitVec.toNat_ofNat] at this
        omega))
      rw [e] at h1
      simp [IntOp.ori, IntOp.cmpi] at h1
      rw [beq_false_of_ne hne] at h1
      exact absurd h1 (by decide)
  · intro e
    rw [e, Spec.ofBits_inf] at h2
    simp at h2

/-- The mask, read: what it gives at an entry of a row. -/
theorem fn_one (b : Fin 4) (l : Fin 2048) (d : Fin 768) (p : Fin 2)
    (h : (fn (F := Ideal) a0 a1 a2 a3 a4 a5 a6 a7 a8 a9 a10 a11 a12 a13 a14).1 (ix4 b l d p) = 1#1) :
    Function.Injective (fun s : Fin 32 => allV a0 a1 a3 (salV a0 a4 a5 a6 a7) a8 a9 a12 a13 a14 (ix3 b l s))
      ∧ ∀ s : Fin 32, allV a0 a1 a3 (salV a0 a4 a5 a6 a7) a8 a9 a12 a13 a14 (ix3 b l s) ≠ ⊤ := by
  rw [fn_fst] at h
  have hr := fun s t => rows_one _ b l s t (spread_one _ b l d p h s t)
  refine ⟨fun s t e => ?_, fun s => (hr s s).2⟩
  exact (hr s t).1.resolve_left fun hn => hn e

end Cert.On_distinct.Mask

end
-- ==== Proof.Values.lean ====
/- The value claim: the kernel's five results are the reference's, the first one on the rows of the mask. -/
module

public import proofs.«01_k».proof.Defs
public import proofs.«01_k».proof.Proof.Chain
public import proofs.«01_k».proof.Proof.RefRun
public import proofs.«01_k».proof.Proof.Mask

@[expose] public section

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Memory Cert.ReferenceIdeal.Rows

/-- The arguments of a run, and its masked scores. -/
abbrev J (V : Valuation τ sig (Elt Ideal)) : Flow.Inp := Flow.inp (A0 V) (A1 V) (A2 V) (A3 V) (A4 V) (A5 V) (A6 V) (A7 V) (A8 V) (A9 V) (A10 V) (A11 V) (A12 V) (A13 V) (A14 V)
abbrev X (V : Valuation τ sig (Elt Ideal)) : FVec Ideal S4x2048x32 .f32 := allV (A0 V) (A1 V) (A3 V) (S V) (A8 V) (A9 V) (A12 V) (A13 V) (A14 V)

variable {V : Valuation τ sig (Elt Ideal)} {a0 : FVec Ideal S4x2048x768x2 .f32} {a1 a2 : FVec Ideal S4x32x768x2 .f32} {a3 : FVec Ideal S4x32 .f32} {a4 a5 : FVec Ideal S768x1 .f32} {a6 a7 : FVec Ideal S_ .f32}
  {a8 a9 a10 a11 a12 a13 : FVec Ideal S768x768 .f32} {a14 : FVec Ideal S768 .f32}

/-- The reference's results as functions of the arguments. -/
theorem out0 (e0 : A0 V = a0) (e1 : A1 V = a1) (e2 : A2 V = a2) (e3 : A3 V = a3) (e4 : A4 V = a4) (e5 : A5 V = a5) (e6 : A6 V = a6) (e7 : A7 V = a7) (e8 : A8 V = a8) (e9 : A9 V = a9) (e10 : A10 V = a10) (e11 : A11 V = a11) (e12 : A12 V = a12) (e13 : A13 V = a13) (e14 : A14 V = a14) (b : Fin 4) (l : Fin 2048) (d : Fin 768) (p : Fin 2)
    (hi : (Cert.On_distinct.fn (F := Ideal) a0 a1 a2 a3 a4 a5 a6 a7 a8 a9 a10 a11 a12 a13 a14).1 (ix4 b l d p) = 1#1) :
    outV (weightV (X V)) (memV (A0 V) (S V) (A10 V) (A11 V) (A2 V)) (ix4 b l d p)
      = ∑ s, Rounds.roundW (Flow.scores (Flow.inp a0 a1 a2 a3 a4 a5 a6 a7 a8 a9 a10 a11 a12 a13 a14) (lm a0) b l) s * Flow.nv (Flow.inp a0 a1 a2 a3 a4 a5 a6 a7 a8 a9 a10 a11 a12 a13 a14) (lm a0) b s d p := by
  subst e0 e1 e2 e3 e4 e5 e6 e7 e8 e9 e10 e11 e12 e13 e14
  obtain ⟨hj, ht⟩ := Cert.On_distinct.Mask.fn_one (A0 V) (A1 V) (A2 V) (A3 V) (A4 V) (A5 V) (A6 V) (A7 V) (A8 V) (A9 V) (A10 V) (A11 V) (A12 V) (A13 V) (A14 V) b l d p hi
  have hx : (fun s : Fin 32 => X V (ix3 b l s))
      = Flow.scores (J V) (lm (A0 V)) b l :=
    funext fun s => allV_apply (A0 V) (A1 V) (A2 V) (A3 V) (A4 V) (A5 V) (A6 V) (A7 V) (A8 V) (A9 V) (A10 V) (A11 V) (A12 V) (A13 V) (A14 V) b l s
  have hj' : Function.Injective (Flow.scores (J V) (lm (A0 V)) b l) := by
    rw [← hx]
    exact hj
  have ht' : ∀ s, Flow.scores (J V) (lm (A0 V)) b l s ≠ ⊤ := fun s => by
    rw [← hx]
    exact ht s
  refine (retrieved_apply (A0 V) (A1 V) (A2 V) (A3 V) (A4 V) (A5 V) (A6 V) (A7 V) (A8 V) (A9 V) (A10 V) (A11 V) (A12 V) (A13 V) (A14 V) b l d p).trans (Finset.sum_congr rfl fun s _ => ?_)
  rw [Rounds.sortW_eq hj' ht']

/-- Equal arguments. -/
theorem J_eq (e0 : A0 V = a0) (e1 : A1 V = a1) (e2 : A2 V = a2) (e3 : A3 V = a3) (e4 : A4 V = a4) (e5 : A5 V = a5) (e6 : A6 V = a6) (e7 : A7 V = a7) (e8 : A8 V = a8) (e9 : A9 V = a9) (e10 : A10 V = a10) (e11 : A11 V = a11) (e12 : A12 V = a12) (e13 : A13 V = a13) (e14 : A14 V = a14) : J V = Flow.inp a0 a1 a2 a3 a4 a5 a6 a7 a8 a9 a10 a11 a12 a13 a14 ∧ lm (A0 V) = lm a0 := by
  subst e0 e1 e2 e3 e4 e5 e6 e7 e8 e9 e10 e11 e12 e13 e14
  exact ⟨Eq.refl _, Eq.refl _⟩

variable (V)

theorem out1 (b : Fin 4) (e : Fin 32) (d : Fin 768) (p : Fin 2) : memV (A0 V) (S V) (A8 V) (A9 V) (A1 V) (ix4 b e d p) = Flow.nk (J V) (lm (A0 V)) b e d p :=
  keys_apply (A0 V) (A1 V) (A2 V) (A3 V) (A4 V) (A5 V) (A6 V) (A7 V) (A8 V) (A9 V) (A10 V) (A11 V) (A12 V) (A13 V) (A14 V) b e d p
theorem out2 (b : Fin 4) (e : Fin 32) (d : Fin 768) (p : Fin 2) : memV (A0 V) (S V) (A10 V) (A11 V) (A2 V) (ix4 b e d p) = Flow.nv (J V) (lm (A0 V)) b e d p :=
  values_apply (A0 V) (A1 V) (A2 V) (A3 V) (A4 V) (A5 V) (A6 V) (A7 V) (A8 V) (A9 V) (A10 V) (A11 V) (A12 V) (A13 V) (A14 V) b e d p
theorem out3 (b : Fin 4) (e : Fin 32) : nmV (A3 V) (existV (S V)) (ix2 b e) = Flow.nm (J V) (lm (A0 V)) b e :=
  mask_apply (A0 V) (A1 V) (A2 V) (A3 V) (A4 V) (A5 V) (A6 V) (A7 V) (A8 V) (A9 V) (A10 V) (A11 V) (A12 V) (A13 V) (A14 V) b e
theorem out4 (b : Fin 4) (l : Fin 2048) : S V (ix2 b l) = Flow.sal (J V) (lm (A0 V)) b l :=
  salV_apply (A0 V) (A1 V) (A2 V) (A3 V) (A4 V) (A5 V) (A6 V) (A7 V) (A8 V) (A9 V) (A10 V) (A11 V) (A12 V) (A13 V) (A14 V) b l

theorem local_eq (x : FVec Ideal S4x2048 .f32) : localV x = Cert.KernelIdeal.Host.localV x := rfl

/-- The two programs' local means. -/
theorem lm_eq (m : (ℓ : Loc Cert.KernelIdeal.nD Cert.KernelIdeal.τ Cert.KernelIdeal.sig) → Buf (Elt Ideal) ℓ) (c : Dev Cert.KernelIdeal.nD) :
    lm (m ((c.tc : Thread Cert.KernelIdeal.nD Cert.KernelIdeal.τ).loc Cert.KernelIdeal.main_arg0)) = Cert.KernelIdeal.Chain.lm m c := by
  funext b l
  unfold lm Cert.KernelIdeal.Chain.lm
  rw [avgV_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), local_eq]
  rfl

end Cert.ReferenceIdeal.RefRun

namespace Cert.Proof

open Idealize.ShloMosaic Idealize.ShloMosaic.TcCoe Idealize.SL.Sem
open Cert.KernelIdeal.Gen (W8 run_at run_arg run_all)
open Cert.ReferenceIdeal.RefRun (lm_eq J_eq out0 out1 out2 out3 out4)
open Cert.KernelIdeal.Chain (result0 result1 result2 result3 result4)
open Cert.KernelIdeal (main_v0_0 main_v0_1 main_v0_2 main_v0_3 main_v0_4 main_arg0 main_arg1 main_arg2 main_arg3 main_arg4 main_arg5 main_arg6 main_arg7 main_arg8 main_arg9 main_arg10 main_arg11 main_arg12 main_arg13 main_arg14)

theorem idx4 {n0 n1 n2 n3 : ℕ} (i : (⟨4, ![n0, n1, n2, n3]⟩ : Shape).Idx) : ∃ (b : Fin n0) (l : Fin n1) (d : Fin n2) (p : Fin n3), i = ix4 b l d p :=
  ⟨i 0, i 1, i 2, i 3, funext fun a => by match a with | ⟨0, _⟩ => rfl | ⟨1, _⟩ => rfl | ⟨2, _⟩ => rfl | ⟨3, _⟩ => rfl⟩

theorem idx2 {n0 n1 : ℕ} (i : (⟨2, ![n0, n1]⟩ : Shape).Idx) : ∃ (b : Fin n0) (l : Fin n1), i = ix2 b l :=
  ⟨i 0, i 1, funext fun a => by match a with | ⟨0, _⟩ => rfl | ⟨1, _⟩ => rfl⟩

/-- THE VALUE CLAIM. -/
theorem algebraic : Cert.algebraic_KernelIdeal_ReferenceIdeal_on_distinct := by
  intro m g m' g' _ hag
  refine ⟨fun c => W8 m g c main_v0_0, fun c => W8 m g c main_v0_1, fun c => W8 m g c main_v0_2,
    fun c => W8 m g c main_v0_3, fun c => W8 m g c main_v0_4, ?_, ?_⟩
  · exact (θ_run Cert.KernelIdeal.defs _ _).mono (fun r h c => ⟨
      fun i _ => congrFun (run_at m g main_v0_0 (by decide) (h.1 c)) i,
      fun i _ => congrFun (run_at m g main_v0_1 (by decide) (h.1 c)) i,
      fun i _ => congrFun (run_at m g main_v0_2 (by decide) (h.1 c)) i,
      fun i _ => congrFun (run_at m g main_v0_3 (by decide) (h.1 c)) i,
      fun i _ => congrFun (run_at m g main_v0_4 (by decide) (h.1 c)) i,
      run_arg m g (h.1 c) main_arg0 (by decide) (by decide),
      run_arg m g (h.1 c) main_arg1 (by decide) (by decide),
      run_arg m g (h.1 c) main_arg2 (by decide) (by decide),
      run_arg m g (h.1 c) main_arg3 (by decide) (by decide),
      run_arg m g (h.1 c) main_arg4 (by decide) (by decide),
      run_arg m g (h.1 c) main_arg5 (by decide) (by decide),
      run_arg m g (h.1 c) main_arg6 (by decide) (by decide),
      run_arg m g (h.1 c) main_arg7 (by decide) (by decide),
      run_arg m g (h.1 c) main_arg8 (by decide) (by decide),
      run_arg m g (h.1 c) main_arg9 (by decide) (by decide),
      run_arg m g (h.1 c) main_arg10 (by decide) (by decide),
      run_arg m g (h.1 c) main_arg11 (by decide) (by decide),
      run_arg m g (h.1 c) main_arg12 (by decide) (by decide),
      run_arg m g (h.1 c) main_arg13 (by decide) (by decide),
      run_arg m g (h.1 c) main_arg14 (by decide) (by decide)⟩)
      (run_all m g)
  · refine (θ_run Cert.ReferenceIdeal.defs _ _).mono (fun r h c => ?_) (Cert.ReferenceIdeal.RefRun.run m' g')
    obtain ⟨h0, h1, h2, h3, h4, h5⟩ := h c
    obtain ⟨e0, e1, e2, e3, e4, e5, e6, e7, e8, e9, e10, e11, e12, e13, e14⟩ := hag c
    have hl := lm_eq m c
    obtain ⟨hJ, hm⟩ := J_eq (V := StableHlo.launchContents m' c) e0 e1 e2 e3 e4 e5 e6 e7 e8 e9 e10 e11 e12 e13 e14
    refine ⟨fun i hi => (congrFun h0 i).trans ?_, fun i _ => (congrFun h1 i).trans ?_, fun i _ => (congrFun h2 i).trans ?_,
      fun i _ => (congrFun h3 i).trans ?_, fun i _ => (congrFun h4 i).trans ?_, h5⟩
    · obtain ⟨b, l, d, p, rfl⟩ := idx4 i
      have e := out0 (V := StableHlo.launchContents m' c) e0 e1 e2 e3 e4 e5 e6 e7 e8 e9 e10 e11 e12 e13 e14 b l d p hi
      rw [hl] at e
      exact e.trans (result0 m g c b l d p).symm
    · obtain ⟨b, l, d, p, rfl⟩ := idx4 i
      have e := out1 (StableHlo.launchContents m' c) b l d p
      rw [hJ, hm, hl] at e
      exact e.trans (result1 m g c b l d p).symm
    · obtain ⟨b, l, d, p, rfl⟩ := idx4 i
      have e := out2 (StableHlo.launchContents m' c) b l d p
      rw [hJ, hm, hl] at e
      exact e.trans (result2 m g c b l d p).symm
    · obtain ⟨b, l, rfl⟩ := idx2 i
      have e := out3 (StableHlo.launchContents m' c) b l
      rw [hJ, hm, hl] at e
      exact e.trans (result3 m g c b l).symm
    · obtain ⟨b, l, rfl⟩ := idx2 i
      have e := out4 (StableHlo.launchContents m' c) b l
      rw [hJ, hm, hl] at e
      exact e.trans (result4 m g c b l).symm

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.On_distinct
public import proofs.«01_k».proof.Proof.KernelRun.Run
public import proofs.«01_k».proof.Proof.KernelIdealRun.Run
public import proofs.«01_k».proof.Proof.Values
public import Idealize.ShloMosaic.Adequacy
public import Idealize.ShloMosaic.Init

@[expose] public section

noncomputable section

namespace Cert.Proof

open Idealize.ShloMosaic Idealize.SL.Sem

theorem frame_kernel : Cert.quiescent_Kernel := fun m ρ _ => Cert.Kernel.Gen.frame m ρ

theorem frame_ideal : Cert.quiescent_KernelIdeal := fun m ρ _ => Cert.KernelIdeal.Gen.frame m ρ

theorem frame_reference : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩) (Cert.ReferenceIdeal.Value.run m ρ)

theorem named : Cert.preserves_Kernel_KernelIdeal :=
  ⟨IdealRules.named_const.statement Cert.KernelIdeal.κ "d" .f32 0x3AAAAAAB#32 ((768⁻¹ : ℝ) : EReal) rfl,
    IdealRules.named_const.statement Cert.KernelIdeal.κ "s" .f32 0x3D13CD3A#32 (((Real.sqrt 768)⁻¹ : ℝ) : EReal) rfl,
    IdealRules.named_const.statement Cert.KernelIdeal.κ "mask" .f32 0xF149F2CA#32 ⊥ rfl⟩

theorem claim : Cert.Claim :=
  ⟨Cert.Kernel.Gen.facts, Cert.KernelIdeal.Gen.facts, Cert.ReferenceIdeal.Gen.facts, Cert.On_distinct.Gen.facts,
    frame_kernel, frame_ideal, frame_reference, named, algebraic⟩

end Cert.Proof

end
